-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_Glu (m : (ℓ : Loc Cert.Glu.nD Cert.Glu.τ Cert.Glu.sig) → Buf (Elt Bits) ℓ) : Prop :=
  True

def Pre_GluIdeal (m : (ℓ : Loc Cert.GluIdeal.nD Cert.GluIdeal.τ Cert.GluIdeal.sig) → Buf (Elt Ideal) ℓ) : Prop :=
  True

def Pre_GluRefIdeal (m : (ℓ : Loc Cert.GluRefIdeal.nD Cert.GluRefIdeal.τ Cert.GluRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_Adaln (m : (ℓ : Loc Cert.Adaln.nD Cert.Adaln.τ Cert.Adaln.sig) → Buf (Elt Bits) ℓ) : Prop :=
  True

def Pre_AdalnIdeal (m : (ℓ : Loc Cert.AdalnIdeal.nD Cert.AdalnIdeal.τ Cert.AdalnIdeal.sig) → Buf (Elt Ideal) ℓ) : Prop :=
  True

def Pre_AdalnRefIdeal (m : (ℓ : Loc Cert.AdalnRefIdeal.nD Cert.AdalnRefIdeal.τ Cert.AdalnRefIdeal.sig) → Buf (Elt Ideal) ℓ) : Prop :=
  True

def Pre_Prenorm (m : (ℓ : Loc Cert.Prenorm.nD Cert.Prenorm.τ Cert.Prenorm.sig) → Buf (Elt Bits) ℓ) : Prop :=
  True

def Pre_PrenormIdeal (m : (ℓ : Loc Cert.PrenormIdeal.nD Cert.PrenormIdeal.τ Cert.PrenormIdeal.sig) → Buf (Elt Ideal) ℓ) : Prop :=
  True

def Pre_PrenormRefIdeal (m : (ℓ : Loc Cert.PrenormRefIdeal.nD Cert.PrenormRefIdeal.τ Cert.PrenormRefIdeal.sig) → Buf (Elt Ideal) ℓ) : Prop :=
  True

def Pre_Post (m : (ℓ : Loc Cert.Post.nD Cert.Post.τ Cert.Post.sig) → Buf (Elt Bits) ℓ) : Prop :=
  True

def Pre_PostIdeal (m : (ℓ : Loc Cert.PostIdeal.nD Cert.PostIdeal.τ Cert.PostIdeal.sig) → Buf (Elt Ideal) ℓ) : Prop :=
  True

def Pre_PostRefIdeal (m : (ℓ : Loc Cert.PostRefIdeal.nD Cert.PostRefIdeal.τ Cert.PostRefIdeal.sig) → Buf (Elt Ideal) ℓ) : Prop :=
  True

def Pre_Experts [hPre_experts_in_range : Cert.Pre_experts_in_range.Facts] (m : (ℓ : Loc Cert.Experts.nD Cert.Experts.τ Cert.Experts.sig) → Buf (Elt Bits) ℓ) : Prop :=
  ∀ c : Dev Cert.Experts.nD,
    (Cert.Pre_experts_in_range.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3))) = (fun _ => 1#1)

def Pre_ExpertsIdeal [hPre_experts_in_range : Cert.Pre_experts_in_range.Facts] (m : (ℓ : Loc Cert.ExpertsIdeal.nD Cert.ExpertsIdeal.τ Cert.ExpertsIdeal.sig) → Buf (Elt Ideal) ℓ) : Prop :=
  ∀ c : Dev Cert.ExpertsIdeal.nD,
    (Cert.Pre_experts_in_range.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3))) = (fun _ => 1#1)

def Pre_ExpertsRefIdeal (m : (ℓ : Loc Cert.ExpertsRefIdeal.nD Cert.ExpertsRefIdeal.τ Cert.ExpertsRefIdeal.sig) → Buf (Elt Ideal) ℓ) : Prop :=
  True

def Pre_ExpertsRefIdeal_experts_in_range [hPre_experts_in_range : Cert.Pre_experts_in_range.Facts] (m : (ℓ : Loc Cert.ExpertsRefIdeal.nD Cert.ExpertsRefIdeal.τ Cert.ExpertsRefIdeal.sig) → Buf (Elt Ideal) ℓ) : Prop :=
  ∀ c : Dev Cert.ExpertsRefIdeal.nD,
    (Cert.Pre_experts_in_range.fn (F := Ideal) (m ((c.tc : Thread Cert.ExpertsRefIdeal.nD Cert.ExpertsRefIdeal.τ).loc Cert.ExpertsRefIdeal.main_arg0)) (m ((c.tc : Thread Cert.ExpertsRefIdeal.nD Cert.ExpertsRefIdeal.τ).loc Cert.ExpertsRefIdeal.main_arg1)) (m ((c.tc : Thread Cert.ExpertsRefIdeal.nD Cert.ExpertsRefIdeal.τ).loc Cert.ExpertsRefIdeal.main_arg2)) (m ((c.tc : Thread Cert.ExpertsRefIdeal.nD Cert.ExpertsRefIdeal.τ).loc Cert.ExpertsRefIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2)
      ∧ r.2.mem ((c.tc : Thread Cert.InProj.nD Cert.InProj.τ).loc Cert.InProj.main_arg3) = m ((c.tc : Thread Cert.InProj.nD Cert.InProj.τ).loc Cert.InProj.main_arg3)
      ∧ r.2.mem ((c.tc : Thread Cert.InProj.nD Cert.InProj.τ).loc Cert.InProj.main_arg4) = m ((c.tc : Thread Cert.InProj.nD Cert.InProj.τ).loc Cert.InProj.main_arg4)
      ∧ r.2.mem ((c.tc : Thread Cert.InProj.nD Cert.InProj.τ).loc Cert.InProj.main_arg5) = m ((c.tc : Thread Cert.InProj.nD Cert.InProj.τ).loc Cert.InProj.main_arg5)
      ∧ r.2.mem ((c.tc : Thread Cert.InProj.nD Cert.InProj.τ).loc Cert.InProj.main_arg6) = m ((c.tc : Thread Cert.InProj.nD Cert.InProj.τ).loc Cert.InProj.main_arg6))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
      ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4)
      ∧ r.2.mem ((c.tc : Thread Cert.InProjIdeal.nD Cert.InProjIdeal.τ).loc Cert.InProjIdeal.main_arg5) = m ((c.tc : Thread Cert.InProjIdeal.nD Cert.InProjIdeal.τ).loc Cert.InProjIdeal.main_arg5)
      ∧ r.2.mem ((c.tc : Thread Cert.InProjIdeal.nD Cert.InProjIdeal.τ).loc Cert.InProjIdeal.main_arg6) = m ((c.tc : Thread Cert.InProjIdeal.nD Cert.InProjIdeal.τ).loc Cert.InProjIdeal.main_arg6))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2)
      ∧ r.2.mem ((c.tc : Thread Cert.InProjRefIdeal.nD Cert.InProjRefIdeal.τ).loc Cert.InProjRefIdeal.main_arg3) = m ((c.tc : Thread Cert.InProjRefIdeal.nD Cert.InProjRefIdeal.τ).loc Cert.InProjRefIdeal.main_arg3)
      ∧ r.2.mem ((c.tc : Thread Cert.InProjRefIdeal.nD Cert.InProjRefIdeal.τ).loc Cert.InProjRefIdeal.main_arg4) = m ((c.tc : Thread Cert.InProjRefIdeal.nD Cert.InProjRefIdeal.τ).loc Cert.InProjRefIdeal.main_arg4)
      ∧ r.2.mem ((c.tc : Thread Cert.InProjRefIdeal.nD Cert.InProjRefIdeal.τ).loc Cert.InProjRefIdeal.main_arg5) = m ((c.tc : Thread Cert.InProjRefIdeal.nD Cert.InProjRefIdeal.τ).loc Cert.InProjRefIdeal.main_arg5)
      ∧ r.2.mem ((c.tc : Thread Cert.InProjRefIdeal.nD Cert.InProjRefIdeal.τ).loc Cert.InProjRefIdeal.main_arg6) = m ((c.tc : Thread Cert.InProjRefIdeal.nD Cert.InProjRefIdeal.τ).loc Cert.InProjRefIdeal.main_arg6))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2)
      ∧ r.2.mem ((c.tc : Thread Cert.OutProjRefIdeal.nD Cert.OutProjRefIdeal.τ).loc Cert.OutProjRefIdeal.main_arg3) = m ((c.tc : Thread Cert.OutProjRefIdeal.nD Cert.OutProjRefIdeal.τ).loc Cert.OutProjRefIdeal.main_arg3))
      ∧ r.2.sem = fun _ => 0)

def quiescent_Glu [hGlu : Cert.Glu.Facts] : Prop :=
  ∀ (m : (ℓ : Loc Cert.Glu.nD Cert.Glu.τ Cert.Glu.sig) → Buf (Elt Bits) ℓ) (g : Dev Cert.Glu.nD → PrngReg), Pre_Glu m →
    θ_run (Cert.Glu.defs (F := Bits)) (onTc (τ := Cert.Glu.τ) (Cert.Glu.main (F := Bits))) ⟨m, fun _ => 0, g⟩ (fun r => (∀ c : Dev Cert.Glu.nD,
      r.2.mem ((c.tc : Thread Cert.Glu.nD Cert.Glu.τ).loc Cert.Glu.main_arg0) = m ((c.tc : Thread Cert.Glu.nD Cert.Glu.τ).loc Cert.Glu.main_arg0)
      ∧ r.2.mem ((c.tc : Thread Cert.Glu.nD Cert.Glu.τ).loc Cert.Glu.main_arg1) = m ((c.tc : Thread Cert.Glu.nD Cert.Glu.τ).loc Cert.Glu.main_arg1)
      ∧ r.2.mem ((c.tc : Thread Cert.Glu.nD Cert.Glu.τ).loc Cert.Glu.main_arg2) = m ((c.tc : Thread Cert.Glu.nD Cert.Glu.τ).loc Cert.Glu.main_arg2)
      ∧ r.2.mem ((c.tc : Thread Cert.Glu.nD Cert.Glu.τ).loc Cert.Glu.main_arg3) = m ((c.tc : Thread Cert.Glu.nD Cert.Glu.τ).loc Cert.Glu.main_arg3)
      ∧ r.2.mem ((c.tc : Thread Cert.Glu.nD Cert.Glu.τ).loc Cert.Glu.main_arg4) = m ((c.tc : Thread Cert.Glu.nD Cert.Glu.τ).loc Cert.Glu.main_arg4))
      ∧ r.2.sem = fun _ => 0)

def quiescent_GluIdeal [hGluIdeal : Cert.GluIdeal.Facts] : Prop :=
  ∀ (m : (ℓ : Loc Cert.GluIdeal.nD Cert.GluIdeal.τ Cert.GluIdeal.sig) → Buf (Elt Ideal) ℓ) (g : Dev Cert.GluIdeal.nD → PrngReg), Pre_GluIdeal m →
    θ_run (Cert.GluIdeal.defs (F := Ideal)) (onTc (τ := Cert.GluIdeal.τ) (Cert.GluIdeal.main (F := Ideal))) ⟨m, fun _ => 0, g⟩ (fun r => (∀ c : Dev Cert.GluIdeal.nD,
      r.2.mem ((c.tc : Thread Cert.GluIdeal.nD Cert.GluIdeal.τ).loc Cert.GluIdeal.main_arg0) = m ((c.tc : Thread Cert.GluIdeal.nD Cert.GluIdeal.τ).loc Cert.GluIdeal.main_arg0)
      ∧ r.2.mem ((c.tc : Thread Cert.GluIdeal.nD Cert.GluIdeal.τ).loc Cert.GluIdeal.main_arg1) = m ((c.tc : Thread Cert.GluIdeal.nD Cert.GluIdeal.τ).loc Cert.GluIdeal.main_arg1)
      ∧ r.2.mem ((c.tc : Thread Cert.GluIdeal.nD Cert.GluIdeal.τ).loc Cert.GluIdeal.main_arg2) = m ((c.tc : Thread Cert.GluIdeal.nD Cert.GluIdeal.τ).loc Cert.GluIdeal.main_arg2)
      ∧ r.2.mem ((c.tc : Thread Cert.GluIdeal.nD Cert.GluIdeal.τ).loc Cert.GluIdeal.main_arg3) = m ((c.tc : Thread Cert.GluIdeal.nD Cert.GluIdeal.τ).loc Cert.GluIdeal.main_arg3)
      ∧ r.2.mem ((c.tc : Thread Cert.GluIdeal.nD Cert.GluIdeal.τ).loc Cert.GluIdeal.main_arg4) = m ((c.tc : Thread Cert.GluIdeal.nD Cert.GluIdeal.τ).loc Cert.GluIdeal.main_arg4))
      ∧ r.2.sem = fun _ => 0)

def quiescent_GluRefIdeal [hGluRefIdeal : Cert.GluRefIdeal.Facts] : Prop :=
  ∀ (m : (ℓ : Loc Cert.GluRefIdeal.nD Cert.GluRefIdeal.τ Cert.GluRefIdeal.sig) → Buf (Elt Ideal) ℓ) (g : Dev Cert.GluRefIdeal.nD → PrngReg), Pre_GluRefIdeal m →
    θ_run (Cert.GluRefIdeal.defs (F := Ideal)) (onTc (τ := Cert.GluRefIdeal.τ) (Cert.GluRefIdeal.main (F := Ideal))) ⟨m, fun _ => 0, g⟩ (fun r => (∀ c : Dev Cert.GluRefIdeal.nD,
      r.2.mem ((c.tc : Thread Cert.GluRefIdeal.nD Cert.GluRefIdeal.τ).loc Cert.GluRefIdeal.main_arg0) = m ((c.tc : Thread Cert.GluRefIdeal.nD Cert.GluRefIdeal.τ).loc Cert.GluRefIdeal.main_arg0)
      ∧ r.2.mem ((c.tc : Thread Cert.GluRefIdeal.nD Cert.GluRefIdeal.τ).loc Cert.GluRefIdeal.main_arg1) = m ((c.tc : Thread Cert.GluRefIdeal.nD Cert.GluRefIdeal.τ).loc Cert.GluRefIdeal.main_arg1)
      ∧ r.2.mem ((c.tc : Thread Cert.GluRefIdeal.nD Cert.GluRefIdeal.τ).loc Cert.GluRefIdeal.main_arg2) = m ((c.tc : Thread Cert.GluRefIdeal.nD Cert.GluRefIdeal.τ).loc Cert.GluRefIdeal.main_arg2)
      ∧ r.2.mem ((c.tc : Thread Cert.GluRefIdeal.nD Cert.GluRefIdeal.τ).loc Cert.GluRefIdeal.main_arg3) = m ((c.tc : Thread Cert.GluRefIdeal.nD Cert.GluRefIdeal.τ).loc Cert.GluRefIdeal.main_arg3)
      ∧ r.2.mem ((c.tc : Thread Cert.GluRefIdeal.nD Cert.GluRefIdeal.τ).loc Cert.GluRefIdeal.main_arg4) = m ((c.tc : Thread Cert.GluRefIdeal.nD Cert.GluRefIdeal.τ).loc Cert.GluRefIdeal.main_arg4))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1))
      ∧ r.2.sem = fun _ => 0)

def quiescent_Adaln [hAdaln : Cert.Adaln.Facts] : Prop :=
  ∀ (m : (ℓ : Loc Cert.Adaln.nD Cert.Adaln.τ Cert.Adaln.sig) → Buf (Elt Bits) ℓ) (g : Dev Cert.Adaln.nD → PrngReg), Pre_Adaln m →
    θ_run (Cert.Adaln.defs (F := Bits)) (onTc (τ := Cert.Adaln.τ) (Cert.Adaln.main (F := Bits))) ⟨m, fun _ => 0, g⟩ (fun r => (∀ c : Dev Cert.Adaln.nD,
      r.2.mem ((c.tc : Thread Cert.Adaln.nD Cert.Adaln.τ).loc Cert.Adaln.main_arg0) = m ((c.tc : Thread Cert.Adaln.nD Cert.Adaln.τ).loc Cert.Adaln.main_arg0)
      ∧ r.2.mem ((c.tc : Thread Cert.Adaln.nD Cert.Adaln.τ).loc Cert.Adaln.main_arg1) = m ((c.tc : Thread Cert.Adaln.nD Cert.Adaln.τ).loc Cert.Adaln.main_arg1)
      ∧ r.2.mem ((c.tc : Thread Cert.Adaln.nD Cert.Adaln.τ).loc Cert.Adaln.main_arg2) = m ((c.tc : Thread Cert.Adaln.nD Cert.Adaln.τ).loc Cert.Adaln.main_arg2))
      ∧ r.2.sem = fun _ => 0)

def quiescent_AdalnIdeal [hAdalnIdeal : Cert.AdalnIdeal.Facts] : Prop :=
  ∀ (m : (ℓ : Loc Cert.AdalnIdeal.nD Cert.AdalnIdeal.τ Cert.AdalnIdeal.sig) → Buf (Elt Ideal) ℓ) (g : Dev Cert.AdalnIdeal.nD → PrngReg), Pre_AdalnIdeal m →
    θ_run (Cert.AdalnIdeal.defs (F := Ideal)) (onTc (τ := Cert.AdalnIdeal.τ) (Cert.AdalnIdeal.main (F := Ideal))) ⟨m, fun _ => 0, g⟩ (fun r => (∀ c : Dev Cert.AdalnIdeal.nD,
      r.2.mem ((c.tc : Thread Cert.AdalnIdeal.nD Cert.AdalnIdeal.τ).loc Cert.AdalnIdeal.main_arg0) = m ((c.tc : Thread Cert.AdalnIdeal.nD Cert.AdalnIdeal.τ).loc Cert.AdalnIdeal.main_arg0)
      ∧ r.2.mem ((c.tc : Thread Cert.AdalnIdeal.nD Cert.AdalnIdeal.τ).loc Cert.AdalnIdeal.main_arg1) = m ((c.tc : Thread Cert.AdalnIdeal.nD Cert.AdalnIdeal.τ).loc Cert.AdalnIdeal.main_arg1)
      ∧ r.2.mem ((c.tc : Thread Cert.AdalnIdeal.nD Cert.AdalnIdeal.τ).loc Cert.AdalnIdeal.main_arg2) = m ((c.tc : Thread Cert.AdalnIdeal.nD Cert.AdalnIdeal.τ).loc Cert.AdalnIdeal.main_arg2))
      ∧ r.2.sem = fun _ => 0)

def quiescent_AdalnRefIdeal [hAdalnRefIdeal : Cert.AdalnRefIdeal.Facts] : Prop :=
  ∀ (m : (ℓ : Loc Cert.AdalnRefIdeal.nD Cert.AdalnRefIdeal.τ Cert.AdalnRefIdeal.sig) → Buf (Elt Ideal) ℓ) (g : Dev Cert.AdalnRefIdeal.nD → PrngReg), Pre_AdalnRefIdeal m →
    θ_run (Cert.AdalnRefIdeal.defs (F := Ideal)) (onTc (τ := Cert.AdalnRefIdeal.τ) (Cert.AdalnRefIdeal.main (F := Ideal))) ⟨m, fun _ => 0, g⟩ (fun r => (∀ c : Dev Cert.AdalnRefIdeal.nD,
      r.2.mem ((c.tc : Thread Cert.AdalnRefIdeal.nD Cert.AdalnRefIdeal.τ).loc Cert.AdalnRefIdeal.main_arg0) = m ((c.tc : Thread Cert.AdalnRefIdeal.nD Cert.AdalnRefIdeal.τ).loc Cert.AdalnRefIdeal.main_arg0)
      ∧ r.2.mem ((c.tc : Thread Cert.AdalnRefIdeal.nD Cert.AdalnRefIdeal.τ).loc Cert.AdalnRefIdeal.main_arg1) = m ((c.tc : Thread Cert.AdalnRefIdeal.nD Cert.AdalnRefIdeal.τ).loc Cert.AdalnRefIdeal.main_arg1)
      ∧ r.2.mem ((c.tc : Thread Cert.AdalnRefIdeal.nD Cert.AdalnRefIdeal.τ).loc Cert.AdalnRefIdeal.main_arg2) = m ((c.tc : Thread Cert.AdalnRefIdeal.nD Cert.AdalnRefIdeal.τ).loc Cert.AdalnRefIdeal.main_arg2))
      ∧ r.2.sem = fun _ => 0)

def quiescent_Prenorm [hPrenorm : Cert.Prenorm.Facts] : Prop :=
  ∀ (m : (ℓ : Loc Cert.Prenorm.nD Cert.Prenorm.τ Cert.Prenorm.sig) → Buf (Elt Bits) ℓ) (g : Dev Cert.Prenorm.nD → PrngReg), Pre_Prenorm m →
    θ_run (Cert.Prenorm.defs (F := Bits)) (onTc (τ := Cert.Prenorm.τ) (Cert.Prenorm.main (F := Bits))) ⟨m, fun _ => 0, g⟩ (fun r => (∀ c : Dev Cert.Prenorm.nD,
      r.2.mem ((c.tc : Thread Cert.Prenorm.nD Cert.Prenorm.τ).loc Cert.Prenorm.main_arg0) = m ((c.tc : Thread Cert.Prenorm.nD Cert.Prenorm.τ).loc Cert.Prenorm.main_arg0)
      ∧ r.2.mem ((c.tc : Thread Cert.Prenorm.nD Cert.Prenorm.τ).loc Cert.Prenorm.main_arg1) = m ((c.tc : Thread Cert.Prenorm.nD Cert.Prenorm.τ).loc Cert.Prenorm.main_arg1)
      ∧ r.2.mem ((c.tc : Thread Cert.Prenorm.nD Cert.Prenorm.τ).loc Cert.Prenorm.main_arg2) = m ((c.tc : Thread Cert.Prenorm.nD Cert.Prenorm.τ).loc Cert.Prenorm.main_arg2))
      ∧ r.2.sem = fun _ => 0)

def quiescent_PrenormIdeal [hPrenormIdeal : Cert.PrenormIdeal.Facts] : Prop :=
  ∀ (m : (ℓ : Loc Cert.PrenormIdeal.nD Cert.PrenormIdeal.τ Cert.PrenormIdeal.sig) → Buf (Elt Ideal) ℓ) (g : Dev Cert.PrenormIdeal.nD → PrngReg), Pre_PrenormIdeal m →
    θ_run (Cert.PrenormIdeal.defs (F := Ideal)) (onTc (τ := Cert.PrenormIdeal.τ) (Cert.PrenormIdeal.main (F := Ideal))) ⟨m, fun _ => 0, g⟩ (fun r => (∀ c : Dev Cert.PrenormIdeal.nD,
      r.2.mem ((c.tc : Thread Cert.PrenormIdeal.nD Cert.PrenormIdeal.τ).loc Cert.PrenormIdeal.main_arg0) = m ((c.tc : Thread Cert.PrenormIdeal.nD Cert.PrenormIdeal.τ).loc Cert.PrenormIdeal.main_arg0)
      ∧ r.2.mem ((c.tc : Thread Cert.PrenormIdeal.nD Cert.PrenormIdeal.τ).loc Cert.PrenormIdeal.main_arg1) = m ((c.tc : Thread Cert.PrenormIdeal.nD Cert.PrenormIdeal.τ).loc Cert.PrenormIdeal.main_arg1)
      ∧ r.2.mem ((c.tc : Thread Cert.PrenormIdeal.nD Cert.PrenormIdeal.τ).loc Cert.PrenormIdeal.main_arg2) = m ((c.tc : Thread Cert.PrenormIdeal.nD Cert.PrenormIdeal.τ).loc Cert.PrenormIdeal.main_arg2))
      ∧ r.2.sem = fun _ => 0)

def quiescent_PrenormRefIdeal [hPrenormRefIdeal : Cert.PrenormRefIdeal.Facts] : Prop :=
  ∀ (m : (ℓ : Loc Cert.PrenormRefIdeal.nD Cert.PrenormRefIdeal.τ Cert.PrenormRefIdeal.sig) → Buf (Elt Ideal) ℓ) (g : Dev Cert.PrenormRefIdeal.nD → PrngReg), Pre_PrenormRefIdeal m →
    θ_run (Cert.PrenormRefIdeal.defs (F := Ideal)) (onTc (τ := Cert.PrenormRefIdeal.τ) (Cert.PrenormRefIdeal.main (F := Ideal))) ⟨m, fun _ => 0, g⟩ (fun r => (∀ c : Dev Cert.PrenormRefIdeal.nD,
      r.2.mem ((c.tc : Thread Cert.PrenormRefIdeal.nD Cert.PrenormRefIdeal.τ).loc Cert.PrenormRefIdeal.main_arg0) = m ((c.tc : Thread Cert.PrenormRefIdeal.nD Cert.PrenormRefIdeal.τ).loc Cert.PrenormRefIdeal.main_arg0)
      ∧ r.2.mem ((c.tc : Thread Cert.PrenormRefIdeal.nD Cert.PrenormRefIdeal.τ).loc Cert.PrenormRefIdeal.main_arg1) = m ((c.tc : Thread Cert.PrenormRefIdeal.nD Cert.PrenormRefIdeal.τ).loc Cert.PrenormRefIdeal.main_arg1)
      ∧ r.2.mem ((c.tc : Thread Cert.PrenormRefIdeal.nD Cert.PrenormRefIdeal.τ).loc Cert.PrenormRefIdeal.main_arg2) = m ((c.tc : Thread Cert.PrenormRefIdeal.nD Cert.PrenormRefIdeal.τ).loc Cert.PrenormRefIdeal.main_arg2))
      ∧ r.2.sem = fun _ => 0)

def quiescent_Post [hPost : Cert.Post.Facts] : Prop :=
  ∀ (m : (ℓ : Loc Cert.Post.nD Cert.Post.τ Cert.Post.sig) → Buf (Elt Bits) ℓ) (g : Dev Cert.Post.nD → PrngReg), Pre_Post m →
    θ_run (Cert.Post.defs (F := Bits)) (onTc (τ := Cert.Post.τ) (Cert.Post.main (F := Bits))) ⟨m, fun _ => 0, g⟩ (fun r => (∀ c : Dev Cert.Post.nD,
      r.2.mem ((c.tc : Thread Cert.Post.nD Cert.Post.τ).loc Cert.Post.main_arg0) = m ((c.tc : Thread Cert.Post.nD Cert.Post.τ).loc Cert.Post.main_arg0)
      ∧ r.2.mem ((c.tc : Thread Cert.Post.nD Cert.Post.τ).loc Cert.Post.main_arg1) = m ((c.tc : Thread Cert.Post.nD Cert.Post.τ).loc Cert.Post.main_arg1)
      ∧ r.2.mem ((c.tc : Thread Cert.Post.nD Cert.Post.τ).loc Cert.Post.main_arg2) = m ((c.tc : Thread Cert.Post.nD Cert.Post.τ).loc Cert.Post.main_arg2)
      ∧ r.2.mem ((c.tc : Thread Cert.Post.nD Cert.Post.τ).loc Cert.Post.main_arg3) = m ((c.tc : Thread Cert.Post.nD Cert.Post.τ).loc Cert.Post.main_arg3)
      ∧ r.2.mem ((c.tc : Thread Cert.Post.nD Cert.Post.τ).loc Cert.Post.main_arg4) = m ((c.tc : Thread Cert.Post.nD Cert.Post.τ).loc Cert.Post.main_arg4))
      ∧ r.2.sem = fun _ => 0)

def quiescent_PostIdeal [hPostIdeal : Cert.PostIdeal.Facts] : Prop :=
  ∀ (m : (ℓ : Loc Cert.PostIdeal.nD Cert.PostIdeal.τ Cert.PostIdeal.sig) → Buf (Elt Ideal) ℓ) (g : Dev Cert.PostIdeal.nD → PrngReg), Pre_PostIdeal m →
    θ_run (Cert.PostIdeal.defs (F := Ideal)) (onTc (τ := Cert.PostIdeal.τ) (Cert.PostIdeal.main (F := Ideal))) ⟨m, fun _ => 0, g⟩ (fun r => (∀ c : Dev Cert.PostIdeal.nD,
      r.2.mem ((c.tc : Thread Cert.PostIdeal.nD Cert.PostIdeal.τ).loc Cert.PostIdeal.main_arg0) = m ((c.tc : Thread Cert.PostIdeal.nD Cert.PostIdeal.τ).loc Cert.PostIdeal.main_arg0)
      ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
      ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
      ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
      ∧ r.2.mem ((c.tc : Thread Cert.PostIdeal.nD Cert.PostIdeal.τ).loc Cert.PostIdeal.main_arg4) = m ((c.tc : Thread Cert.PostIdeal.nD Cert.PostIdeal.τ).loc Cert.PostIdeal.main_arg4))
      ∧ r.2.sem = fun _ => 0)

def quiescent_PostRefIdeal [hPostRefIdeal : Cert.PostRefIdeal.Facts] : Prop :=
  ∀ (m : (ℓ : Loc Cert.PostRefIdeal.nD Cert.PostRefIdeal.τ Cert.PostRefIdeal.sig) → Buf (Elt Ideal) ℓ) (g : Dev Cert.PostRefIdeal.nD → PrngReg), Pre_PostRefIdeal m →
    θ_run (Cert.PostRefIdeal.defs (F := Ideal)) (onTc (τ := Cert.PostRefIdeal.τ) (Cert.PostRefIdeal.main (F := Ideal))) ⟨m, fun _ => 0, g⟩ (fun r => (∀ c : Dev Cert.PostRefIdeal.nD,
      r.2.mem ((c.tc : Thread Cert.PostRefIdeal.nD Cert.PostRefIdeal.τ).loc Cert.PostRefIdeal.main_arg0) = m ((c.tc : Thread Cert.PostRefIdeal.nD Cert.PostRefIdeal.τ).loc Cert.PostRefIdeal.main_arg0)
      ∧ r.2.mem ((c.tc : Thread Cert.PostRefIdeal.nD Cert.PostRefIdeal.τ).loc Cert.PostRefIdeal.main_arg1) = m ((c.tc : Thread Cert.PostRefIdeal.nD Cert.PostRefIdeal.τ).loc Cert.PostRefIdeal.main_arg1)
      ∧ r.2.mem ((c.tc : Thread Cert.PostRefIdeal.nD Cert.PostRefIdeal.τ).loc Cert.PostRefIdeal.main_arg2) = m ((c.tc : Thread Cert.PostRefIdeal.nD Cert.PostRefIdeal.τ).loc Cert.PostRefIdeal.main_arg2)
      ∧ r.2.mem ((c.tc : Thread Cert.PostRefIdeal.nD Cert.PostRefIdeal.τ).loc Cert.PostRefIdeal.main_arg3) = m ((c.tc : Thread Cert.PostRefIdeal.nD Cert.PostRefIdeal.τ).loc Cert.PostRefIdeal.main_arg3)
      ∧ r.2.mem ((c.tc : Thread Cert.PostRefIdeal.nD Cert.PostRefIdeal.τ).loc Cert.PostRefIdeal.main_arg4) = m ((c.tc : Thread Cert.PostRefIdeal.nD Cert.PostRefIdeal.τ).loc Cert.PostRefIdeal.main_arg4))
      ∧ r.2.sem = fun _ => 0)

def quiescent_Experts [hExperts : Cert.Experts.Facts] [hPre_experts_in_range : Cert.Pre_experts_in_range.Facts] : Prop :=
  ∀ (m : (ℓ : Loc Cert.Experts.nD Cert.Experts.τ Cert.Experts.sig) → Buf (Elt Bits) ℓ) (g : Dev Cert.Experts.nD → PrngReg), Pre_Experts m →
    θ_run (Cert.Experts.defs (F := Bits)) (onTc (τ := Cert.Experts.τ) (Cert.Experts.main (F := Bits))) ⟨m, fun _ => 0, g⟩ (fun r => (∀ c : Dev Cert.Experts.nD,
      r.2.mem ((c.tc : Thread Cert.Experts.nD Cert.Experts.τ).loc Cert.Experts.main_arg0) = m ((c.tc : Thread Cert.Experts.nD Cert.Experts.τ).loc Cert.Experts.main_arg0)
      ∧ r.2.mem ((c.tc : Thread Cert.Experts.nD Cert.Experts.τ).loc Cert.Experts.main_arg1) = m ((c.tc : Thread Cert.Experts.nD Cert.Experts.τ).loc Cert.Experts.main_arg1)
      ∧ r.2.mem ((c.tc : Thread Cert.Experts.nD Cert.Experts.τ).loc Cert.Experts.main_arg2) = m ((c.tc : Thread Cert.Experts.nD Cert.Experts.τ).loc Cert.Experts.main_arg2)
      ∧ r.2.mem ((c.tc : Thread Cert.Experts.nD Cert.Experts.τ).loc Cert.Experts.main_arg3) = m ((c.tc : Thread Cert.Experts.nD Cert.Experts.τ).loc Cert.Experts.main_arg3))
      ∧ r.2.sem = fun _ => 0)

def quiescent_ExpertsIdeal [hExpertsIdeal : Cert.ExpertsIdeal.Facts] [hPre_experts_in_range : Cert.Pre_experts_in_range.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3))
      ∧ r.2.sem = fun _ => 0)

def quiescent_ExpertsRefIdeal [hExpertsRefIdeal : Cert.ExpertsRefIdeal.Facts] : Prop :=
  ∀ (m : (ℓ : Loc Cert.ExpertsRefIdeal.nD Cert.ExpertsRefIdeal.τ Cert.ExpertsRefIdeal.sig) → Buf (Elt Ideal) ℓ) (g : Dev Cert.ExpertsRefIdeal.nD → PrngReg), Pre_ExpertsRefIdeal m →
    θ_run (Cert.ExpertsRefIdeal.defs (F := Ideal)) (onTc (τ := Cert.ExpertsRefIdeal.τ) (Cert.ExpertsRefIdeal.main (F := Ideal))) ⟨m, fun _ => 0, g⟩ (fun r => (∀ c : Dev Cert.ExpertsRefIdeal.nD,
      r.2.mem ((c.tc : Thread Cert.ExpertsRefIdeal.nD Cert.ExpertsRefIdeal.τ).loc Cert.ExpertsRefIdeal.main_arg0) = m ((c.tc : Thread Cert.ExpertsRefIdeal.nD Cert.ExpertsRefIdeal.τ).loc Cert.ExpertsRefIdeal.main_arg0)
      ∧ r.2.mem ((c.tc : Thread Cert.ExpertsRefIdeal.nD Cert.ExpertsRefIdeal.τ).loc Cert.ExpertsRefIdeal.main_arg1) = m ((c.tc : Thread Cert.ExpertsRefIdeal.nD Cert.ExpertsRefIdeal.τ).loc Cert.ExpertsRefIdeal.main_arg1)
      ∧ r.2.mem ((c.tc : Thread Cert.ExpertsRefIdeal.nD Cert.ExpertsRefIdeal.τ).loc Cert.ExpertsRefIdeal.main_arg2) = m ((c.tc : Thread Cert.ExpertsRefIdeal.nD Cert.ExpertsRefIdeal.τ).loc Cert.ExpertsRefIdeal.main_arg2)
      ∧ r.2.mem ((c.tc : Thread Cert.ExpertsRefIdeal.nD Cert.ExpertsRefIdeal.τ).loc Cert.ExpertsRefIdeal.main_arg3) = m ((c.tc : Thread Cert.ExpertsRefIdeal.nD Cert.ExpertsRefIdeal.τ).loc Cert.ExpertsRefIdeal.main_arg3))
      ∧ r.2.sem = fun _ => 0)

def quiescent_ExpertsRefIdeal_pre_experts_in_range [hExpertsRefIdeal : Cert.ExpertsRefIdeal.Facts] [hPre_experts_in_range : Cert.Pre_experts_in_range.Facts] : Prop :=
  ∀ (m : (ℓ : Loc Cert.ExpertsRefIdeal.nD Cert.ExpertsRefIdeal.τ Cert.ExpertsRefIdeal.sig) → Buf (Elt Ideal) ℓ) (g : Dev Cert.ExpertsRefIdeal.nD → PrngReg), Pre_ExpertsRefIdeal_experts_in_range m →
    θ_run (Cert.ExpertsRefIdeal.defs (F := Ideal)) (onTc (τ := Cert.ExpertsRefIdeal.τ) (Cert.ExpertsRefIdeal.main (F := Ideal))) ⟨m, fun _ => 0, g⟩ (fun r => (∀ c : Dev Cert.ExpertsRefIdeal.nD,
      r.2.mem ((c.tc : Thread Cert.ExpertsRefIdeal.nD Cert.ExpertsRefIdeal.τ).loc Cert.ExpertsRefIdeal.main_arg0) = m ((c.tc : Thread Cert.ExpertsRefIdeal.nD Cert.ExpertsRefIdeal.τ).loc Cert.ExpertsRefIdeal.main_arg0)
      ∧ r.2.mem ((c.tc : Thread Cert.ExpertsRefIdeal.nD Cert.ExpertsRefIdeal.τ).loc Cert.ExpertsRefIdeal.main_arg1) = m ((c.tc : Thread Cert.ExpertsRefIdeal.nD Cert.ExpertsRefIdeal.τ).loc Cert.ExpertsRefIdeal.main_arg1)
      ∧ r.2.mem ((c.tc : Thread Cert.ExpertsRefIdeal.nD Cert.ExpertsRefIdeal.τ).loc Cert.ExpertsRefIdeal.main_arg2) = m ((c.tc : Thread Cert.ExpertsRefIdeal.nD Cert.ExpertsRefIdeal.τ).loc Cert.ExpertsRefIdeal.main_arg2)
      ∧ r.2.mem ((c.tc : Thread Cert.ExpertsRefIdeal.nD Cert.ExpertsRefIdeal.τ).loc Cert.ExpertsRefIdeal.main_arg3) = m ((c.tc : Thread Cert.ExpertsRefIdeal.nD Cert.ExpertsRefIdeal.τ).loc Cert.ExpertsRefIdeal.main_arg3))
      ∧ r.2.sem = fun _ => 0)

def preserves_Kernel_KernelIdeal : Prop :=
  IdealRules.named_const.Statement Cert.KernelIdeal.κ "mask" .f32 0xF149F2CA#32 ⊥
  ∧ IdealRules.named_const.Statement Cert.KernelIdeal.κ "scale_log2e" .f32 0x3E0293EE#32 (((11863283 / 134217728) * (Real.log 2)⁻¹ : ℝ) : EReal)

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v101) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)
      ∧ m' ((c.tc : Thread Cert.InProjRefIdeal.nD Cert.InProjRefIdeal.τ).loc Cert.InProjRefIdeal.main_arg3) = m ((c.tc : Thread Cert.InProjIdeal.nD Cert.InProjIdeal.τ).loc Cert.InProjIdeal.main_arg3)
      ∧ m' ((c.tc : Thread Cert.InProjRefIdeal.nD Cert.InProjRefIdeal.τ).loc Cert.InProjRefIdeal.main_arg4) = m ((c.tc : Thread Cert.InProjIdeal.nD Cert.InProjIdeal.τ).loc Cert.InProjIdeal.main_arg4)
      ∧ m' ((c.tc : Thread Cert.InProjRefIdeal.nD Cert.InProjRefIdeal.τ).loc Cert.InProjRefIdeal.main_arg5) = m ((c.tc : Thread Cert.InProjIdeal.nD Cert.InProjIdeal.τ).loc Cert.InProjIdeal.main_arg5)
      ∧ m' ((c.tc : Thread Cert.InProjRefIdeal.nD Cert.InProjRefIdeal.τ).loc Cert.InProjRefIdeal.main_arg6) = m ((c.tc : Thread Cert.InProjIdeal.nD Cert.InProjIdeal.τ).loc Cert.InProjIdeal.main_arg6)) →
    ∃ (v0 : (c : Dev Cert.InProjIdeal.nD) → Buf (Elt Ideal) ((c.tc : Thread Cert.InProjIdeal.nD Cert.InProjIdeal.τ).loc Cert.InProjIdeal.main_v4_0)) (v1 : (c : Dev Cert.InProjIdeal.nD) → Buf (Elt Ideal) ((c.tc : Thread Cert.InProjIdeal.nD Cert.InProjIdeal.τ).loc Cert.InProjIdeal.main_v4_1)) (v2 : (c : Dev Cert.InProjIdeal.nD) → Buf (Elt Ideal) ((c.tc : Thread Cert.InProjIdeal.nD Cert.InProjIdeal.τ).loc Cert.InProjIdeal.main_v4_2)) (v3 : (c : Dev Cert.InProjIdeal.nD) → Buf (Elt Ideal) ((c.tc : Thread Cert.InProjIdeal.nD Cert.InProjIdeal.τ).loc Cert.InProjIdeal.main_v4_3)) (v4 : (c : Dev Cert.InProjIdeal.nD) → Buf (Elt Ideal) ((c.tc : Thread Cert.InProjIdeal.nD Cert.InProjIdeal.τ).loc Cert.InProjIdeal.main_v4_4)) (v5 : (c : Dev Cert.InProjIdeal.nD) → Buf (Elt Ideal) ((c.tc : Thread Cert.InProjIdeal.nD Cert.InProjIdeal.τ).loc Cert.InProjIdeal.main_v4_5)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v4_0) = v0 c
          ∧ r.2.mem ((c.tc : Thread Cert.InProjIdeal.nD Cert.InProjIdeal.τ).loc Cert.InProjIdeal.main_v4_1) = v1 c
          ∧ r.2.mem ((c.tc : Thread Cert.InProjIdeal.nD Cert.InProjIdeal.τ).loc Cert.InProjIdeal.main_v4_2) = v2 c
          ∧ r.2.mem ((c.tc : Thread Cert.InProjIdeal.nD Cert.InProjIdeal.τ).loc Cert.InProjIdeal.main_v4_3) = v3 c
          ∧ r.2.mem ((c.tc : Thread Cert.InProjIdeal.nD Cert.InProjIdeal.τ).loc Cert.InProjIdeal.main_v4_4) = v4 c
          ∧ r.2.mem ((c.tc : Thread Cert.InProjIdeal.nD Cert.InProjIdeal.τ).loc Cert.InProjIdeal.main_v4_5) = v5 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
          ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
          ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4)
          ∧ r.2.mem ((c.tc : Thread Cert.InProjIdeal.nD Cert.InProjIdeal.τ).loc Cert.InProjIdeal.main_arg5) = m ((c.tc : Thread Cert.InProjIdeal.nD Cert.InProjIdeal.τ).loc Cert.InProjIdeal.main_arg5)
          ∧ r.2.mem ((c.tc : Thread Cert.InProjIdeal.nD Cert.InProjIdeal.τ).loc Cert.InProjIdeal.main_arg6) = m ((c.tc : Thread Cert.InProjIdeal.nD Cert.InProjIdeal.τ).loc Cert.InProjIdeal.main_arg6))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v14) = v0 c
          ∧ r.2.mem ((c.tc : Thread Cert.InProjRefIdeal.nD Cert.InProjRefIdeal.τ).loc Cert.InProjRefIdeal.main_v17) = v1 c
          ∧ r.2.mem ((c.tc : Thread Cert.InProjRefIdeal.nD Cert.InProjRefIdeal.τ).loc Cert.InProjRefIdeal.main_v20) = v2 c
          ∧ r.2.mem ((c.tc : Thread Cert.InProjRefIdeal.nD Cert.InProjRefIdeal.τ).loc Cert.InProjRefIdeal.main_v23) = v3 c
          ∧ r.2.mem ((c.tc : Thread Cert.InProjRefIdeal.nD Cert.InProjRefIdeal.τ).loc Cert.InProjRefIdeal.main_v25) = v4 c
          ∧ r.2.mem ((c.tc : Thread Cert.InProjRefIdeal.nD Cert.InProjRefIdeal.τ).loc Cert.InProjRefIdeal.main_v27) = v5 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2)
          ∧ r.2.mem ((c.tc : Thread Cert.InProjRefIdeal.nD Cert.InProjRefIdeal.τ).loc Cert.InProjRefIdeal.main_arg3) = m' ((c.tc : Thread Cert.InProjRefIdeal.nD Cert.InProjRefIdeal.τ).loc Cert.InProjRefIdeal.main_arg3)
          ∧ r.2.mem ((c.tc : Thread Cert.InProjRefIdeal.nD Cert.InProjRefIdeal.τ).loc Cert.InProjRefIdeal.main_arg4) = m' ((c.tc : Thread Cert.InProjRefIdeal.nD Cert.InProjRefIdeal.τ).loc Cert.InProjRefIdeal.main_arg4)
          ∧ r.2.mem ((c.tc : Thread Cert.InProjRefIdeal.nD Cert.InProjRefIdeal.τ).loc Cert.InProjRefIdeal.main_arg5) = m' ((c.tc : Thread Cert.InProjRefIdeal.nD Cert.InProjRefIdeal.τ).loc Cert.InProjRefIdeal.main_arg5)
          ∧ r.2.mem ((c.tc : Thread Cert.InProjRefIdeal.nD Cert.InProjRefIdeal.τ).loc Cert.InProjRefIdeal.main_arg6) = m' ((c.tc : Thread Cert.InProjRefIdeal.nD Cert.InProjRefIdeal.τ).loc Cert.InProjRefIdeal.main_arg6))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)) →
    ∃ (v0 : (c : Dev Cert.MergeIdeal.nD) → Buf (Elt Ideal) ((c.tc : Thread Cert.MergeIdeal.nD Cert.MergeIdeal.τ).loc Cert.MergeIdeal.main_v9)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v9) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v16) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)
      ∧ m' ((c.tc : Thread Cert.OutProjRefIdeal.nD Cert.OutProjRefIdeal.τ).loc Cert.OutProjRefIdeal.main_arg3) = m ((c.tc : Thread Cert.OutProjIdeal.nD Cert.OutProjIdeal.τ).loc Cert.OutProjIdeal.main_arg3)) →
    ∃ (v0 : (c : Dev Cert.OutProjIdeal.nD) → Buf (Elt Ideal) ((c.tc : Thread Cert.OutProjIdeal.nD Cert.OutProjIdeal.τ).loc Cert.OutProjIdeal.main_v4_0)) (v1 : (c : Dev Cert.OutProjIdeal.nD) → Buf (Elt Ideal) ((c.tc : Thread Cert.OutProjIdeal.nD Cert.OutProjIdeal.τ).loc Cert.OutProjIdeal.main_v4_1)) (v2 : (c : Dev Cert.OutProjIdeal.nD) → Buf (Elt Ideal) ((c.tc : Thread Cert.OutProjIdeal.nD Cert.OutProjIdeal.τ).loc Cert.OutProjIdeal.main_v4_2)) (v3 : (c : Dev Cert.OutProjIdeal.nD) → Buf (Elt Ideal) ((c.tc : Thread Cert.OutProjIdeal.nD Cert.OutProjIdeal.τ).loc Cert.OutProjIdeal.main_v4_3)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v4_0) = v0 c
          ∧ r.2.mem ((c.tc : Thread Cert.OutProjIdeal.nD Cert.OutProjIdeal.τ).loc Cert.OutProjIdeal.main_v4_1) = v1 c
          ∧ r.2.mem ((c.tc : Thread Cert.OutProjIdeal.nD Cert.OutProjIdeal.τ).loc Cert.OutProjIdeal.main_v4_2) = v2 c
          ∧ r.2.mem ((c.tc : Thread Cert.OutProjIdeal.nD Cert.OutProjIdeal.τ).loc Cert.OutProjIdeal.main_v4_3) = v3 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v5) = v0 c
          ∧ r.2.mem ((c.tc : Thread Cert.OutProjRefIdeal.nD Cert.OutProjRefIdeal.τ).loc Cert.OutProjRefIdeal.main_v8) = v1 c
          ∧ r.2.mem ((c.tc : Thread Cert.OutProjRefIdeal.nD Cert.OutProjRefIdeal.τ).loc Cert.OutProjRefIdeal.main_v11) = v2 c
          ∧ r.2.mem ((c.tc : Thread Cert.OutProjRefIdeal.nD Cert.OutProjRefIdeal.τ).loc Cert.OutProjRefIdeal.main_v14) = v3 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2)
          ∧ r.2.mem ((c.tc : Thread Cert.OutProjRefIdeal.nD Cert.OutProjRefIdeal.τ).loc Cert.OutProjRefIdeal.main_arg3) = m' ((c.tc : Thread Cert.OutProjRefIdeal.nD Cert.OutProjRefIdeal.τ).loc Cert.OutProjRefIdeal.main_arg3))

def preserves_Glu_GluIdeal : Prop :=
  True

def algebraic_GluIdeal_GluRefIdeal [hGluIdeal : Cert.GluIdeal.Facts] [hGluRefIdeal : Cert.GluRefIdeal.Facts] : Prop :=
  ∀ (m : (ℓ : Loc Cert.GluIdeal.nD Cert.GluIdeal.τ Cert.GluIdeal.sig) → Buf (Elt Ideal) ℓ) (g : Dev Cert.GluIdeal.nD → PrngReg)
    (m' : (ℓ : Loc Cert.GluRefIdeal.nD Cert.GluRefIdeal.τ Cert.GluRefIdeal.sig) → Buf (Elt Ideal) ℓ) (g' : Dev Cert.GluRefIdeal.nD → PrngReg), Pre_GluIdeal m →
    (∀ c : Dev Cert.GluIdeal.nD,
      m' ((c.tc : Thread Cert.GluRefIdeal.nD Cert.GluRefIdeal.τ).loc Cert.GluRefIdeal.main_arg0) = m ((c.tc : Thread Cert.GluIdeal.nD Cert.GluIdeal.τ).loc Cert.GluIdeal.main_arg0)
      ∧ m' ((c.tc : Thread Cert.GluRefIdeal.nD Cert.GluRefIdeal.τ).loc Cert.GluRefIdeal.main_arg1) = m ((c.tc : Thread Cert.GluIdeal.nD Cert.GluIdeal.τ).loc Cert.GluIdeal.main_arg1)
      ∧ m' ((c.tc : Thread Cert.GluRefIdeal.nD Cert.GluRefIdeal.τ).loc Cert.GluRefIdeal.main_arg2) = m ((c.tc : Thread Cert.GluIdeal.nD Cert.GluIdeal.τ).loc Cert.GluIdeal.main_arg2)
      ∧ m' ((c.tc : Thread Cert.GluRefIdeal.nD Cert.GluRefIdeal.τ).loc Cert.GluRefIdeal.main_arg3) = m ((c.tc : Thread Cert.GluIdeal.nD Cert.GluIdeal.τ).loc Cert.GluIdeal.main_arg3)
      ∧ m' ((c.tc : Thread Cert.GluRefIdeal.nD Cert.GluRefIdeal.τ).loc Cert.GluRefIdeal.main_arg4) = m ((c.tc : Thread Cert.GluIdeal.nD Cert.GluIdeal.τ).loc Cert.GluIdeal.main_arg4)) →
    ∃ (v0 : (c : Dev Cert.GluIdeal.nD) → Buf (Elt Ideal) ((c.tc : Thread Cert.GluIdeal.nD Cert.GluIdeal.τ).loc Cert.GluIdeal.main_v5_0)) (v1 : (c : Dev Cert.GluIdeal.nD) → Buf (Elt Ideal) ((c.tc : Thread Cert.GluIdeal.nD Cert.GluIdeal.τ).loc Cert.GluIdeal.main_v5_1)) (v2 : (c : Dev Cert.GluIdeal.nD) → Buf (Elt Ideal) ((c.tc : Thread Cert.GluIdeal.nD Cert.GluIdeal.τ).loc Cert.GluIdeal.main_v5_2)),
      θ_run (Cert.GluIdeal.defs (F := Ideal)) (onTc (τ := Cert.GluIdeal.τ) (Cert.GluIdeal.main (F := Ideal))) ⟨m, fun _ => 0, g⟩ (fun r => ∀ c : Dev Cert.GluIdeal.nD,
          r.2.mem ((c.tc : Thread Cert.GluIdeal.nD Cert.GluIdeal.τ).loc Cert.GluIdeal.main_v5_0) = v0 c
          ∧ r.2.mem ((c.tc : Thread Cert.GluIdeal.nD Cert.GluIdeal.τ).loc Cert.GluIdeal.main_v5_1) = v1 c
          ∧ r.2.mem ((c.tc : Thread Cert.GluIdeal.nD Cert.GluIdeal.τ).loc Cert.GluIdeal.main_v5_2) = v2 c
          ∧ r.2.mem ((c.tc : Thread Cert.GluIdeal.nD Cert.GluIdeal.τ).loc Cert.GluIdeal.main_arg0) = m ((c.tc : Thread Cert.GluIdeal.nD Cert.GluIdeal.τ).loc Cert.GluIdeal.main_arg0)
          ∧ r.2.mem ((c.tc : Thread Cert.GluIdeal.nD Cert.GluIdeal.τ).loc Cert.GluIdeal.main_arg1) = m ((c.tc : Thread Cert.GluIdeal.nD Cert.GluIdeal.τ).loc Cert.GluIdeal.main_arg1)
          ∧ r.2.mem ((c.tc : Thread Cert.GluIdeal.nD Cert.GluIdeal.τ).loc Cert.GluIdeal.main_arg2) = m ((c.tc : Thread Cert.GluIdeal.nD Cert.GluIdeal.τ).loc Cert.GluIdeal.main_arg2)
          ∧ r.2.mem ((c.tc : Thread Cert.GluIdeal.nD Cert.GluIdeal.τ).loc Cert.GluIdeal.main_arg3) = m ((c.tc : Thread Cert.GluIdeal.nD Cert.GluIdeal.τ).loc Cert.GluIdeal.main_arg3)
          ∧ r.2.mem ((c.tc : Thread Cert.GluIdeal.nD Cert.GluIdeal.τ).loc Cert.GluIdeal.main_arg4) = m ((c.tc : Thread Cert.GluIdeal.nD Cert.GluIdeal.τ).loc Cert.GluIdeal.main_arg4))
      ∧ θ_run (Cert.GluRefIdeal.defs (F := Ideal)) (onTc (τ := Cert.GluRefIdeal.τ) (Cert.GluRefIdeal.main (F := Ideal))) ⟨m', fun _ => 0, g'⟩ (fun r => ∀ c : Dev Cert.GluRefIdeal.nD,
          r.2.mem ((c.tc : Thread Cert.GluRefIdeal.nD Cert.GluRefIdeal.τ).loc Cert.GluRefIdeal.main_v8) = v0 c
          ∧ r.2.mem ((c.tc : Thread Cert.GluRefIdeal.nD Cert.GluRefIdeal.τ).loc Cert.GluRefIdeal.main_v10) = v1 c
          ∧ r.2.mem ((c.tc : Thread Cert.GluRefIdeal.nD Cert.GluRefIdeal.τ).loc Cert.GluRefIdeal.main_v13) = v2 c
          ∧ r.2.mem ((c.tc : Thread Cert.GluRefIdeal.nD Cert.GluRefIdeal.τ).loc Cert.GluRefIdeal.main_arg0) = m' ((c.tc : Thread Cert.GluRefIdeal.nD Cert.GluRefIdeal.τ).loc Cert.GluRefIdeal.main_arg0)
          ∧ r.2.mem ((c.tc : Thread Cert.GluRefIdeal.nD Cert.GluRefIdeal.τ).loc Cert.GluRefIdeal.main_arg1) = m' ((c.tc : Thread Cert.GluRefIdeal.nD Cert.GluRefIdeal.τ).loc Cert.GluRefIdeal.main_arg1)
          ∧ r.2.mem ((c.tc : Thread Cert.GluRefIdeal.nD Cert.GluRefIdeal.τ).loc Cert.GluRefIdeal.main_arg2) = m' ((c.tc : Thread Cert.GluRefIdeal.nD Cert.GluRefIdeal.τ).loc Cert.GluRefIdeal.main_arg2)
          ∧ r.2.mem ((c.tc : Thread Cert.GluRefIdeal.nD Cert.GluRefIdeal.τ).loc Cert.GluRefIdeal.main_arg3) = m' ((c.tc : Thread Cert.GluRefIdeal.nD Cert.GluRefIdeal.τ).loc Cert.GluRefIdeal.main_arg3)
          ∧ r.2.mem ((c.tc : Thread Cert.GluRefIdeal.nD Cert.GluRefIdeal.τ).loc Cert.GluRefIdeal.main_arg4) = m' ((c.tc : Thread Cert.GluRefIdeal.nD Cert.GluRefIdeal.τ).loc Cert.GluRefIdeal.main_arg4))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)) →
    ∃ (v0 : (c : Dev Cert.DownIdeal.nD) → Buf (Elt Ideal) ((c.tc : Thread Cert.DownIdeal.nD Cert.DownIdeal.τ).loc Cert.DownIdeal.main_v3)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v3) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v4) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1))

def preserves_Adaln_AdalnIdeal : Prop :=
  True

def algebraic_AdalnIdeal_AdalnRefIdeal [hAdalnIdeal : Cert.AdalnIdeal.Facts] [hAdalnRefIdeal : Cert.AdalnRefIdeal.Facts] : Prop :=
  ∀ (m : (ℓ : Loc Cert.AdalnIdeal.nD Cert.AdalnIdeal.τ Cert.AdalnIdeal.sig) → Buf (Elt Ideal) ℓ) (g : Dev Cert.AdalnIdeal.nD → PrngReg)
    (m' : (ℓ : Loc Cert.AdalnRefIdeal.nD Cert.AdalnRefIdeal.τ Cert.AdalnRefIdeal.sig) → Buf (Elt Ideal) ℓ) (g' : Dev Cert.AdalnRefIdeal.nD → PrngReg), Pre_AdalnIdeal m →
    (∀ c : Dev Cert.AdalnIdeal.nD,
      m' ((c.tc : Thread Cert.AdalnRefIdeal.nD Cert.AdalnRefIdeal.τ).loc Cert.AdalnRefIdeal.main_arg0) = m ((c.tc : Thread Cert.AdalnIdeal.nD Cert.AdalnIdeal.τ).loc Cert.AdalnIdeal.main_arg0)
      ∧ m' ((c.tc : Thread Cert.AdalnRefIdeal.nD Cert.AdalnRefIdeal.τ).loc Cert.AdalnRefIdeal.main_arg1) = m ((c.tc : Thread Cert.AdalnIdeal.nD Cert.AdalnIdeal.τ).loc Cert.AdalnIdeal.main_arg1)
      ∧ m' ((c.tc : Thread Cert.AdalnRefIdeal.nD Cert.AdalnRefIdeal.τ).loc Cert.AdalnRefIdeal.main_arg2) = m ((c.tc : Thread Cert.AdalnIdeal.nD Cert.AdalnIdeal.τ).loc Cert.AdalnIdeal.main_arg2)) →
    ∃ (v0 : (c : Dev Cert.AdalnIdeal.nD) → Buf (Elt Ideal) ((c.tc : Thread Cert.AdalnIdeal.nD Cert.AdalnIdeal.τ).loc Cert.AdalnIdeal.main_v1)),
      θ_run (Cert.AdalnIdeal.defs (F := Ideal)) (onTc (τ := Cert.AdalnIdeal.τ) (Cert.AdalnIdeal.main (F := Ideal))) ⟨m, fun _ => 0, g⟩ (fun r => ∀ c : Dev Cert.AdalnIdeal.nD,
          r.2.mem ((c.tc : Thread Cert.AdalnIdeal.nD Cert.AdalnIdeal.τ).loc Cert.AdalnIdeal.main_v1) = v0 c
          ∧ r.2.mem ((c.tc : Thread Cert.AdalnIdeal.nD Cert.AdalnIdeal.τ).loc Cert.AdalnIdeal.main_arg0) = m ((c.tc : Thread Cert.AdalnIdeal.nD Cert.AdalnIdeal.τ).loc Cert.AdalnIdeal.main_arg0)
          ∧ r.2.mem ((c.tc : Thread Cert.AdalnIdeal.nD Cert.AdalnIdeal.τ).loc Cert.AdalnIdeal.main_arg1) = m ((c.tc : Thread Cert.AdalnIdeal.nD Cert.AdalnIdeal.τ).loc Cert.AdalnIdeal.main_arg1)
          ∧ r.2.mem ((c.tc : Thread Cert.AdalnIdeal.nD Cert.AdalnIdeal.τ).loc Cert.AdalnIdeal.main_arg2) = m ((c.tc : Thread Cert.AdalnIdeal.nD Cert.AdalnIdeal.τ).loc Cert.AdalnIdeal.main_arg2))
      ∧ θ_run (Cert.AdalnRefIdeal.defs (F := Ideal)) (onTc (τ := Cert.AdalnRefIdeal.τ) (Cert.AdalnRefIdeal.main (F := Ideal))) ⟨m', fun _ => 0, g'⟩ (fun r => ∀ c : Dev Cert.AdalnRefIdeal.nD,
          r.2.mem ((c.tc : Thread Cert.AdalnRefIdeal.nD Cert.AdalnRefIdeal.τ).loc Cert.AdalnRefIdeal.main_v5) = v0 c
          ∧ r.2.mem ((c.tc : Thread Cert.AdalnRefIdeal.nD Cert.AdalnRefIdeal.τ).loc Cert.AdalnRefIdeal.main_arg0) = m' ((c.tc : Thread Cert.AdalnRefIdeal.nD Cert.AdalnRefIdeal.τ).loc Cert.AdalnRefIdeal.main_arg0)
          ∧ r.2.mem ((c.tc : Thread Cert.AdalnRefIdeal.nD Cert.AdalnRefIdeal.τ).loc Cert.AdalnRefIdeal.main_arg1) = m' ((c.tc : Thread Cert.AdalnRefIdeal.nD Cert.AdalnRefIdeal.τ).loc Cert.AdalnRefIdeal.main_arg1)
          ∧ r.2.mem ((c.tc : Thread Cert.AdalnRefIdeal.nD Cert.AdalnRefIdeal.τ).loc Cert.AdalnRefIdeal.main_arg2) = m' ((c.tc : Thread Cert.AdalnRefIdeal.nD Cert.AdalnRefIdeal.τ).loc Cert.AdalnRefIdeal.main_arg2))

def preserves_Prenorm_PrenormIdeal : Prop :=
  True

def algebraic_PrenormIdeal_PrenormRefIdeal [hPrenormIdeal : Cert.PrenormIdeal.Facts] [hPrenormRefIdeal : Cert.PrenormRefIdeal.Facts] : Prop :=
  ∀ (m : (ℓ : Loc Cert.PrenormIdeal.nD Cert.PrenormIdeal.τ Cert.PrenormIdeal.sig) → Buf (Elt Ideal) ℓ) (g : Dev Cert.PrenormIdeal.nD → PrngReg)
    (m' : (ℓ : Loc Cert.PrenormRefIdeal.nD Cert.PrenormRefIdeal.τ Cert.PrenormRefIdeal.sig) → Buf (Elt Ideal) ℓ) (g' : Dev Cert.PrenormRefIdeal.nD → PrngReg), Pre_PrenormIdeal m →
    (∀ c : Dev Cert.PrenormIdeal.nD,
      m' ((c.tc : Thread Cert.PrenormRefIdeal.nD Cert.PrenormRefIdeal.τ).loc Cert.PrenormRefIdeal.main_arg0) = m ((c.tc : Thread Cert.PrenormIdeal.nD Cert.PrenormIdeal.τ).loc Cert.PrenormIdeal.main_arg0)
      ∧ m' ((c.tc : Thread Cert.PrenormRefIdeal.nD Cert.PrenormRefIdeal.τ).loc Cert.PrenormRefIdeal.main_arg1) = m ((c.tc : Thread Cert.PrenormIdeal.nD Cert.PrenormIdeal.τ).loc Cert.PrenormIdeal.main_arg1)
      ∧ m' ((c.tc : Thread Cert.PrenormRefIdeal.nD Cert.PrenormRefIdeal.τ).loc Cert.PrenormRefIdeal.main_arg2) = m ((c.tc : Thread Cert.PrenormIdeal.nD Cert.PrenormIdeal.τ).loc Cert.PrenormIdeal.main_arg2)) →
    ∃ (v0 : (c : Dev Cert.PrenormIdeal.nD) → Buf (Elt Ideal) ((c.tc : Thread Cert.PrenormIdeal.nD Cert.PrenormIdeal.τ).loc Cert.PrenormIdeal.main_v21)),
      θ_run (Cert.PrenormIdeal.defs (F := Ideal)) (onTc (τ := Cert.PrenormIdeal.τ) (Cert.PrenormIdeal.main (F := Ideal))) ⟨m, fun _ => 0, g⟩ (fun r => ∀ c : Dev Cert.PrenormIdeal.nD,
          r.2.mem ((c.tc : Thread Cert.PrenormIdeal.nD Cert.PrenormIdeal.τ).loc Cert.PrenormIdeal.main_v21) = v0 c
          ∧ r.2.mem ((c.tc : Thread Cert.PrenormIdeal.nD Cert.PrenormIdeal.τ).loc Cert.PrenormIdeal.main_arg0) = m ((c.tc : Thread Cert.PrenormIdeal.nD Cert.PrenormIdeal.τ).loc Cert.PrenormIdeal.main_arg0)
          ∧ r.2.mem ((c.tc : Thread Cert.PrenormIdeal.nD Cert.PrenormIdeal.τ).loc Cert.PrenormIdeal.main_arg1) = m ((c.tc : Thread Cert.PrenormIdeal.nD Cert.PrenormIdeal.τ).loc Cert.PrenormIdeal.main_arg1)
          ∧ r.2.mem ((c.tc : Thread Cert.PrenormIdeal.nD Cert.PrenormIdeal.τ).loc Cert.PrenormIdeal.main_arg2) = m ((c.tc : Thread Cert.PrenormIdeal.nD Cert.PrenormIdeal.τ).loc Cert.PrenormIdeal.main_arg2))
      ∧ θ_run (Cert.PrenormRefIdeal.defs (F := Ideal)) (onTc (τ := Cert.PrenormRefIdeal.τ) (Cert.PrenormRefIdeal.main (F := Ideal))) ⟨m', fun _ => 0, g'⟩ (fun r => ∀ c : Dev Cert.PrenormRefIdeal.nD,
          r.2.mem ((c.tc : Thread Cert.PrenormRefIdeal.nD Cert.PrenormRefIdeal.τ).loc Cert.PrenormRefIdeal.main_v31) = v0 c
          ∧ r.2.mem ((c.tc : Thread Cert.PrenormRefIdeal.nD Cert.PrenormRefIdeal.τ).loc Cert.PrenormRefIdeal.main_arg0) = m' ((c.tc : Thread Cert.PrenormRefIdeal.nD Cert.PrenormRefIdeal.τ).loc Cert.PrenormRefIdeal.main_arg0)
          ∧ r.2.mem ((c.tc : Thread Cert.PrenormRefIdeal.nD Cert.PrenormRefIdeal.τ).loc Cert.PrenormRefIdeal.main_arg1) = m' ((c.tc : Thread Cert.PrenormRefIdeal.nD Cert.PrenormRefIdeal.τ).loc Cert.PrenormRefIdeal.main_arg1)
          ∧ r.2.mem ((c.tc : Thread Cert.PrenormRefIdeal.nD Cert.PrenormRefIdeal.τ).loc Cert.PrenormRefIdeal.main_arg2) = m' ((c.tc : Thread Cert.PrenormRefIdeal.nD Cert.PrenormRefIdeal.τ).loc Cert.PrenormRefIdeal.main_arg2))

def preserves_Post_PostIdeal : Prop :=
  True

def algebraic_PostIdeal_PostRefIdeal [hPostIdeal : Cert.PostIdeal.Facts] [hPostRefIdeal : Cert.PostRefIdeal.Facts] : Prop :=
  ∀ (m : (ℓ : Loc Cert.PostIdeal.nD Cert.PostIdeal.τ Cert.PostIdeal.sig) → Buf (Elt Ideal) ℓ) (g : Dev Cert.PostIdeal.nD → PrngReg)
    (m' : (ℓ : Loc Cert.PostRefIdeal.nD Cert.PostRefIdeal.τ Cert.PostRefIdeal.sig) → Buf (Elt Ideal) ℓ) (g' : Dev Cert.PostRefIdeal.nD → PrngReg), Pre_PostIdeal m →
    (∀ c : Dev Cert.PostIdeal.nD,
      m' ((c.tc : Thread Cert.PostRefIdeal.nD Cert.PostRefIdeal.τ).loc Cert.PostRefIdeal.main_arg0) = m ((c.tc : Thread Cert.PostIdeal.nD Cert.PostIdeal.τ).loc Cert.PostIdeal.main_arg0)
      ∧ m' ((c.tc : Thread Cert.PostRefIdeal.nD Cert.PostRefIdeal.τ).loc Cert.PostRefIdeal.main_arg1) = m ((c.tc : Thread Cert.PostIdeal.nD Cert.PostIdeal.τ).loc Cert.PostIdeal.main_arg1)
      ∧ m' ((c.tc : Thread Cert.PostRefIdeal.nD Cert.PostRefIdeal.τ).loc Cert.PostRefIdeal.main_arg2) = m ((c.tc : Thread Cert.PostIdeal.nD Cert.PostIdeal.τ).loc Cert.PostIdeal.main_arg2)
      ∧ m' ((c.tc : Thread Cert.PostRefIdeal.nD Cert.PostRefIdeal.τ).loc Cert.PostRefIdeal.main_arg3) = m ((c.tc : Thread Cert.PostIdeal.nD Cert.PostIdeal.τ).loc Cert.PostIdeal.main_arg3)
      ∧ m' ((c.tc : Thread Cert.PostRefIdeal.nD Cert.PostRefIdeal.τ).loc Cert.PostRefIdeal.main_arg4) = m ((c.tc : Thread Cert.PostIdeal.nD Cert.PostIdeal.τ).loc Cert.PostIdeal.main_arg4)) →
    ∃ (v0 : (c : Dev Cert.PostIdeal.nD) → Buf (Elt Ideal) ((c.tc : Thread Cert.PostIdeal.nD Cert.PostIdeal.τ).loc Cert.PostIdeal.main_v25_0)) (v1 : (c : Dev Cert.PostIdeal.nD) → Buf (Elt Ideal) ((c.tc : Thread Cert.PostIdeal.nD Cert.PostIdeal.τ).loc Cert.PostIdeal.main_v25_1)),
      θ_run (Cert.PostIdeal.defs (F := Ideal)) (onTc (τ := Cert.PostIdeal.τ) (Cert.PostIdeal.main (F := Ideal))) ⟨m, fun _ => 0, g⟩ (fun r => ∀ c : Dev Cert.PostIdeal.nD,
          r.2.mem ((c.tc : Thread Cert.PostIdeal.nD Cert.PostIdeal.τ).loc Cert.PostIdeal.main_v25_0) = v0 c
          ∧ r.2.mem ((c.tc : Thread Cert.PostIdeal.nD Cert.PostIdeal.τ).loc Cert.PostIdeal.main_v25_1) = v1 c
          ∧ r.2.mem ((c.tc : Thread Cert.PostIdeal.nD Cert.PostIdeal.τ).loc Cert.PostIdeal.main_arg0) = m ((c.tc : Thread Cert.PostIdeal.nD Cert.PostIdeal.τ).loc Cert.PostIdeal.main_arg0)
          ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
          ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
          ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
          ∧ r.2.mem ((c.tc : Thread Cert.PostIdeal.nD Cert.PostIdeal.τ).loc Cert.PostIdeal.main_arg4) = m ((c.tc : Thread Cert.PostIdeal.nD Cert.PostIdeal.τ).loc Cert.PostIdeal.main_arg4))
      ∧ θ_run (Cert.PostRefIdeal.defs (F := Ideal)) (onTc (τ := Cert.PostRefIdeal.τ) (Cert.PostRefIdeal.main (F := Ideal))) ⟨m', fun _ => 0, g'⟩ (fun r => ∀ c : Dev Cert.PostRefIdeal.nD,
          r.2.mem ((c.tc : Thread Cert.PostRefIdeal.nD Cert.PostRefIdeal.τ).loc Cert.PostRefIdeal.main_v28) = v0 c
          ∧ r.2.mem ((c.tc : Thread Cert.PostRefIdeal.nD Cert.PostRefIdeal.τ).loc Cert.PostRefIdeal.main_v52) = v1 c
          ∧ r.2.mem ((c.tc : Thread Cert.PostRefIdeal.nD Cert.PostRefIdeal.τ).loc Cert.PostRefIdeal.main_arg0) = m' ((c.tc : Thread Cert.PostRefIdeal.nD Cert.PostRefIdeal.τ).loc Cert.PostRefIdeal.main_arg0)
          ∧ r.2.mem ((c.tc : Thread Cert.PostRefIdeal.nD Cert.PostRefIdeal.τ).loc Cert.PostRefIdeal.main_arg1) = m' ((c.tc : Thread Cert.PostRefIdeal.nD Cert.PostRefIdeal.τ).loc Cert.PostRefIdeal.main_arg1)
          ∧ r.2.mem ((c.tc : Thread Cert.PostRefIdeal.nD Cert.PostRefIdeal.τ).loc Cert.PostRefIdeal.main_arg2) = m' ((c.tc : Thread Cert.PostRefIdeal.nD Cert.PostRefIdeal.τ).loc Cert.PostRefIdeal.main_arg2)
          ∧ r.2.mem ((c.tc : Thread Cert.PostRefIdeal.nD Cert.PostRefIdeal.τ).loc Cert.PostRefIdeal.main_arg3) = m' ((c.tc : Thread Cert.PostRefIdeal.nD Cert.PostRefIdeal.τ).loc Cert.PostRefIdeal.main_arg3)
          ∧ r.2.mem ((c.tc : Thread Cert.PostRefIdeal.nD Cert.PostRefIdeal.τ).loc Cert.PostRefIdeal.main_arg4) = m' ((c.tc : Thread Cert.PostRefIdeal.nD Cert.PostRefIdeal.τ).loc Cert.PostRefIdeal.main_arg4))

def preserves_Experts_ExpertsIdeal : Prop :=
  True

def algebraic_ExpertsIdeal_ExpertsRefIdeal [hExpertsIdeal : Cert.ExpertsIdeal.Facts] [hExpertsRefIdeal : Cert.ExpertsRefIdeal.Facts] [hPre_experts_in_range : Cert.Pre_experts_in_range.Facts] : Prop :=
  ∀ (m : (ℓ : Loc Cert.ExpertsIdeal.nD Cert.ExpertsIdeal.τ Cert.ExpertsIdeal.sig) → Buf (Elt Ideal) ℓ) (g : Dev Cert.ExpertsIdeal.nD → PrngReg)
    (m' : (ℓ : Loc Cert.ExpertsRefIdeal.nD Cert.ExpertsRefIdeal.τ Cert.ExpertsRefIdeal.sig) → Buf (Elt Ideal) ℓ) (g' : Dev Cert.ExpertsRefIdeal.nD → PrngReg), Pre_ExpertsIdeal m →
    (∀ c : Dev Cert.ExpertsIdeal.nD,
      m' ((c.tc : Thread Cert.ExpertsRefIdeal.nD Cert.ExpertsRefIdeal.τ).loc Cert.ExpertsRefIdeal.main_arg0) = m ((c.tc : Thread Cert.ExpertsIdeal.nD Cert.ExpertsIdeal.τ).loc Cert.ExpertsIdeal.main_arg0)
      ∧ m' ((c.tc : Thread Cert.ExpertsRefIdeal.nD Cert.ExpertsRefIdeal.τ).loc Cert.ExpertsRefIdeal.main_arg1) = m ((c.tc : Thread Cert.ExpertsIdeal.nD Cert.ExpertsIdeal.τ).loc Cert.ExpertsIdeal.main_arg1)
      ∧ m' ((c.tc : Thread Cert.ExpertsRefIdeal.nD Cert.ExpertsRefIdeal.τ).loc Cert.ExpertsRefIdeal.main_arg2) = m ((c.tc : Thread Cert.ExpertsIdeal.nD Cert.ExpertsIdeal.τ).loc Cert.ExpertsIdeal.main_arg2)
      ∧ m' ((c.tc : Thread Cert.ExpertsRefIdeal.nD Cert.ExpertsRefIdeal.τ).loc Cert.ExpertsRefIdeal.main_arg3) = m ((c.tc : Thread Cert.ExpertsIdeal.nD Cert.ExpertsIdeal.τ).loc Cert.ExpertsIdeal.main_arg3)) →
    ∃ (v0 : (c : Dev Cert.ExpertsIdeal.nD) → Buf (Elt Ideal) ((c.tc : Thread Cert.ExpertsIdeal.nD Cert.ExpertsIdeal.τ).loc Cert.ExpertsIdeal.main_v0)),
      θ_run (Cert.ExpertsIdeal.defs (F := Ideal)) (onTc (τ := Cert.ExpertsIdeal.τ) (Cert.ExpertsIdeal.main (F := Ideal))) ⟨m, fun _ => 0, g⟩ (fun r => ∀ c : Dev Cert.ExpertsIdeal.nD,
          r.2.mem ((c.tc : Thread Cert.ExpertsIdeal.nD Cert.ExpertsIdeal.τ).loc Cert.ExpertsIdeal.main_v0) = v0 c
          ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
          ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
          ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
          ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3))
      ∧ θ_run (Cert.ExpertsRefIdeal.defs (F := Ideal)) (onTc (τ := Cert.ExpertsRefIdeal.τ) (Cert.ExpertsRefIdeal.main (F := Ideal))) ⟨m', fun _ => 0, g'⟩ (fun r => ∀ c : Dev Cert.ExpertsRefIdeal.nD,
          r.2.mem ((c.tc : Thread Cert.ExpertsRefIdeal.nD Cert.ExpertsRefIdeal.τ).loc Cert.ExpertsRefIdeal.main_v74) = v0 c
          ∧ r.2.mem ((c.tc : Thread Cert.ExpertsRefIdeal.nD Cert.ExpertsRefIdeal.τ).loc Cert.ExpertsRefIdeal.main_arg0) = m' ((c.tc : Thread Cert.ExpertsRefIdeal.nD Cert.ExpertsRefIdeal.τ).loc Cert.ExpertsRefIdeal.main_arg0)
          ∧ r.2.mem ((c.tc : Thread Cert.ExpertsRefIdeal.nD Cert.ExpertsRefIdeal.τ).loc Cert.ExpertsRefIdeal.main_arg1) = m' ((c.tc : Thread Cert.ExpertsRefIdeal.nD Cert.ExpertsRefIdeal.τ).loc Cert.ExpertsRefIdeal.main_arg1)
          ∧ r.2.mem ((c.tc : Thread Cert.ExpertsRefIdeal.nD Cert.ExpertsRefIdeal.τ).loc Cert.ExpertsRefIdeal.main_arg2) = m' ((c.tc : Thread Cert.ExpertsRefIdeal.nD Cert.ExpertsRefIdeal.τ).loc Cert.ExpertsRefIdeal.main_arg2)
          ∧ r.2.mem ((c.tc : Thread Cert.ExpertsRefIdeal.nD Cert.ExpertsRefIdeal.τ).loc Cert.ExpertsRefIdeal.main_arg3) = m' ((c.tc : Thread Cert.ExpertsRefIdeal.nD Cert.ExpertsRefIdeal.τ).loc Cert.ExpertsRefIdeal.main_arg3))

def Claim : Prop :=
  ∃ (hKernel : Cert.Kernel.Facts) (hKernelIdeal : Cert.KernelIdeal.Facts) (hReferenceIdeal : Cert.ReferenceIdeal.Facts) (hInProj : Cert.InProj.Facts) (hInProjIdeal : Cert.InProjIdeal.Facts) (hInProjRefIdeal : Cert.InProjRefIdeal.Facts) (hMerge : Cert.Merge.Facts) (hMergeIdeal : Cert.MergeIdeal.Facts) (hMergeRefIdeal : Cert.MergeRefIdeal.Facts) (hOutProj : Cert.OutProj.Facts) (hOutProjIdeal : Cert.OutProjIdeal.Facts) (hOutProjRefIdeal : Cert.OutProjRefIdeal.Facts) (hGlu : Cert.Glu.Facts) (hGluIdeal : Cert.GluIdeal.Facts) (hGluRefIdeal : Cert.GluRefIdeal.Facts) (hDown : Cert.Down.Facts) (hDownIdeal : Cert.DownIdeal.Facts) (hDownRefIdeal : Cert.DownRefIdeal.Facts) (hAdaln : Cert.Adaln.Facts) (hAdalnIdeal : Cert.AdalnIdeal.Facts) (hAdalnRefIdeal : Cert.AdalnRefIdeal.Facts) (hPrenorm : Cert.Prenorm.Facts) (hPrenormIdeal : Cert.PrenormIdeal.Facts) (hPrenormRefIdeal : Cert.PrenormRefIdeal.Facts) (hPost : Cert.Post.Facts) (hPostIdeal : Cert.PostIdeal.Facts) (hPostRefIdeal : Cert.PostRefIdeal.Facts) (hExperts : Cert.Experts.Facts) (hExpertsIdeal : Cert.ExpertsIdeal.Facts) (hExpertsRefIdeal : Cert.ExpertsRefIdeal.Facts) (hPre_finite_scores : Cert.Pre_finite_scores.Facts) (hPre_experts_in_range : Cert.Pre_experts_in_range.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_InProj (hInProj := hInProj)
    ∧ quiescent_InProjIdeal (hInProjIdeal := hInProjIdeal)
    ∧ quiescent_InProjRefIdeal (hInProjRefIdeal := hInProjRefIdeal)
    ∧ quiescent_Merge (hMerge := hMerge)
    ∧ quiescent_MergeIdeal (hMergeIdeal := hMergeIdeal)
    ∧ quiescent_MergeRefIdeal (hMergeRefIdeal := hMergeRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_Glu (hGlu := hGlu)
    ∧ quiescent_GluIdeal (hGluIdeal := hGluIdeal)
    ∧ quiescent_GluRefIdeal (hGluRefIdeal := hGluRefIdeal)
    ∧ quiescent_Down (hDown := hDown)
    ∧ quiescent_DownIdeal (hDownIdeal := hDownIdeal)
    ∧ quiescent_DownRefIdeal (hDownRefIdeal := hDownRefIdeal)
    ∧ quiescent_Adaln (hAdaln := hAdaln)
    ∧ quiescent_AdalnIdeal (hAdalnIdeal := hAdalnIdeal)
    ∧ quiescent_AdalnRefIdeal (hAdalnRefIdeal := hAdalnRefIdeal)
    ∧ quiescent_Prenorm (hPrenorm := hPrenorm)
    ∧ quiescent_PrenormIdeal (hPrenormIdeal := hPrenormIdeal)
    ∧ quiescent_PrenormRefIdeal (hPrenormRefIdeal := hPrenormRefIdeal)
    ∧ quiescent_Post (hPost := hPost)
    ∧ quiescent_PostIdeal (hPostIdeal := hPostIdeal)
    ∧ quiescent_PostRefIdeal (hPostRefIdeal := hPostRefIdeal)
    ∧ quiescent_Experts (hExperts := hExperts) (hPre_experts_in_range := hPre_experts_in_range)
    ∧ quiescent_ExpertsIdeal (hExpertsIdeal := hExpertsIdeal) (hPre_experts_in_range := hPre_experts_in_range)
    ∧ quiescent_ExpertsRefIdeal (hExpertsRefIdeal := hExpertsRefIdeal)
    ∧ quiescent_ExpertsRefIdeal_pre_experts_in_range (hExpertsRefIdeal := hExpertsRefIdeal) (hPre_experts_in_range := hPre_experts_in_range)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_InProj_InProjIdeal
    ∧ algebraic_InProjIdeal_InProjRefIdeal (hInProjIdeal := hInProjIdeal) (hInProjRefIdeal := hInProjRefIdeal)
    ∧ preserves_Merge_MergeIdeal
    ∧ algebraic_MergeIdeal_MergeRefIdeal (hMergeIdeal := hMergeIdeal) (hMergeRefIdeal := hMergeRefIdeal)
    ∧ preserves_OutProj_OutProjIdeal
    ∧ algebraic_OutProjIdeal_OutProjRefIdeal (hOutProjIdeal := hOutProjIdeal) (hOutProjRefIdeal := hOutProjRefIdeal)
    ∧ preserves_Glu_GluIdeal
    ∧ algebraic_GluIdeal_GluRefIdeal (hGluIdeal := hGluIdeal) (hGluRefIdeal := hGluRefIdeal)
    ∧ preserves_Down_DownIdeal
    ∧ algebraic_DownIdeal_DownRefIdeal (hDownIdeal := hDownIdeal) (hDownRefIdeal := hDownRefIdeal)
    ∧ preserves_Adaln_AdalnIdeal
    ∧ algebraic_AdalnIdeal_AdalnRefIdeal (hAdalnIdeal := hAdalnIdeal) (hAdalnRefIdeal := hAdalnRefIdeal)
    ∧ preserves_Prenorm_PrenormIdeal
    ∧ algebraic_PrenormIdeal_PrenormRefIdeal (hPrenormIdeal := hPrenormIdeal) (hPrenormRefIdeal := hPrenormRefIdeal)
    ∧ preserves_Post_PostIdeal
    ∧ algebraic_PostIdeal_PostRefIdeal (hPostIdeal := hPostIdeal) (hPostRefIdeal := hPostRefIdeal)
    ∧ preserves_Experts_ExpertsIdeal
    ∧ algebraic_ExpertsIdeal_ExpertsRefIdeal (hExpertsIdeal := hExpertsIdeal) (hExpertsRefIdeal := hExpertsRefIdeal) (hPre_experts_in_range := hPre_experts_in_range)
-- ==== Pre_experts_in_range.lean ====
abbrev S136 : Shape := ⟨1, ![136]⟩
abbrev S1 : Shape := ⟨1, ![1]⟩
abbrev S34816x1024 : Shape := ⟨2, ![34816, 1024]⟩
abbrev S8x1024x4096 : Shape := ⟨3, ![8, 1024, 4096]⟩
abbrev S_ : Shape := ⟨0, ![]⟩

class Facts : Prop where
  bcast_S_S136 : S_.BroadcastsInDim S136 (![] : Fin 0 → Fin S136.rank)
  reducesTo_S136_S_d0 : S136.ReducesTo [0] S_
  h_S_ : 0 < S_.numel

variable [Facts]

def fn {F : FTy → Type} [FloatOps F] (main_arg0 : IVec S136 32) (main_arg1 : IVec S1 32) (main_arg2 : FVec F S34816x1024 .bf16) (main_arg3 : FVec F S8x1024x4096 .bf16) : IVec S_ 1 :=
  let main_c : IVec S_ 32 := constantI S_ 32 0#32
  let main_v0 : IVec S136 32 := broadcastInDim S136 ![] bcast_S_S136 main_c
  let main_v1 : IVec S136 1 := cmpi .sge main_arg0 main_v0
  let main_c_0 : IVec S_ 32 := constantI S_ 32 8#32
  let main_v2 : IVec S136 32 := broadcastInDim S136 ![] bcast_S_S136 main_c_0
  let main_v3 : IVec S136 1 := cmpi .slt main_arg0 main_v2
  let main_v4 : IVec S136 1 := andi main_v1 main_v3
  let main_c_1 : IVec S_ 1 := constantI S_ 1 1#1
  let main_v5 : IVec S_ 1 := (fun x v => Host.reduce IntOp.andi x v reducesTo_S136_S_d0 h_S_) main_v4 main_c_1
  main_v5
-- ==== Pre_finite_scores.lean ====
abbrev S2x8192x16384 : Shape := ⟨3, ![2, 8192, 16384]⟩
abbrev S32 : Shape := ⟨1, ![32]⟩
abbrev S2x8192x5120 : Shape := ⟨3, ![2, 8192, 5120]⟩
abbrev S_ : Shape := ⟨0, ![]⟩

class Facts : Prop where
  slices_S2x8192x16384_S2x8192x5120_0_0_2048 : S2x8192x16384.Slices ![0, 0, 2048] S2x8192x5120
  bcast_S_S2x8192x5120 : S_.BroadcastsInDim S2x8192x5120 (![] : Fin 0 → Fin S2x8192x5120.rank)
  reducesTo_S2x8192x5120_S_d0_1_2 : S2x8192x5120.ReducesTo [0, 1, 2] S_
  h_S_ : 0 < S_.numel
  bcast_S_S32 : S_.BroadcastsInDim S32 (![] : Fin 0 → Fin S32.rank)
  reducesTo_S32_S_d0 : S32.ReducesTo [0] S_

variable [Facts]

def fn {F : FTy → Type} [FloatOps F] (main_arg0 : FVec F S2x8192x16384 .bf16) (main_arg1 : FVec F S32 .f32) : IVec S_ 1 :=
  let main_v0 : FVec F S2x8192x5120 .bf16 := (extractStridedSlice S2x8192x5120 ![0, 0, 2048] · slices_S2x8192x16384_S2x8192x5120_0_0_2048) main_arg0
  let main_v1 : FVec F S2x8192x5120 .bf16 := Host.absf main_v0
  let main_cst : FVec F S_ .bf16 := constant S_ .bf16 0x7F80#16
  let main_v2 : FVec F S2x8192x5120 .bf16 := broadcastInDim S2x8192x5120 ![] bcast_S_S2x8192x5120 main_cst
  let main_v3 : IVec S2x8192x5120 1 := cmpf .olt main_v1 main_v2
  let main_c : IVec S_ 1 := constantI S_ 1 1#1
  let main_v4 : IVec S_ 1 := (fun x v => Host.reduce IntOp.andi x v reducesTo_S2x8192x5120_S_d0_1_2 h_S_) main_v3 main_c
  let main_v5 : FVec F S32 .f32 := Host.absf main_arg1
  let main_cst_0 : FVec F S_ .f32 := constant S_ .f32 0x7F800000#32
  let main_v6 : FVec F S32 .f32 := broadcastInDim S32 ![] bcast_S_S32 main_cst_0
  let main_v7 : IVec S32 1 := cmpf .olt main_v5 main_v6
  let main_c_1 : IVec S_ 1 := constantI S_ 1 1#1
  let main_v8 : IVec S_ 1 := (fun x v => Host.reduce IntOp.andi x v reducesTo_S32_S_d0 h_S_) main_v7 main_c_1
  let main_v9 : IVec S_ 1 := andi main_v4 main_v8
  main_v9
-- ==== Kernel.lean ====
abbrev S2x8192x16384 : Shape := ⟨3, ![2, 8192, 16384]⟩
abbrev S32 : Shape := ⟨1, ![32]⟩
abbrev S128 : Shape := ⟨1, ![128]⟩
abbrev S128x1 : Shape := ⟨2, ![128, 1]⟩
abbrev S_ : Shape := ⟨0, ![]⟩
abbrev S384 : Shape := ⟨1, ![384]⟩
abbrev S1x384 : Shape := ⟨2, ![1, 384]⟩
abbrev S128x384 : Shape := ⟨2, ![128, 384]⟩
abbrev S1x128x384 : Shape := ⟨3, ![1, 128, 384]⟩
abbrev S32x1x1 : Shape := ⟨3, ![32, 1, 1]⟩
abbrev S32x128x384 : Shape := ⟨3, ![32, 128, 384]⟩
abbrev S4096x384 : Shape := ⟨2, ![4096, 384]⟩
abbrev S32x128x128 : Shape := ⟨3, ![32, 128, 128]⟩
abbrev S4096x128 : Shape := ⟨2, ![4096, 128]⟩
abbrev S2x8192x4096 : Shape := ⟨3, ![2, 8192, 4096]⟩
abbrev S1x1024x512 : Shape := ⟨3, ![1, 1024, 512]⟩
abbrev S1x128x128 : Shape := ⟨3, ![1, 128, 128]⟩
abbrev S1x1024x128 : Shape := ⟨3, ![1, 1024, 128]⟩
abbrev S512x384 : Shape := ⟨2, ![512, 384]⟩
abbrev S512x128 : Shape := ⟨2, ![512, 128]⟩
abbrev S1280x128 : Shape := ⟨2, ![1280, 128]⟩
abbrev S1280x256 : Shape := ⟨2, ![1280, 256]⟩
abbrev S128x128 : Shape := ⟨2, ![128, 128]⟩
abbrev S1024x128 : Shape := ⟨2, ![1024, 128]⟩
abbrev S512x1 : Shape := ⟨2, ![512, 1]⟩
abbrev S384x128 : Shape := ⟨2, ![384, 128]⟩
abbrev S384x256 : Shape := ⟨2, ![384, 256]⟩
abbrev S512 : Shape := ⟨1, ![512]⟩
abbrev S512x256 : Shape := ⟨2, ![512, 256]⟩

abbrev nBuf : Space → Nat
  | .hbm => 54
  | .vmem => 22
  | .smem => 0
  | _ => 0

abbrev bufTy : (tb : Table) → Fin (tcTables nBuf tb) → BufTy
  | .hbm, ⟨0, _⟩ => ⟨S2x8192x16384, .bf16⟩
  | .hbm, ⟨1, _⟩ => ⟨S32, .f32⟩
  | .hbm, ⟨2, _⟩ => ⟨S128, .i32⟩
  | .hbm, ⟨3, _⟩ => ⟨S128x1, .i32⟩
  | .hbm, ⟨4, _⟩ => ⟨S_, .i32⟩
  | .hbm, ⟨5, _⟩ => ⟨S128x1, .i32⟩
  | .hbm, ⟨6, _⟩ => ⟨S128x1, .i32⟩
  | .hbm, ⟨7, _⟩ => ⟨S384, .i32⟩
  | .hbm, ⟨8, _⟩ => ⟨S1x384, .i32⟩
  | .hbm, ⟨9, _⟩ => ⟨S128x384, .i32⟩
  | .hbm, ⟨10, _⟩ => ⟨S128x384, .i32⟩
  | .hbm, ⟨11, _⟩ => ⟨S128x384, .i32⟩
  | .hbm, ⟨12, _⟩ => ⟨S128x384, .i32⟩
  | .hbm, ⟨13, _⟩ => ⟨S128x384, .f32⟩
  | .hbm, ⟨14, _⟩ => ⟨S32, .f32⟩
  | .hbm, ⟨15, _⟩ => ⟨S_, .f32⟩
  | .hbm, ⟨16, _⟩ => ⟨S32, .f32⟩
  | .hbm, ⟨17, _⟩ => ⟨S32, .f32⟩
  | .hbm, ⟨18, _⟩ => ⟨S_, .f32⟩
  | .hbm, ⟨19, _⟩ => ⟨S32, .f32⟩
  | .hbm, ⟨20, _⟩ => ⟨S32, .f32⟩
  | .hbm, ⟨21, _⟩ => ⟨S_, .f32⟩
  | .hbm, ⟨22, _⟩ => ⟨S32, .f32⟩
  | .hbm, ⟨23, _⟩ => ⟨S32, .f32⟩
  | .hbm, ⟨24, _⟩ => ⟨S_, .f32⟩
  | .hbm, ⟨25, _⟩ => ⟨S32, .f32⟩
  | .hbm, ⟨26, _⟩ => ⟨S32, .f32⟩
  | .hbm, ⟨27, _⟩ => ⟨S32, .f32⟩
  | .hbm, ⟨28, _⟩ => ⟨S1x128x384, .f32⟩
  | .hbm, ⟨29, _⟩ => ⟨S_, .f32⟩
  | .hbm, ⟨30, _⟩ => ⟨S1x128x384, .f32⟩
  | .hbm, ⟨31, _⟩ => ⟨S1x128x384, .i1⟩
  | .hbm, ⟨32, _⟩ => ⟨S32x1x1, .f32⟩
  | .hbm, ⟨33, _⟩ => ⟨S32x1x1, .f32⟩
  | .hbm, ⟨34, _⟩ => ⟨S1x128x384, .f32⟩
  | .hbm, ⟨35, _⟩ => ⟨S32x128x384, .f32⟩
  | .hbm, ⟨36, _⟩ => ⟨S32x128x384, .f32⟩
  | .hbm, ⟨37, _⟩ => ⟨S32x128x384, .f32⟩
  | .hbm, ⟨38, _⟩ => ⟨S_, .f32⟩
  | .hbm, ⟨39, _⟩ => ⟨S32x128x384, .f32⟩
  | .hbm, ⟨40, _⟩ => ⟨S32x128x384, .f32⟩
  | .hbm, ⟨41, _⟩ => ⟨S_, .f32⟩
  | .hbm, ⟨42, _⟩ => ⟨S_, .f32⟩
  | .hbm, ⟨43, _⟩ => ⟨S32x128x384, .i1⟩
  | .hbm, ⟨44, _⟩ => ⟨S32x128x384, .f32⟩
  | .hbm, ⟨45, _⟩ => ⟨S32x128x384, .f32⟩
  | .hbm, ⟨46, _⟩ => ⟨S4096x384, .f32⟩
  | .hbm, ⟨47, _⟩ => ⟨S_, .f32⟩
  | .hbm, ⟨48, _⟩ => ⟨S32, .f32⟩
  | .hbm, ⟨49, _⟩ => ⟨S32, .f32⟩
  | .hbm, ⟨50, _⟩ => ⟨S32x1x1, .f32⟩
  | .hbm, ⟨51, _⟩ => ⟨S32x128x128, .f32⟩
  | .hbm, ⟨52, _⟩ => ⟨S4096x128, .f32⟩
  | .hbm, ⟨53, _⟩ => ⟨S2x8192x4096, .bf16⟩
  | .local _ .vmem, ⟨0, _⟩ => ⟨S1x1024x512, .bf16⟩
  | .local _ .vmem, ⟨1, _⟩ => ⟨S1x1024x512, .bf16⟩
  | .local _ .vmem, ⟨2, _⟩ => ⟨S1x128x128, .bf16⟩
  | .local _ .vmem, ⟨3, _⟩ => ⟨S1x128x128, .bf16⟩
  | .local _ .vmem, ⟨4, _⟩ => ⟨S1x1024x128, .bf16⟩
  | .local _ .vmem, ⟨5, _⟩ => ⟨S1x1024x128, .bf16⟩
  | .local _ .vmem, ⟨6, _⟩ => ⟨S1x128x128, .bf16⟩
  | .local _ .vmem, ⟨7, _⟩ => ⟨S1x128x128, .bf16⟩
  | .local _ .vmem, ⟨8, _⟩ => ⟨S1x128x128, .bf16⟩
  | .local _ .vmem, ⟨9, _⟩ => ⟨S1x128x128, .bf16⟩
  | .local _ .vmem, ⟨10, _⟩ => ⟨S1x1024x128, .bf16⟩
  | .local _ .vmem, ⟨11, _⟩ => ⟨S1x1024x128, .bf16⟩
  | .local _ .vmem, ⟨12, _⟩ => ⟨S1x128x128, .bf16⟩
  | .local _ .vmem, ⟨13, _⟩ => ⟨S1x128x128, .bf16⟩
  | .local _ .vmem, ⟨14, _⟩ => ⟨S512x384, .f32⟩
  | .local _ .vmem, ⟨15, _⟩ => ⟨S512x384, .f32⟩
  | .local _ .vmem, ⟨16, _⟩ => ⟨S512x128, .f32⟩
  | .local _ .vmem, ⟨17, _⟩ => ⟨S512x128, .f32⟩
  | .local _ .vmem, ⟨18, _⟩ => ⟨S1x1024x512, .bf16⟩
  | .local _ .vmem, ⟨19, _⟩ => ⟨S1x1024x512, .bf16⟩
  | .local _ .vmem, ⟨20, _⟩ => ⟨S1280x128, .bf16⟩
  | .local _ .vmem, ⟨21, _⟩ => ⟨S1280x256, .bf16⟩
  | _, _ => ⟨S2x8192x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst : Ref sig .tc := ⟨.hbm, 15, rfl⟩
abbrev main_v12 : Ref sig .tc := ⟨.hbm, 16, rfl⟩
abbrev main_v13 : Ref sig .tc := ⟨.hbm, 17, rfl⟩
abbrev main_cst_0 : Ref sig .tc := ⟨.hbm, 18, rfl⟩
abbrev main_v14 : Ref sig .tc := ⟨.hbm, 19, rfl⟩
abbrev main_v15 : Ref sig .tc := ⟨.hbm, 20, rfl⟩
abbrev main_cst_1 : Ref sig .tc := ⟨.hbm, 21, rfl⟩
abbrev main_v16 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_3 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_cst_4 : Ref sig .tc := ⟨.hbm, 38, rfl⟩
abbrev main_v30 : Ref sig .tc := ⟨.hbm, 39, rfl⟩
abbrev main_v31 : Ref sig .tc := ⟨.hbm, 40, rfl⟩
abbrev main_cst_5 : Ref sig .tc := ⟨.hbm, 41, rfl⟩
abbrev main_call0_v0 : Ref sig .tc := ⟨.hbm, 42, rfl⟩
abbrev main_call0_v1 : Ref sig .tc := ⟨.hbm, 43, rfl⟩
abbrev main_call0_v2 : Ref sig .tc := ⟨.hbm, 44, rfl⟩
abbrev main_v32 : Ref sig .tc := ⟨.hbm, 45, rfl⟩
abbrev main_v33 : Ref sig .tc := ⟨.hbm, 46, rfl⟩
abbrev main_cst_6 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_scratch1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨3, ![2, 8, 8], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  ![arg0.toNat, arg2.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg2 c8_i32
  let c1_i32 : BitVec 32 := 1#32
  let v1 : BitVec 32 := Scalar.subi v0 c1_i32
  let c0_i32 : BitVec 32 := 0#32
  let v2 : BitVec 32 := Scalar.maxsi v1 c0_i32
  let c48_i32 : BitVec 32 := 48#32
  let v3 : BitVec 32 := Scalar.addi c48_i32 arg1
  let c0_i32_0 : BitVec 32 := 0#32
  ![arg0.toNat, v2.toNat, v3.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c48_i32 : BitVec 32 := 48#32
  let v0 : BitVec 32 := Scalar.addi c48_i32 arg1
  let c0_i32 : BitVec 32 := 0#32
  ![arg0.toNat, arg2.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg2 c1_i32
  let c8_i32 : BitVec 32 := 8#32
  let v1 : BitVec 32 := Scalar.muli v0 c8_i32
  let c63_i32 : BitVec 32 := 63#32
  let v2 : BitVec 32 := Scalar.minsi v1 c63_i32
  let c48_i32 : BitVec 32 := 48#32
  let v3 : BitVec 32 := Scalar.addi c48_i32 arg1
  let c0_i32 : BitVec 32 := 0#32
  ![arg0.toNat, v2.toNat, v3.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg2 c8_i32
  let c1_i32 : BitVec 32 := 1#32
  let v1 : BitVec 32 := Scalar.subi v0 c1_i32
  let c0_i32 : BitVec 32 := 0#32
  let v2 : BitVec 32 := Scalar.maxsi v1 c0_i32
  let c56_i32 : BitVec 32 := 56#32
  let v3 : BitVec 32 := Scalar.addi c56_i32 arg1
  let c0_i32_0 : BitVec 32 := 0#32
  ![arg0.toNat, v2.toNat, v3.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c56_i32 : BitVec 32 := 56#32
  let v0 : BitVec 32 := Scalar.addi c56_i32 arg1
  let c0_i32 : BitVec 32 := 0#32
  ![arg0.toNat, arg2.toNat, v0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg2 c1_i32
  let c8_i32 : BitVec 32 := 8#32
  let v1 : BitVec 32 := Scalar.muli v0 c8_i32
  let c63_i32 : BitVec 32 := 63#32
  let v2 : BitVec 32 := Scalar.minsi v1 c63_i32
  let c56_i32 : BitVec 32 := 56#32
  let v3 : BitVec 32 := Scalar.addi c56_i32 arg1
  let c0_i32 : BitVec 32 := 0#32
  ![arg0.toNat, v2.toNat, v3.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x128x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x128x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x128x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x1024x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x128x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S512x384 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true, false]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true, false]

abbrev stage0_9 : Fin 2 → Memref sig .tc .vmem S1x1024x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]
-- ==== KernelIdeal.lean ====
variable {F : FTy → Type} [FloatOps F] [Named F]
def κ : String → Option EReal := fun
  | "mask" => some ⊥
  | "scale_log2e" => some (((11863283 / 134217728) * (Real.log 2)⁻¹ : ℝ) : EReal)
  | _ => none
-- ==== ReferenceIdeal.lean ====
abbrev S2x8192x16384 : Shape := ⟨3, ![2, 8192, 16384]⟩
abbrev S32 : Shape := ⟨1, ![32]⟩
abbrev S2x8192x4096 : Shape := ⟨3, ![2, 8192, 4096]⟩
abbrev S2x8192x32x128 : Shape := ⟨4, ![2, 8192, 32, 128]⟩
abbrev S2x8192x1024 : Shape := ⟨3, ![2, 8192, 1024]⟩
abbrev S2x8192x8x128 : Shape := ⟨4, ![2, 8192, 8, 128]⟩
abbrev S2x64x128x8x4x128 : Shape := ⟨6, ![2, 64, 128, 8, 4, 128]⟩
abbrev S_ : Shape := ⟨0, ![]⟩
abbrev S2x8448x8x128 : Shape := ⟨4, ![2, 8448, 8, 128]⟩
abbrev S2x66x128x8x128 : Shape := ⟨5, ![2, 66, 128, 8, 128]⟩
abbrev S2x64x128x8x128 : Shape := ⟨5, ![2, 64, 128, 8, 128]⟩
abbrev S2x64x384x8x128 : Shape := ⟨5, ![2, 64, 384, 8, 128]⟩
abbrev S64 : Shape := ⟨1, ![64]⟩
abbrev S64x1 : Shape := ⟨2, ![64, 1]⟩
abbrev S384 : Shape := ⟨1, ![384]⟩
abbrev S1x384 : Shape := ⟨2, ![1, 384]⟩
abbrev S64x384 : Shape := ⟨2, ![64, 384]⟩
abbrev S128 : Shape := ⟨1, ![128]⟩
abbrev S128x1 : Shape := ⟨2, ![128, 1]⟩
abbrev S128x384 : Shape := ⟨2, ![128, 384]⟩
abbrev S32x1x1 : Shape := ⟨3, ![32, 1, 1]⟩
abbrev S1x128x384 : Shape := ⟨3, ![1, 128, 384]⟩
abbrev S32x128x384 : Shape := ⟨3, ![32, 128, 384]⟩
abbrev S8x4x128x384 : Shape := ⟨4, ![8, 4, 128, 384]⟩
abbrev S1x1x8x4x1x1 : Shape := ⟨6, ![1, 1, 8, 4, 1, 1]⟩
abbrev S2x64x8x384x128x4 : Shape := ⟨6, ![2, 64, 8, 384, 128, 4]⟩
abbrev S2x64x8x4x128x384 : Shape := ⟨6, ![2, 64, 8, 4, 128, 384]⟩
abbrev S1x1x8x4x128x384 : Shape := ⟨6, ![1, 1, 8, 4, 128, 384]⟩
abbrev S1x1x1x1x128x384 : Shape := ⟨6, ![1, 1, 1, 1, 128, 384]⟩
abbrev S1x64x1x1x1x384 : Shape := ⟨6, ![1, 64, 1, 1, 1, 384]⟩
abbrev S1x64x1x1x128x384 : Shape := ⟨6, ![1, 64, 1, 1, 128, 384]⟩
abbrev S2x64x8x4x128 : Shape := ⟨5, ![2, 64, 8, 4, 128]⟩
abbrev S2x64x8x4x128x1 : Shape := ⟨6, ![2, 64, 8, 4, 128, 1]⟩
abbrev S2x64x8x128x4x128 : Shape := ⟨6, ![2, 64, 8, 128, 4, 128]⟩

abbrev nBuf : Space → Nat
  | .hbm => 125
  | .vmem => 0
  | .smem => 0
  | _ => 0

abbrev bufTy : (tb : Table) → Fin (tcTables nBuf tb) → BufTy
  | .hbm, ⟨0, _⟩ => ⟨S2x8192x16384, .bf16⟩
  | .hbm, ⟨1, _⟩ => ⟨S32, .f32⟩
  | .hbm, ⟨2, _⟩ => ⟨S2x8192x4096, .bf16⟩
  | .hbm, ⟨3, _⟩ => ⟨S2x8192x32x128, .bf16⟩
  | .hbm, ⟨4, _⟩ => ⟨S2x8192x1024, .bf16⟩
  | .hbm, ⟨5, _⟩ => ⟨S2x8192x8x128, .bf16⟩
  | .hbm, ⟨6, _⟩ => ⟨S2x8192x1024, .bf16⟩
  | .hbm, ⟨7, _⟩ => ⟨S2x8192x8x128, .bf16⟩
  | .hbm, ⟨8, _⟩ => ⟨S2x64x128x8x4x128, .bf16⟩
  | .hbm, ⟨9, _⟩ => ⟨S_, .i32⟩
  | .hbm, ⟨10, _⟩ => ⟨S_, .bf16⟩
  | .hbm, ⟨11, _⟩ => ⟨S2x8448x8x128, .bf16⟩
  | .hbm, ⟨12, _⟩ => ⟨S2x66x128x8x128, .bf16⟩
  | .hbm, ⟨13, _⟩ => ⟨S2x64x128x8x128, .bf16⟩
  | .hbm, ⟨14, _⟩ => ⟨S2x64x128x8x128, .bf16⟩
  | .hbm, ⟨15, _⟩ => ⟨S2x64x128x8x128, .bf16⟩
  | .hbm, ⟨16, _⟩ => ⟨S2x64x384x8x128, .bf16⟩
  | .hbm, ⟨17, _⟩ => ⟨S_, .i32⟩
  | .hbm, ⟨18, _⟩ => ⟨S_, .bf16⟩
  | .hbm, ⟨19, _⟩ => ⟨S2x8448x8x128, .bf16⟩
  | .hbm, ⟨20, _⟩ => ⟨S2x66x128x8x128, .bf16⟩
  | .hbm, ⟨21, _⟩ => ⟨S2x64x128x8x128, .bf16⟩
  | .hbm, ⟨22, _⟩ => ⟨S2x64x128x8x128, .bf16⟩
  | .hbm, ⟨23, _⟩ => ⟨S2x64x128x8x128, .bf16⟩
  | .hbm, ⟨24, _⟩ => ⟨S2x64x384x8x128, .bf16⟩
  | .hbm, ⟨25, _⟩ => ⟨S64, .i32⟩
  | .hbm, ⟨26, _⟩ => ⟨S64x1, .i32⟩
  | .hbm, ⟨27, _⟩ => ⟨S_, .i32⟩
  | .hbm, ⟨28, _⟩ => ⟨S64x1, .i32⟩
  | .hbm, ⟨29, _⟩ => ⟨S64x1, .i32⟩
  | .hbm, ⟨30, _⟩ => ⟨S_, .i32⟩
  | .hbm, ⟨31, _⟩ => ⟨S64x1, .i32⟩
  | .hbm, ⟨32, _⟩ => ⟨S64x1, .i32⟩
  | .hbm, ⟨33, _⟩ => ⟨S384, .i32⟩
  | .hbm, ⟨34, _⟩ => ⟨S1x384, .i32⟩
  | .hbm, ⟨35, _⟩ => ⟨S64x384, .i32⟩
  | .hbm, ⟨36, _⟩ => ⟨S64x384, .i32⟩
  | .hbm, ⟨37, _⟩ => ⟨S64x384, .i32⟩
  | .hbm, ⟨38, _⟩ => ⟨S_, .i32⟩
  | .hbm, ⟨39, _⟩ => ⟨S64x384, .i32⟩
  | .hbm, ⟨40, _⟩ => ⟨S64x384, .i1⟩
  | .hbm, ⟨41, _⟩ => ⟨S_, .i32⟩
  | .hbm, ⟨42, _⟩ => ⟨S64x384, .i32⟩
  | .hbm, ⟨43, _⟩ => ⟨S64x384, .i1⟩
  | .hbm, ⟨44, _⟩ => ⟨S64x384, .i1⟩
  | .hbm, ⟨45, _⟩ => ⟨S128, .i32⟩
  | .hbm, ⟨46, _⟩ => ⟨S128x1, .i32⟩
  | .hbm, ⟨47, _⟩ => ⟨S_, .i32⟩
  | .hbm, ⟨48, _⟩ => ⟨S128x1, .i32⟩
  | .hbm, ⟨49, _⟩ => ⟨S128x1, .i32⟩
  | .hbm, ⟨50, _⟩ => ⟨S384, .i32⟩
  | .hbm, ⟨51, _⟩ => ⟨S1x384, .i32⟩
  | .hbm, ⟨52, _⟩ => ⟨S128x384, .i32⟩
  | .hbm, ⟨53, _⟩ => ⟨S128x384, .i32⟩
  | .hbm, ⟨54, _⟩ => ⟨S128x384, .i32⟩
  | .hbm, ⟨55, _⟩ => ⟨S128x384, .i32⟩
  | .hbm, ⟨56, _⟩ => ⟨S128x384, .f32⟩
  | .hbm, ⟨57, _⟩ => ⟨S128x384, .i32⟩
  | .hbm, ⟨58, _⟩ => ⟨S_, .i32⟩
  | .hbm, ⟨59, _⟩ => ⟨S128x384, .i32⟩
  | .hbm, ⟨60, _⟩ => ⟨S128x384, .i1⟩
  | .hbm, ⟨61, _⟩ => ⟨S32, .f32⟩
  | .hbm, ⟨62, _⟩ => ⟨S_, .f32⟩
  | .hbm, ⟨63, _⟩ => ⟨S32, .f32⟩
  | .hbm, ⟨64, _⟩ => ⟨S32, .f32⟩
  | .hbm, ⟨65, _⟩ => ⟨S_, .f32⟩
  | .hbm, ⟨66, _⟩ => ⟨S32, .f32⟩
  | .hbm, ⟨67, _⟩ => ⟨S32, .f32⟩
  | .hbm, ⟨68, _⟩ => ⟨S_, .f32⟩
  | .hbm, ⟨69, _⟩ => ⟨S32, .f32⟩
  | .hbm, ⟨70, _⟩ => ⟨S32, .f32⟩
  | .hbm, ⟨71, _⟩ => ⟨S_, .f32⟩
  | .hbm, ⟨72, _⟩ => ⟨S32, .f32⟩
  | .hbm, ⟨73, _⟩ => ⟨S32, .f32⟩
  | .hbm, ⟨74, _⟩ => ⟨S32, .f32⟩
  | .hbm, ⟨75, _⟩ => ⟨S32x1x1, .f32⟩
  | .hbm, ⟨76, _⟩ => ⟨S32x1x1, .f32⟩
  | .hbm, ⟨77, _⟩ => ⟨S1x128x384, .f32⟩
  | .hbm, ⟨78, _⟩ => ⟨S32x128x384, .f32⟩
  | .hbm, ⟨79, _⟩ => ⟨S32x128x384, .f32⟩
  | .hbm, ⟨80, _⟩ => ⟨S32x128x384, .f32⟩
  | .hbm, ⟨81, _⟩ => ⟨S8x4x128x384, .f32⟩
  | .hbm, ⟨82, _⟩ => ⟨S1x1x8x4x1x1, .f32⟩
  | .hbm, ⟨83, _⟩ => ⟨S2x64x128x8x4x128, .f32⟩
  | .hbm, ⟨84, _⟩ => ⟨S2x64x384x8x128, .f32⟩
  | .hbm, ⟨85, _⟩ => ⟨S2x64x8x384x128x4, .f32⟩
  | .hbm, ⟨86, _⟩ => ⟨S2x64x8x4x128x384, .f32⟩
  | .hbm, ⟨87, _⟩ => ⟨S_, .f32⟩
  | .hbm, ⟨88, _⟩ => ⟨S2x64x8x4x128x384, .f32⟩
  | .hbm, ⟨89, _⟩ => ⟨S2x64x8x4x128x384, .f32⟩
  | .hbm, ⟨90, _⟩ => ⟨S1x1x8x4x128x384, .f32⟩
  | .hbm, ⟨91, _⟩ => ⟨S2x64x8x4x128x384, .f32⟩
  | .hbm, ⟨92, _⟩ => ⟨S2x64x8x4x128x384, .f32⟩
  | .hbm, ⟨93, _⟩ => ⟨S1x1x1x1x128x384, .i1⟩
  | .hbm, ⟨94, _⟩ => ⟨S1x64x1x1x1x384, .i1⟩
  | .hbm, ⟨95, _⟩ => ⟨S1x64x1x1x128x384, .i1⟩
  | .hbm, ⟨96, _⟩ => ⟨S1x64x1x1x128x384, .i1⟩
  | .hbm, ⟨97, _⟩ => ⟨S1x64x1x1x128x384, .i1⟩
  | .hbm, ⟨98, _⟩ => ⟨S_, .f32⟩
  | .hbm, ⟨99, _⟩ => ⟨S_, .f32⟩
  | .hbm, ⟨100, _⟩ => ⟨S2x64x8x4x128x384, .i1⟩
  | .hbm, ⟨101, _⟩ => ⟨S2x64x8x4x128x384, .f32⟩
  | .hbm, ⟨102, _⟩ => ⟨S2x64x8x4x128x384, .f32⟩
  | .hbm, ⟨103, _⟩ => ⟨S_, .f32⟩
  | .hbm, ⟨104, _⟩ => ⟨S2x64x8x4x128, .f32⟩
  | .hbm, ⟨105, _⟩ => ⟨S2x64x8x4x128x1, .f32⟩
  | .hbm, ⟨106, _⟩ => ⟨S2x64x8x4x128x1, .f32⟩
  | .hbm, ⟨107, _⟩ => ⟨S2x64x8x4x128x1, .f32⟩
  | .hbm, ⟨108, _⟩ => ⟨S2x64x8x4x128x384, .f32⟩
  | .hbm, ⟨109, _⟩ => ⟨S2x64x8x4x128x384, .f32⟩
  | .hbm, ⟨110, _⟩ => ⟨S2x64x8x4x128x384, .f32⟩
  | .hbm, ⟨111, _⟩ => ⟨S_, .f32⟩
  | .hbm, ⟨112, _⟩ => ⟨S2x64x8x4x128, .f32⟩
  | .hbm, ⟨113, _⟩ => ⟨S2x64x8x4x128x1, .f32⟩
  | .hbm, ⟨114, _⟩ => ⟨S2x64x8x4x128x1, .f32⟩
  | .hbm, ⟨115, _⟩ => ⟨S2x64x8x4x128x1, .f32⟩
  | .hbm, ⟨116, _⟩ => ⟨S2x64x8x4x128x1, .f32⟩
  | .hbm, ⟨117, _⟩ => ⟨S2x64x8x4x128x1, .f32⟩
  | .hbm, ⟨118, _⟩ => ⟨S2x64x8x4x128x384, .f32⟩
  | .hbm, ⟨119, _⟩ => ⟨S2x64x8x4x128x384, .f32⟩
  | .hbm, ⟨120, _⟩ => ⟨S2x64x384x8x128, .f32⟩
  | .hbm, ⟨121, _⟩ => ⟨S2x64x8x128x4x128, .f32⟩
  | .hbm, ⟨122, _⟩ => ⟨S2x64x128x8x4x128, .f32⟩
  | .hbm, ⟨123, _⟩ => ⟨S2x64x128x8x4x128, .bf16⟩
  | .hbm, ⟨124, _⟩ => ⟨S2x8192x4096, .bf16⟩
  | _, _ => ⟨S2x8192x16384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_c : Ref sig .tc := ⟨.hbm, 9, rfl⟩
abbrev main_call0_v0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_c_0 : Ref sig .tc := ⟨.hbm, 17, rfl⟩
abbrev main_call1_v0 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_c_1 : Ref sig .tc := ⟨.hbm, 27, rfl⟩
abbrev main_v21 : Ref sig .tc := ⟨.hbm, 28, rfl⟩
abbrev main_v22 : Ref sig .tc := ⟨.hbm, 29, rfl⟩
abbrev main_c_2 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_c_3 : Ref sig .tc := ⟨.hbm, 38, rfl⟩
abbrev main_v30 : Ref sig .tc := ⟨.hbm, 39, rfl⟩
abbrev main_v31 : Ref sig .tc := ⟨.hbm, 40, rfl⟩
abbrev main_c_4 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_c_5 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_c_6 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_cst : Ref sig .tc := ⟨.hbm, 62, rfl⟩
abbrev main_v50 : Ref sig .tc := ⟨.hbm, 63, rfl⟩
abbrev main_v51 : Ref sig .tc := ⟨.hbm, 64, rfl⟩
abbrev main_cst_7 : Ref sig .tc := ⟨.hbm, 65, rfl⟩
abbrev main_v52 : Ref sig .tc := ⟨.hbm, 66, rfl⟩
abbrev main_v53 : Ref sig .tc := ⟨.hbm, 67, rfl⟩
abbrev main_cst_8 : Ref sig .tc := ⟨.hbm, 68, rfl⟩
abbrev main_v54 : Ref sig .tc := ⟨.hbm, 69, rfl⟩
abbrev main_v55 : Ref sig .tc := ⟨.hbm, 70, rfl⟩
abbrev main_cst_9 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_cst_10 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_cst_11 : Ref sig .tc := ⟨.hbm, 98, rfl⟩
abbrev main_call2_v0 : Ref sig .tc := ⟨.hbm, 99, rfl⟩
abbrev main_call2_v1 : Ref sig .tc := ⟨.hbm, 100, rfl⟩
abbrev main_call2_v2 : Ref sig .tc := ⟨.hbm, 101, rfl⟩
abbrev main_v81 : Ref sig .tc := ⟨.hbm, 102, rfl⟩
abbrev main_cst_12 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_cst_13 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩
abbrev main_v95 : Ref sig .tc := ⟨.hbm, 118, rfl⟩
abbrev main_v96 : Ref sig .tc := ⟨.hbm, 119, rfl⟩
abbrev main_v97 : Ref sig .tc := ⟨.hbm, 120, rfl⟩
abbrev main_v98 : Ref sig .tc := ⟨.hbm, 121, rfl⟩
abbrev main_v99 : Ref sig .tc := ⟨.hbm, 122, rfl⟩
abbrev main_v100 : Ref sig .tc := ⟨.hbm, 123, rfl⟩
abbrev main_v101 : Ref sig .tc := ⟨.hbm, 124, rfl⟩

abbrev nD : Nat := 1
abbrev τ : Topo := Topo.v7x

variable {F : FTy → Type} [FloatOps F]
-- ==== InProj.lean ====
abbrev S2x8192x4096 : Shape := ⟨3, ![2, 8192, 4096]⟩
abbrev S2x4096x16384 : Shape := ⟨3, ![2, 4096, 16384]⟩
abbrev S2x2048x4096 : Shape := ⟨3, ![2, 2048, 4096]⟩
abbrev S2x4096x4096 : Shape := ⟨3, ![2, 4096, 4096]⟩
abbrev S1x4096x8192 : Shape := ⟨3, ![1, 4096, 8192]⟩
abbrev S16384x4096 : Shape := ⟨2, ![16384, 4096]⟩
abbrev S1x4096x16384 : Shape := ⟨3, ![1, 4096, 16384]⟩
abbrev S4096x16384 : Shape := ⟨2, ![4096, 16384]⟩
abbrev S16384x16384 : Shape := ⟨2, ![16384, 16384]⟩
abbrev S2048x4096 : Shape := ⟨2, ![2048, 4096]⟩
abbrev S4096x4096 : Shape := ⟨2, ![4096, 4096]⟩
abbrev S4096x8192 : Shape := ⟨2, ![4096, 8192]⟩
abbrev S1024x4096 : Shape := ⟨2, ![1024, 4096]⟩
abbrev S4096x1024 : Shape := ⟨2, ![4096, 1024]⟩
abbrev S1x16x2048 : Shape := ⟨3, ![1, 16, 2048]⟩
abbrev S1x16x4096 : Shape := ⟨3, ![1, 16, 4096]⟩
abbrev S1x16x8192 : Shape := ⟨3, ![1, 16, 8192]⟩
abbrev S1024x1024 : Shape := ⟨2, ![1024, 1024]⟩
abbrev S16x2048 : Shape := ⟨2, ![16, 2048]⟩
abbrev S16x4096 : Shape := ⟨2, ![16, 4096]⟩
abbrev S16x8192 : Shape := ⟨2, ![16, 8192]⟩
abbrev S4096x512 : Shape := ⟨2, ![4096, 512]⟩
abbrev S1024x512 : Shape := ⟨2, ![1024, 512]⟩

abbrev nBuf : Space → Nat
  | .hbm => 17
  | .vmem => 26
  | .smem => 0
  | _ => 0

abbrev bufTy : (tb : Table) → Fin (tcTables nBuf tb) → BufTy
  | .hbm, ⟨0, _⟩ => ⟨S2x8192x4096, .bf16⟩
  | .hbm, ⟨1, _⟩ => ⟨S2x4096x16384, .f32⟩
  | .hbm, ⟨2, _⟩ => ⟨S2x2048x4096, .f32⟩
  | .hbm, ⟨3, _⟩ => ⟨S2x4096x4096, .f32⟩
  | .hbm, ⟨4, _⟩ => ⟨S2x4096x4096, .f32⟩
  | .hbm, ⟨5, _⟩ => ⟨S1x4096x8192, .f32⟩
  | .hbm, ⟨6, _⟩ => ⟨S1x4096x8192, .f32⟩
  | .hbm, ⟨7, _⟩ => ⟨S16384x4096, .bf16⟩
  | .hbm, ⟨8, _⟩ => ⟨S1x4096x16384, .f32⟩
  | .hbm, ⟨9, _⟩ => ⟨S4096x16384, .f32⟩
  | .hbm, ⟨10, _⟩ => ⟨S4096x16384, .bf16⟩
  | .hbm, ⟨11, _⟩ => ⟨S16384x16384, .bf16⟩
  | .hbm, ⟨12, _⟩ => ⟨S2048x4096, .bf16⟩
  | .hbm, ⟨13, _⟩ => ⟨S4096x4096, .bf16⟩
  | .hbm, ⟨14, _⟩ => ⟨S4096x4096, .bf16⟩
  | .hbm, ⟨15, _⟩ => ⟨S4096x8192, .bf16⟩
  | .hbm, ⟨16, _⟩ => ⟨S4096x8192, .bf16⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1x16x2048, .f32⟩
  | .local _ .vmem, ⟨5, _⟩ => ⟨S1x16x2048, .f32⟩
  | .local _ .vmem, ⟨6, _⟩ => ⟨S1x16x4096, .f32⟩
  | .local _ .vmem, ⟨7, _⟩ => ⟨S1x16x4096, .f32⟩
  | .local _ .vmem, ⟨8, _⟩ => ⟨S1x16x4096, .f32⟩
  | .local _ .vmem, ⟨9, _⟩ => ⟨S1x16x4096, .f32⟩
  | .local _ .vmem, ⟨10, _⟩ => ⟨S1x16x8192, .f32⟩
  | .local _ .vmem, ⟨11, _⟩ => ⟨S1x16x8192, .f32⟩
  | .local _ .vmem, ⟨12, _⟩ => ⟨S1x16x8192, .f32⟩
  | .local _ .vmem, ⟨13, _⟩ => ⟨S1x16x8192, .f32⟩
  | .local _ .vmem, ⟨14, _⟩ => ⟨S1024x1024, .bf16⟩
  | .local _ .vmem, ⟨15, _⟩ => ⟨S1024x1024, .bf16⟩
  | .local _ .vmem, ⟨16, _⟩ => ⟨S16x2048, .bf16⟩
  | .local _ .vmem, ⟨17, _⟩ => ⟨S16x2048, .bf16⟩
  | .local _ .vmem, ⟨18, _⟩ => ⟨S16x4096, .bf16⟩
  | .local _ .vmem, ⟨19, _⟩ => ⟨S16x4096, .bf16⟩
  | .local _ .vmem, ⟨20, _⟩ => ⟨S16x4096, .bf16⟩
  | .local _ .vmem, ⟨21, _⟩ => ⟨S16x4096, .bf16⟩
  | .local _ .vmem, ⟨22, _⟩ => ⟨S16x8192, .bf16⟩
  | .local _ .vmem, ⟨23, _⟩ => ⟨S16x8192, .bf16⟩
  | .local _ .vmem, ⟨24, _⟩ => ⟨S16x8192, .bf16⟩
  | .local _ .vmem, ⟨25, _⟩ => ⟨S16x8192, .bf16⟩
  | _, _ => ⟨S2x8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev main_v4_2 : Ref sig .tc := ⟨.hbm, 13, rfl⟩
abbrev main_v4_3 : Ref sig .tc := ⟨.hbm, 14, rfl⟩
abbrev main_v4_4 : Ref sig .tc := ⟨.hbm, 15, rfl⟩
abbrev main_v4_5 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨3, ![16, 16, 1], ![false, false, false]⟩

def k0_cond1 (i : grid0.Coords) : BitVec 1 :=
  let arg1 : BitVec 32 := BitVec.ofNat 32 (i 1).val
  let c8_i32 : BitVec 32 := 8#32
  let v20 : BitVec 1 := Scalar.cmpi .slt arg1 c8_i32
  let v21 : BitVec 32 := Scalar.extui v20
  let c0_i32 : BitVec 32 := 0#32
  let v22 : BitVec 1 := Scalar.cmpi .ne v21 c0_i32
  v22

def k0_cond2 (i : grid0.Coords) : BitVec 1 :=
  let arg1 : BitVec 32 := BitVec.ofNat 32 (i 1).val
  let c8_i32_24 : BitVec 32 := 8#32
  let v23 : BitVec 1 := Scalar.cmpi .sge arg1 c8_i32_24
  let v24 : BitVec 32 := Scalar.extui v23
  let c0_i32_25 : BitVec 32 := 0#32
  let v25 : BitVec 1 := Scalar.cmpi .ne v24 c0_i32_25
  v25

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg1
  let c2_i32 : BitVec 32 := 2#32
  let v2 : BitVec 32 := Scalar.divsi v1 c2_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c2_i32 c0_i32_1
  let v9 : BitVec 32 := Scalar.extui v8
  let c0_i32_2 : BitVec 32 := 0#32
  let v10 : BitVec 1 := Scalar.cmpi .slt c2_i32 c0_i32_2
  let v11 : BitVec 32 := Scalar.extui v10
  let v12 : BitVec 32 := Scalar.subi v9 v11
  let v13 : BitVec 1 := Scalar.cmpi .ne v7 v12
  let v14 : BitVec 32 := Scalar.remsi v1 c2_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c2_i32_4 : BitVec 32 := 2#32
  let c0_i32_5 : BitVec 32 := 0#32
  let v19 : BitVec 1 := Scalar.cmpi .eq c2_i32_4 c0_i32_5
  let c1_i32_6 : BitVec 32 := 1#32
  let v20 : BitVec 32 := Scalar.select v19 c1_i32_6 c2_i32_4
  let v21 : BitVec 32 := Scalar.remsi v1 v20
  let c0_i32_7 : BitVec 32 := 0#32
  let v22 : BitVec 1 := Scalar.cmpi .ne v21 c0_i32_7
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let v26 : BitVec 1 := Scalar.andi v25 v22
  let v27 : BitVec 32 := Scalar.addi v21 v20
  let v28 : BitVec 32 := Scalar.select v26 v27 v21
  let c0_i32_10 : BitVec 32 := 0#32
  let c0_i32_11 : BitVec 32 := 0#32
  ![c0_i32_10.toNat, v18.toNat, v28.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg1
  let c1_i32 : BitVec 32 := 1#32
  let v2 : BitVec 32 := Scalar.divsi v1 c1_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c1_i32 c0_i32_1
  let v9 : BitVec 32 := Scalar.extui v8
  let c0_i32_2 : BitVec 32 := 0#32
  let v10 : BitVec 1 := Scalar.cmpi .slt c1_i32 c0_i32_2
  let v11 : BitVec 32 := Scalar.extui v10
  let v12 : BitVec 32 := Scalar.subi v9 v11
  let v13 : BitVec 1 := Scalar.cmpi .ne v7 v12
  let v14 : BitVec 32 := Scalar.remsi v1 c1_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let c1_i32_5 : BitVec 32 := 1#32
  let c0_i32_6 : BitVec 32 := 0#32
  let v19 : BitVec 1 := Scalar.cmpi .eq c1_i32_5 c0_i32_6
  let c1_i32_7 : BitVec 32 := 1#32
  let v20 : BitVec 32 := Scalar.select v19 c1_i32_7 c1_i32_5
  let v21 : BitVec 32 := Scalar.remsi v1 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  let c0_i32_12 : BitVec 32 := 0#32
  ![c0_i32_11.toNat, v18.toNat, v28.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg1
  let c1_i32 : BitVec 32 := 1#32
  let v2 : BitVec 32 := Scalar.divsi v1 c1_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c1_i32 c0_i32_1
  let v9 : BitVec 32 := Scalar.extui v8
  let c0_i32_2 : BitVec 32 := 0#32
  let v10 : BitVec 1 := Scalar.cmpi .slt c1_i32 c0_i32_2
  let v11 : BitVec 32 := Scalar.extui v10
  let v12 : BitVec 32 := Scalar.subi v9 v11
  let v13 : BitVec 1 := Scalar.cmpi .ne v7 v12
  let v14 : BitVec 32 := Scalar.remsi v1 c1_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let c1_i32_5 : BitVec 32 := 1#32
  let c0_i32_6 : BitVec 32 := 0#32
  let v19 : BitVec 1 := Scalar.cmpi .eq c1_i32_5 c0_i32_6
  let c1_i32_7 : BitVec 32 := 1#32
  let v20 : BitVec 32 := Scalar.select v19 c1_i32_7 c1_i32_5
  let v21 : BitVec 32 := Scalar.remsi v1 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  let c0_i32_12 : BitVec 32 := 0#32
  ![c0_i32_11.toNat, v18.toNat, v28.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg1
  let c1_i32 : BitVec 32 := 1#32
  let v2 : BitVec 32 := Scalar.divsi v1 c1_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c1_i32 c0_i32_1
  let v9 : BitVec 32 := Scalar.extui v8
  let c0_i32_2 : BitVec 32 := 0#32
  let v10 : BitVec 1 := Scalar.cmpi .slt c1_i32 c0_i32_2
  let v11 : BitVec 32 := Scalar.extui v10
  let v12 : BitVec 32 := Scalar.subi v9 v11
  let v13 : BitVec 1 := Scalar.cmpi .ne v7 v12
  let v14 : BitVec 32 := Scalar.remsi v1 c1_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let c1_i32_5 : BitVec 32 := 1#32
  let c0_i32_6 : BitVec 32 := 0#32
  let v19 : BitVec 1 := Scalar.cmpi .eq c1_i32_5 c0_i32_6
  let c1_i32_7 : BitVec 32 := 1#32
  let v20 : BitVec 32 := Scalar.select v19 c1_i32_7 c1_i32_5
  let v21 : BitVec 32 := Scalar.remsi v1 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  let c0_i32_12 : BitVec 32 := 0#32
  ![c0_i32_11.toNat, v18.toNat, v28.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg1
  let c1_i32 : BitVec 32 := 1#32
  let v2 : BitVec 32 := Scalar.divsi v1 c1_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c1_i32 c0_i32_1
  let v9 : BitVec 32 := Scalar.extui v8
  let c0_i32_2 : BitVec 32 := 0#32
  let v10 : BitVec 1 := Scalar.cmpi .slt c1_i32 c0_i32_2
  let v11 : BitVec 32 := Scalar.extui v10
  let v12 : BitVec 32 := Scalar.subi v9 v11
  let v13 : BitVec 1 := Scalar.cmpi .ne v7 v12
  let v14 : BitVec 32 := Scalar.remsi v1 c1_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let c1_i32_5 : BitVec 32 := 1#32
  let c0_i32_6 : BitVec 32 := 0#32
  let v19 : BitVec 1 := Scalar.cmpi .eq c1_i32_5 c0_i32_6
  let c1_i32_7 : BitVec 32 := 1#32
  let v20 : BitVec 32 := Scalar.select v19 c1_i32_7 c1_i32_5
  let v21 : BitVec 32 := Scalar.remsi v1 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  let c0_i32_12 : BitVec 32 := 0#32
  ![c0_i32_11.toNat, v18.toNat, v28.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg1
  let c2_i32 : BitVec 32 := 2#32
  let v2 : BitVec 32 := Scalar.divsi v1 c2_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c2_i32 c0_i32_1
  let v9 : BitVec 32 := Scalar.extui v8
  let c0_i32_2 : BitVec 32 := 0#32
  let v10 : BitVec 1 := Scalar.cmpi .slt c2_i32 c0_i32_2
  let v11 : BitVec 32 := Scalar.extui v10
  let v12 : BitVec 32 := Scalar.subi v9 v11
  let v13 : BitVec 1 := Scalar.cmpi .ne v7 v12
  let v14 : BitVec 32 := Scalar.remsi v1 c2_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c2_i32_4 : BitVec 32 := 2#32
  let c0_i32_5 : BitVec 32 := 0#32
  let v19 : BitVec 1 := Scalar.cmpi .eq c2_i32_4 c0_i32_5
  let c1_i32_6 : BitVec 32 := 1#32
  let v20 : BitVec 32 := Scalar.select v19 c1_i32_6 c2_i32_4
  let v21 : BitVec 32 := Scalar.remsi v1 v20
  let c0_i32_7 : BitVec 32 := 0#32
  let v22 : BitVec 1 := Scalar.cmpi .ne v21 c0_i32_7
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let v26 : BitVec 1 := Scalar.andi v25 v22
  let v27 : BitVec 32 := Scalar.addi v21 v20
  let v28 : BitVec 32 := Scalar.select v26 v27 v21
  let c0_i32_10 : BitVec 32 := 0#32
  ![v18.toNat, v28.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg1
  let c1_i32 : BitVec 32 := 1#32
  let v2 : BitVec 32 := Scalar.divsi v1 c1_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c1_i32 c0_i32_1
  let v9 : BitVec 32 := Scalar.extui v8
  let c0_i32_2 : BitVec 32 := 0#32
  let v10 : BitVec 1 := Scalar.cmpi .slt c1_i32 c0_i32_2
  let v11 : BitVec 32 := Scalar.extui v10
  let v12 : BitVec 32 := Scalar.subi v9 v11
  let v13 : BitVec 1 := Scalar.cmpi .ne v7 v12
  let v14 : BitVec 32 := Scalar.remsi v1 c1_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let c1_i32_5 : BitVec 32 := 1#32
  let c0_i32_6 : BitVec 32 := 0#32
  let v19 : BitVec 1 := Scalar.cmpi .eq c1_i32_5 c0_i32_6
  let c1_i32_7 : BitVec 32 := 1#32
  let v20 : BitVec 32 := Scalar.select v19 c1_i32_7 c1_i32_5
  let v21 : BitVec 32 := Scalar.remsi v1 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  ![v18.toNat, v28.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg1
  let c1_i32 : BitVec 32 := 1#32
  let v2 : BitVec 32 := Scalar.divsi v1 c1_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c1_i32 c0_i32_1
  let v9 : BitVec 32 := Scalar.extui v8
  let c0_i32_2 : BitVec 32 := 0#32
  let v10 : BitVec 1 := Scalar.cmpi .slt c1_i32 c0_i32_2
  let v11 : BitVec 32 := Scalar.extui v10
  let v12 : BitVec 32 := Scalar.subi v9 v11
  let v13 : BitVec 1 := Scalar.cmpi .ne v7 v12
  let v14 : BitVec 32 := Scalar.remsi v1 c1_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let c1_i32_5 : BitVec 32 := 1#32
  let c0_i32_6 : BitVec 32 := 0#32
  let v19 : BitVec 1 := Scalar.cmpi .eq c1_i32_5 c0_i32_6
  let c1_i32_7 : BitVec 32 := 1#32
  let v20 : BitVec 32 := Scalar.select v19 c1_i32_7 c1_i32_5
  let v21 : BitVec 32 := Scalar.remsi v1 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  ![v18.toNat, v28.toNat]

def cc0_transform_11 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg1
  let c1_i32 : BitVec 32 := 1#32
  let v2 : BitVec 32 := Scalar.divsi v1 c1_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c1_i32 c0_i32_1
  let v9 : BitVec 32 := Scalar.extui v8
  let c0_i32_2 : BitVec 32 := 0#32
  let v10 : BitVec 1 := Scalar.cmpi .slt c1_i32 c0_i32_2
  let v11 : BitVec 32 := Scalar.extui v10
  let v12 : BitVec 32 := Scalar.subi v9 v11
  let v13 : BitVec 1 := Scalar.cmpi .ne v7 v12
  let v14 : BitVec 32 := Scalar.remsi v1 c1_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let c1_i32_5 : BitVec 32 := 1#32
  let c0_i32_6 : BitVec 32 := 0#32
  let v19 : BitVec 1 := Scalar.cmpi .eq c1_i32_5 c0_i32_6
  let c1_i32_7 : BitVec 32 := 1#32
  let v20 : BitVec 32 := Scalar.select v19 c1_i32_7 c1_i32_5
  let v21 : BitVec 32 := Scalar.remsi v1 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  ![v18.toNat, v28.toNat]

def cc0_transform_12 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg1
  let c1_i32 : BitVec 32 := 1#32
  let v2 : BitVec 32 := Scalar.divsi v1 c1_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c1_i32 c0_i32_1
  let v9 : BitVec 32 := Scalar.extui v8
  let c0_i32_2 : BitVec 32 := 0#32
  let v10 : BitVec 1 := Scalar.cmpi .slt c1_i32 c0_i32_2
  let v11 : BitVec 32 := Scalar.extui v10
  let v12 : BitVec 32 := Scalar.subi v9 v11
  let v13 : BitVec 1 := Scalar.cmpi .ne v7 v12
  let v14 : BitVec 32 := Scalar.remsi v1 c1_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let c1_i32_5 : BitVec 32 := 1#32
  let c0_i32_6 : BitVec 32 := 0#32
  let v19 : BitVec 1 := Scalar.cmpi .eq c1_i32_5 c0_i32_6
  let c1_i32_7 : BitVec 32 := 1#32
  let v20 : BitVec 32 := Scalar.select v19 c1_i32_7 c1_i32_5
  let v21 : BitVec 32 := Scalar.remsi v1 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  ![v18.toNat, v28.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x16x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x16x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x16x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x16x8192 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1x16x8192 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S16x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

abbrev stage0_9 : Fin 2 → Memref sig .tc .vmem S16x4096 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]

abbrev stage0_10 : Fin 2 → Memref sig .tc .vmem S16x4096 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, false]

abbrev stage0_11 : Fin 2 → Memref sig .tc .vmem S16x8192 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, false]

abbrev stage0_12 : Fin 2 → Memref sig .tc .vmem S16x8192 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true, false]
-- ==== InProjRefIdeal.lean ====
abbrev S2x8192x4096 : Shape := ⟨3, ![2, 8192, 4096]⟩
abbrev S2x4096x16384 : Shape := ⟨3, ![2, 4096, 16384]⟩
abbrev S2x2048x4096 : Shape := ⟨3, ![2, 2048, 4096]⟩
abbrev S2x4096x4096 : Shape := ⟨3, ![2, 4096, 4096]⟩
abbrev S1x4096x8192 : Shape := ⟨3, ![1, 4096, 8192]⟩
abbrev S1x4096x16384 : Shape := ⟨3, ![1, 4096, 16384]⟩
abbrev S4096x16384 : Shape := ⟨2, ![4096, 16384]⟩
abbrev S2x8192x16384 : Shape := ⟨3, ![2, 8192, 16384]⟩
abbrev S2x8192x8192 : Shape := ⟨3, ![2, 8192, 8192]⟩
abbrev S_ : Shape := ⟨0, ![]⟩
abbrev S16384x16384 : Shape := ⟨2, ![16384, 16384]⟩
abbrev S1x2048x4096 : Shape := ⟨3, ![1, 2048, 4096]⟩
abbrev S2048x4096 : Shape := ⟨2, ![2048, 4096]⟩
abbrev S1x4096x4096 : Shape := ⟨3, ![1, 4096, 4096]⟩
abbrev S4096x4096 : Shape := ⟨2, ![4096, 4096]⟩
abbrev S4096x8192 : Shape := ⟨2, ![4096, 8192]⟩

abbrev nBuf : Space → Nat
  | .hbm => 37
  | .vmem => 0
  | .smem => 0
  | _ => 0

abbrev bufTy : (tb : Table) → Fin (tcTables nBuf tb) → BufTy
  | .hbm, ⟨0, _⟩ => ⟨S2x8192x4096, .bf16⟩
  | .hbm, ⟨1, _⟩ => ⟨S2x4096x16384, .f32⟩
  | .hbm, ⟨2, _⟩ => ⟨S2x2048x4096, .f32⟩
  | .hbm, ⟨3, _⟩ => ⟨S2x4096x4096, .f32⟩
  | .hbm, ⟨4, _⟩ => ⟨S2x4096x4096, .f32⟩
  | .hbm, ⟨5, _⟩ => ⟨S1x4096x8192, .f32⟩
  | .hbm, ⟨6, _⟩ => ⟨S1x4096x8192, .f32⟩
  | .hbm, ⟨7, _⟩ => ⟨S2x8192x4096, .f32⟩
  | .hbm, ⟨8, _⟩ => ⟨S1x4096x16384, .f32⟩
  | .hbm, ⟨9, _⟩ => ⟨S4096x16384, .f32⟩
  | .hbm, ⟨10, _⟩ => ⟨S2x8192x16384, .f32⟩
  | .hbm, ⟨11, _⟩ => ⟨S2x8192x8192, .f32⟩
  | .hbm, ⟨12, _⟩ => ⟨S2x8192x8192, .f32⟩
  | .hbm, ⟨13, _⟩ => ⟨S2x8192x8192, .f32⟩
  | .hbm, ⟨14, _⟩ => ⟨S_, .f32⟩
  | .hbm, ⟨15, _⟩ => ⟨S2x8192x8192, .f32⟩
  | .hbm, ⟨16, _⟩ => ⟨S2x8192x8192, .f32⟩
  | .hbm, ⟨17, _⟩ => ⟨S_, .f32⟩
  | .hbm, ⟨18, _⟩ => ⟨S2x8192x8192, .f32⟩
  | .hbm, ⟨19, _⟩ => ⟨S2x8192x8192, .f32⟩
  | .hbm, ⟨20, _⟩ => ⟨S2x8192x8192, .f32⟩
  | .hbm, ⟨21, _⟩ => ⟨S2x8192x16384, .f32⟩
  | .hbm, ⟨22, _⟩ => ⟨S2x8192x16384, .bf16⟩
  | .hbm, ⟨23, _⟩ => ⟨S16384x16384, .bf16⟩
  | .hbm, ⟨24, _⟩ => ⟨S1x2048x4096, .f32⟩
  | .hbm, ⟨25, _⟩ => ⟨S2048x4096, .f32⟩
  | .hbm, ⟨26, _⟩ => ⟨S2048x4096, .bf16⟩
  | .hbm, ⟨27, _⟩ => ⟨S1x4096x4096, .f32⟩
  | .hbm, ⟨28, _⟩ => ⟨S4096x4096, .f32⟩
  | .hbm, ⟨29, _⟩ => ⟨S4096x4096, .bf16⟩
  | .hbm, ⟨30, _⟩ => ⟨S1x4096x4096, .f32⟩
  | .hbm, ⟨31, _⟩ => ⟨S4096x4096, .f32⟩
  | .hbm, ⟨32, _⟩ => ⟨S4096x4096, .bf16⟩
  | .hbm, ⟨33, _⟩ => ⟨S4096x8192, .f32⟩
  | .hbm, ⟨34, _⟩ => ⟨S4096x8192, .bf16⟩
  | .hbm, ⟨35, _⟩ => ⟨S4096x8192, .f32⟩
  | .hbm, ⟨36, _⟩ => ⟨S4096x8192, .bf16⟩
  | _, _ => ⟨S2x8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩

abbrev nD : Nat := 1
abbrev τ : Topo := Topo.v7x

variable {F : FTy → Type} [FloatOps F]
-- ==== Merge.lean ====
abbrev S2x8192x2048 : Shape := ⟨3, ![2, 8192, 2048]⟩
abbrev S2x8192x4096 : Shape := ⟨3, ![2, 8192, 4096]⟩
abbrev S2x8192x16384 : Shape := ⟨3, ![2, 8192, 16384]⟩
abbrev S2x2048x4096 : Shape := ⟨3, ![2, 2048, 4096]⟩
abbrev S2x4096x4096 : Shape := ⟨3, ![2, 4096, 4096]⟩
abbrev S16384x2048 : Shape := ⟨2, ![16384, 2048]⟩
abbrev S16384x4096 : Shape := ⟨2, ![16384, 4096]⟩
abbrev S16384x16384 : Shape := ⟨2, ![16384, 16384]⟩
abbrev S1x2048x4096 : Shape := ⟨3, ![1, 2048, 4096]⟩
abbrev S2048x4096 : Shape := ⟨2, ![2048, 4096]⟩
abbrev S1x4096x4096 : Shape := ⟨3, ![1, 4096, 4096]⟩
abbrev S4096x4096 : Shape := ⟨2, ![4096, 4096]⟩
abbrev S1024x2048 : Shape := ⟨2, ![1024, 2048]⟩
abbrev S1024x4096 : Shape := ⟨2, ![1024, 4096]⟩
abbrev S2048x512 : Shape := ⟨2, ![2048, 512]⟩
abbrev S4096x512 : Shape := ⟨2, ![4096, 512]⟩
abbrev S1024x512 : Shape := ⟨2, ![1024, 512]⟩

abbrev nBuf : Space → Nat
  | .hbm => 15
  | .vmem => 14
  | .smem => 0
  | _ => 0

abbrev bufTy : (tb : Table) → Fin (tcTables nBuf tb) → BufTy
  | .hbm, ⟨0, _⟩ => ⟨S2x8192x2048, .bf16⟩
  | .hbm, ⟨1, _⟩ => ⟨S2x8192x4096, .bf16⟩
  | .hbm, ⟨2, _⟩ => ⟨S2x8192x16384, .bf16⟩
  | .hbm, ⟨3, _⟩ => ⟨S2x2048x4096, .f32⟩
  | .hbm, ⟨4, _⟩ => ⟨S2x4096x4096, .f32⟩
  | .hbm, ⟨5, _⟩ => ⟨S16384x2048, .bf16⟩
  | .hbm, ⟨6, _⟩ => ⟨S16384x4096, .bf16⟩
  | .hbm, ⟨7, _⟩ => ⟨S16384x16384, .bf16⟩
  | .hbm, ⟨8, _⟩ => ⟨S1x2048x4096, .f32⟩
  | .hbm, ⟨9, _⟩ => ⟨S2048x4096, .f32⟩
  | .hbm, ⟨10, _⟩ => ⟨S2048x4096, .bf16⟩
  | .hbm, ⟨11, _⟩ => ⟨S1x4096x4096, .f32⟩
  | .hbm, ⟨12, _⟩ => ⟨S4096x4096, .f32⟩
  | .hbm, ⟨13, _⟩ => ⟨S4096x4096, .bf16⟩
  | .hbm, ⟨14, _⟩ => ⟨S16384x4096, .bf16⟩
  | .local _ .vmem, ⟨0, _⟩ => ⟨S1024x2048, .bf16⟩
  | .local _ .vmem, ⟨1, _⟩ => ⟨S1024x2048, .bf16⟩
  | .local _ .vmem, ⟨2, _⟩ => ⟨S1024x4096, .bf16⟩
  | .local _ .vmem, ⟨3, _⟩ => ⟨S1024x4096, .bf16⟩
  | .local _ .vmem, ⟨4, _⟩ => ⟨S2048x512, .bf16⟩
  | .local _ .vmem, ⟨5, _⟩ => ⟨S2048x512, .bf16⟩
  | .local _ .vmem, ⟨6, _⟩ => ⟨S4096x512, .bf16⟩
  | .local _ .vmem, ⟨7, _⟩ => ⟨S4096x512, .bf16⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | .local _ .vmem, ⟨12, _⟩ => ⟨S1024x512, .bf16⟩
  | .local _ .vmem, ⟨13, _⟩ => ⟨S1024x512, .bf16⟩
  | _, _ => ⟨S2x8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg1
  let c0_i32 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S4096x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== MergeRefIdeal.lean ====
abbrev S2x8192x2048 : Shape := ⟨3, ![2, 8192, 2048]⟩
abbrev S2x8192x4096 : Shape := ⟨3, ![2, 8192, 4096]⟩
abbrev S2x8192x16384 : Shape := ⟨3, ![2, 8192, 16384]⟩
abbrev S2x2048x4096 : Shape := ⟨3, ![2, 2048, 4096]⟩
abbrev S2x4096x4096 : Shape := ⟨3, ![2, 4096, 4096]⟩
abbrev S2x8192x8192 : Shape := ⟨3, ![2, 8192, 8192]⟩
abbrev S1x2048x4096 : Shape := ⟨3, ![1, 2048, 4096]⟩
abbrev S2048x4096 : Shape := ⟨2, ![2048, 4096]⟩
abbrev S1x4096x4096 : Shape := ⟨3, ![1, 4096, 4096]⟩
abbrev S4096x4096 : Shape := ⟨2, ![4096, 4096]⟩
abbrev S16384x4096 : Shape := ⟨2, ![16384, 4096]⟩

abbrev nBuf : Space → Nat
  | .hbm => 22
  | .vmem => 0
  | .smem => 0
  | _ => 0

abbrev bufTy : (tb : Table) → Fin (tcTables nBuf tb) → BufTy
  | .hbm, ⟨0, _⟩ => ⟨S2x8192x2048, .bf16⟩
  | .hbm, ⟨1, _⟩ => ⟨S2x8192x4096, .bf16⟩
  | .hbm, ⟨2, _⟩ => ⟨S2x8192x16384, .bf16⟩
  | .hbm, ⟨3, _⟩ => ⟨S2x2048x4096, .f32⟩
  | .hbm, ⟨4, _⟩ => ⟨S2x4096x4096, .f32⟩
  | .hbm, ⟨5, _⟩ => ⟨S2x8192x2048, .f32⟩
  | .hbm, ⟨6, _⟩ => ⟨S2x8192x4096, .f32⟩
  | .hbm, ⟨7, _⟩ => ⟨S2x8192x8192, .bf16⟩
  | .hbm, ⟨8, _⟩ => ⟨S2x8192x8192, .f32⟩
  | .hbm, ⟨9, _⟩ => ⟨S2x8192x4096, .f32⟩
  | .hbm, ⟨10, _⟩ => ⟨S2x8192x4096, .f32⟩
  | .hbm, ⟨11, _⟩ => ⟨S1x2048x4096, .f32⟩
  | .hbm, ⟨12, _⟩ => ⟨S2048x4096, .f32⟩
  | .hbm, ⟨13, _⟩ => ⟨S2x8192x4096, .f32⟩
  | .hbm, ⟨14, _⟩ => ⟨S1x4096x4096, .f32⟩
  | .hbm, ⟨15, _⟩ => ⟨S4096x4096, .f32⟩
  | .hbm, ⟨16, _⟩ => ⟨S2x8192x4096, .f32⟩
  | .hbm, ⟨17, _⟩ => ⟨S2x8192x4096, .f32⟩
  | .hbm, ⟨18, _⟩ => ⟨S2x8192x4096, .f32⟩
  | .hbm, ⟨19, _⟩ => ⟨S2x8192x4096, .f32⟩
  | .hbm, ⟨20, _⟩ => ⟨S2x8192x4096, .bf16⟩
  | .hbm, ⟨21, _⟩ => ⟨S16384x4096, .bf16⟩
  | _, _ => ⟨S2x8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩

abbrev nD : Nat := 1
abbrev τ : Topo := Topo.v7x

variable {F : FTy → Type} [FloatOps F]
-- ==== OutProj.lean ====
abbrev S2x8192x4096 : Shape := ⟨3, ![2, 8192, 4096]⟩
abbrev S2x4096x4096 : Shape := ⟨3, ![2, 4096, 4096]⟩
abbrev S2x2048x4096 : Shape := ⟨3, ![2, 2048, 4096]⟩
abbrev S16384x4096 : Shape := ⟨2, ![16384, 4096]⟩
abbrev S1x4096x4096 : Shape := ⟨3, ![1, 4096, 4096]⟩
abbrev S4096x4096 : Shape := ⟨2, ![4096, 4096]⟩
abbrev S2048x4096 : Shape := ⟨2, ![2048, 4096]⟩
abbrev S1024x4096 : Shape := ⟨2, ![1024, 4096]⟩
abbrev S4096x1024 : Shape := ⟨2, ![4096, 1024]⟩
abbrev S1x32x4096 : Shape := ⟨3, ![1, 32, 4096]⟩
abbrev S1x64x4096 : Shape := ⟨3, ![1, 64, 4096]⟩
abbrev S1024x1024 : Shape := ⟨2, ![1024, 1024]⟩
abbrev S32x4096 : Shape := ⟨2, ![32, 4096]⟩
abbrev S64x4096 : Shape := ⟨2, ![64, 4096]⟩

abbrev nBuf : Space → Nat
  | .hbm => 12
  | .vmem => 18
  | .smem => 0
  | _ => 0

abbrev bufTy : (tb : Table) → Fin (tcTables nBuf tb) → BufTy
  | .hbm, ⟨0, _⟩ => ⟨S2x8192x4096, .bf16⟩
  | .hbm, ⟨1, _⟩ => ⟨S2x4096x4096, .f32⟩
  | .hbm, ⟨2, _⟩ => ⟨S2x2048x4096, .f32⟩
  | .hbm, ⟨3, _⟩ => ⟨S2x4096x4096, .f32⟩
  | .hbm, ⟨4, _⟩ => ⟨S16384x4096, .bf16⟩
  | .hbm, ⟨5, _⟩ => ⟨S1x4096x4096, .f32⟩
  | .hbm, ⟨6, _⟩ => ⟨S4096x4096, .f32⟩
  | .hbm, ⟨7, _⟩ => ⟨S4096x4096, .bf16⟩
  | .hbm, ⟨8, _⟩ => ⟨S16384x4096, .bf16⟩
  | .hbm, ⟨9, _⟩ => ⟨S2048x4096, .bf16⟩
  | .hbm, ⟨10, _⟩ => ⟨S4096x4096, .bf16⟩
  | .hbm, ⟨11, _⟩ => ⟨S4096x4096, .bf16⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1x32x4096, .f32⟩
  | .local _ .vmem, ⟨5, _⟩ => ⟨S1x32x4096, .f32⟩
  | .local _ .vmem, ⟨6, _⟩ => ⟨S1x64x4096, .f32⟩
  | .local _ .vmem, ⟨7, _⟩ => ⟨S1x64x4096, .f32⟩
  | .local _ .vmem, ⟨8, _⟩ => ⟨S1x64x4096, .f32⟩
  | .local _ .vmem, ⟨9, _⟩ => ⟨S1x64x4096, .f32⟩
  | .local _ .vmem, ⟨10, _⟩ => ⟨S1024x1024, .bf16⟩
  | .local _ .vmem, ⟨11, _⟩ => ⟨S1024x1024, .bf16⟩
  | .local _ .vmem, ⟨12, _⟩ => ⟨S32x4096, .bf16⟩
  | .local _ .vmem, ⟨13, _⟩ => ⟨S32x4096, .bf16⟩
  | .local _ .vmem, ⟨14, _⟩ => ⟨S64x4096, .bf16⟩
  | .local _ .vmem, ⟨15, _⟩ => ⟨S64x4096, .bf16⟩
  | .local _ .vmem, ⟨16, _⟩ => ⟨S64x4096, .bf16⟩
  | .local _ .vmem, ⟨17, _⟩ => ⟨S64x4096, .bf16⟩
  | _, _ => ⟨S2x8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![16, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c1_i32 : BitVec 32 := 1#32
  let v2 : BitVec 32 := Scalar.divsi v1 c1_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c1_i32 c0_i32_1
  let v9 : BitVec 32 := Scalar.extui v8
  let c0_i32_2 : BitVec 32 := 0#32
  let v10 : BitVec 1 := Scalar.cmpi .slt c1_i32 c0_i32_2
  let v11 : BitVec 32 := Scalar.extui v10
  let v12 : BitVec 32 := Scalar.subi v9 v11
  let v13 : BitVec 1 := Scalar.cmpi .ne v7 v12
  let v14 : BitVec 32 := Scalar.remsi v1 c1_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let c1_i32_5 : BitVec 32 := 1#32
  let c0_i32_6 : BitVec 32 := 0#32
  let v19 : BitVec 1 := Scalar.cmpi .eq c1_i32_5 c0_i32_6
  let c1_i32_7 : BitVec 32 := 1#32
  let v20 : BitVec 32 := Scalar.select v19 c1_i32_7 c1_i32_5
  let v21 : BitVec 32 := Scalar.remsi v1 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c1_i32_11 : BitVec 32 := 1#32
  let c0_i32_12 : BitVec 32 := 0#32
  ![c1_i32_11.toNat, v18.toNat, v28.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c1_i32 : BitVec 32 := 1#32
  let v2 : BitVec 32 := Scalar.divsi v1 c1_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c1_i32 c0_i32_1
  let v9 : BitVec 32 := Scalar.extui v8
  let c0_i32_2 : BitVec 32 := 0#32
  let v10 : BitVec 1 := Scalar.cmpi .slt c1_i32 c0_i32_2
  let v11 : BitVec 32 := Scalar.extui v10
  let v12 : BitVec 32 := Scalar.subi v9 v11
  let v13 : BitVec 1 := Scalar.cmpi .ne v7 v12
  let v14 : BitVec 32 := Scalar.remsi v1 c1_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let c1_i32_5 : BitVec 32 := 1#32
  let c0_i32_6 : BitVec 32 := 0#32
  let v19 : BitVec 1 := Scalar.cmpi .eq c1_i32_5 c0_i32_6
  let c1_i32_7 : BitVec 32 := 1#32
  let v20 : BitVec 32 := Scalar.select v19 c1_i32_7 c1_i32_5
  let v21 : BitVec 32 := Scalar.remsi v1 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c1_i32_11 : BitVec 32 := 1#32
  let c0_i32_12 : BitVec 32 := 0#32
  ![c1_i32_11.toNat, v18.toNat, v28.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c1_i32 : BitVec 32 := 1#32
  let v2 : BitVec 32 := Scalar.divsi v1 c1_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c1_i32 c0_i32_1
  let v9 : BitVec 32 := Scalar.extui v8
  let c0_i32_2 : BitVec 32 := 0#32
  let v10 : BitVec 1 := Scalar.cmpi .slt c1_i32 c0_i32_2
  let v11 : BitVec 32 := Scalar.extui v10
  let v12 : BitVec 32 := Scalar.subi v9 v11
  let v13 : BitVec 1 := Scalar.cmpi .ne v7 v12
  let v14 : BitVec 32 := Scalar.remsi v1 c1_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let c1_i32_5 : BitVec 32 := 1#32
  let c0_i32_6 : BitVec 32 := 0#32
  let v19 : BitVec 1 := Scalar.cmpi .eq c1_i32_5 c0_i32_6
  let c1_i32_7 : BitVec 32 := 1#32
  let v20 : BitVec 32 := Scalar.select v19 c1_i32_7 c1_i32_5
  let v21 : BitVec 32 := Scalar.remsi v1 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c1_i32_11 : BitVec 32 := 1#32
  let c0_i32_12 : BitVec 32 := 0#32
  ![c1_i32_11.toNat, v18.toNat, v28.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c1_i32 : BitVec 32 := 1#32
  let v2 : BitVec 32 := Scalar.divsi v1 c1_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c1_i32 c0_i32_1
  let v9 : BitVec 32 := Scalar.extui v8
  let c0_i32_2 : BitVec 32 := 0#32
  let v10 : BitVec 1 := Scalar.cmpi .slt c1_i32 c0_i32_2
  let v11 : BitVec 32 := Scalar.extui v10
  let v12 : BitVec 32 := Scalar.subi v9 v11
  let v13 : BitVec 1 := Scalar.cmpi .ne v7 v12
  let v14 : BitVec 32 := Scalar.remsi v1 c1_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let c1_i32_5 : BitVec 32 := 1#32
  let c0_i32_6 : BitVec 32 := 0#32
  let v19 : BitVec 1 := Scalar.cmpi .eq c1_i32_5 c0_i32_6
  let c1_i32_7 : BitVec 32 := 1#32
  let v20 : BitVec 32 := Scalar.select v19 c1_i32_7 c1_i32_5
  let v21 : BitVec 32 := Scalar.remsi v1 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  ![v18.toNat, v28.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c1_i32 : BitVec 32 := 1#32
  let v2 : BitVec 32 := Scalar.divsi v1 c1_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c1_i32 c0_i32_1
  let v9 : BitVec 32 := Scalar.extui v8
  let c0_i32_2 : BitVec 32 := 0#32
  let v10 : BitVec 1 := Scalar.cmpi .slt c1_i32 c0_i32_2
  let v11 : BitVec 32 := Scalar.extui v10
  let v12 : BitVec 32 := Scalar.subi v9 v11
  let v13 : BitVec 1 := Scalar.cmpi .ne v7 v12
  let v14 : BitVec 32 := Scalar.remsi v1 c1_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let c1_i32_5 : BitVec 32 := 1#32
  let c0_i32_6 : BitVec 32 := 0#32
  let v19 : BitVec 1 := Scalar.cmpi .eq c1_i32_5 c0_i32_6
  let c1_i32_7 : BitVec 32 := 1#32
  let v20 : BitVec 32 := Scalar.select v19 c1_i32_7 c1_i32_5
  let v21 : BitVec 32 := Scalar.remsi v1 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  ![v18.toNat, v28.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c1_i32 : BitVec 32 := 1#32
  let v2 : BitVec 32 := Scalar.divsi v1 c1_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c1_i32 c0_i32_1
  let v9 : BitVec 32 := Scalar.extui v8
  let c0_i32_2 : BitVec 32 := 0#32
  let v10 : BitVec 1 := Scalar.cmpi .slt c1_i32 c0_i32_2
  let v11 : BitVec 32 := Scalar.extui v10
  let v12 : BitVec 32 := Scalar.subi v9 v11
  let v13 : BitVec 1 := Scalar.cmpi .ne v7 v12
  let v14 : BitVec 32 := Scalar.remsi v1 c1_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let c1_i32_5 : BitVec 32 := 1#32
  let c0_i32_6 : BitVec 32 := 0#32
  let v19 : BitVec 1 := Scalar.cmpi .eq c1_i32_5 c0_i32_6
  let c1_i32_7 : BitVec 32 := 1#32
  let v20 : BitVec 32 := Scalar.select v19 c1_i32_7 c1_i32_5
  let v21 : BitVec 32 := Scalar.remsi v1 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  ![v18.toNat, v28.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x32x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x64x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x64x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S32x4096 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S64x4096 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S64x4096 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]
-- ==== OutProjRefIdeal.lean ====
abbrev S2x8192x4096 : Shape := ⟨3, ![2, 8192, 4096]⟩
abbrev S2x4096x4096 : Shape := ⟨3, ![2, 4096, 4096]⟩
abbrev S2x2048x4096 : Shape := ⟨3, ![2, 2048, 4096]⟩
abbrev S1x4096x4096 : Shape := ⟨3, ![1, 4096, 4096]⟩
abbrev S4096x4096 : Shape := ⟨2, ![4096, 4096]⟩
abbrev S16384x4096 : Shape := ⟨2, ![16384, 4096]⟩
abbrev S1x2048x4096 : Shape := ⟨3, ![1, 2048, 4096]⟩
abbrev S2048x4096 : Shape := ⟨2, ![2048, 4096]⟩

abbrev nBuf : Space → Nat
  | .hbm => 19
  | .vmem => 0
  | .smem => 0
  | _ => 0

abbrev bufTy : (tb : Table) → Fin (tcTables nBuf tb) → BufTy
  | .hbm, ⟨0, _⟩ => ⟨S2x8192x4096, .bf16⟩
  | .hbm, ⟨1, _⟩ => ⟨S2x4096x4096, .f32⟩
  | .hbm, ⟨2, _⟩ => ⟨S2x2048x4096, .f32⟩
  | .hbm, ⟨3, _⟩ => ⟨S2x4096x4096, .f32⟩
  | .hbm, ⟨4, _⟩ => ⟨S2x8192x4096, .f32⟩
  | .hbm, ⟨5, _⟩ => ⟨S1x4096x4096, .f32⟩
  | .hbm, ⟨6, _⟩ => ⟨S4096x4096, .f32⟩
  | .hbm, ⟨7, _⟩ => ⟨S2x8192x4096, .f32⟩
  | .hbm, ⟨8, _⟩ => ⟨S2x8192x4096, .bf16⟩
  | .hbm, ⟨9, _⟩ => ⟨S16384x4096, .bf16⟩
  | .hbm, ⟨10, _⟩ => ⟨S1x2048x4096, .f32⟩
  | .hbm, ⟨11, _⟩ => ⟨S2048x4096, .f32⟩
  | .hbm, ⟨12, _⟩ => ⟨S2048x4096, .bf16⟩
  | .hbm, ⟨13, _⟩ => ⟨S1x4096x4096, .f32⟩
  | .hbm, ⟨14, _⟩ => ⟨S4096x4096, .f32⟩
  | .hbm, ⟨15, _⟩ => ⟨S4096x4096, .bf16⟩
  | .hbm, ⟨16, _⟩ => ⟨S1x4096x4096, .f32⟩
  | .hbm, ⟨17, _⟩ => ⟨S4096x4096, .f32⟩
  | .hbm, ⟨18, _⟩ => ⟨S4096x4096, .bf16⟩
  | _, _ => ⟨S2x8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩

abbrev nD : Nat := 1
abbrev τ : Topo := Topo.v7x

variable {F : FTy → Type} [FloatOps F]
-- ==== Glu.lean ====
abbrev S2x8192x4096 : Shape := ⟨3, ![2, 8192, 4096]⟩
abbrev S1x4096x8192 : Shape := ⟨3, ![1, 4096, 8192]⟩
abbrev S1x8192x4096 : Shape := ⟨3, ![1, 8192, 4096]⟩
abbrev S2x4096x16384 : Shape := ⟨3, ![2, 4096, 16384]⟩
abbrev S16384x4096 : Shape := ⟨2, ![16384, 4096]⟩
abbrev S4096x8192 : Shape := ⟨2, ![4096, 8192]⟩
abbrev S16384x8192 : Shape := ⟨2, ![16384, 8192]⟩
abbrev S8192x4096 : Shape := ⟨2, ![8192, 4096]⟩
abbrev S4096x16384 : Shape := ⟨2, ![4096, 16384]⟩
abbrev S1024x4096 : Shape := ⟨2, ![1024, 4096]⟩
abbrev S4096x512 : Shape := ⟨2, ![4096, 512]⟩
abbrev S1x32x4096 : Shape := ⟨3, ![1, 32, 4096]⟩
abbrev S1x16x16384 : Shape := ⟨3, ![1, 16, 16384]⟩
abbrev S1024x512 : Shape := ⟨2, ![1024, 512]⟩
abbrev S32x4096 : Shape := ⟨2, ![32, 4096]⟩
abbrev S16x16384 : Shape := ⟨2, ![16, 16384]⟩

abbrev nBuf : Space → Nat
  | .hbm => 13
  | .vmem => 16
  | .smem => 0
  | _ => 0

abbrev bufTy : (tb : Table) → Fin (tcTables nBuf tb) → BufTy
  | .hbm, ⟨0, _⟩ => ⟨S2x8192x4096, .bf16⟩
  | .hbm, ⟨1, _⟩ => ⟨S1x4096x8192, .f32⟩
  | .hbm, ⟨2, _⟩ => ⟨S1x4096x8192, .f32⟩
  | .hbm, ⟨3, _⟩ => ⟨S1x8192x4096, .f32⟩
  | .hbm, ⟨4, _⟩ => ⟨S2x4096x16384, .f32⟩
  | .hbm, ⟨5, _⟩ => ⟨S16384x4096, .bf16⟩
  | .hbm, ⟨6, _⟩ => ⟨S4096x8192, .f32⟩
  | .hbm, ⟨7, _⟩ => ⟨S4096x8192, .bf16⟩
  | .hbm, ⟨8, _⟩ => ⟨S4096x8192, .f32⟩
  | .hbm, ⟨9, _⟩ => ⟨S4096x8192, .bf16⟩
  | .hbm, ⟨10, _⟩ => ⟨S16384x8192, .bf16⟩
  | .hbm, ⟨11, _⟩ => ⟨S8192x4096, .bf16⟩
  | .hbm, ⟨12, _⟩ => ⟨S4096x16384, .bf16⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S4096x512, .bf16⟩
  | .local _ .vmem, ⟨5, _⟩ => ⟨S4096x512, .bf16⟩
  | .local _ .vmem, ⟨6, _⟩ => ⟨S1x32x4096, .f32⟩
  | .local _ .vmem, ⟨7, _⟩ => ⟨S1x32x4096, .f32⟩
  | .local _ .vmem, ⟨8, _⟩ => ⟨S1x16x16384, .f32⟩
  | .local _ .vmem, ⟨9, _⟩ => ⟨S1x16x16384, .f32⟩
  | .local _ .vmem, ⟨10, _⟩ => ⟨S1024x512, .bf16⟩
  | .local _ .vmem, ⟨11, _⟩ => ⟨S1024x512, .bf16⟩
  | .local _ .vmem, ⟨12, _⟩ => ⟨S32x4096, .bf16⟩
  | .local _ .vmem, ⟨13, _⟩ => ⟨S32x4096, .bf16⟩
  | .local _ .vmem, ⟨14, _⟩ => ⟨S16x16384, .bf16⟩
  | .local _ .vmem, ⟨15, _⟩ => ⟨S16x16384, .bf16⟩
  | _, _ => ⟨S2x8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![16, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c1_i32 : BitVec 32 := 1#32
  let v2 : BitVec 32 := Scalar.divsi v1 c1_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c1_i32 c0_i32_1
  let v9 : BitVec 32 := Scalar.extui v8
  let c0_i32_2 : BitVec 32 := 0#32
  let v10 : BitVec 1 := Scalar.cmpi .slt c1_i32 c0_i32_2
  let v11 : BitVec 32 := Scalar.extui v10
  let v12 : BitVec 32 := Scalar.subi v9 v11
  let v13 : BitVec 1 := Scalar.cmpi .ne v7 v12
  let v14 : BitVec 32 := Scalar.remsi v1 c1_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let c1_i32_5 : BitVec 32 := 1#32
  let c0_i32_6 : BitVec 32 := 0#32
  let v19 : BitVec 1 := Scalar.cmpi .eq c1_i32_5 c0_i32_6
  let c1_i32_7 : BitVec 32 := 1#32
  let v20 : BitVec 32 := Scalar.select v19 c1_i32_7 c1_i32_5
  let v21 : BitVec 32 := Scalar.remsi v1 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  let c0_i32_12 : BitVec 32 := 0#32
  ![c0_i32_11.toNat, v18.toNat, v28.toNat]

def cc0_transform_4 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c1_i32 : BitVec 32 := 1#32
  let v2 : BitVec 32 := Scalar.divsi v1 c1_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c1_i32 c0_i32_1
  let v9 : BitVec 32 := Scalar.extui v8
  let c0_i32_2 : BitVec 32 := 0#32
  let v10 : BitVec 1 := Scalar.cmpi .slt c1_i32 c0_i32_2
  let v11 : BitVec 32 := Scalar.extui v10
  let v12 : BitVec 32 := Scalar.subi v9 v11
  let v13 : BitVec 1 := Scalar.cmpi .ne v7 v12
  let v14 : BitVec 32 := Scalar.remsi v1 c1_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let c1_i32_5 : BitVec 32 := 1#32
  let c0_i32_6 : BitVec 32 := 0#32
  let v19 : BitVec 1 := Scalar.cmpi .eq c1_i32_5 c0_i32_6
  let c1_i32_7 : BitVec 32 := 1#32
  let v20 : BitVec 32 := Scalar.select v19 c1_i32_7 c1_i32_5
  let v21 : BitVec 32 := Scalar.remsi v1 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c1_i32_11 : BitVec 32 := 1#32
  let c0_i32_12 : BitVec 32 := 0#32
  ![c1_i32_11.toNat, v18.toNat, v28.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c1_i32 : BitVec 32 := 1#32
  let v2 : BitVec 32 := Scalar.divsi v1 c1_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c1_i32 c0_i32_1
  let v9 : BitVec 32 := Scalar.extui v8
  let c0_i32_2 : BitVec 32 := 0#32
  let v10 : BitVec 1 := Scalar.cmpi .slt c1_i32 c0_i32_2
  let v11 : BitVec 32 := Scalar.extui v10
  let v12 : BitVec 32 := Scalar.subi v9 v11
  let v13 : BitVec 1 := Scalar.cmpi .ne v7 v12
  let v14 : BitVec 32 := Scalar.remsi v1 c1_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let c1_i32_5 : BitVec 32 := 1#32
  let c0_i32_6 : BitVec 32 := 0#32
  let v19 : BitVec 1 := Scalar.cmpi .eq c1_i32_5 c0_i32_6
  let c1_i32_7 : BitVec 32 := 1#32
  let v20 : BitVec 32 := Scalar.select v19 c1_i32_7 c1_i32_5
  let v21 : BitVec 32 := Scalar.remsi v1 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  ![v18.toNat, v28.toNat]

def cc0_transform_7 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c1_i32 : BitVec 32 := 1#32
  let v2 : BitVec 32 := Scalar.divsi v1 c1_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c1_i32 c0_i32_1
  let v9 : BitVec 32 := Scalar.extui v8
  let c0_i32_2 : BitVec 32 := 0#32
  let v10 : BitVec 1 := Scalar.cmpi .slt c1_i32 c0_i32_2
  let v11 : BitVec 32 := Scalar.extui v10
  let v12 : BitVec 32 := Scalar.subi v9 v11
  let v13 : BitVec 1 := Scalar.cmpi .ne v7 v12
  let v14 : BitVec 32 := Scalar.remsi v1 c1_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let c1_i32_5 : BitVec 32 := 1#32
  let c0_i32_6 : BitVec 32 := 0#32
  let v19 : BitVec 1 := Scalar.cmpi .eq c1_i32_5 c0_i32_6
  let c1_i32_7 : BitVec 32 := 1#32
  let v20 : BitVec 32 := Scalar.select v19 c1_i32_7 c1_i32_5
  let v21 : BitVec 32 := Scalar.remsi v1 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  ![v18.toNat, v28.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x32x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x16x16384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S32x4096 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S16x16384 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== GluRefIdeal.lean ====
abbrev S2x8192x4096 : Shape := ⟨3, ![2, 8192, 4096]⟩
abbrev S1x4096x8192 : Shape := ⟨3, ![1, 4096, 8192]⟩
abbrev S1x8192x4096 : Shape := ⟨3, ![1, 8192, 4096]⟩
abbrev S2x4096x16384 : Shape := ⟨3, ![2, 4096, 16384]⟩
abbrev S4096x8192 : Shape := ⟨2, ![4096, 8192]⟩
abbrev S2x8192x8192 : Shape := ⟨3, ![2, 8192, 8192]⟩
abbrev S_ : Shape := ⟨0, ![]⟩
abbrev S16384x8192 : Shape := ⟨2, ![16384, 8192]⟩
abbrev S8192x4096 : Shape := ⟨2, ![8192, 4096]⟩
abbrev S1x4096x16384 : Shape := ⟨3, ![1, 4096, 16384]⟩
abbrev S4096x16384 : Shape := ⟨2, ![4096, 16384]⟩

abbrev nBuf : Space → Nat
  | .hbm => 27
  | .vmem => 0
  | .smem => 0
  | _ => 0

abbrev bufTy : (tb : Table) → Fin (tcTables nBuf tb) → BufTy
  | .hbm, ⟨0, _⟩ => ⟨S2x8192x4096, .bf16⟩
  | .hbm, ⟨1, _⟩ => ⟨S1x4096x8192, .f32⟩
  | .hbm, ⟨2, _⟩ => ⟨S1x4096x8192, .f32⟩
  | .hbm, ⟨3, _⟩ => ⟨S1x8192x4096, .f32⟩
  | .hbm, ⟨4, _⟩ => ⟨S2x4096x16384, .f32⟩
  | .hbm, ⟨5, _⟩ => ⟨S2x8192x4096, .f32⟩
  | .hbm, ⟨6, _⟩ => ⟨S4096x8192, .f32⟩
  | .hbm, ⟨7, _⟩ => ⟨S2x8192x8192, .f32⟩
  | .hbm, ⟨8, _⟩ => ⟨S2x8192x8192, .f32⟩
  | .hbm, ⟨9, _⟩ => ⟨S2x8192x8192, .f32⟩
  | .hbm, ⟨10, _⟩ => ⟨S_, .f32⟩
  | .hbm, ⟨11, _⟩ => ⟨S2x8192x8192, .f32⟩
  | .hbm, ⟨12, _⟩ => ⟨S2x8192x8192, .f32⟩
  | .hbm, ⟨13, _⟩ => ⟨S_, .f32⟩
  | .hbm, ⟨14, _⟩ => ⟨S2x8192x8192, .f32⟩
  | .hbm, ⟨15, _⟩ => ⟨S2x8192x8192, .f32⟩
  | .hbm, ⟨16, _⟩ => ⟨S2x8192x8192, .f32⟩
  | .hbm, ⟨17, _⟩ => ⟨S4096x8192, .f32⟩
  | .hbm, ⟨18, _⟩ => ⟨S2x8192x8192, .f32⟩
  | .hbm, ⟨19, _⟩ => ⟨S2x8192x8192, .f32⟩
  | .hbm, ⟨20, _⟩ => ⟨S2x8192x8192, .bf16⟩
  | .hbm, ⟨21, _⟩ => ⟨S16384x8192, .bf16⟩
  | .hbm, ⟨22, _⟩ => ⟨S8192x4096, .f32⟩
  | .hbm, ⟨23, _⟩ => ⟨S8192x4096, .bf16⟩
  | .hbm, ⟨24, _⟩ => ⟨S1x4096x16384, .f32⟩
  | .hbm, ⟨25, _⟩ => ⟨S4096x16384, .f32⟩
  | .hbm, ⟨26, _⟩ => ⟨S4096x16384, .bf16⟩
  | _, _ => ⟨S2x8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩

abbrev nD : Nat := 1
abbrev τ : Topo := Topo.v7x

variable {F : FTy → Type} [FloatOps F]
-- ==== Down.lean ====
abbrev S2x8192x8192 : Shape := ⟨3, ![2, 8192, 8192]⟩
abbrev S1x8192x4096 : Shape := ⟨3, ![1, 8192, 4096]⟩
abbrev S16384x8192 : Shape := ⟨2, ![16384, 8192]⟩
abbrev S8192x4096 : Shape := ⟨2, ![8192, 4096]⟩
abbrev S16384x4096 : Shape := ⟨2, ![16384, 4096]⟩
abbrev S1024x4096 : Shape := ⟨2, ![1024, 4096]⟩
abbrev S4096x1024 : Shape := ⟨2, ![4096, 1024]⟩
abbrev S1024x1024 : Shape := ⟨2, ![1024, 1024]⟩

abbrev nBuf : Space → Nat
  | .hbm => 6
  | .vmem => 7
  | .smem => 0
  | _ => 0

abbrev bufTy : (tb : Table) → Fin (tcTables nBuf tb) → BufTy
  | .hbm, ⟨0, _⟩ => ⟨S2x8192x8192, .bf16⟩
  | .hbm, ⟨1, _⟩ => ⟨S1x8192x4096, .f32⟩
  | .hbm, ⟨2, _⟩ => ⟨S16384x8192, .bf16⟩
  | .hbm, ⟨3, _⟩ => ⟨S8192x4096, .f32⟩
  | .hbm, ⟨4, _⟩ => ⟨S8192x4096, .bf16⟩
  | .hbm, ⟨5, _⟩ => ⟨S16384x4096, .bf16⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S2x8192x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 4, 2], ![false, false, false]⟩

def k0_cond3 (i : grid0.Coords) : BitVec 1 :=
  let arg2 : BitVec 32 := BitVec.ofNat 32 (i 2).val
  let c1_i32_3 : BitVec 32 := 1#32
  let v8 : BitVec 1 := Scalar.cmpi .eq arg2 c1_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownRefIdeal.lean ====
abbrev S2x8192x8192 : Shape := ⟨3, ![2, 8192, 8192]⟩
abbrev S1x8192x4096 : Shape := ⟨3, ![1, 8192, 4096]⟩
abbrev S8192x4096 : Shape := ⟨2, ![8192, 4096]⟩
abbrev S2x8192x4096 : Shape := ⟨3, ![2, 8192, 4096]⟩
abbrev S16384x4096 : Shape := ⟨2, ![16384, 4096]⟩

abbrev nBuf : Space → Nat
  | .hbm => 7
  | .vmem => 0
  | .smem => 0
  | _ => 0

abbrev bufTy : (tb : Table) → Fin (tcTables nBuf tb) → BufTy
  | .hbm, ⟨0, _⟩ => ⟨S2x8192x8192, .bf16⟩
  | .hbm, ⟨1, _⟩ => ⟨S1x8192x4096, .f32⟩
  | .hbm, ⟨2, _⟩ => ⟨S2x8192x8192, .f32⟩
  | .hbm, ⟨3, _⟩ => ⟨S8192x4096, .f32⟩
  | .hbm, ⟨4, _⟩ => ⟨S2x8192x4096, .f32⟩
  | .hbm, ⟨5, _⟩ => ⟨S2x8192x4096, .bf16⟩
  | .hbm, ⟨6, _⟩ => ⟨S16384x4096, .bf16⟩
  | _, _ => ⟨S2x8192x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Adaln.lean ====
abbrev S8x4096 : Shape := ⟨2, ![8, 4096]⟩
abbrev S2x4096x24576 : Shape := ⟨3, ![2, 4096, 24576]⟩
abbrev S2x24576 : Shape := ⟨2, ![2, 24576]⟩
abbrev S2x1x24576 : Shape := ⟨3, ![2, 1, 24576]⟩
abbrev S2x8x24576 : Shape := ⟨3, ![2, 8, 24576]⟩
abbrev S1x4096x512 : Shape := ⟨3, ![1, 4096, 512]⟩
abbrev S1x1x512 : Shape := ⟨3, ![1, 1, 512]⟩
abbrev S1x8x512 : Shape := ⟨3, ![1, 8, 512]⟩
abbrev S4096x512 : Shape := ⟨2, ![4096, 512]⟩
abbrev S8x512 : Shape := ⟨2, ![8, 512]⟩
abbrev S1x512 : Shape := ⟨2, ![1, 512]⟩

abbrev nBuf : Space → Nat
  | .hbm => 5
  | .vmem => 7
  | .smem => 0
  | _ => 0

abbrev bufTy : (tb : Table) → Fin (tcTables nBuf tb) → BufTy
  | .hbm, ⟨0, _⟩ => ⟨S8x4096, .f32⟩
  | .hbm, ⟨1, _⟩ => ⟨S2x4096x24576, .f32⟩
  | .hbm, ⟨2, _⟩ => ⟨S2x24576, .f32⟩
  | .hbm, ⟨3, _⟩ => ⟨S2x1x24576, .f32⟩
  | .hbm, ⟨4, _⟩ => ⟨S2x8x24576, .f32⟩
  | .local _ .vmem, ⟨0, _⟩ => ⟨S8x4096, .f32⟩
  | .local _ .vmem, ⟨1, _⟩ => ⟨S1x4096x512, .f32⟩
  | .local _ .vmem, ⟨2, _⟩ => ⟨S1x4096x512, .f32⟩
  | .local _ .vmem, ⟨3, _⟩ => ⟨S1x1x512, .f32⟩
  | .local _ .vmem, ⟨4, _⟩ => ⟨S1x1x512, .f32⟩
  | .local _ .vmem, ⟨5, _⟩ => ⟨S1x8x512, .f32⟩
  | .local _ .vmem, ⟨6, _⟩ => ⟨S1x8x512, .f32⟩
  | _, _ => ⟨S8x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 48], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S8x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== AdalnRefIdeal.lean ====
abbrev S8x4096 : Shape := ⟨2, ![8, 4096]⟩
abbrev S2x4096x24576 : Shape := ⟨3, ![2, 4096, 24576]⟩
abbrev S2x24576 : Shape := ⟨2, ![2, 24576]⟩
abbrev S_ : Shape := ⟨0, ![]⟩
abbrev S2x24576x8 : Shape := ⟨3, ![2, 24576, 8]⟩
abbrev S2x8x24576 : Shape := ⟨3, ![2, 8, 24576]⟩
abbrev S2x1x24576 : Shape := ⟨3, ![2, 1, 24576]⟩

abbrev nBuf : Space → Nat
  | .hbm => 17
  | .vmem => 0
  | .smem => 0
  | _ => 0

abbrev bufTy : (tb : Table) → Fin (tcTables nBuf tb) → BufTy
  | .hbm, ⟨0, _⟩ => ⟨S8x4096, .f32⟩
  | .hbm, ⟨1, _⟩ => ⟨S2x4096x24576, .f32⟩
  | .hbm, ⟨2, _⟩ => ⟨S2x24576, .f32⟩
  | .hbm, ⟨3, _⟩ => ⟨S8x4096, .f32⟩
  | .hbm, ⟨4, _⟩ => ⟨S8x4096, .f32⟩
  | .hbm, ⟨5, _⟩ => ⟨S_, .f32⟩
  | .hbm, ⟨6, _⟩ => ⟨S8x4096, .f32⟩
  | .hbm, ⟨7, _⟩ => ⟨S8x4096, .f32⟩
  | .hbm, ⟨8, _⟩ => ⟨S_, .f32⟩
  | .hbm, ⟨9, _⟩ => ⟨S8x4096, .f32⟩
  | .hbm, ⟨10, _⟩ => ⟨S8x4096, .f32⟩
  | .hbm, ⟨11, _⟩ => ⟨S8x4096, .f32⟩
  | .hbm, ⟨12, _⟩ => ⟨S2x24576x8, .f32⟩
  | .hbm, ⟨13, _⟩ => ⟨S2x8x24576, .f32⟩
  | .hbm, ⟨14, _⟩ => ⟨S2x1x24576, .f32⟩
  | .hbm, ⟨15, _⟩ => ⟨S2x8x24576, .f32⟩
  | .hbm, ⟨16, _⟩ => ⟨S2x8x24576, .f32⟩
  | _, _ => ⟨S8x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩

abbrev nD : Nat := 1
abbrev τ : Topo := Topo.v7x

variable {F : FTy → Type} [FloatOps F]
-- ==== Prenorm.lean ====
abbrev S2x8192x4096 : Shape := ⟨3, ![2, 8192, 4096]⟩
abbrev S2x2x24576 : Shape := ⟨3, ![2, 2, 24576]⟩
abbrev S2x4096 : Shape := ⟨2, ![2, 4096]⟩
abbrev S1x2x4096 : Shape := ⟨3, ![1, 2, 4096]⟩
abbrev S2x1x4096 : Shape := ⟨3, ![2, 1, 4096]⟩
abbrev S1x4096 : Shape := ⟨2, ![1, 4096]⟩
abbrev S4096 : Shape := ⟨1, ![4096]⟩
abbrev S1x256x4096 : Shape := ⟨3, ![1, 256, 4096]⟩
abbrev S1x1x4096 : Shape := ⟨3, ![1, 1, 4096]⟩
abbrev S256x4096 : Shape := ⟨2, ![256, 4096]⟩
abbrev S256 : Shape := ⟨1, ![256]⟩
abbrev S256x1 : Shape := ⟨2, ![256, 1]⟩

abbrev nBuf : Space → Nat
  | .hbm => 25
  | .vmem => 9
  | .smem => 0
  | _ => 0

abbrev bufTy : (tb : Table) → Fin (tcTables nBuf tb) → BufTy
  | .hbm, ⟨0, _⟩ => ⟨S2x8192x4096, .f32⟩
  | .hbm, ⟨1, _⟩ => ⟨S2x2x24576, .f32⟩
  | .hbm, ⟨2, _⟩ => ⟨S2x4096, .f32⟩
  | .hbm, ⟨3, _⟩ => ⟨S1x2x4096, .f32⟩
  | .hbm, ⟨4, _⟩ => ⟨S2x4096, .f32⟩
  | .hbm, ⟨5, _⟩ => ⟨S2x1x4096, .f32⟩
  | .hbm, ⟨6, _⟩ => ⟨S1x2x4096, .f32⟩
  | .hbm, ⟨7, _⟩ => ⟨S2x4096, .f32⟩
  | .hbm, ⟨8, _⟩ => ⟨S2x1x4096, .f32⟩
  | .hbm, ⟨9, _⟩ => ⟨S1x2x4096, .f32⟩
  | .hbm, ⟨10, _⟩ => ⟨S2x4096, .f32⟩
  | .hbm, ⟨11, _⟩ => ⟨S2x1x4096, .f32⟩
  | .hbm, ⟨12, _⟩ => ⟨S1x2x4096, .f32⟩
  | .hbm, ⟨13, _⟩ => ⟨S2x4096, .f32⟩
  | .hbm, ⟨14, _⟩ => ⟨S2x1x4096, .f32⟩
  | .hbm, ⟨15, _⟩ => ⟨S1x2x4096, .f32⟩
  | .hbm, ⟨16, _⟩ => ⟨S2x4096, .f32⟩
  | .hbm, ⟨17, _⟩ => ⟨S2x1x4096, .f32⟩
  | .hbm, ⟨18, _⟩ => ⟨S1x2x4096, .f32⟩
  | .hbm, ⟨19, _⟩ => ⟨S2x4096, .f32⟩
  | .hbm, ⟨20, _⟩ => ⟨S2x1x4096, .f32⟩
  | .hbm, ⟨21, _⟩ => ⟨S1x4096, .f32⟩
  | .hbm, ⟨22, _⟩ => ⟨S4096, .f32⟩
  | .hbm, ⟨23, _⟩ => ⟨S1x4096, .f32⟩
  | .hbm, ⟨24, _⟩ => ⟨S2x8192x4096, .bf16⟩
  | .local _ .vmem, ⟨0, _⟩ => ⟨S1x256x4096, .f32⟩
  | .local _ .vmem, ⟨1, _⟩ => ⟨S1x256x4096, .f32⟩
  | .local _ .vmem, ⟨2, _⟩ => ⟨S1x4096, .f32⟩
  | .local _ .vmem, ⟨3, _⟩ => ⟨S1x1x4096, .f32⟩
  | .local _ .vmem, ⟨4, _⟩ => ⟨S1x1x4096, .f32⟩
  | .local _ .vmem, ⟨5, _⟩ => ⟨S1x1x4096, .f32⟩
  | .local _ .vmem, ⟨6, _⟩ => ⟨S1x1x4096, .f32⟩
  | .local _ .vmem, ⟨7, _⟩ => ⟨S1x256x4096, .bf16⟩
  | .local _ .vmem, ⟨8, _⟩ => ⟨S1x256x4096, .bf16⟩
  | _, _ => ⟨S2x8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x256x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== PrenormRefIdeal.lean ====
abbrev S2x8192x4096 : Shape := ⟨3, ![2, 8192, 4096]⟩
abbrev S2x2x24576 : Shape := ⟨3, ![2, 2, 24576]⟩
abbrev S2x4096 : Shape := ⟨2, ![2, 4096]⟩
abbrev S1x2x24576 : Shape := ⟨3, ![1, 2, 24576]⟩
abbrev S2x24576 : Shape := ⟨2, ![2, 24576]⟩
abbrev S1x4096 : Shape := ⟨2, ![1, 4096]⟩
abbrev S4096 : Shape := ⟨1, ![4096]⟩
abbrev S_ : Shape := ⟨0, ![]⟩
abbrev S2x8192 : Shape := ⟨2, ![2, 8192]⟩
abbrev S2x8192x1 : Shape := ⟨3, ![2, 8192, 1]⟩
abbrev S1x1x4096 : Shape := ⟨3, ![1, 1, 4096]⟩
abbrev S2x1x4096 : Shape := ⟨3, ![2, 1, 4096]⟩

abbrev nBuf : Space → Nat
  | .hbm => 39
  | .vmem => 0
  | .smem => 0
  | _ => 0

abbrev bufTy : (tb : Table) → Fin (tcTables nBuf tb) → BufTy
  | .hbm, ⟨0, _⟩ => ⟨S2x8192x4096, .f32⟩
  | .hbm, ⟨1, _⟩ => ⟨S2x2x24576, .f32⟩
  | .hbm, ⟨2, _⟩ => ⟨S2x4096, .f32⟩
  | .hbm, ⟨3, _⟩ => ⟨S1x2x24576, .f32⟩
  | .hbm, ⟨4, _⟩ => ⟨S2x24576, .f32⟩
  | .hbm, ⟨5, _⟩ => ⟨S2x4096, .f32⟩
  | .hbm, ⟨6, _⟩ => ⟨S2x4096, .f32⟩
  | .hbm, ⟨7, _⟩ => ⟨S2x4096, .f32⟩
  | .hbm, ⟨8, _⟩ => ⟨S2x4096, .f32⟩
  | .hbm, ⟨9, _⟩ => ⟨S2x4096, .f32⟩
  | .hbm, ⟨10, _⟩ => ⟨S2x4096, .f32⟩
  | .hbm, ⟨11, _⟩ => ⟨S1x4096, .f32⟩
  | .hbm, ⟨12, _⟩ => ⟨S4096, .f32⟩
  | .hbm, ⟨13, _⟩ => ⟨S2x8192x4096, .f32⟩
  | .hbm, ⟨14, _⟩ => ⟨S_, .f32⟩
  | .hbm, ⟨15, _⟩ => ⟨S2x8192, .f32⟩
  | .hbm, ⟨16, _⟩ => ⟨S2x8192x1, .f32⟩
  | .hbm, ⟨17, _⟩ => ⟨S_, .f32⟩
  | .hbm, ⟨18, _⟩ => ⟨S2x8192x1, .f32⟩
  | .hbm, ⟨19, _⟩ => ⟨S2x8192x1, .f32⟩
  | .hbm, ⟨20, _⟩ => ⟨S_, .f32⟩
  | .hbm, ⟨21, _⟩ => ⟨S2x8192x1, .f32⟩
  | .hbm, ⟨22, _⟩ => ⟨S2x8192x1, .f32⟩
  | .hbm, ⟨23, _⟩ => ⟨S2x8192x1, .f32⟩
  | .hbm, ⟨24, _⟩ => ⟨S2x8192x4096, .f32⟩
  | .hbm, ⟨25, _⟩ => ⟨S2x8192x4096, .f32⟩
  | .hbm, ⟨26, _⟩ => ⟨S1x1x4096, .f32⟩
  | .hbm, ⟨27, _⟩ => ⟨S2x8192x4096, .f32⟩
  | .hbm, ⟨28, _⟩ => ⟨S2x8192x4096, .f32⟩
  | .hbm, ⟨29, _⟩ => ⟨S2x1x4096, .f32⟩
  | .hbm, ⟨30, _⟩ => ⟨S_, .f32⟩
  | .hbm, ⟨31, _⟩ => ⟨S2x1x4096, .f32⟩
  | .hbm, ⟨32, _⟩ => ⟨S2x1x4096, .f32⟩
  | .hbm, ⟨33, _⟩ => ⟨S2x8192x4096, .f32⟩
  | .hbm, ⟨34, _⟩ => ⟨S2x8192x4096, .f32⟩
  | .hbm, ⟨35, _⟩ => ⟨S2x1x4096, .f32⟩
  | .hbm, ⟨36, _⟩ => ⟨S2x8192x4096, .f32⟩
  | .hbm, ⟨37, _⟩ => ⟨S2x8192x4096, .f32⟩
  | .hbm, ⟨38, _⟩ => ⟨S2x8192x4096, .bf16⟩
  | _, _ => ⟨S2x8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst : Ref sig .tc := ⟨.hbm, 14, rfl⟩
abbrev main_v11 : Ref sig .tc := ⟨.hbm, 15, rfl⟩
abbrev main_v12 : Ref sig .tc := ⟨.hbm, 16, rfl⟩
abbrev main_cst_0 : Ref sig .tc := ⟨.hbm, 17, rfl⟩
abbrev main_v13 : Ref sig .tc := ⟨.hbm, 18, rfl⟩
abbrev main_v14 : Ref sig .tc := ⟨.hbm, 19, rfl⟩
abbrev main_cst_1 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_cst_2 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩

abbrev nD : Nat := 1
abbrev τ : Topo := Topo.v7x

variable {F : FTy → Type} [FloatOps F]
-- ==== Post.lean ====
abbrev S2x8192x4096 : Shape := ⟨3, ![2, 8192, 4096]⟩
abbrev S16384x4096 : Shape := ⟨2, ![16384, 4096]⟩
abbrev S2x2x24576 : Shape := ⟨3, ![2, 2, 24576]⟩
abbrev S2x4096 : Shape := ⟨2, ![2, 4096]⟩
abbrev S1x2x4096 : Shape := ⟨3, ![1, 2, 4096]⟩
abbrev S2x1x4096 : Shape := ⟨3, ![2, 1, 4096]⟩
abbrev S1x4096 : Shape := ⟨2, ![1, 4096]⟩
abbrev S4096 : Shape := ⟨1, ![4096]⟩
abbrev S1x256x4096 : Shape := ⟨3, ![1, 256, 4096]⟩
abbrev S1x1x4096 : Shape := ⟨3, ![1, 1, 4096]⟩
abbrev S256x4096 : Shape := ⟨2, ![256, 4096]⟩
abbrev S256 : Shape := ⟨1, ![256]⟩
abbrev S256x1 : Shape := ⟨2, ![256, 1]⟩

abbrev nBuf : Space → Nat
  | .hbm => 32
  | .vmem => 16
  | .smem => 0
  | _ => 0

abbrev bufTy : (tb : Table) → Fin (tcTables nBuf tb) → BufTy
  | .hbm, ⟨0, _⟩ => ⟨S2x8192x4096, .f32⟩
  | .hbm, ⟨1, _⟩ => ⟨S16384x4096, .bf16⟩
  | .hbm, ⟨2, _⟩ => ⟨S2x2x24576, .f32⟩
  | .hbm, ⟨3, _⟩ => ⟨S2x4096, .f32⟩
  | .hbm, ⟨4, _⟩ => ⟨S2x4096, .f32⟩
  | .hbm, ⟨5, _⟩ => ⟨S1x2x4096, .f32⟩
  | .hbm, ⟨6, _⟩ => ⟨S2x4096, .f32⟩
  | .hbm, ⟨7, _⟩ => ⟨S2x1x4096, .f32⟩
  | .hbm, ⟨8, _⟩ => ⟨S1x2x4096, .f32⟩
  | .hbm, ⟨9, _⟩ => ⟨S2x4096, .f32⟩
  | .hbm, ⟨10, _⟩ => ⟨S2x1x4096, .f32⟩
  | .hbm, ⟨11, _⟩ => ⟨S1x2x4096, .f32⟩
  | .hbm, ⟨12, _⟩ => ⟨S2x4096, .f32⟩
  | .hbm, ⟨13, _⟩ => ⟨S2x1x4096, .f32⟩
  | .hbm, ⟨14, _⟩ => ⟨S1x2x4096, .f32⟩
  | .hbm, ⟨15, _⟩ => ⟨S2x4096, .f32⟩
  | .hbm, ⟨16, _⟩ => ⟨S2x1x4096, .f32⟩
  | .hbm, ⟨17, _⟩ => ⟨S1x2x4096, .f32⟩
  | .hbm, ⟨18, _⟩ => ⟨S2x4096, .f32⟩
  | .hbm, ⟨19, _⟩ => ⟨S2x1x4096, .f32⟩
  | .hbm, ⟨20, _⟩ => ⟨S1x2x4096, .f32⟩
  | .hbm, ⟨21, _⟩ => ⟨S2x4096, .f32⟩
  | .hbm, ⟨22, _⟩ => ⟨S2x1x4096, .f32⟩
  | .hbm, ⟨23, _⟩ => ⟨S1x4096, .f32⟩
  | .hbm, ⟨24, _⟩ => ⟨S4096, .f32⟩
  | .hbm, ⟨25, _⟩ => ⟨S1x4096, .f32⟩
  | .hbm, ⟨26, _⟩ => ⟨S4096, .f32⟩
  | .hbm, ⟨27, _⟩ => ⟨S2x8192x4096, .bf16⟩
  | .hbm, ⟨28, _⟩ => ⟨S1x4096, .f32⟩
  | .hbm, ⟨29, _⟩ => ⟨S1x4096, .f32⟩
  | .hbm, ⟨30, _⟩ => ⟨S2x8192x4096, .f32⟩
  | .hbm, ⟨31, _⟩ => ⟨S2x8192x4096, .bf16⟩
  | .local _ .vmem, ⟨0, _⟩ => ⟨S1x256x4096, .f32⟩
  | .local _ .vmem, ⟨1, _⟩ => ⟨S1x256x4096, .f32⟩
  | .local _ .vmem, ⟨2, _⟩ => ⟨S1x256x4096, .bf16⟩
  | .local _ .vmem, ⟨3, _⟩ => ⟨S1x256x4096, .bf16⟩
  | .local _ .vmem, ⟨4, _⟩ => ⟨S1x4096, .f32⟩
  | .local _ .vmem, ⟨5, _⟩ => ⟨S1x1x4096, .f32⟩
  | .local _ .vmem, ⟨6, _⟩ => ⟨S1x1x4096, .f32⟩
  | .local _ .vmem, ⟨7, _⟩ => ⟨S1x4096, .f32⟩
  | .local _ .vmem, ⟨8, _⟩ => ⟨S1x1x4096, .f32⟩
  | .local _ .vmem, ⟨9, _⟩ => ⟨S1x1x4096, .f32⟩
  | .local _ .vmem, ⟨10, _⟩ => ⟨S1x1x4096, .f32⟩
  | .local _ .vmem, ⟨11, _⟩ => ⟨S1x1x4096, .f32⟩
  | .local _ .vmem, ⟨12, _⟩ => ⟨S1x256x4096, .f32⟩
  | .local _ .vmem, ⟨13, _⟩ => ⟨S1x256x4096, .f32⟩
  | .local _ .vmem, ⟨14, _⟩ => ⟨S1x256x4096, .bf16⟩
  | .local _ .vmem, ⟨15, _⟩ => ⟨S1x256x4096, .bf16⟩
  | _, _ => ⟨S2x8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25_0 : Ref sig .tc := ⟨.hbm, 30, rfl⟩
abbrev main_v25_1 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x256x4096 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x4096 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== PostRefIdeal.lean ====
abbrev S2x8192x4096 : Shape := ⟨3, ![2, 8192, 4096]⟩
abbrev S16384x4096 : Shape := ⟨2, ![16384, 4096]⟩
abbrev S2x2x24576 : Shape := ⟨3, ![2, 2, 24576]⟩
abbrev S2x4096 : Shape := ⟨2, ![2, 4096]⟩
abbrev S1x2x24576 : Shape := ⟨3, ![1, 2, 24576]⟩
abbrev S2x24576 : Shape := ⟨2, ![2, 24576]⟩
abbrev S2x1x4096 : Shape := ⟨3, ![2, 1, 4096]⟩
abbrev S1x4096 : Shape := ⟨2, ![1, 4096]⟩
abbrev S4096 : Shape := ⟨1, ![4096]⟩
abbrev S_ : Shape := ⟨0, ![]⟩
abbrev S2x8192 : Shape := ⟨2, ![2, 8192]⟩
abbrev S2x8192x1 : Shape := ⟨3, ![2, 8192, 1]⟩
abbrev S1x1x4096 : Shape := ⟨3, ![1, 1, 4096]⟩

abbrev nBuf : Space → Nat
  | .hbm => 65
  | .vmem => 0
  | .smem => 0
  | _ => 0

abbrev bufTy : (tb : Table) → Fin (tcTables nBuf tb) → BufTy
  | .hbm, ⟨0, _⟩ => ⟨S2x8192x4096, .f32⟩
  | .hbm, ⟨1, _⟩ => ⟨S16384x4096, .bf16⟩
  | .hbm, ⟨2, _⟩ => ⟨S2x2x24576, .f32⟩
  | .hbm, ⟨3, _⟩ => ⟨S2x4096, .f32⟩
  | .hbm, ⟨4, _⟩ => ⟨S2x4096, .f32⟩
  | .hbm, ⟨5, _⟩ => ⟨S1x2x24576, .f32⟩
  | .hbm, ⟨6, _⟩ => ⟨S2x24576, .f32⟩
  | .hbm, ⟨7, _⟩ => ⟨S2x4096, .f32⟩
  | .hbm, ⟨8, _⟩ => ⟨S2x4096, .f32⟩
  | .hbm, ⟨9, _⟩ => ⟨S2x4096, .f32⟩
  | .hbm, ⟨10, _⟩ => ⟨S2x4096, .f32⟩
  | .hbm, ⟨11, _⟩ => ⟨S2x4096, .f32⟩
  | .hbm, ⟨12, _⟩ => ⟨S2x4096, .f32⟩
  | .hbm, ⟨13, _⟩ => ⟨S16384x4096, .f32⟩
  | .hbm, ⟨14, _⟩ => ⟨S2x8192x4096, .f32⟩
  | .hbm, ⟨15, _⟩ => ⟨S2x1x4096, .f32⟩
  | .hbm, ⟨16, _⟩ => ⟨S1x4096, .f32⟩
  | .hbm, ⟨17, _⟩ => ⟨S4096, .f32⟩
  | .hbm, ⟨18, _⟩ => ⟨S2x8192x4096, .f32⟩
  | .hbm, ⟨19, _⟩ => ⟨S_, .f32⟩
  | .hbm, ⟨20, _⟩ => ⟨S2x8192, .f32⟩
  | .hbm, ⟨21, _⟩ => ⟨S2x8192x1, .f32⟩
  | .hbm, ⟨22, _⟩ => ⟨S_, .f32⟩
  | .hbm, ⟨23, _⟩ => ⟨S2x8192x1, .f32⟩
  | .hbm, ⟨24, _⟩ => ⟨S2x8192x1, .f32⟩
  | .hbm, ⟨25, _⟩ => ⟨S_, .f32⟩
  | .hbm, ⟨26, _⟩ => ⟨S2x8192x1, .f32⟩
  | .hbm, ⟨27, _⟩ => ⟨S2x8192x1, .f32⟩
  | .hbm, ⟨28, _⟩ => ⟨S2x8192x1, .f32⟩
  | .hbm, ⟨29, _⟩ => ⟨S2x8192x4096, .f32⟩
  | .hbm, ⟨30, _⟩ => ⟨S2x8192x4096, .f32⟩
  | .hbm, ⟨31, _⟩ => ⟨S1x1x4096, .f32⟩
  | .hbm, ⟨32, _⟩ => ⟨S2x8192x4096, .f32⟩
  | .hbm, ⟨33, _⟩ => ⟨S2x8192x4096, .f32⟩
  | .hbm, ⟨34, _⟩ => ⟨S2x8192x4096, .f32⟩
  | .hbm, ⟨35, _⟩ => ⟨S2x8192x4096, .f32⟩
  | .hbm, ⟨36, _⟩ => ⟨S2x8192x4096, .f32⟩
  | .hbm, ⟨37, _⟩ => ⟨S1x4096, .f32⟩
  | .hbm, ⟨38, _⟩ => ⟨S4096, .f32⟩
  | .hbm, ⟨39, _⟩ => ⟨S2x8192x4096, .f32⟩
  | .hbm, ⟨40, _⟩ => ⟨S_, .f32⟩
  | .hbm, ⟨41, _⟩ => ⟨S2x8192, .f32⟩
  | .hbm, ⟨42, _⟩ => ⟨S2x8192x1, .f32⟩
  | .hbm, ⟨43, _⟩ => ⟨S_, .f32⟩
  | .hbm, ⟨44, _⟩ => ⟨S2x8192x1, .f32⟩
  | .hbm, ⟨45, _⟩ => ⟨S2x8192x1, .f32⟩
  | .hbm, ⟨46, _⟩ => ⟨S_, .f32⟩
  | .hbm, ⟨47, _⟩ => ⟨S2x8192x1, .f32⟩
  | .hbm, ⟨48, _⟩ => ⟨S2x8192x1, .f32⟩
  | .hbm, ⟨49, _⟩ => ⟨S2x8192x1, .f32⟩
  | .hbm, ⟨50, _⟩ => ⟨S2x8192x4096, .f32⟩
  | .hbm, ⟨51, _⟩ => ⟨S2x8192x4096, .f32⟩
  | .hbm, ⟨52, _⟩ => ⟨S1x1x4096, .f32⟩
  | .hbm, ⟨53, _⟩ => ⟨S2x8192x4096, .f32⟩
  | .hbm, ⟨54, _⟩ => ⟨S2x8192x4096, .f32⟩
  | .hbm, ⟨55, _⟩ => ⟨S2x1x4096, .f32⟩
  | .hbm, ⟨56, _⟩ => ⟨S_, .f32⟩
  | .hbm, ⟨57, _⟩ => ⟨S2x1x4096, .f32⟩
  | .hbm, ⟨58, _⟩ => ⟨S2x1x4096, .f32⟩
  | .hbm, ⟨59, _⟩ => ⟨S2x8192x4096, .f32⟩
  | .hbm, ⟨60, _⟩ => ⟨S2x8192x4096, .f32⟩
  | .hbm, ⟨61, _⟩ => ⟨S2x1x4096, .f32⟩
  | .hbm, ⟨62, _⟩ => ⟨S2x8192x4096, .f32⟩
  | .hbm, ⟨63, _⟩ => ⟨S2x8192x4096, .f32⟩
  | .hbm, ⟨64, _⟩ => ⟨S2x8192x4096, .bf16⟩
  | _, _ => ⟨S2x8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst : Ref sig .tc := ⟨.hbm, 19, rfl⟩
abbrev main_v14 : Ref sig .tc := ⟨.hbm, 20, rfl⟩
abbrev main_v15 : Ref sig .tc := ⟨.hbm, 21, rfl⟩
abbrev main_cst_0 : Ref sig .tc := ⟨.hbm, 22, rfl⟩
abbrev main_v16 : Ref sig .tc := ⟨.hbm, 23, rfl⟩
abbrev main_v17 : Ref sig .tc := ⟨.hbm, 24, rfl⟩
abbrev main_cst_1 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_cst_2 : Ref sig .tc := ⟨.hbm, 40, rfl⟩
abbrev main_v32 : Ref sig .tc := ⟨.hbm, 41, rfl⟩
abbrev main_v33 : Ref sig .tc := ⟨.hbm, 42, rfl⟩
abbrev main_cst_3 : Ref sig .tc := ⟨.hbm, 43, rfl⟩
abbrev main_v34 : Ref sig .tc := ⟨.hbm, 44, rfl⟩
abbrev main_v35 : Ref sig .tc := ⟨.hbm, 45, rfl⟩
abbrev main_cst_4 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_cst_5 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩

abbrev nD : Nat := 1
abbrev τ : Topo := Topo.v7x

variable {F : FTy → Type} [FloatOps F]
-- ==== Experts.lean ====
abbrev S136 : Shape := ⟨1, ![136]⟩
abbrev S1 : Shape := ⟨1, ![1]⟩
abbrev S34816x1024 : Shape := ⟨2, ![34816, 1024]⟩
abbrev S8x1024x4096 : Shape := ⟨3, ![8, 1024, 4096]⟩
abbrev S34816x4096 : Shape := ⟨2, ![34816, 4096]⟩
abbrev S256x1024 : Shape := ⟨2, ![256, 1024]⟩
abbrev S1x1024x4096 : Shape := ⟨3, ![1, 1024, 4096]⟩
abbrev S256x4096 : Shape := ⟨2, ![256, 4096]⟩
abbrev S1024x4096 : Shape := ⟨2, ![1024, 4096]⟩

abbrev nBuf : Space → Nat
  | .hbm => 3
  | .vmem => 6
  | .smem => 2
  | _ => 0

abbrev bufTy : (tb : Table) → Fin (tcTables nBuf tb) → BufTy
  | .hbm, ⟨0, _⟩ => ⟨S34816x1024, .bf16⟩
  | .hbm, ⟨1, _⟩ => ⟨S8x1024x4096, .bf16⟩
  | .hbm, ⟨2, _⟩ => ⟨S34816x4096, .bf16⟩
  | .local _ .vmem, ⟨0, _⟩ => ⟨S256x1024, .bf16⟩
  | .local _ .vmem, ⟨1, _⟩ => ⟨S256x1024, .bf16⟩
  | .local _ .vmem, ⟨2, _⟩ => ⟨S1x1024x4096, .bf16⟩
  | .local _ .vmem, ⟨3, _⟩ => ⟨S1x1024x4096, .bf16⟩
  | .local _ .vmem, ⟨4, _⟩ => ⟨S256x4096, .bf16⟩
  | .local _ .vmem, ⟨5, _⟩ => ⟨S256x4096, .bf16⟩
  | .local _ .smem, ⟨0, _⟩ => ⟨S136, .i32⟩
  | .local _ .smem, ⟨1, _⟩ => ⟨S1, .i32⟩
  | _, _ => ⟨S34816x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_v0 : Ref sig .tc := ⟨.hbm, 2, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![136], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond2 (i : grid0.Coords) (v4 : BitVec 32) : BitVec 1 :=
  let arg0 : BitVec 32 := BitVec.ofNat 32 (i 0).val
  let v5 : BitVec 1 := Scalar.cmpi .sge arg0 v4
  let v6 : BitVec 32 := Scalar.extui v5
  let c0_i32_1 : BitVec 32 := 0#32
  let v7 : BitVec 1 := Scalar.cmpi .ne v6 c0_i32_1
  v7

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S136.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S136) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ExpertsRefIdeal.lean ====
abbrev S136 : Shape := ⟨1, ![136]⟩
abbrev S1 : Shape := ⟨1, ![1]⟩
abbrev S34816x1024 : Shape := ⟨2, ![34816, 1024]⟩
abbrev S8x1024x4096 : Shape := ⟨3, ![8, 1024, 4096]⟩
abbrev S_ : Shape := ⟨0, ![]⟩
abbrev S136x1 : Shape := ⟨2, ![136, 1]⟩
abbrev S136x256 : Shape := ⟨2, ![136, 256]⟩
abbrev S34816x1 : Shape := ⟨2, ![34816, 1]⟩
abbrev S34816x4096 : Shape := ⟨2, ![34816, 4096]⟩
abbrev S1x1024x4096 : Shape := ⟨3, ![1, 1024, 4096]⟩
abbrev S1024x4096 : Shape := ⟨2, ![1024, 4096]⟩

abbrev nBuf : Space → Nat
  | .hbm => 123
  | .vmem => 0
  | .smem => 0
  | _ => 0

abbrev bufTy : (tb : Table) → Fin (tcTables nBuf tb) → BufTy
  | .hbm, ⟨0, _⟩ => ⟨S136, .i32⟩
  | .hbm, ⟨1, _⟩ => ⟨S1, .i32⟩
  | .hbm, ⟨2, _⟩ => ⟨S34816x1024, .bf16⟩
  | .hbm, ⟨3, _⟩ => ⟨S8x1024x4096, .bf16⟩
  | .hbm, ⟨4, _⟩ => ⟨S136, .i32⟩
  | .hbm, ⟨5, _⟩ => ⟨S_, .i32⟩
  | .hbm, ⟨6, _⟩ => ⟨S136, .i32⟩
  | .hbm, ⟨7, _⟩ => ⟨S136, .i1⟩
  | .hbm, ⟨8, _⟩ => ⟨S_, .i32⟩
  | .hbm, ⟨9, _⟩ => ⟨S_, .i32⟩
  | .hbm, ⟨10, _⟩ => ⟨S136, .i32⟩
  | .hbm, ⟨11, _⟩ => ⟨S136, .i32⟩
  | .hbm, ⟨12, _⟩ => ⟨S136x1, .i32⟩
  | .hbm, ⟨13, _⟩ => ⟨S136x256, .i32⟩
  | .hbm, ⟨14, _⟩ => ⟨S34816x1, .i32⟩
  | .hbm, ⟨15, _⟩ => ⟨S34816x1024, .f32⟩
  | .hbm, ⟨16, _⟩ => ⟨S_, .f32⟩
  | .hbm, ⟨17, _⟩ => ⟨S34816x4096, .f32⟩
  | .hbm, ⟨18, _⟩ => ⟨S_, .i32⟩
  | .hbm, ⟨19, _⟩ => ⟨S34816x1, .i32⟩
  | .hbm, ⟨20, _⟩ => ⟨S34816x1, .i1⟩
  | .hbm, ⟨21, _⟩ => ⟨S1x1024x4096, .bf16⟩
  | .hbm, ⟨22, _⟩ => ⟨S1024x4096, .bf16⟩
  | .hbm, ⟨23, _⟩ => ⟨S1024x4096, .f32⟩
  | .hbm, ⟨24, _⟩ => ⟨S34816x4096, .f32⟩
  | .hbm, ⟨25, _⟩ => ⟨S_, .f32⟩
  | .hbm, ⟨26, _⟩ => ⟨S_, .f32⟩
  | .hbm, ⟨27, _⟩ => ⟨S34816x4096, .i1⟩
  | .hbm, ⟨28, _⟩ => ⟨S34816x4096, .f32⟩
  | .hbm, ⟨29, _⟩ => ⟨S34816x4096, .f32⟩
  | .hbm, ⟨30, _⟩ => ⟨S34816x4096, .f32⟩
  | .hbm, ⟨31, _⟩ => ⟨S_, .i32⟩
  | .hbm, ⟨32, _⟩ => ⟨S34816x1, .i32⟩
  | .hbm, ⟨33, _⟩ => ⟨S34816x1, .i1⟩
  | .hbm, ⟨34, _⟩ => ⟨S1x1024x4096, .bf16⟩
  | .hbm, ⟨35, _⟩ => ⟨S1024x4096, .bf16⟩
  | .hbm, ⟨36, _⟩ => ⟨S1024x4096, .f32⟩
  | .hbm, ⟨37, _⟩ => ⟨S34816x4096, .f32⟩
  | .hbm, ⟨38, _⟩ => ⟨S_, .f32⟩
  | .hbm, ⟨39, _⟩ => ⟨S_, .f32⟩
  | .hbm, ⟨40, _⟩ => ⟨S34816x4096, .i1⟩
  | .hbm, ⟨41, _⟩ => ⟨S34816x4096, .f32⟩
  | .hbm, ⟨42, _⟩ => ⟨S34816x4096, .f32⟩
  | .hbm, ⟨43, _⟩ => ⟨S34816x4096, .f32⟩
  | .hbm, ⟨44, _⟩ => ⟨S_, .i32⟩
  | .hbm, ⟨45, _⟩ => ⟨S34816x1, .i32⟩
  | .hbm, ⟨46, _⟩ => ⟨S34816x1, .i1⟩
  | .hbm, ⟨47, _⟩ => ⟨S1x1024x4096, .bf16⟩
  | .hbm, ⟨48, _⟩ => ⟨S1024x4096, .bf16⟩
  | .hbm, ⟨49, _⟩ => ⟨S1024x4096, .f32⟩
  | .hbm, ⟨50, _⟩ => ⟨S34816x4096, .f32⟩
  | .hbm, ⟨51, _⟩ => ⟨S_, .f32⟩
  | .hbm, ⟨52, _⟩ => ⟨S_, .f32⟩
  | .hbm, ⟨53, _⟩ => ⟨S34816x4096, .i1⟩
  | .hbm, ⟨54, _⟩ => ⟨S34816x4096, .f32⟩
  | .hbm, ⟨55, _⟩ => ⟨S34816x4096, .f32⟩
  | .hbm, ⟨56, _⟩ => ⟨S34816x4096, .f32⟩
  | .hbm, ⟨57, _⟩ => ⟨S_, .i32⟩
  | .hbm, ⟨58, _⟩ => ⟨S34816x1, .i32⟩
  | .hbm, ⟨59, _⟩ => ⟨S34816x1, .i1⟩
  | .hbm, ⟨60, _⟩ => ⟨S1x1024x4096, .bf16⟩
  | .hbm, ⟨61, _⟩ => ⟨S1024x4096, .bf16⟩
  | .hbm, ⟨62, _⟩ => ⟨S1024x4096, .f32⟩
  | .hbm, ⟨63, _⟩ => ⟨S34816x4096, .f32⟩
  | .hbm, ⟨64, _⟩ => ⟨S_, .f32⟩
  | .hbm, ⟨65, _⟩ => ⟨S_, .f32⟩
  | .hbm, ⟨66, _⟩ => ⟨S34816x4096, .i1⟩
  | .hbm, ⟨67, _⟩ => ⟨S34816x4096, .f32⟩
  | .hbm, ⟨68, _⟩ => ⟨S34816x4096, .f32⟩
  | .hbm, ⟨69, _⟩ => ⟨S34816x4096, .f32⟩
  | .hbm, ⟨70, _⟩ => ⟨S_, .i32⟩
  | .hbm, ⟨71, _⟩ => ⟨S34816x1, .i32⟩
  | .hbm, ⟨72, _⟩ => ⟨S34816x1, .i1⟩
  | .hbm, ⟨73, _⟩ => ⟨S1x1024x4096, .bf16⟩
  | .hbm, ⟨74, _⟩ => ⟨S1024x4096, .bf16⟩
  | .hbm, ⟨75, _⟩ => ⟨S1024x4096, .f32⟩
  | .hbm, ⟨76, _⟩ => ⟨S34816x4096, .f32⟩
  | .hbm, ⟨77, _⟩ => ⟨S_, .f32⟩
  | .hbm, ⟨78, _⟩ => ⟨S_, .f32⟩
  | .hbm, ⟨79, _⟩ => ⟨S34816x4096, .i1⟩
  | .hbm, ⟨80, _⟩ => ⟨S34816x4096, .f32⟩
  | .hbm, ⟨81, _⟩ => ⟨S34816x4096, .f32⟩
  | .hbm, ⟨82, _⟩ => ⟨S34816x4096, .f32⟩
  | .hbm, ⟨83, _⟩ => ⟨S_, .i32⟩
  | .hbm, ⟨84, _⟩ => ⟨S34816x1, .i32⟩
  | .hbm, ⟨85, _⟩ => ⟨S34816x1, .i1⟩
  | .hbm, ⟨86, _⟩ => ⟨S1x1024x4096, .bf16⟩
  | .hbm, ⟨87, _⟩ => ⟨S1024x4096, .bf16⟩
  | .hbm, ⟨88, _⟩ => ⟨S1024x4096, .f32⟩
  | .hbm, ⟨89, _⟩ => ⟨S34816x4096, .f32⟩
  | .hbm, ⟨90, _⟩ => ⟨S_, .f32⟩
  | .hbm, ⟨91, _⟩ => ⟨S_, .f32⟩
  | .hbm, ⟨92, _⟩ => ⟨S34816x4096, .i1⟩
  | .hbm, ⟨93, _⟩ => ⟨S34816x4096, .f32⟩
  | .hbm, ⟨94, _⟩ => ⟨S34816x4096, .f32⟩
  | .hbm, ⟨95, _⟩ => ⟨S34816x4096, .f32⟩
  | .hbm, ⟨96, _⟩ => ⟨S_, .i32⟩
  | .hbm, ⟨97, _⟩ => ⟨S34816x1, .i32⟩
  | .hbm, ⟨98, _⟩ => ⟨S34816x1, .i1⟩
  | .hbm, ⟨99, _⟩ => ⟨S1x1024x4096, .bf16⟩
  | .hbm, ⟨100, _⟩ => ⟨S1024x4096, .bf16⟩
  | .hbm, ⟨101, _⟩ => ⟨S1024x4096, .f32⟩
  | .hbm, ⟨102, _⟩ => ⟨S34816x4096, .f32⟩
  | .hbm, ⟨103, _⟩ => ⟨S_, .f32⟩
  | .hbm, ⟨104, _⟩ => ⟨S_, .f32⟩
  | .hbm, ⟨105, _⟩ => ⟨S34816x4096, .i1⟩
  | .hbm, ⟨106, _⟩ => ⟨S34816x4096, .f32⟩
  | .hbm, ⟨107, _⟩ => ⟨S34816x4096, .f32⟩
  | .hbm, ⟨108, _⟩ => ⟨S34816x4096, .f32⟩
  | .hbm, ⟨109, _⟩ => ⟨S_, .i32⟩
  | .hbm, ⟨110, _⟩ => ⟨S34816x1, .i32⟩
  | .hbm, ⟨111, _⟩ => ⟨S34816x1, .i1⟩
  | .hbm, ⟨112, _⟩ => ⟨S1x1024x4096, .bf16⟩
  | .hbm, ⟨113, _⟩ => ⟨S1024x4096, .bf16⟩
  | .hbm, ⟨114, _⟩ => ⟨S1024x4096, .f32⟩
  | .hbm, ⟨115, _⟩ => ⟨S34816x4096, .f32⟩
  | .hbm, ⟨116, _⟩ => ⟨S_, .f32⟩
  | .hbm, ⟨117, _⟩ => ⟨S_, .f32⟩
  | .hbm, ⟨118, _⟩ => ⟨S34816x4096, .i1⟩
  | .hbm, ⟨119, _⟩ => ⟨S34816x4096, .f32⟩
  | .hbm, ⟨120, _⟩ => ⟨S34816x4096, .f32⟩
  | .hbm, ⟨121, _⟩ => ⟨S34816x4096, .f32⟩
  | .hbm, ⟨122, _⟩ => ⟨S34816x4096, .bf16⟩
  | _, _ => ⟨S136, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_c_0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_1 : Ref sig .tc := ⟨.hbm, 25, rfl⟩
abbrev main_call1_v0 : Ref sig .tc := ⟨.hbm, 26, rfl⟩
abbrev main_call1_v1 : Ref sig .tc := ⟨.hbm, 27, rfl⟩
abbrev main_call1_v2 : Ref sig .tc := ⟨.hbm, 28, rfl⟩
abbrev main_v16 : Ref sig .tc := ⟨.hbm, 29, rfl⟩
abbrev main_v17 : Ref sig .tc := ⟨.hbm, 30, rfl⟩
abbrev main_c_2 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_3 : Ref sig .tc := ⟨.hbm, 38, rfl⟩
abbrev main_call2_v0 : Ref sig .tc := ⟨.hbm, 39, rfl⟩
abbrev main_call2_v1 : Ref sig .tc := ⟨.hbm, 40, rfl⟩
abbrev main_call2_v2 : Ref sig .tc := ⟨.hbm, 41, rfl⟩
abbrev main_v24 : Ref sig .tc := ⟨.hbm, 42, rfl⟩
abbrev main_v25 : Ref sig .tc := ⟨.hbm, 43, rfl⟩
abbrev main_c_4 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_5 : Ref sig .tc := ⟨.hbm, 51, rfl⟩
abbrev main_call3_v0 : Ref sig .tc := ⟨.hbm, 52, rfl⟩
abbrev main_call3_v1 : Ref sig .tc := ⟨.hbm, 53, rfl⟩
abbrev main_call3_v2 : Ref sig .tc := ⟨.hbm, 54, rfl⟩
abbrev main_v32 : Ref sig .tc := ⟨.hbm, 55, rfl⟩
abbrev main_v33 : Ref sig .tc := ⟨.hbm, 56, rfl⟩
abbrev main_c_6 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_cst_7 : Ref sig .tc := ⟨.hbm, 64, rfl⟩
abbrev main_call4_v0 : Ref sig .tc := ⟨.hbm, 65, rfl⟩
abbrev main_call4_v1 : Ref sig .tc := ⟨.hbm, 66, rfl⟩
abbrev main_call4_v2 : Ref sig .tc := ⟨.hbm, 67, rfl⟩
abbrev main_v40 : Ref sig .tc := ⟨.hbm, 68, rfl⟩
abbrev main_v41 : Ref sig .tc := ⟨.hbm, 69, rfl⟩
abbrev main_c_8 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_cst_9 : Ref sig .tc := ⟨.hbm, 77, rfl⟩
abbrev main_call5_v0 : Ref sig .tc := ⟨.hbm, 78, rfl⟩
abbrev main_call5_v1 : Ref sig .tc := ⟨.hbm, 79, rfl⟩
abbrev main_call5_v2 : Ref sig .tc := ⟨.hbm, 80, rfl⟩
abbrev main_v48 : Ref sig .tc := ⟨.hbm, 81, rfl⟩
abbrev main_v49 : Ref sig .tc := ⟨.hbm, 82, rfl⟩
abbrev main_c_10 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_cst_11 : Ref sig .tc := ⟨.hbm, 90, rfl⟩
abbrev main_call6_v0 : Ref sig .tc := ⟨.hbm, 91, rfl⟩
abbrev main_call6_v1 : Ref sig .tc := ⟨.hbm, 92, rfl⟩
abbrev main_call6_v2 : Ref sig .tc := ⟨.hbm, 93, rfl⟩
abbrev main_v56 : Ref sig .tc := ⟨.hbm, 94, rfl⟩
abbrev main_v57 : Ref sig .tc := ⟨.hbm, 95, rfl⟩
abbrev main_c_12 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_cst_13 : Ref sig .tc := ⟨.hbm, 103, rfl⟩
abbrev main_call7_v0 : Ref sig .tc := ⟨.hbm, 104, rfl⟩
abbrev main_call7_v1 : Ref sig .tc := ⟨.hbm, 105, rfl⟩
abbrev main_call7_v2 : Ref sig .tc := ⟨.hbm, 106, rfl⟩
abbrev main_v64 : Ref sig .tc := ⟨.hbm, 107, rfl⟩
abbrev main_v65 : Ref sig .tc := ⟨.hbm, 108, rfl⟩
abbrev main_c_14 : Ref sig .tc := ⟨.hbm, 109, rfl⟩
abbrev main_v66 : Ref sig .tc := ⟨.hbm, 110, rfl⟩
abbrev main_v67 : Ref sig .tc := ⟨.hbm, 111, rfl⟩
abbrev main_v68 : Ref sig .tc := ⟨.hbm, 112, rfl⟩
abbrev main_v69 : Ref sig .tc := ⟨.hbm, 113, rfl⟩
abbrev main_v70 : Ref sig .tc := ⟨.hbm, 114, rfl⟩
abbrev main_v71 : Ref sig .tc := ⟨.hbm, 115, rfl⟩
abbrev main_cst_15 : Ref sig .tc := ⟨.hbm, 116, rfl⟩
abbrev main_call8_v0 : Ref sig .tc := ⟨.hbm, 117, rfl⟩
abbrev main_call8_v1 : Ref sig .tc := ⟨.hbm, 118, rfl⟩
abbrev main_call8_v2 : Ref sig .tc := ⟨.hbm, 119, rfl⟩
abbrev main_v72 : Ref sig .tc := ⟨.hbm, 120, rfl⟩
abbrev main_v73 : Ref sig .tc := ⟨.hbm, 121, rfl⟩
abbrev main_v74 : Ref sig .tc := ⟨.hbm, 122, rfl⟩

abbrev nD : Nat := 1
abbrev τ : Topo := Topo.v7x

variable {F : FTy → Type} [FloatOps F]
-- ==== Proof.Words.lean ====
module

public import Idealize.ShloMosaic.Lib.Pointwise

@[expose] public section

/-! The index words of the two programs: distances between a query and a place of its band, and
    whether a place of a band is in the sequence. -/

noncomputable section

namespace Cert.BandWords
open Idealize.ShloMosaic

/-- The distance of place `k` of a band from query `q` of its block. -/
def dist (q k : ℕ) : ℕ := if k ≤ q + 128 then q + 128 - k else k - (q + 128)

theorem absi_small : ∀ n : Fin 512, IntOp.absi (BitVec.ofNat 32 ↑n) = BitVec.ofNat 32 ↑n
    ∧ IntOp.absi (0#32 - BitVec.ofNat 32 ↑n) = BitVec.ofNat 32 ↑n := by
  decide +kernel

theorem sle_small : ∀ n : Fin 512, IntOp.cmpi CmpIPredicate.sle (BitVec.ofNat 32 ↑n) 128#32 = if n.val ≤ 128 then 1#1 else 0#1 := by
  decide +kernel

theorem dist_lt (q : Fin 128) (k : Fin 384) : dist q k < 512 := by
  unfold dist; split <;> omega

theorem dist_word (q : Fin 128) (k : Fin 384) :
    IntOp.absi (IntOp.subi (IntOp.addi (BitVec.ofNat 32 ↑q) 128#32) (BitVec.ofNat 32 ↑k)) = BitVec.ofNat 32 (dist q k) := by
  have hq := q.isLt
  have hk := k.isLt
  unfold dist
  split
  · rename_i h
    rw [show IntOp.subi (IntOp.addi (BitVec.ofNat 32 ↑q) 128#32) (BitVec.ofNat 32 ↑k) = BitVec.ofNat 32 (q.val + 128 - k.val) from
      BitVec.eq_of_toNat_eq (by simp [IntOp.subi, IntOp.addi]; omega)]
    exact (absi_small ⟨q.val + 128 - k.val, by omega⟩).1
  · rename_i h
    rw [show IntOp.subi (IntOp.addi (BitVec.ofNat 32 ↑q) 128#32) (BitVec.ofNat 32 ↑k) = 0#32 - BitVec.ofNat 32 (k.val - (q.val + 128)) from
      BitVec.eq_of_toNat_eq (by simp [IntOp.subi, IntOp.addi]; omega)]
    exact (absi_small ⟨k.val - (q.val + 128), by omega⟩).2

theorem inBand_word (q : Fin 128) (k : Fin 384) :
    IntOp.cmpi CmpIPredicate.sle (BitVec.ofNat 32 (dist q k)) 128#32 = if dist q k ≤ 128 then 1#1 else 0#1 :=
  sle_small ⟨dist q k, dist_lt q k⟩

theorem valid_small : ∀ w : Fin 8576, IntOp.andi (IntOp.cmpi CmpIPredicate.sge (BitVec.ofNat 32 ↑w - 128#32) 0#32)
    (IntOp.cmpi CmpIPredicate.slt (BitVec.ofNat 32 ↑w - 128#32) 8192#32) = if 128 ≤ w.val ∧ w.val < 8320 then 1#1 else 0#1 := by
  decide +kernel

theorem valid_word (n : Fin 64) (k : Fin 384) :
    IntOp.andi
      (IntOp.cmpi CmpIPredicate.sge
        (IntOp.addi (IntOp.subi (IntOp.muli (BitVec.ofNat 32 ↑n) 128#32) 128#32) (BitVec.ofNat 32 ↑k)) 0#32)
      (IntOp.cmpi CmpIPredicate.slt
        (IntOp.addi (IntOp.subi (IntOp.muli (BitVec.ofNat 32 ↑n) 128#32) 128#32) (BitVec.ofNat 32 ↑k)) 8192#32) =
    if 128 ≤ 128 * n.val + k.val ∧ 128 * n.val + k.val < 8320 then 1#1 else 0#1 := by
  have hn := n.isLt
  have hk := k.isLt
  rw [show IntOp.addi (IntOp.subi (IntOp.muli (BitVec.ofNat 32 ↑n) 128#32) 128#32) (BitVec.ofNat 32 ↑k)
      = BitVec.ofNat 32 (128 * n.val + k.val) - 128#32 from
    BitVec.eq_of_toNat_eq (by simp [IntOp.subi, IntOp.addi, IntOp.muli]; omega)]
  exact valid_small ⟨128 * n.val + k.val, by omega⟩

theorem sitofp_ofNat (n : ℕ) (h : n < 2147483648) : (FloatOps.sitofp FTy.f32 (BitVec.ofNat 32 n) : Ideal .f32) = ((n : ℝ) : EReal) := by
  have e : (BitVec.ofNat 32 n).toInt = (n : ℤ) := by
    rw [BitVec.toInt_eq_toNat_of_lt (by simp; omega), BitVec.toNat_ofNat, Nat.mod_eq_of_lt (by omega)]
  show (((BitVec.ofNat 32 n).toInt : ℝ) : EReal) = _
  rw [e]
  norm_num

theorem ofBits_ln2 : Ideal.ofBits FTy.f32 0x3F317218#32 = ((11629080 / 16777216 : ℝ) : EReal) := by
  simp [Ideal.ofBits, Ideal.ieee, -EReal.coe_mul]
  norm_num

theorem ofBits_neg8 : Ideal.ofBits FTy.f32 0xC1000000#32 = ((-8 : ℝ) : EReal) := by
  simp [Ideal.ofBits, Ideal.ieee, -EReal.coe_mul]
  norm_num

theorem ofBits_32 : Ideal.ofBits FTy.f32 0x42000000#32 = ((32 : ℝ) : EReal) := by
  simp [Ideal.ofBits, Ideal.ieee, -EReal.coe_mul]
  norm_num

theorem ofBits_128 : Ideal.ofBits FTy.f32 0x43000000#32 = ((128 : ℝ) : EReal) := by
  simp [Ideal.ofBits, Ideal.ieee, -EReal.coe_mul]
  norm_num

theorem ofBits_scale : Ideal.ofBits FTy.f32 0x3DB504F3#32 = ((11863283 / 134217728 : ℝ) : EReal) := by
  simp [Ideal.ofBits, Ideal.ieee, -EReal.coe_mul]
  norm_num

/-- The quotient of a real number by a real number other than zero. -/
theorem div_real (x y : ℝ) (hy : y ≠ 0) : Ideal.div (x : EReal) (y : EReal) = ((x / y : ℝ) : EReal) := by
  rw [Ideal.div, if_neg (by exact_mod_cast hy), ← EReal.coe_inv, ← EReal.coe_mul, div_eq_mul_inv]

/-- The slope of a head, as both programs compute it on the host. -/
def slope (h : ℕ) : EReal :=
  -Ideal.exp (Ideal.ofBits FTy.f32 0x3F317218#32 *
    Ideal.div (Ideal.ofBits FTy.f32 0xC1000000#32 * (1 + FloatOps.sitofp (F := Ideal) FTy.f32 (BitVec.ofNat 32 h)))
      (Ideal.ofBits FTy.f32 0x42000000#32))

/-- It is a real number. -/
theorem slope_real (h : ℕ) (hh : h < 32) : ∃ r : ℝ, slope h = (r : EReal) := by
  refine ⟨-Real.exp (11629080 / 16777216 * (-8 * (1 + h) / 32)), ?_⟩
  unfold slope
  rw [ofBits_ln2, ofBits_neg8, ofBits_32, sitofp_ofNat h (by omega), ← EReal.coe_one, ← EReal.coe_add, ← EReal.coe_mul, div_real _ _ (by norm_num),
    ← EReal.coe_mul, Ideal.exp_coe, ← EReal.coe_neg]

end Cert.BandWords

end

end
-- ==== Proof.HostValue.lean ====
module

public import proofs.«01_k».proof.Proof.Words
public import proofs.«01_k».proof.Proof.Gen.KernelIdeal.Value
public import Idealize.ShloMosaic.Lib.StableHlo.ReadAt
public import Idealize.ShloMosaic.Lib.Pointwise
public import Idealize.ShloMosaic.Lib.IdealHost

@[expose] public section

/-! What the kernel's host code prepares: the table of penalties and the sink rows. -/

set_option maxRecDepth 16384

noncomputable section

namespace Cert.KernelIdeal.HostValue
open Cert Cert.KernelIdeal Cert.KernelIdeal.Gen Idealize.ShloMosaic Idealize.ShloMosaic.TcCoe

variable (m : (ℓ : Loc nD τ sig) → Buf (Elt Ideal) ℓ)

set_option maxHeartbeats 2000000 in
/-- The table of penalties: row `128 h + q`, window position `k`. -/
theorem bias_apply (c : Dev nD) (h : Fin 32) (q : Fin 128) (k : Fin 384) :
    (V m c main_v33 : Vec Ideal S4096x384 .f32) (ix2 ⟨128 * h.val + q.val, by omega⟩ k)
      = (if BandWords.dist q.val k.val ≤ 128 then
          Ideal.div (BandWords.slope h.val * ((BandWords.dist q.val k.val : ℝ) : EReal)) ((11863283 / 134217728 : ℝ) : EReal)
        else ⊥ : EReal) := by
  unfold V
  after_reads_at
  have hd := BandWords.dist_word q k
  have hl : (BandWords.dist q.val k.val) < 2147483648 := lt_trans (BandWords.dist_lt q k) (by norm_num)
  rw [hd, BandWords.sitofp_ofNat _ hl, BandWords.ofBits_128, BandWords.ofBits_scale]
  have hb : (id (constant (F := Ideal) S_ FTy.f32 0xFF800000#32) ix0 : EReal) = ⊥ := by
    show Ideal.ofBits FTy.f32 0xFF800000#32 = _
    simp [Ideal.ofBits, Ideal.ieee]
  have hle : (((BandWords.dist q.val k.val : ℝ) : EReal) ≤ ((128 : ℝ) : EReal)) ↔ BandWords.dist q.val k.val ≤ 128 := by
    rw [EReal.coe_le_coe_iff]; exact_mod_cast Iff.rfl
  unfold BandWords.slope
  by_cases hc : BandWords.dist q.val k.val ≤ 128
  · rw [if_pos (hle.mpr hc), if_pos hc]
  · rw [if_neg (fun h => hc (hle.mp h)), if_neg hc, hb]

set_option maxHeartbeats 2000000 in
/-- The sink rows: every row of head `h` holds that head's sink over the scale. -/
theorem sink_apply (c : Dev nD) (h : Fin 32) (q : Fin 128) (k : Fin 128) :
    (V m c main_v38 : Vec Ideal S4096x128 .f32) (ix2 ⟨128 * h.val + q.val, by omega⟩ k)
      = (Ideal.div ((m (c, Proc.tc.devRef main_arg1) : Vec Ideal S32 .f32) (ix1 h)) ((11863283 / 134217728 : ℝ) : EReal) : EReal) := by
  unfold V
  after_reads_at
  rw [BandWords.ofBits_scale]

end Cert.KernelIdeal.HostValue

end

end
-- ==== Proof.Tile.lean ====
module

public import proofs.«01_k».proof.Proof.Gen.KernelIdeal.Value
public import Idealize.ShloMosaic.Lib.Pointwise

@[expose] public section

/-! The kernel body's stores in a common form. One block of the grid holds eight query
    sub-blocks of 128 rows; each is one softmax over 384 keys, stored head by head. The
    generated run names its pieces by how the body's text was cut, which differs from one
    sub-block to the next: here the 32 pieces are restated over ONE definition. -/

set_option maxRecDepth 16384

noncomputable section

namespace Cert.KernelIdeal.Tile
open Cert.KernelIdeal Cert.KernelIdeal.Gen Idealize.ShloMosaic Idealize.ShloMosaic.TcCoe

variable {F : FTy → Type} [FloatOps F] [Named F]

/-- Four heads' queries, one under another. -/
def stack (q0 q1 q2 q3 : Vec F S1x128x128 .bf16) : FVec F S512x128 .bf16 :=
  concatenate S512x128 0 [⟨S128x128, shapeCast S128x128 q0 shapeCasts_S1x128x128_S128x128⟩, ⟨S128x128, shapeCast S128x128 q1 shapeCasts_S1x128x128_S128x128⟩, ⟨S128x128, shapeCast S128x128 q2 shapeCasts_S1x128x128_S128x128⟩, ⟨S128x128, shapeCast S128x128 q3 shapeCasts_S1x128x128_S128x128⟩] concatenates_S128x128_S128x128_S128x128_S128x128_S512x128_d0

/-- The scores of a sub-block inside the sequence: queries times keys, plus the bias table. -/
def scoresM (b : Vec F S512x384 .f32) (kw : Vec F S384x128 .bf16) (q : FVec F S512x128 .bf16) : FVec F S512x384 .f32 :=
  addf (matmul dot_S512x128_S384x128_S512x384_1_1_0_0_n_n none q kw (constant S512x384 .f32 0x00000000#32))
    (shapeCast S512x384 b shapeCasts_S512x384_S512x384)

/-- The penalty of a sub-block at an end of the block, whose first key has the place
    `1024 i + off` in the sequence: the mask where there is no such place. -/
def pen (i off : BitVec 32) : FVec F S1x384 .f32 :=
  select (andi
      (cmpi .sge (addi (iota .tc S1x384 32 [1] iota_S1x384_d1_w32) (broadcast S1x384 (Scalar.addi (Scalar.muli i 1024#32) off))) (broadcast S1x384 0#32))
      (cmpi .slt (addi (iota .tc S1x384 32 [1] iota_S1x384_d1_w32) (broadcast S1x384 (Scalar.addi (Scalar.muli i 1024#32) off))) (broadcast S1x384 8192#32)))
    (broadcast S1x384 (Scalar.ofBits .f32 0x00000000#32)) (broadcast S1x384 (Named.named κ "mask" 0xF149F2CA#32))

/-- The scores of a sub-block at an end of the block. -/
def scoresE (b : Vec F S512x384 .f32) (kw : Vec F S384x128 .bf16) (q : FVec F S512x128 .bf16) (p : FVec F S1x384 .f32) : FVec F S512x384 .f32 :=
  addf (scoresM b kw q) (broadcastTo S512x384 p broadcasts_S1x384_S512x384)

/-- The row maximum of the scores and the sink. -/
def rowMax (sc : FVec F S512x384 .f32) (sk : Vec F S512x128 .f32) : FVec F S512x1 .f32 :=
  maximumf (shapeCast S512x1 (multiReduction .maximumf [1] S512 sc 0xFF800000#32 reduces_S512x384_S512 (.inl rfl) rfl) shapeCasts_S512_S512x1)
    (extractStridedSlice S512x1 ![0, 0] (shapeCast S512x128 sk shapeCasts_S512x128_S512x128) slices_S512x128_o0_0_S512x1)

/-- Weights times values and ones. -/
def weigh (sc : FVec F S512x384 .f32) (sk : Vec F S512x128 .f32) (vw : Vec F S384x256 .bf16) : FVec F S512x256 .f32 :=
  matmul dot_S512x384_S384x256_S512x256_1_0_0_1_n_n none
    (truncf .bf16 (exp2 (mulf (subf sc (broadcastTo S512x384 (rowMax sc sk) broadcasts_S512x1_S512x384)) (broadcast S512x384 (Named.named κ "scale_log2e" 0x3E0293EE#32)))) bitsLt_bf16_f32)
    vw (constant S512x256 .f32 0x00000000#32)

/-- A sub-block's attention: the weighted values over the weights' sum and the sink's weight. -/
def attend (sc : FVec F S512x384 .f32) (sk : Vec F S512x128 .f32) (vw : Vec F S384x256 .bf16) : FVec F S512x128 .bf16 :=
  truncf .bf16 (divf (extractStridedSlice S512x128 ![0, 0] (weigh sc sk vw) slices_S512x256_o0_0_S512x128)
    (addf (extractStridedSlice S512x128 ![0, 128] (weigh sc sk vw) slices_S512x256_o0_128_S512x128)
      (exp2 (mulf (subf (shapeCast S512x128 sk shapeCasts_S512x128_S512x128) (broadcastTo S512x128 (rowMax sc sk) broadcasts_S512x1_S512x128)) (broadcast S512x128 (Named.named κ "scale_log2e" 0x3E0293EE#32)))))) bitsLt_bf16_f32

/-- One head's rows of a sub-block, as stored. -/
def headOut (o : ℕ) (h : S512x128.Slices ![o, 0] S128x128) (a : FVec F S512x128 .bf16) : Vec F S1x128x128 .bf16 :=
  shapeCast S1x128x128 (extractStridedSlice S128x128 ![o, 0] a h) shapeCasts_S128x128_S1x128x128

/-- Sub-block 0 of a block, over the buffers' contents. -/
def sub0 (c : Dev nD) (i : grid0.Coords) (arg3 : Memref sig .tc .vmem S1x1024x512 .bf16) (harg3 : arg3.IsWhole) (arg4 : Memref sig .tc .vmem S1x128x128 .bf16) (harg4 : arg4.IsWhole) (arg5 : Memref sig .tc .vmem S1x1024x128 .bf16) (harg5 : arg5.IsWhole) (arg6 : Memref sig .tc .vmem S1x128x128 .bf16) (harg6 : arg6.IsWhole) (arg7 : Memref sig .tc .vmem S1x128x128 .bf16) (harg7 : arg7.IsWhole) (arg8 : Memref sig .tc .vmem S1x1024x128 .bf16) (harg8 : arg8.IsWhole) (arg9 : Memref sig .tc .vmem S1x128x128 .bf16) (harg9 : arg9.IsWhole) (arg10 : Memref sig .tc .vmem S512x384 .f32) (harg10 : arg10.IsWhole) (arg11 : Memref sig .tc .vmem S512x128 .f32) (harg11 : arg11.IsWhole) (arg12 : Memref sig .tc .vmem S1x1024x512 .bf16) (harg12 : arg12.IsWhole) (arg13 : Memref sig .tc .vmem S1280x128 .bf16) (harg13 : arg13.IsWhole) (arg14 : Memref sig .tc .vmem S1280x256 .bf16) (harg14 : arg14.IsWhole)
    (x0 : Vec F S1x1024x512 .bf16) (x1 : Vec F S1x128x128 .bf16) (x2 : Vec F S1x1024x128 .bf16) (x3 : Vec F S1x128x128 .bf16) (x4 : Vec F S1x128x128 .bf16) (x5 : Vec F S1x1024x128 .bf16) (x6 : Vec F S1x128x128 .bf16) (x7 : Vec F S512x384 .f32) (x8 : Vec F S512x128 .f32) : FVec F S512x128 .bf16 :=
  attend (scoresE (View.readAt (Elt F) arg10.view (Rect.unit (s := S512x384) ![0, 0] S512x384.size inb_S512x384_S512x384_0_0).toLoadRect (harg10.unread x7)) (arg13.view.readCov (kernelRun0_A.sl.HS0_3 c arg4 harg4 arg5 harg5 arg6 harg6 x1 x2 x3) (Rect.unit (s := S1280x128) ![0, 0] S384x128.size inb_S1280x128_S384x128_0_0).toLoadRect) (stack (View.readAt (Elt F) arg3.view (Rect.unit (s := S1x1024x512) ![0, 0, 0] S1x128x128.size inb_S1x1024x512_S1x128x128_0_0_0).toLoadRect (harg3.unread x0)) (View.readAt (Elt F) arg3.view (Rect.unit (s := S1x1024x512) ![0, 0, 128] S1x128x128.size inb_S1x1024x512_S1x128x128_0_0_128).toLoadRect (harg3.unread x0)) (View.readAt (Elt F) arg3.view (Rect.unit (s := S1x1024x512) ![0, 0, 256] S1x128x128.size inb_S1x1024x512_S1x128x128_0_0_256).toLoadRect (harg3.unread x0)) (View.readAt (Elt F) arg3.view (Rect.unit (s := S1x1024x512) ![0, 0, 384] S1x128x128.size inb_S1x1024x512_S1x128x128_0_0_384).toLoadRect (harg3.unread x0))) (pen (BitVec.ofNat 32 ↑(i 2)) 4294967168#32)) (View.readAt (Elt F) arg11.view (Rect.unit (s := S512x128) ![0, 0] S512x128.size inb_S512x128_S512x128_0_0).toLoadRect (harg11.unread x8)) (arg14.view.readCov (kernelRun0_A.sl.HS1_4 c arg7 harg7 arg8 harg8 arg9 harg9 x4 x5 x6) (Rect.unit (s := S1280x256) ![0, 0] S384x256.size inb_S1280x256_S384x256_0_0).toLoadRect)

/-- Sub-block 1 of a block, over the buffers' contents. -/
def sub1 (c : Dev nD) (i : grid0.Coords) (arg3 : Memref sig .tc .vmem S1x1024x512 .bf16) (harg3 : arg3.IsWhole) (arg4 : Memref sig .tc .vmem S1x128x128 .bf16) (harg4 : arg4.IsWhole) (arg5 : Memref sig .tc .vmem S1x1024x128 .bf16) (harg5 : arg5.IsWhole) (arg6 : Memref sig .tc .vmem S1x128x128 .bf16) (harg6 : arg6.IsWhole) (arg7 : Memref sig .tc .vmem S1x128x128 .bf16) (harg7 : arg7.IsWhole) (arg8 : Memref sig .tc .vmem S1x1024x128 .bf16) (harg8 : arg8.IsWhole) (arg9 : Memref sig .tc .vmem S1x128x128 .bf16) (harg9 : arg9.IsWhole) (arg10 : Memref sig .tc .vmem S512x384 .f32) (harg10 : arg10.IsWhole) (arg11 : Memref sig .tc .vmem S512x128 .f32) (harg11 : arg11.IsWhole) (arg12 : Memref sig .tc .vmem S1x1024x512 .bf16) (harg12 : arg12.IsWhole) (arg13 : Memref sig .tc .vmem S1280x128 .bf16) (harg13 : arg13.IsWhole) (arg14 : Memref sig .tc .vmem S1280x256 .bf16) (harg14 : arg14.IsWhole)
    (x0 : Vec F S1x1024x512 .bf16) (x1 : Vec F S1x128x128 .bf16) (x2 : Vec F S1x1024x128 .bf16) (x3 : Vec F S1x128x128 .bf16) (x4 : Vec F S1x128x128 .bf16) (x5 : Vec F S1x1024x128 .bf16) (x6 : Vec F S1x128x128 .bf16) (x7 : Vec F S512x384 .f32) (x8 : Vec F S512x128 .f32) : FVec F S512x128 .bf16 :=
  attend (scoresM (View.readAt (Elt F) arg10.view (Rect.unit (s := S512x384) ![0, 0] S512x384.size inb_S512x384_S512x384_0_0).toLoadRect (harg10.unread x7)) (arg13.view.readCov (kernelRun0_A.sl.HS0_3 c arg4 harg4 arg5 harg5 arg6 harg6 x1 x2 x3) (Rect.unit (s := S1280x128) ![128, 0] S384x128.size inb_S1280x128_S384x128_128_0).toLoadRect) (stack (View.readAt (Elt F) arg3.view (Rect.unit (s := S1x1024x512) ![0, 128, 0] S1x128x128.size inb_S1x1024x512_S1x128x128_0_128_0).toLoadRect (harg3.unread x0)) (View.readAt (Elt F) arg3.view (Rect.unit (s := S1x1024x512) ![0, 128, 128] S1x128x128.size inb_S1x1024x512_S1x128x128_0_128_128).toLoadRect (harg3.unread x0)) (View.readAt (Elt F) arg3.view (Rect.unit (s := S1x1024x512) ![0, 128, 256] S1x128x128.size inb_S1x1024x512_S1x128x128_0_128_256).toLoadRect (harg3.unread x0)) (View.readAt (Elt F) arg3.view (Rect.unit (s := S1x1024x512) ![0, 128, 384] S1x128x128.size inb_S1x1024x512_S1x128x128_0_128_384).toLoadRect (harg3.unread x0)))) (View.readAt (Elt F) arg11.view (Rect.unit (s := S512x128) ![0, 0] S512x128.size inb_S512x128_S512x128_0_0).toLoadRect (harg11.unread x8)) (arg14.view.readCov (kernelRun0_A.sl.HS1_4 c arg7 harg7 arg8 harg8 arg9 harg9 x4 x5 x6) (Rect.unit (s := S1280x256) ![128, 0] S384x256.size inb_S1280x256_S384x256_128_0).toLoadRect)

/-- Sub-block 2 of a block, over the buffers' contents. -/
def sub2 (c : Dev nD) (i : grid0.Coords) (arg3 : Memref sig .tc .vmem S1x1024x512 .bf16) (harg3 : arg3.IsWhole) (arg4 : Memref sig .tc .vmem S1x128x128 .bf16) (harg4 : arg4.IsWhole) (arg5 : Memref sig .tc .vmem S1x1024x128 .bf16) (harg5 : arg5.IsWhole) (arg6 : Memref sig .tc .vmem S1x128x128 .bf16) (harg6 : arg6.IsWhole) (arg7 : Memref sig .tc .vmem S1x128x128 .bf16) (harg7 : arg7.IsWhole) (arg8 : Memref sig .tc .vmem S1x1024x128 .bf16) (harg8 : arg8.IsWhole) (arg9 : Memref sig .tc .vmem S1x128x128 .bf16) (harg9 : arg9.IsWhole) (arg10 : Memref sig .tc .vmem S512x384 .f32) (harg10 : arg10.IsWhole) (arg11 : Memref sig .tc .vmem S512x128 .f32) (harg11 : arg11.IsWhole) (arg12 : Memref sig .tc .vmem S1x1024x512 .bf16) (harg12 : arg12.IsWhole) (arg13 : Memref sig .tc .vmem S1280x128 .bf16) (harg13 : arg13.IsWhole) (arg14 : Memref sig .tc .vmem S1280x256 .bf16) (harg14 : arg14.IsWhole)
    (x0 : Vec F S1x1024x512 .bf16) (x1 : Vec F S1x128x128 .bf16) (x2 : Vec F S1x1024x128 .bf16) (x3 : Vec F S1x128x128 .bf16) (x4 : Vec F S1x128x128 .bf16) (x5 : Vec F S1x1024x128 .bf16) (x6 : Vec F S1x128x128 .bf16) (x7 : Vec F S512x384 .f32) (x8 : Vec F S512x128 .f32) : FVec F S512x128 .bf16 :=
  attend (scoresM (View.readAt (Elt F) arg10.view (Rect.unit (s := S512x384) ![0, 0] S512x384.size inb_S512x384_S512x384_0_0).toLoadRect (harg10.unread x7)) (arg13.view.readCov (kernelRun0_A.sl.HS0_3 c arg4 harg4 arg5 harg5 arg6 harg6 x1 x2 x3) (Rect.unit (s := S1280x128) ![256, 0] S384x128.size inb_S1280x128_S384x128_256_0).toLoadRect) (stack (View.readAt (Elt F) arg3.view (Rect.unit (s := S1x1024x512) ![0, 256, 0] S1x128x128.size inb_S1x1024x512_S1x128x128_0_256_0).toLoadRect (harg3.unread x0)) (View.readAt (Elt F) arg3.view (Rect.unit (s := S1x1024x512) ![0, 256, 128] S1x128x128.size inb_S1x1024x512_S1x128x128_0_256_128).toLoadRect (harg3.unread x0)) (View.readAt (Elt F) arg3.view (Rect.unit (s := S1x1024x512) ![0, 256, 256] S1x128x128.size inb_S1x1024x512_S1x128x128_0_256_256).toLoadRect (harg3.unread x0)) (View.readAt (Elt F) arg3.view (Rect.unit (s := S1x1024x512) ![0, 256, 384] S1x128x128.size inb_S1x1024x512_S1x128x128_0_256_384).toLoadRect (harg3.unread x0)))) (View.readAt (Elt F) arg11.view (Rect.unit (s := S512x128) ![0, 0] S512x128.size inb_S512x128_S512x128_0_0).toLoadRect (harg11.unread x8)) (arg14.view.readCov (kernelRun0_A.sl.HS1_4 c arg7 harg7 arg8 harg8 arg9 harg9 x4 x5 x6) (Rect.unit (s := S1280x256) ![256, 0] S384x256.size inb_S1280x256_S384x256_256_0).toLoadRect)

/-- Sub-block 3 of a block, over the buffers' contents. -/
def sub3 (c : Dev nD) (i : grid0.Coords) (arg3 : Memref sig .tc .vmem S1x1024x512 .bf16) (harg3 : arg3.IsWhole) (arg4 : Memref sig .tc .vmem S1x128x128 .bf16) (harg4 : arg4.IsWhole) (arg5 : Memref sig .tc .vmem S1x1024x128 .bf16) (harg5 : arg5.IsWhole) (arg6 : Memref sig .tc .vmem S1x128x128 .bf16) (harg6 : arg6.IsWhole) (arg7 : Memref sig .tc .vmem S1x128x128 .bf16) (harg7 : arg7.IsWhole) (arg8 : Memref sig .tc .vmem S1x1024x128 .bf16) (harg8 : arg8.IsWhole) (arg9 : Memref sig .tc .vmem S1x128x128 .bf16) (harg9 : arg9.IsWhole) (arg10 : Memref sig .tc .vmem S512x384 .f32) (harg10 : arg10.IsWhole) (arg11 : Memref sig .tc .vmem S512x128 .f32) (harg11 : arg11.IsWhole) (arg12 : Memref sig .tc .vmem S1x1024x512 .bf16) (harg12 : arg12.IsWhole) (arg13 : Memref sig .tc .vmem S1280x128 .bf16) (harg13 : arg13.IsWhole) (arg14 : Memref sig .tc .vmem S1280x256 .bf16) (harg14 : arg14.IsWhole)
    (x0 : Vec F S1x1024x512 .bf16) (x1 : Vec F S1x128x128 .bf16) (x2 : Vec F S1x1024x128 .bf16) (x3 : Vec F S1x128x128 .bf16) (x4 : Vec F S1x128x128 .bf16) (x5 : Vec F S1x1024x128 .bf16) (x6 : Vec F S1x128x128 .bf16) (x7 : Vec F S512x384 .f32) (x8 : Vec F S512x128 .f32) : FVec F S512x128 .bf16 :=
  attend (scoresM (View.readAt (Elt F) arg10.view (Rect.unit (s := S512x384) ![0, 0] S512x384.size inb_S512x384_S512x384_0_0).toLoadRect (harg10.unread x7)) (arg13.view.readCov (kernelRun0_A.sl.HS0_3 c arg4 harg4 arg5 harg5 arg6 harg6 x1 x2 x3) (Rect.unit (s := S1280x128) ![384, 0] S384x128.size inb_S1280x128_S384x128_384_0).toLoadRect) (stack (View.readAt (Elt F) arg3.view (Rect.unit (s := S1x1024x512) ![0, 384, 0] S1x128x128.size inb_S1x1024x512_S1x128x128_0_384_0).toLoadRect (harg3.unread x0)) (View.readAt (Elt F) arg3.view (Rect.unit (s := S1x1024x512) ![0, 384, 128] S1x128x128.size inb_S1x1024x512_S1x128x128_0_384_128).toLoadRect (harg3.unread x0)) (View.readAt (Elt F) arg3.view (Rect.unit (s := S1x1024x512) ![0, 384, 256] S1x128x128.size inb_S1x1024x512_S1x128x128_0_384_256).toLoadRect (harg3.unread x0)) (View.readAt (Elt F) arg3.view (Rect.unit (s := S1x1024x512) ![0, 384, 384] S1x128x128.size inb_S1x1024x512_S1x128x128_0_384_384).toLoadRect (harg3.unread x0)))) (View.readAt (Elt F) arg11.view (Rect.unit (s := S512x128) ![0, 0] S512x128.size inb_S512x128_S512x128_0_0).toLoadRect (harg11.unread x8)) (arg14.view.readCov (kernelRun0_A.sl.HS1_4 c arg7 harg7 arg8 harg8 arg9 harg9 x4 x5 x6) (Rect.unit (s := S1280x256) ![384, 0] S384x256.size inb_S1280x256_S384x256_384_0).toLoadRect)

/-- Sub-block 4 of a block, over the buffers' contents. -/
def sub4 (c : Dev nD) (i : grid0.Coords) (arg3 : Memref sig .tc .vmem S1x1024x512 .bf16) (harg3 : arg3.IsWhole) (arg4 : Memref sig .tc .vmem S1x128x128 .bf16) (harg4 : arg4.IsWhole) (arg5 : Memref sig .tc .vmem S1x1024x128 .bf16) (harg5 : arg5.IsWhole) (arg6 : Memref sig .tc .vmem S1x128x128 .bf16) (harg6 : arg6.IsWhole) (arg7 : Memref sig .tc .vmem S1x128x128 .bf16) (harg7 : arg7.IsWhole) (arg8 : Memref sig .tc .vmem S1x1024x128 .bf16) (harg8 : arg8.IsWhole) (arg9 : Memref sig .tc .vmem S1x128x128 .bf16) (harg9 : arg9.IsWhole) (arg10 : Memref sig .tc .vmem S512x384 .f32) (harg10 : arg10.IsWhole) (arg11 : Memref sig .tc .vmem S512x128 .f32) (harg11 : arg11.IsWhole) (arg12 : Memref sig .tc .vmem S1x1024x512 .bf16) (harg12 : arg12.IsWhole) (arg13 : Memref sig .tc .vmem S1280x128 .bf16) (harg13 : arg13.IsWhole) (arg14 : Memref sig .tc .vmem S1280x256 .bf16) (harg14 : arg14.IsWhole)
    (x0 : Vec F S1x1024x512 .bf16) (x1 : Vec F S1x128x128 .bf16) (x2 : Vec F S1x1024x128 .bf16) (x3 : Vec F S1x128x128 .bf16) (x4 : Vec F S1x128x128 .bf16) (x5 : Vec F S1x1024x128 .bf16) (x6 : Vec F S1x128x128 .bf16) (x7 : Vec F S512x384 .f32) (x8 : Vec F S512x128 .f32) : FVec F S512x128 .bf16 :=
  attend (scoresM (View.readAt (Elt F) arg10.view (Rect.unit (s := S512x384) ![0, 0] S512x384.size inb_S512x384_S512x384_0_0).toLoadRect (harg10.unread x7)) (arg13.view.readCov (kernelRun0_A.sl.HS0_3 c arg4 harg4 arg5 harg5 arg6 harg6 x1 x2 x3) (Rect.unit (s := S1280x128) ![512, 0] S384x128.size inb_S1280x128_S384x128_512_0).toLoadRect) (stack (View.readAt (Elt F) arg3.view (Rect.unit (s := S1x1024x512) ![0, 512, 0] S1x128x128.size inb_S1x1024x512_S1x128x128_0_512_0).toLoadRect (harg3.unread x0)) (View.readAt (Elt F) arg3.view (Rect.unit (s := S1x1024x512) ![0, 512, 128] S1x128x128.size inb_S1x1024x512_S1x128x128_0_512_128).toLoadRect (harg3.unread x0)) (View.readAt (Elt F) arg3.view (Rect.unit (s := S1x1024x512) ![0, 512, 256] S1x128x128.size inb_S1x1024x512_S1x128x128_0_512_256).toLoadRect (harg3.unread x0)) (View.readAt (Elt F) arg3.view (Rect.unit (s := S1x1024x512) ![0, 512, 384] S1x128x128.size inb_S1x1024x512_S1x128x128_0_512_384).toLoadRect (harg3.unread x0)))) (View.readAt (Elt F) arg11.view (Rect.unit (s := S512x128) ![0, 0] S512x128.size inb_S512x128_S512x128_0_0).toLoadRect (harg11.unread x8)) (arg14.view.readCov (kernelRun0_A.sl.HS1_4 c arg7 harg7 arg8 harg8 arg9 harg9 x4 x5 x6) (Rect.unit (s := S1280x256) ![512, 0] S384x256.size inb_S1280x256_S384x256_512_0).toLoadRect)

/-- Sub-block 5 of a block, over the buffers' contents. -/
def sub5 (c : Dev nD) (i : grid0.Coords) (arg3 : Memref sig .tc .vmem S1x1024x512 .bf16) (harg3 : arg3.IsWhole) (arg4 : Memref sig .tc .vmem S1x128x128 .bf16) (harg4 : arg4.IsWhole) (arg5 : Memref sig .tc .vmem S1x1024x128 .bf16) (harg5 : arg5.IsWhole) (arg6 : Memref sig .tc .vmem S1x128x128 .bf16) (harg6 : arg6.IsWhole) (arg7 : Memref sig .tc .vmem S1x128x128 .bf16) (harg7 : arg7.IsWhole) (arg8 : Memref sig .tc .vmem S1x1024x128 .bf16) (harg8 : arg8.IsWhole) (arg9 : Memref sig .tc .vmem S1x128x128 .bf16) (harg9 : arg9.IsWhole) (arg10 : Memref sig .tc .vmem S512x384 .f32) (harg10 : arg10.IsWhole) (arg11 : Memref sig .tc .vmem S512x128 .f32) (harg11 : arg11.IsWhole) (arg12 : Memref sig .tc .vmem S1x1024x512 .bf16) (harg12 : arg12.IsWhole) (arg13 : Memref sig .tc .vmem S1280x128 .bf16) (harg13 : arg13.IsWhole) (arg14 : Memref sig .tc .vmem S1280x256 .bf16) (harg14 : arg14.IsWhole)
    (x0 : Vec F S1x1024x512 .bf16) (x1 : Vec F S1x128x128 .bf16) (x2 : Vec F S1x1024x128 .bf16) (x3 : Vec F S1x128x128 .bf16) (x4 : Vec F S1x128x128 .bf16) (x5 : Vec F S1x1024x128 .bf16) (x6 : Vec F S1x128x128 .bf16) (x7 : Vec F S512x384 .f32) (x8 : Vec F S512x128 .f32) : FVec F S512x128 .bf16 :=
  attend (scoresM (View.readAt (Elt F) arg10.view (Rect.unit (s := S512x384) ![0, 0] S512x384.size inb_S512x384_S512x384_0_0).toLoadRect (harg10.unread x7)) (arg13.view.readCov (kernelRun0_A.sl.HS0_3 c arg4 harg4 arg5 harg5 arg6 harg6 x1 x2 x3) (Rect.unit (s := S1280x128) ![640, 0] S384x128.size inb_S1280x128_S384x128_640_0).toLoadRect) (stack (View.readAt (Elt F) arg3.view (Rect.unit (s := S1x1024x512) ![0, 640, 0] S1x128x128.size inb_S1x1024x512_S1x128x128_0_640_0).toLoadRect (harg3.unread x0)) (View.readAt (Elt F) arg3.view (Rect.unit (s := S1x1024x512) ![0, 640, 128] S1x128x128.size inb_S1x1024x512_S1x128x128_0_640_128).toLoadRect (harg3.unread x0)) (View.readAt (Elt F) arg3.view (Rect.unit (s := S1x1024x512) ![0, 640, 256] S1x128x128.size inb_S1x1024x512_S1x128x128_0_640_256).toLoadRect (harg3.unread x0)) (View.readAt (Elt F) arg3.view (Rect.unit (s := S1x1024x512) ![0, 640, 384] S1x128x128.size inb_S1x1024x512_S1x128x128_0_640_384).toLoadRect (harg3.unread x0)))) (View.readAt (Elt F) arg11.view (Rect.unit (s := S512x128) ![0, 0] S512x128.size inb_S512x128_S512x128_0_0).toLoadRect (harg11.unread x8)) (arg14.view.readCov (kernelRun0_A.sl.HS1_4 c arg7 harg7 arg8 harg8 arg9 harg9 x4 x5 x6) (Rect.unit (s := S1280x256) ![640, 0] S384x256.size inb_S1280x256_S384x256_640_0).toLoadRect)

/-- Sub-block 6 of a block, over the buffers' contents. -/
def sub6 (c : Dev nD) (i : grid0.Coords) (arg3 : Memref sig .tc .vmem S1x1024x512 .bf16) (harg3 : arg3.IsWhole) (arg4 : Memref sig .tc .vmem S1x128x128 .bf16) (harg4 : arg4.IsWhole) (arg5 : Memref sig .tc .vmem S1x1024x128 .bf16) (harg5 : arg5.IsWhole) (arg6 : Memref sig .tc .vmem S1x128x128 .bf16) (harg6 : arg6.IsWhole) (arg7 : Memref sig .tc .vmem S1x128x128 .bf16) (harg7 : arg7.IsWhole) (arg8 : Memref sig .tc .vmem S1x1024x128 .bf16) (harg8 : arg8.IsWhole) (arg9 : Memref sig .tc .vmem S1x128x128 .bf16) (harg9 : arg9.IsWhole) (arg10 : Memref sig .tc .vmem S512x384 .f32) (harg10 : arg10.IsWhole) (arg11 : Memref sig .tc .vmem S512x128 .f32) (harg11 : arg11.IsWhole) (arg12 : Memref sig .tc .vmem S1x1024x512 .bf16) (harg12 : arg12.IsWhole) (arg13 : Memref sig .tc .vmem S1280x128 .bf16) (harg13 : arg13.IsWhole) (arg14 : Memref sig .tc .vmem S1280x256 .bf16) (harg14 : arg14.IsWhole)
    (x0 : Vec F S1x1024x512 .bf16) (x1 : Vec F S1x128x128 .bf16) (x2 : Vec F S1x1024x128 .bf16) (x3 : Vec F S1x128x128 .bf16) (x4 : Vec F S1x128x128 .bf16) (x5 : Vec F S1x1024x128 .bf16) (x6 : Vec F S1x128x128 .bf16) (x7 : Vec F S512x384 .f32) (x8 : Vec F S512x128 .f32) : FVec F S512x128 .bf16 :=
  attend (scoresM (View.readAt (Elt F) arg10.view (Rect.unit (s := S512x384) ![0, 0] S512x384.size inb_S512x384_S512x384_0_0).toLoadRect (harg10.unread x7)) (arg13.view.readCov (kernelRun0_A.sl.HS0_3 c arg4 harg4 arg5 harg5 arg6 harg6 x1 x2 x3) (Rect.unit (s := S1280x128) ![768, 0] S384x128.size inb_S1280x128_S384x128_768_0).toLoadRect) (stack (View.readAt (Elt F) arg3.view (Rect.unit (s := S1x1024x512) ![0, 768, 0] S1x128x128.size inb_S1x1024x512_S1x128x128_0_768_0).toLoadRect (harg3.unread x0)) (View.readAt (Elt F) arg3.view (Rect.unit (s := S1x1024x512) ![0, 768, 128] S1x128x128.size inb_S1x1024x512_S1x128x128_0_768_128).toLoadRect (harg3.unread x0)) (View.readAt (Elt F) arg3.view (Rect.unit (s := S1x1024x512) ![0, 768, 256] S1x128x128.size inb_S1x1024x512_S1x128x128_0_768_256).toLoadRect (harg3.unread x0)) (View.readAt (Elt F) arg3.view (Rect.unit (s := S1x1024x512) ![0, 768, 384] S1x128x128.size inb_S1x1024x512_S1x128x128_0_768_384).toLoadRect (harg3.unread x0)))) (View.readAt (Elt F) arg11.view (Rect.unit (s := S512x128) ![0, 0] S512x128.size inb_S512x128_S512x128_0_0).toLoadRect (harg11.unread x8)) (arg14.view.readCov (kernelRun0_A.sl.HS1_4 c arg7 harg7 arg8 harg8 arg9 harg9 x4 x5 x6) (Rect.unit (s := S1280x256) ![768, 0] S384x256.size inb_S1280x256_S384x256_768_0).toLoadRect)

/-- Sub-block 7 of a block, over the buffers' contents. -/
def sub7 (c : Dev nD) (i : grid0.Coords) (arg3 : Memref sig .tc .vmem S1x1024x512 .bf16) (harg3 : arg3.IsWhole) (arg4 : Memref sig .tc .vmem S1x128x128 .bf16) (harg4 : arg4.IsWhole) (arg5 : Memref sig .tc .vmem S1x1024x128 .bf16) (harg5 : arg5.IsWhole) (arg6 : Memref sig .tc .vmem S1x128x128 .bf16) (harg6 : arg6.IsWhole) (arg7 : Memref sig .tc .vmem S1x128x128 .bf16) (harg7 : arg7.IsWhole) (arg8 : Memref sig .tc .vmem S1x1024x128 .bf16) (harg8 : arg8.IsWhole) (arg9 : Memref sig .tc .vmem S1x128x128 .bf16) (harg9 : arg9.IsWhole) (arg10 : Memref sig .tc .vmem S512x384 .f32) (harg10 : arg10.IsWhole) (arg11 : Memref sig .tc .vmem S512x128 .f32) (harg11 : arg11.IsWhole) (arg12 : Memref sig .tc .vmem S1x1024x512 .bf16) (harg12 : arg12.IsWhole) (arg13 : Memref sig .tc .vmem S1280x128 .bf16) (harg13 : arg13.IsWhole) (arg14 : Memref sig .tc .vmem S1280x256 .bf16) (harg14 : arg14.IsWhole)
    (x0 : Vec F S1x1024x512 .bf16) (x1 : Vec F S1x128x128 .bf16) (x2 : Vec F S1x1024x128 .bf16) (x3 : Vec F S1x128x128 .bf16) (x4 : Vec F S1x128x128 .bf16) (x5 : Vec F S1x1024x128 .bf16) (x6 : Vec F S1x128x128 .bf16) (x7 : Vec F S512x384 .f32) (x8 : Vec F S512x128 .f32) : FVec F S512x128 .bf16 :=
  attend (scoresE (View.readAt (Elt F) arg10.view (Rect.unit (s := S512x384) ![0, 0] S512x384.size inb_S512x384_S512x384_0_0).toLoadRect (harg10.unread x7)) (arg13.view.readCov (kernelRun0_A.sl.HS0_3 c arg4 harg4 arg5 harg5 arg6 harg6 x1 x2 x3) (Rect.unit (s := S1280x128) ![896, 0] S384x128.size inb_S1280x128_S384x128_896_0).toLoadRect) (stack (View.readAt (Elt F) arg3.view (Rect.unit (s := S1x1024x512) ![0, 896, 0] S1x128x128.size inb_S1x1024x512_S1x128x128_0_896_0).toLoadRect (harg3.unread x0)) (View.readAt (Elt F) arg3.view (Rect.unit (s := S1x1024x512) ![0, 896, 128] S1x128x128.size inb_S1x1024x512_S1x128x128_0_896_128).toLoadRect (harg3.unread x0)) (View.readAt (Elt F) arg3.view (Rect.unit (s := S1x1024x512) ![0, 896, 256] S1x128x128.size inb_S1x1024x512_S1x128x128_0_896_256).toLoadRect (harg3.unread x0)) (View.readAt (Elt F) arg3.view (Rect.unit (s := S1x1024x512) ![0, 896, 384] S1x128x128.size inb_S1x1024x512_S1x128x128_0_896_384).toLoadRect (harg3.unread x0))) (pen (BitVec.ofNat 32 ↑(i 2)) 768#32)) (View.readAt (Elt F) arg11.view (Rect.unit (s := S512x128) ![0, 0] S512x128.size inb_S512x128_S512x128_0_0).toLoadRect (harg11.unread x8)) (arg14.view.readCov (kernelRun0_A.sl.HS1_4 c arg7 harg7 arg8 harg8 arg9 harg9 x4 x5 x6) (Rect.unit (s := S1280x256) ![896, 0] S384x256.size inb_S1280x256_S384x256_896_0).toLoadRect)

/-- THE BODY'S STORES: eight sub-blocks, four heads each, the last first. -/
theorem pieces_eq (c : Dev nD) (i : grid0.Coords) (arg3 : Memref sig .tc .vmem S1x1024x512 .bf16) (harg3 : arg3.IsWhole) (arg4 : Memref sig .tc .vmem S1x128x128 .bf16) (harg4 : arg4.IsWhole) (arg5 : Memref sig .tc .vmem S1x1024x128 .bf16) (harg5 : arg5.IsWhole) (arg6 : Memref sig .tc .vmem S1x128x128 .bf16) (harg6 : arg6.IsWhole) (arg7 : Memref sig .tc .vmem S1x128x128 .bf16) (harg7 : arg7.IsWhole) (arg8 : Memref sig .tc .vmem S1x1024x128 .bf16) (harg8 : arg8.IsWhole) (arg9 : Memref sig .tc .vmem S1x128x128 .bf16) (harg9 : arg9.IsWhole) (arg10 : Memref sig .tc .vmem S512x384 .f32) (harg10 : arg10.IsWhole) (arg11 : Memref sig .tc .vmem S512x128 .f32) (harg11 : arg11.IsWhole) (arg12 : Memref sig .tc .vmem S1x1024x512 .bf16) (harg12 : arg12.IsWhole) (arg13 : Memref sig .tc .vmem S1280x128 .bf16) (harg13 : arg13.IsWhole) (arg14 : Memref sig .tc .vmem S1280x256 .bf16) (harg14 : arg14.IsWhole)
    (x0 : Vec F S1x1024x512 .bf16) (x1 : Vec F S1x128x128 .bf16) (x2 : Vec F S1x1024x128 .bf16) (x3 : Vec F S1x128x128 .bf16) (x4 : Vec F S1x128x128 .bf16) (x5 : Vec F S1x1024x128 .bf16) (x6 : Vec F S1x128x128 .bf16) (x7 : Vec F S512x384 .f32) (x8 : Vec F S512x128 .f32) :
    (kernelRun0_A c i arg3 harg3 arg4 harg4 arg5 harg5 arg6 harg6 arg7 harg7 arg8 harg8 arg9 harg9 arg10 harg10 arg11 harg11 arg12 harg12 arg13 harg13 arg14 harg14 x0 x1 x2 x3 x4 x5 x6 x7 x8).1 =
    [⟨Rect.unit (s := S1x1024x512) ![0, 896, 384] S1x128x128.size inb_S1x1024x512_S1x128x128_0_896_384, headOut 384 slices_S512x128_o384_0_S128x128 (sub7 c i arg3 harg3 arg4 harg4 arg5 harg5 arg6 harg6 arg7 harg7 arg8 harg8 arg9 harg9 arg10 harg10 arg11 harg11 arg12 harg12 arg13 harg13 arg14 harg14 x0 x1 x2 x3 x4 x5 x6 x7 x8)⟩,
     ⟨Rect.unit (s := S1x1024x512) ![0, 896, 256] S1x128x128.size inb_S1x1024x512_S1x128x128_0_896_256, headOut 256 slices_S512x128_o256_0_S128x128 (sub7 c i arg3 harg3 arg4 harg4 arg5 harg5 arg6 harg6 arg7 harg7 arg8 harg8 arg9 harg9 arg10 harg10 arg11 harg11 arg12 harg12 arg13 harg13 arg14 harg14 x0 x1 x2 x3 x4 x5 x6 x7 x8)⟩,
     ⟨Rect.unit (s := S1x1024x512) ![0, 896, 128] S1x128x128.size inb_S1x1024x512_S1x128x128_0_896_128, headOut 128 slices_S512x128_o128_0_S128x128 (sub7 c i arg3 harg3 arg4 harg4 arg5 harg5 arg6 harg6 arg7 harg7 arg8 harg8 arg9 harg9 arg10 harg10 arg11 harg11 arg12 harg12 arg13 harg13 arg14 harg14 x0 x1 x2 x3 x4 x5 x6 x7 x8)⟩,
     ⟨Rect.unit (s := S1x1024x512) ![0, 896, 0] S1x128x128.size inb_S1x1024x512_S1x128x128_0_896_0, headOut 0 slices_S512x128_o0_0_S128x128 (sub7 c i arg3 harg3 arg4 harg4 arg5 harg5 arg6 harg6 arg7 harg7 arg8 harg8 arg9 harg9 arg10 harg10 arg11 harg11 arg12 harg12 arg13 harg13 arg14 harg14 x0 x1 x2 x3 x4 x5 x6 x7 x8)⟩,
     ⟨Rect.unit (s := S1x1024x512) ![0, 768, 384] S1x128x128.size inb_S1x1024x512_S1x128x128_0_768_384, headOut 384 slices_S512x128_o384_0_S128x128 (sub6 c i arg3 harg3 arg4 harg4 arg5 harg5 arg6 harg6 arg7 harg7 arg8 harg8 arg9 harg9 arg10 harg10 arg11 harg11 arg12 harg12 arg13 harg13 arg14 harg14 x0 x1 x2 x3 x4 x5 x6 x7 x8)⟩,
     ⟨Rect.unit (s := S1x1024x512) ![0, 768, 256] S1x128x128.size inb_S1x1024x512_S1x128x128_0_768_256, headOut 256 slices_S512x128_o256_0_S128x128 (sub6 c i arg3 harg3 arg4 harg4 arg5 harg5 arg6 harg6 arg7 harg7 arg8 harg8 arg9 harg9 arg10 harg10 arg11 harg11 arg12 harg12 arg13 harg13 arg14 harg14 x0 x1 x2 x3 x4 x5 x6 x7 x8)⟩,
     ⟨Rect.unit (s := S1x1024x512) ![0, 768, 128] S1x128x128.size inb_S1x1024x512_S1x128x128_0_768_128, headOut 128 slices_S512x128_o128_0_S128x128 (sub6 c i arg3 harg3 arg4 harg4 arg5 harg5 arg6 harg6 arg7 harg7 arg8 harg8 arg9 harg9 arg10 harg10 arg11 harg11 arg12 harg12 arg13 harg13 arg14 harg14 x0 x1 x2 x3 x4 x5 x6 x7 x8)⟩,
     ⟨Rect.unit (s := S1x1024x512) ![0, 768, 0] S1x128x128.size inb_S1x1024x512_S1x128x128_0_768_0, headOut 0 slices_S512x128_o0_0_S128x128 (sub6 c i arg3 harg3 arg4 harg4 arg5 harg5 arg6 harg6 arg7 harg7 arg8 harg8 arg9 harg9 arg10 harg10 arg11 harg11 arg12 harg12 arg13 harg13 arg14 harg14 x0 x1 x2 x3 x4 x5 x6 x7 x8)⟩,
     ⟨Rect.unit (s := S1x1024x512) ![0, 640, 384] S1x128x128.size inb_S1x1024x512_S1x128x128_0_640_384, headOut 384 slices_S512x128_o384_0_S128x128 (sub5 c i arg3 harg3 arg4 harg4 arg5 harg5 arg6 harg6 arg7 harg7 arg8 harg8 arg9 harg9 arg10 harg10 arg11 harg11 arg12 harg12 arg13 harg13 arg14 harg14 x0 x1 x2 x3 x4 x5 x6 x7 x8)⟩,
     ⟨Rect.unit (s := S1x1024x512) ![0, 640, 256] S1x128x128.size inb_S1x1024x512_S1x128x128_0_640_256, headOut 256 slices_S512x128_o256_0_S128x128 (sub5 c i arg3 harg3 arg4 harg4 arg5 harg5 arg6 harg6 arg7 harg7 arg8 harg8 arg9 harg9 arg10 harg10 arg11 harg11 arg12 harg12 arg13 harg13 arg14 harg14 x0 x1 x2 x3 x4 x5 x6 x7 x8)⟩,
     ⟨Rect.unit (s := S1x1024x512) ![0, 640, 128] S1x128x128.size inb_S1x1024x512_S1x128x128_0_640_128, headOut 128 slices_S512x128_o128_0_S128x128 (sub5 c i arg3 harg3 arg4 harg4 arg5 harg5 arg6 harg6 arg7 harg7 arg8 harg8 arg9 harg9 arg10 harg10 arg11 harg11 arg12 harg12 arg13 harg13 arg14 harg14 x0 x1 x2 x3 x4 x5 x6 x7 x8)⟩,
     ⟨Rect.unit (s := S1x1024x512) ![0, 640, 0] S1x128x128.size inb_S1x1024x512_S1x128x128_0_640_0, headOut 0 slices_S512x128_o0_0_S128x128 (sub5 c i arg3 harg3 arg4 harg4 arg5 harg5 arg6 harg6 arg7 harg7 arg8 harg8 arg9 harg9 arg10 harg10 arg11 harg11 arg12 harg12 arg13 harg13 arg14 harg14 x0 x1 x2 x3 x4 x5 x6 x7 x8)⟩,
     ⟨Rect.unit (s := S1x1024x512) ![0, 512, 384] S1x128x128.size inb_S1x1024x512_S1x128x128_0_512_384, headOut 384 slices_S512x128_o384_0_S128x128 (sub4 c i arg3 harg3 arg4 harg4 arg5 harg5 arg6 harg6 arg7 harg7 arg8 harg8 arg9 harg9 arg10 harg10 arg11 harg11 arg12 harg12 arg13 harg13 arg14 harg14 x0 x1 x2 x3 x4 x5 x6 x7 x8)⟩,
     ⟨Rect.unit (s := S1x1024x512) ![0, 512, 256] S1x128x128.size inb_S1x1024x512_S1x128x128_0_512_256, headOut 256 slices_S512x128_o256_0_S128x128 (sub4 c i arg3 harg3 arg4 harg4 arg5 harg5 arg6 harg6 arg7 harg7 arg8 harg8 arg9 harg9 arg10 harg10 arg11 harg11 arg12 harg12 arg13 harg13 arg14 harg14 x0 x1 x2 x3 x4 x5 x6 x7 x8)⟩,
     ⟨Rect.unit (s := S1x1024x512) ![0, 512, 128] S1x128x128.size inb_S1x1024x512_S1x128x128_0_512_128, headOut 128 slices_S512x128_o128_0_S128x128 (sub4 c i arg3 harg3 arg4 harg4 arg5 harg5 arg6 harg6 arg7 harg7 arg8 harg8 arg9 harg9 arg10 harg10 arg11 harg11 arg12 harg12 arg13 harg13 arg14 harg14 x0 x1 x2 x3 x4 x5 x6 x7 x8)⟩,
     ⟨Rect.unit (s := S1x1024x512) ![0, 512, 0] S1x128x128.size inb_S1x1024x512_S1x128x128_0_512_0, headOut 0 slices_S512x128_o0_0_S128x128 (sub4 c i arg3 harg3 arg4 harg4 arg5 harg5 arg6 harg6 arg7 harg7 arg8 harg8 arg9 harg9 arg10 harg10 arg11 harg11 arg12 harg12 arg13 harg13 arg14 harg14 x0 x1 x2 x3 x4 x5 x6 x7 x8)⟩,
     ⟨Rect.unit (s := S1x1024x512) ![0, 384, 384] S1x128x128.size inb_S1x1024x512_S1x128x128_0_384_384, headOut 384 slices_S512x128_o384_0_S128x128 (sub3 c i arg3 harg3 arg4 harg4 arg5 harg5 arg6 harg6 arg7 harg7 arg8 harg8 arg9 harg9 arg10 harg10 arg11 harg11 arg12 harg12 arg13 harg13 arg14 harg14 x0 x1 x2 x3 x4 x5 x6 x7 x8)⟩,
     ⟨Rect.unit (s := S1x1024x512) ![0, 384, 256] S1x128x128.size inb_S1x1024x512_S1x128x128_0_384_256, headOut 256 slices_S512x128_o256_0_S128x128 (sub3 c i arg3 harg3 arg4 harg4 arg5 harg5 arg6 harg6 arg7 harg7 arg8 harg8 arg9 harg9 arg10 harg10 arg11 harg11 arg12 harg12 arg13 harg13 arg14 harg14 x0 x1 x2 x3 x4 x5 x6 x7 x8)⟩,
     ⟨Rect.unit (s := S1x1024x512) ![0, 384, 128] S1x128x128.size inb_S1x1024x512_S1x128x128_0_384_128, headOut 128 slices_S512x128_o128_0_S128x128 (sub3 c i arg3 harg3 arg4 harg4 arg5 harg5 arg6 harg6 arg7 harg7 arg8 harg8 arg9 harg9 arg10 harg10 arg11 harg11 arg12 harg12 arg13 harg13 arg14 harg14 x0 x1 x2 x3 x4 x5 x6 x7 x8)⟩,
     ⟨Rect.unit (s := S1x1024x512) ![0, 384, 0] S1x128x128.size inb_S1x1024x512_S1x128x128_0_384_0, headOut 0 slices_S512x128_o0_0_S128x128 (sub3 c i arg3 harg3 arg4 harg4 arg5 harg5 arg6 harg6 arg7 harg7 arg8 harg8 arg9 harg9 arg10 harg10 arg11 harg11 arg12 harg12 arg13 harg13 arg14 harg14 x0 x1 x2 x3 x4 x5 x6 x7 x8)⟩,
     ⟨Rect.unit (s := S1x1024x512) ![0, 256, 384] S1x128x128.size inb_S1x1024x512_S1x128x128_0_256_384, headOut 384 slices_S512x128_o384_0_S128x128 (sub2 c i arg3 harg3 arg4 harg4 arg5 harg5 arg6 harg6 arg7 harg7 arg8 harg8 arg9 harg9 arg10 harg10 arg11 harg11 arg12 harg12 arg13 harg13 arg14 harg14 x0 x1 x2 x3 x4 x5 x6 x7 x8)⟩,
     ⟨Rect.unit (s := S1x1024x512) ![0, 256, 256] S1x128x128.size inb_S1x1024x512_S1x128x128_0_256_256, headOut 256 slices_S512x128_o256_0_S128x128 (sub2 c i arg3 harg3 arg4 harg4 arg5 harg5 arg6 harg6 arg7 harg7 arg8 harg8 arg9 harg9 arg10 harg10 arg11 harg11 arg12 harg12 arg13 harg13 arg14 harg14 x0 x1 x2 x3 x4 x5 x6 x7 x8)⟩,
     ⟨Rect.unit (s := S1x1024x512) ![0, 256, 128] S1x128x128.size inb_S1x1024x512_S1x128x128_0_256_128, headOut 128 slices_S512x128_o128_0_S128x128 (sub2 c i arg3 harg3 arg4 harg4 arg5 harg5 arg6 harg6 arg7 harg7 arg8 harg8 arg9 harg9 arg10 harg10 arg11 harg11 arg12 harg12 arg13 harg13 arg14 harg14 x0 x1 x2 x3 x4 x5 x6 x7 x8)⟩,
     ⟨Rect.unit (s := S1x1024x512) ![0, 256, 0] S1x128x128.size inb_S1x1024x512_S1x128x128_0_256_0, headOut 0 slices_S512x128_o0_0_S128x128 (sub2 c i arg3 harg3 arg4 harg4 arg5 harg5 arg6 harg6 arg7 harg7 arg8 harg8 arg9 harg9 arg10 harg10 arg11 harg11 arg12 harg12 arg13 harg13 arg14 harg14 x0 x1 x2 x3 x4 x5 x6 x7 x8)⟩,
     ⟨Rect.unit (s := S1x1024x512) ![0, 128, 384] S1x128x128.size inb_S1x1024x512_S1x128x128_0_128_384, headOut 384 slices_S512x128_o384_0_S128x128 (sub1 c i arg3 harg3 arg4 harg4 arg5 harg5 arg6 harg6 arg7 harg7 arg8 harg8 arg9 harg9 arg10 harg10 arg11 harg11 arg12 harg12 arg13 harg13 arg14 harg14 x0 x1 x2 x3 x4 x5 x6 x7 x8)⟩,
     ⟨Rect.unit (s := S1x1024x512) ![0, 128, 256] S1x128x128.size inb_S1x1024x512_S1x128x128_0_128_256, headOut 256 slices_S512x128_o256_0_S128x128 (sub1 c i arg3 harg3 arg4 harg4 arg5 harg5 arg6 harg6 arg7 harg7 arg8 harg8 arg9 harg9 arg10 harg10 arg11 harg11 arg12 harg12 arg13 harg13 arg14 harg14 x0 x1 x2 x3 x4 x5 x6 x7 x8)⟩,
     ⟨Rect.unit (s := S1x1024x512) ![0, 128, 128] S1x128x128.size inb_S1x1024x512_S1x128x128_0_128_128, headOut 128 slices_S512x128_o128_0_S128x128 (sub1 c i arg3 harg3 arg4 harg4 arg5 harg5 arg6 harg6 arg7 harg7 arg8 harg8 arg9 harg9 arg10 harg10 arg11 harg11 arg12 harg12 arg13 harg13 arg14 harg14 x0 x1 x2 x3 x4 x5 x6 x7 x8)⟩,
     ⟨Rect.unit (s := S1x1024x512) ![0, 128, 0] S1x128x128.size inb_S1x1024x512_S1x128x128_0_128_0, headOut 0 slices_S512x128_o0_0_S128x128 (sub1 c i arg3 harg3 arg4 harg4 arg5 harg5 arg6 harg6 arg7 harg7 arg8 harg8 arg9 harg9 arg10 harg10 arg11 harg11 arg12 harg12 arg13 harg13 arg14 harg14 x0 x1 x2 x3 x4 x5 x6 x7 x8)⟩,
     ⟨Rect.unit (s := S1x1024x512) ![0, 0, 384] S1x128x128.size inb_S1x1024x512_S1x128x128_0_0_384, headOut 384 slices_S512x128_o384_0_S128x128 (sub0 c i arg3 harg3 arg4 harg4 arg5 harg5 arg6 harg6 arg7 harg7 arg8 harg8 arg9 harg9 arg10 harg10 arg11 harg11 arg12 harg12 arg13 harg13 arg14 harg14 x0 x1 x2 x3 x4 x5 x6 x7 x8)⟩,
     ⟨Rect.unit (s := S1x1024x512) ![0, 0, 256] S1x128x128.size inb_S1x1024x512_S1x128x128_0_0_256, headOut 256 slices_S512x128_o256_0_S128x128 (sub0 c i arg3 harg3 arg4 harg4 arg5 harg5 arg6 harg6 arg7 harg7 arg8 harg8 arg9 harg9 arg10 harg10 arg11 harg11 arg12 harg12 arg13 harg13 arg14 harg14 x0 x1 x2 x3 x4 x5 x6 x7 x8)⟩,
     ⟨Rect.unit (s := S1x1024x512) ![0, 0, 128] S1x128x128.size inb_S1x1024x512_S1x128x128_0_0_128, headOut 128 slices_S512x128_o128_0_S128x128 (sub0 c i arg3 harg3 arg4 harg4 arg5 harg5 arg6 harg6 arg7 harg7 arg8 harg8 arg9 harg9 arg10 harg10 arg11 harg11 arg12 harg12 arg13 harg13 arg14 harg14 x0 x1 x2 x3 x4 x5 x6 x7 x8)⟩,
     ⟨Rect.unit (s := S1x1024x512) ![0, 0, 0] S1x128x128.size inb_S1x1024x512_S1x128x128_0_0_0, headOut 0 slices_S512x128_o0_0_S128x128 (sub0 c i arg3 harg3 arg4 harg4 arg5 harg5 arg6 harg6 arg7 harg7 arg8 harg8 arg9 harg9 arg10 harg10 arg11 harg11 arg12 harg12 arg13 harg13 arg14 harg14 x0 x1 x2 x3 x4 x5 x6 x7 x8)⟩] := rfl

end Cert.KernelIdeal.Tile

end
-- ==== Proof.SoftmaxMath.lean ====
module

public import Idealize.ShloMosaic.Lib.Pointwise

/-! The extended-real mathematics of a masked softmax with a sink, written two ways: with
    the scale kept out of the scores and base-two exponentials (the tiled form), and with
    scaled scores, natural exponentials and normalised weights (the plain form). -/

@[expose] public section

namespace Cert.SoftmaxMath
open Idealize Idealize.ShloMosaic
open scoped BigOperators

noncomputable section

/-- Multiplying a finite sum of extended reals by a non-negative real goes into the sum. -/
theorem sum_mul_real {ι : Type} (s : Finset ι) (f : ι → EReal) (c : ℝ) (hc : 0 ≤ c) :
    (∑ i ∈ s, f i) * (c : EReal) = ∑ i ∈ s, f i * (c : EReal) := by
  classical
  induction s using Finset.induction_on with
  | empty => simp
  | insert a s ha ih =>
    rw [Finset.sum_insert ha, Finset.sum_insert ha, ← ih]
    exact EReal.right_distrib_of_nonneg_of_ne_top (EReal.coe_nonneg.mpr hc) (EReal.coe_ne_top c) _ _

/-- A positive real factor commutes with the maximum. -/
theorem real_mul_max (c : ℝ) (hc : 0 < c) (x y : EReal) :
    (c : EReal) * max x y = max ((c : EReal) * x) ((c : EReal) * y) := by
  have hm : Monotone fun z : EReal => (c : EReal) * z := fun a b h =>
    mul_le_mul_of_nonneg_left h (EReal.coe_nonneg.mpr hc.le)
  exact hm.map_max

/-- A positive real factor commutes with the maximum of a family. -/
theorem real_mul_fold {ι : Type} (s : Finset ι) (f : ι → EReal) (c : ℝ) (hc : 0 < c) :
    (c : EReal) * s.fold max ⊥ f = s.fold max ⊥ fun i => (c : EReal) * f i := by
  classical
  induction s using Finset.induction_on with
  | empty => simp [EReal.coe_mul_bot_of_pos hc]
  | insert a s ha ih =>
    rw [Finset.fold_insert ha, Finset.fold_insert ha, ← ih, real_mul_max c hc]

theorem fold_max_lt_top {ι : Type} (s : Finset ι) (f : ι → EReal) (h : ∀ i, f i < ⊤) :
    s.fold max ⊥ f < ⊤ := by
  classical
  induction s using Finset.induction_on with
  | empty => simp
  | insert a s ha ih => rw [Finset.fold_insert ha]; exact max_lt (h a) ih

/-- A score: the real number where the key is seen, the bottom elsewhere. -/
def sc {n : Nat} (val : Fin n → Prop) [DecidablePred val] (x : Fin n → ℝ) (k : Fin n) : EReal :=
  if val k then (x k : EReal) else ⊥

/-- The base-two exponential of a scaled difference is the natural one. -/
theorem exp2_log (r : ℝ) (s : ℝ) :
    Ideal.exp2 ((r : EReal) * ((s * (Real.log 2)⁻¹ : ℝ) : EReal)) = ((Real.exp (s * r) : ℝ) : EReal) := by
  rw [← EReal.coe_mul, Ideal.exp2_coe]
  rw [Real.rpow_eq_pow, Real.rpow_def_of_pos (by norm_num)]
  congr 2
  have : Real.log 2 ≠ 0 := (Real.log_pos (by norm_num)).ne'
  field_simp

/-- THE TWO SOFTMAXES AGREE. `x k` is the unscaled score of a seen key, `sk` the sink's
    logit over the scale; the values are arbitrary extended reals and need to agree only
    at the seen keys. -/
theorem softmax_eq {n : Nat} (val : Fin n → Prop) [DecidablePred val] (x : Fin n → ℝ)
    (sk s : ℝ) (hs : 0 < s) (V V' : Fin n → EReal) (hV : ∀ k, val k → V k = V' k)
    (scK scR : Fin n → EReal) (hK : ∀ k, scK k = if val k then (x k : EReal) else ⊥)
    (hR : ∀ k, scR k = if val k then ((s * x k : ℝ) : EReal) else ⊥)
    (skK skR : EReal) (hskK : skK = (sk : EReal)) (hskR : skR = ((s * sk : ℝ) : EReal))
    (c : EReal) (hc : c = ((s * (Real.log 2)⁻¹ : ℝ) : EReal)) :
    Ideal.div
        (∑ k, Ideal.exp2 ((scK k - max (Finset.univ.fold max ⊥ scK) skK) * c) * V k)
        ((∑ k, Ideal.exp2 ((scK k - max (Finset.univ.fold max ⊥ scK) skK) * c))
          + Ideal.exp2 ((skK - max (Finset.univ.fold max ⊥ scK) skK) * c))
      = ∑ k, Ideal.div (Ideal.exp (scR k - max (Finset.univ.fold max ⊥ scR) skR))
          ((∑ k, Ideal.exp (scR k - max (Finset.univ.fold max ⊥ scR) skR))
            + Ideal.exp (skR - max (Finset.univ.fold max ⊥ scR) skR)) * V' k := by
  subst hskK hskR hc
  have hmul : ∀ k, scR k = (s : EReal) * scK k := fun k => by
    rw [hR, hK]; split
    · rw [EReal.coe_mul]
    · rw [EReal.coe_mul_bot_of_pos hs]
  have hmax : max (Finset.univ.fold max ⊥ scR) ((s * sk : ℝ) : EReal)
      = (s : EReal) * max (Finset.univ.fold max ⊥ scK) (sk : EReal) := by
    rw [real_mul_max s hs, real_mul_fold _ _ s hs, EReal.coe_mul]
    congr 2; exact funext hmul
  obtain ⟨m, hm⟩ : ∃ m : ℝ, max (Finset.univ.fold max ⊥ scK) (sk : EReal) = (m : EReal) := by
    have h1 : max (Finset.univ.fold max ⊥ scK) (sk : EReal) < ⊤ :=
      max_lt (fold_max_lt_top _ _ fun k => by
        rw [hK]; split
        · exact EReal.coe_lt_top _
        · exact bot_lt_top) (EReal.coe_lt_top _)
    have h2 : ⊥ < max (Finset.univ.fold max ⊥ scK) (sk : EReal) :=
      lt_max_of_lt_right (EReal.bot_lt_coe _)
    exact ⟨_, (EReal.coe_toReal h1.ne h2.ne').symm⟩
  rw [hmax, hm]
  have hPK : ∀ k, Ideal.exp2 ((scK k - (m : EReal)) * ((s * (Real.log 2)⁻¹ : ℝ) : EReal))
      = ((if val k then Real.exp (s * (x k - m)) else 0 : ℝ) : EReal) := fun k => by
    rw [hK]; split
    · rw [← EReal.coe_sub, exp2_log]
    · have hpos : (0 : ℝ) < s * (Real.log 2)⁻¹ :=
        mul_pos hs (inv_pos.mpr (Real.log_pos (by norm_num)))
      rw [EReal.bot_sub, EReal.bot_mul_coe_of_pos hpos]; rfl
  have hPR : ∀ k, Ideal.exp (scR k - (s : EReal) * (m : EReal))
      = ((if val k then Real.exp (s * (x k - m)) else 0 : ℝ) : EReal) := fun k => by
    rw [hR, ← EReal.coe_mul]; split
    · rw [← EReal.coe_sub, Ideal.exp_coe, mul_sub]
    · rw [EReal.bot_sub]; rfl
  simp only [hPK, hPR]
  rw [← EReal.coe_sub, exp2_log, ← EReal.coe_mul, ← EReal.coe_sub, Ideal.exp_coe, ← mul_sub]
  have hsum : (∑ k, (((if val k then Real.exp (s * (x k - m)) else 0 : ℝ)) : EReal))
      = ((∑ k, (if val k then Real.exp (s * (x k - m)) else 0) : ℝ) : EReal) :=
    (map_sum (⟨⟨Real.toEReal, EReal.coe_zero⟩, EReal.coe_add⟩ : ℝ →+ EReal) _ _).symm
  rw [hsum, ← EReal.coe_add]
  set p : Fin n → ℝ := fun k => if val k then Real.exp (s * (x k - m)) else 0 with hp
  have hp0 : ∀ k, 0 ≤ p k := fun k => by rw [hp]; dsimp only; split <;> positivity
  have hD : 0 < (∑ k, p k) + Real.exp (s * (sk - m)) :=
    add_pos_of_nonneg_of_pos (Finset.sum_nonneg fun k _ => hp0 k) (Real.exp_pos _)
  set D : ℝ := (∑ k, p k) + Real.exp (s * (sk - m)) with hDd
  have hD0 : ((D : ℝ) : EReal) ≠ 0 := by exact_mod_cast hD.ne'
  simp only [Ideal.div, if_neg hD0]
  rw [← EReal.coe_inv, sum_mul_real _ _ _ (inv_nonneg.mpr hD.le)]
  refine Finset.sum_congr rfl fun k _ => ?_
  by_cases hk : val k
  · rw [hV k hk]; exact mul_right_comm _ _ _
  · have h0 : p k = 0 := by rw [hp]; exact if_neg hk
    have h0' : ((if val k then Real.exp (s * (x k - m)) else 0 : ℝ) : EReal) = 0 := by
      rw [if_neg hk]; rfl
    rw [h0']; simp

end

end Cert.SoftmaxMath

end
-- ==== Proof.TileValue.lean ====
module

public import proofs.«01_k».proof.Proof.Tile
public import proofs.«01_k».proof.Proof.SoftmaxMath

@[expose] public section

/-! The body's stores at `Ideal`, element by element. -/

set_option maxRecDepth 16384

noncomputable section

namespace Cert.KernelIdeal.Tile
open Cert.KernelIdeal Cert.KernelIdeal.Gen Idealize.ShloMosaic Idealize.ShloMosaic.TcCoe
open scoped BigOperators

/-- The score scale: the float32 of `128 ^ (-1/2)`. -/
def scale : ℝ := 11863283 / 134217728

theorem named_c : Named.named (F := Ideal) Cert.KernelIdeal.κ "scale_log2e" (φ := .f32) 0x3E0293EE#32
    = ((scale * (Real.log 2)⁻¹ : ℝ) : EReal) :=
  IdealRules.named_const.ideal_named_scalar _ _ _ _ rfl

theorem named_mask : Named.named (F := Ideal) Cert.KernelIdeal.κ "mask" (φ := .f32) 0xF149F2CA#32 = (⊥ : EReal) :=
  IdealRules.named_const.ideal_named_scalar _ _ _ _ rfl

theorem ofBits_negInf : Ideal.ofBits .f32 0xFF800000#32 = (⊥ : EReal) := by
  simp [Ideal.ofBits, Ideal.ieee]

theorem scoresM_apply (b : Vec Ideal S512x384 .f32) (kw : Vec Ideal S384x128 .bf16) (q : FVec Ideal S512x128 .bf16)
    (r : Fin 512) (k : Fin 384) :
    scoresM b kw q (ix2 r k) = (∑ e : Fin 128, q (ix2 r e) * kw (ix2 k e)) + b (ix2 r k) := by
  pointwise [scoresM]

theorem scoresE_apply (b : Vec Ideal S512x384 .f32) (kw : Vec Ideal S384x128 .bf16) (q : FVec Ideal S512x128 .bf16)
    (p : FVec Ideal S1x384 .f32) (r : Fin 512) (k : Fin 384) :
    scoresE b kw q p (ix2 r k) = ((∑ e : Fin 128, q (ix2 r e) * kw (ix2 k e)) + b (ix2 r k)) + p (ix2 0 k) := by
  pointwise [scoresE, scoresM]

theorem rowMax_apply (sc : FVec Ideal S512x384 .f32) (sk : Vec Ideal S512x128 .f32) (r : Fin 512) (z : Fin 1) :
    rowMax sc sk (ix2 r z) = max (Finset.univ.fold max ⊥ fun k : Fin 384 => sc (ix2 r k)) (sk (ix2 r 0)) := by
  pointwise [rowMax]
  rw [ofBits_negInf]

theorem weigh_apply (sc : FVec Ideal S512x384 .f32) (sk : Vec Ideal S512x128 .f32) (vw : Vec Ideal S384x256 .bf16)
    (r : Fin 512) (d : Fin 256) :
    weigh sc sk vw (ix2 r d) = ∑ k : Fin 384, Ideal.exp2 ((sc (ix2 r k) - rowMax sc sk (ix2 r 0)) * ((scale * (Real.log 2)⁻¹ : ℝ) : EReal)) * vw (ix2 k d) := by
  pointwise [weigh, named_c]
  rfl

theorem attend_apply (sc : FVec Ideal S512x384 .f32) (sk : Vec Ideal S512x128 .f32) (vw : Vec Ideal S384x256 .bf16)
    (r : Fin 512) (d : Fin 128) :
    attend sc sk vw (ix2 r d) = Ideal.div (weigh sc sk vw (ix2 r ⟨d.val, by omega⟩))
      (weigh sc sk vw (ix2 r ⟨128 + d.val, by omega⟩) + Ideal.exp2 ((sk (ix2 r d) - rowMax sc sk (ix2 r 0)) * ((scale * (Real.log 2)⁻¹ : ℝ) : EReal))) := by
  pointwise [attend, named_c]
  rfl

theorem stack_apply (q0 q1 q2 q3 : Vec Ideal S1x128x128 .bf16) (Q : ℕ → Fin 128 → Fin 128 → EReal)
    (h0 : ∀ i e, q0 (ix3 0 i e) = Q 0 i e) (h1 : ∀ i e, q1 (ix3 0 i e) = Q 1 i e) (h2 : ∀ i e, q2 (ix3 0 i e) = Q 2 i e)
    (h3 : ∀ i e, q3 (ix3 0 i e) = Q 3 i e)
    (r : Fin 512) (e : Fin 128) :
    stack q0 q1 q2 q3 (ix2 r e) = Q (r.val / 128) ⟨r.val % 128, by omega⟩ e := by
  pointwise [stack]
  have key : ∀ (n : ℕ) (x : Fin 128), n = r.val / 128 → x.val = r.val % 128 → Q n x e = Q (r.val / 128) ⟨r.val % 128, by omega⟩ e := by
    intro n x hn hx
    subst hn
    exact congrArg (fun x => Q _ x e) (Fin.ext hx)
  have hr := r.isLt
  split
  · rw [h0]; exact key _ _ (by omega) (by simp only []; omega)
  · split
    · rw [h1]; exact key _ _ (by omega) (by simp only []; omega)
    · split
      · rw [h2]; exact key _ _ (by omega) (by simp only []; omega)
      · rw [h3]; exact key _ _ (by omega) (by simp only []; omega)

theorem headOut_apply (o : ℕ) (ho : o ≤ 384) (h : S512x128.Slices ![o, 0] S128x128) (a : FVec Ideal S512x128 .bf16) (z : Fin 1) (i e : Fin 128) :
    headOut o h a (ix3 z i e) = a (ix2 ⟨o + i.val, by omega⟩ e) := by
  pointwise [headOut]

/-- The end penalty's test, at the last sub-block: the place is inside the sequence. -/
theorem test_last : ∀ (i : Fin 8) (k : Fin 384), IntOp.andi
        (IntOp.cmpi CmpIPredicate.sge (IntOp.addi (BitVec.ofNat 32 ↑k) (Scalar.addi (Scalar.muli (BitVec.ofNat 32 ↑i) 1024#32) 768#32)) 0#32)
        (IntOp.cmpi CmpIPredicate.slt (IntOp.addi (BitVec.ofNat 32 ↑k) (Scalar.addi (Scalar.muli (BitVec.ofNat 32 ↑i) 1024#32) 768#32)) 8192#32)
      = if i.val * 1024 + 768 + k.val < 8192 then 1#1 else 0#1 := by decide +kernel

/-- The end penalty's test, at the first sub-block. -/
theorem test_first : ∀ (i : Fin 8) (k : Fin 384), IntOp.andi
        (IntOp.cmpi CmpIPredicate.sge (IntOp.addi (BitVec.ofNat 32 ↑k) (Scalar.addi (Scalar.muli (BitVec.ofNat 32 ↑i) 1024#32) 4294967168#32)) 0#32)
        (IntOp.cmpi CmpIPredicate.slt (IntOp.addi (BitVec.ofNat 32 ↑k) (Scalar.addi (Scalar.muli (BitVec.ofNat 32 ↑i) 1024#32) 4294967168#32)) 8192#32)
      = if 128 ≤ i.val * 1024 + k.val then 1#1 else 0#1 := by decide +kernel

theorem pen_last (i : Fin 8) (k : Fin 384) (z : Fin 1) :
    pen (F := Ideal) (BitVec.ofNat 32 i) 768#32 (ix2 z k) = if i.val * 1024 + 768 + k.val < 8192 then (0 : EReal) else ⊥ := by
  pointwise [pen, named_mask]
  rw [test_last]
  split <;> rfl

theorem pen_first (i : Fin 8) (k : Fin 384) (z : Fin 1) :
    pen (F := Ideal) (BitVec.ofNat 32 i) 4294967168#32 (ix2 z k) = if 128 ≤ i.val * 1024 + k.val then (0 : EReal) else ⊥ := by
  pointwise [pen, named_mask]
  rw [test_first]
  split <;> rfl

end Cert.KernelIdeal.Tile

end

end
-- ==== Proof.Block.lean ====
module

public import proofs.«01_k».proof.Proof.TileValue
public import Idealize.ShloMosaic.Lib.Pipeline.ReadBack
public import Idealize.ShloMosaic.Lib.WholeRead

@[expose] public section

/-! One grid point's block at `Ideal`: every element of it is ONE formula of the blocks the
    point reads (`blockOut`). -/

set_option maxRecDepth 16384

noncomputable section

namespace Cert.KernelIdeal.Tile
open Cert.KernelIdeal Cert.KernelIdeal.Gen Idealize.ShloMosaic Idealize.ShloMosaic.TcCoe
open scoped BigOperators

/-- Rows of the three key (or value) blocks, one after another: 128, 1024 and 128. -/
def rows3 (x1 : Vec Ideal S1x128x128 .bf16) (x2 : Vec Ideal S1x1024x128 .bf16) (x3 : Vec Ideal S1x128x128 .bf16)
    (n : Fin 1280) (e : Fin 128) : EReal :=
  if h : n.val < 128 then x1 (ix3 0 ⟨n.val, h⟩ e)
  else if h' : n.val < 1152 then x2 (ix3 0 ⟨n.val - 128, by omega⟩ e)
  else x3 (ix3 0 ⟨n.val - 1152, by omega⟩ e)

/-- A load after stores that are all parts of `G` and together reach every element reads `G`. -/
theorem readCov_of_pieces {sig' : RefSig} {κ : Kind} {sp : Space} {s : Shape} {e : EltTy} (v : View sig' κ sp s e)
    (G : s.Idx → Elt Ideal e) (L : List (View.Piece (Elt Ideal) s e)) (hL : View.PiecesOf G L)
    (hc : ∀ y, ∃ p ∈ L, y ∈ p.1.set) (B : LoadRect s) (x : B.shape.Idx) :
    v.readCov L B x = G (B.idx x) := by
  rw [View.readCov_eq_canon']
  exact View.canon_apply_of_pieces G L hL.mem _ (hc _)

theorem rows3_low (x1 : Vec Ideal S1x128x128 .bf16) (x2 : Vec Ideal S1x1024x128 .bf16) (x3 : Vec Ideal S1x128x128 .bf16)
    (n : Fin 1280) (e e' : Fin 128) (z : Fin 128) (hn : n.val = z.val) (he : e.val = e'.val) :
    rows3 x1 x2 x3 n e = x1 (ix3 0 z e') := by
  obtain rfl : e = e' := Fin.ext he
  have hz := z.isLt
  rw [rows3, dif_pos (by omega)]
  exact congrArg (fun z => x1 (ix3 0 z e)) (Fin.ext hn)

theorem rows3_mid (x1 : Vec Ideal S1x128x128 .bf16) (x2 : Vec Ideal S1x1024x128 .bf16) (x3 : Vec Ideal S1x128x128 .bf16)
    (n : Fin 1280) (e e' : Fin 128) (z : Fin 1024) (hn : n.val = 128 + z.val) (he : e.val = e'.val) :
    rows3 x1 x2 x3 n e = x2 (ix3 0 z e') := by
  obtain rfl : e = e' := Fin.ext he
  have hz := z.isLt
  rw [rows3, dif_neg (by omega), dif_pos (by omega)]
  exact congrArg (fun z => x2 (ix3 0 z e)) (Fin.ext (by simp only []; omega))

theorem rows3_high (x1 : Vec Ideal S1x128x128 .bf16) (x2 : Vec Ideal S1x1024x128 .bf16) (x3 : Vec Ideal S1x128x128 .bf16)
    (n : Fin 1280) (e e' : Fin 128) (z : Fin 128) (hn : n.val = 1152 + z.val) (he : e.val = e'.val) :
    rows3 x1 x2 x3 n e = x3 (ix3 0 z e') := by
  obtain rfl : e = e' := Fin.ext he
  have hz := z.isLt
  rw [rows3, dif_neg (by omega), dif_neg (by omega)]
  exact congrArg (fun z => x3 (ix3 0 z e)) (Fin.ext (by simp only []; omega))

/-- Where a unit-stride rectangle of a two-axis array puts its element. -/
theorem emb2_val {m n p q o0 o1 : ℕ} (inb : ∀ a, (![o0, o1] : Fin 2 → ℕ) a + (![p, q] : Fin 2 → ℕ) a ≤ (⟨2, ![m, n]⟩ : Shape).size a)
    (z0 : Fin p) (z1 : Fin q) :
    ((Rect.unit (s := ⟨2, ![m, n]⟩) ![o0, o1] ![p, q] inb).emb (ix2 z0 z1) 0).val = o0 + z0.val
    ∧ ((Rect.unit (s := ⟨2, ![m, n]⟩) ![o0, o1] ![p, q] inb).emb (ix2 z0 z1) 1).val = o1 + z1.val := by
  constructor
  · show o0 + 1 * z0.val = _
    omega
  · show o1 + 1 * z1.val = _
    omega

/-- Which elements of a two-axis array a unit-stride rectangle holds. -/
theorem mem2 {m n p q o0 o1 : ℕ} (inb : ∀ a, (![o0, o1] : Fin 2 → ℕ) a + (![p, q] : Fin 2 → ℕ) a ≤ (⟨2, ![m, n]⟩ : Shape).size a)
    (y0 : Fin m) (y1 : Fin n) (h0 : o0 ≤ y0.val ∧ y0.val < o0 + p) (h1 : o1 ≤ y1.val ∧ y1.val < o1 + q) :
    (ix2 y0 y1 : (⟨2, ![m, n]⟩ : Shape).Idx) ∈ (Rect.unit (s := ⟨2, ![m, n]⟩) ![o0, o1] ![p, q] inb).set := by
  rw [Rect.mem_set_unit]
  intro a
  fin_cases a
  · exact h0
  · exact h1

theorem keys_read (c : Dev nD) (arg4 : Memref sig .tc .vmem S1x128x128 .bf16) (harg4 : arg4.IsWhole) (arg5 : Memref sig .tc .vmem S1x1024x128 .bf16) (harg5 : arg5.IsWhole) (arg6 : Memref sig .tc .vmem S1x128x128 .bf16) (harg6 : arg6.IsWhole) (arg13 : Memref sig .tc .vmem S1280x128 .bf16)
    (x1 : Vec Ideal S1x128x128 .bf16) (x2 : Vec Ideal S1x1024x128 .bf16) (x3 : Vec Ideal S1x128x128 .bf16) (B : LoadRect S1280x128) (x : B.shape.Idx) :
    arg13.view.readCov (kernelRun0_A.sl.HS0_3 c arg4 harg4 arg5 harg5 arg6 harg6 x1 x2 x3) B x
      = rows3 x1 x2 x3 (B.idx x 0) (B.idx x 1) := by
  refine readCov_of_pieces (e := .bf16) _ (fun y : S1280x128.Idx => rows3 x1 x2 x3 (y 0) (y 1)) _ ?_ ?_ B x
  · unfold kernelRun0_A.sl.HS0_3
    refine ⟨fun z => ?_, fun z => ?_, fun z => ?_, trivial⟩
    · idx_vars z
      refine Eq.trans ?_ (rows3_high x1 x2 x3 _ _ z1 z0 ?_ ?_).symm
      · pointwise [k0_pay8, Memref.IsWhole.readAt_unread]
      · exact (emb2_val _ z0 z1).1
      · exact (emb2_val _ z0 z1).2.trans (Nat.zero_add _)
    · idx_vars z
      refine Eq.trans ?_ (rows3_mid x1 x2 x3 _ _ z1 z0 ?_ ?_).symm
      · pointwise [k0_pay7, Memref.IsWhole.readAt_unread]
      · exact (emb2_val _ z0 z1).1
      · exact (emb2_val _ z0 z1).2.trans (Nat.zero_add _)
    · idx_vars z
      refine Eq.trans ?_ (rows3_low x1 x2 x3 _ _ z1 z0 ?_ ?_).symm
      · pointwise [k0_pay6, Memref.IsWhole.readAt_unread]
      · exact (emb2_val _ z0 z1).1.trans (Nat.zero_add _)
      · exact (emb2_val _ z0 z1).2.trans (Nat.zero_add _)
  · intro y
    idx_vars y
    unfold kernelRun0_A.sl.HS0_3
    have h1 := y1.isLt
    have h0 := y0.isLt
    by_cases ha : y0.val < 128
    · exact ⟨_, .tail _ (.tail _ (.head _)), mem2 (o0 := 0) (o1 := 0) (p := 128) (q := 128) (by decide) y0 y1 ⟨Nat.zero_le _, by omega⟩ ⟨Nat.zero_le _, by omega⟩⟩
    · by_cases hb : y0.val < 1152
      · exact ⟨_, .tail _ (.head _), mem2 (o0 := 128) (o1 := 0) (p := 1024) (q := 128) (by decide) y0 y1 ⟨by omega, by omega⟩ ⟨Nat.zero_le _, by omega⟩⟩
      · exact ⟨_, .head _, mem2 (o0 := 1152) (o1 := 0) (p := 128) (q := 128) (by decide) y0 y1 ⟨by omega, by omega⟩ ⟨Nat.zero_le _, by omega⟩⟩

/-- The value scratch: the values in its first 128 columns, ones in the rest. -/
def vals (x4 : Vec Ideal S1x128x128 .bf16) (x5 : Vec Ideal S1x1024x128 .bf16) (x6 : Vec Ideal S1x128x128 .bf16)
    (n : Fin 1280) (e : Fin 256) : EReal :=
  if h : e.val < 128 then rows3 x4 x5 x6 n ⟨e.val, h⟩ else 1

theorem vals_low (x4 : Vec Ideal S1x128x128 .bf16) (x5 : Vec Ideal S1x1024x128 .bf16) (x6 : Vec Ideal S1x128x128 .bf16)
    (n : Fin 1280) (e : Fin 256) (h : e.val < 128) : vals x4 x5 x6 n e = rows3 x4 x5 x6 n ⟨e.val, h⟩ := dif_pos h

theorem vals_read (c : Dev nD) (arg4 : Memref sig .tc .vmem S1x128x128 .bf16) (harg4 : arg4.IsWhole) (arg5 : Memref sig .tc .vmem S1x1024x128 .bf16) (harg5 : arg5.IsWhole) (arg6 : Memref sig .tc .vmem S1x128x128 .bf16) (harg6 : arg6.IsWhole) (arg14 : Memref sig .tc .vmem S1280x256 .bf16)
    (x1 : Vec Ideal S1x128x128 .bf16) (x2 : Vec Ideal S1x1024x128 .bf16) (x3 : Vec Ideal S1x128x128 .bf16) (B : LoadRect S1280x256) (x : B.shape.Idx) :
    arg14.view.readCov (kernelRun0_A.sl.HS1_4 c arg4 harg4 arg5 harg5 arg6 harg6 x1 x2 x3) B x
      = vals x1 x2 x3 (B.idx x 0) (B.idx x 1) := by
  refine readCov_of_pieces (e := .bf16) _ (fun y : S1280x256.Idx => vals x1 x2 x3 (y 0) (y 1)) _ ?_ ?_ B x
  · unfold kernelRun0_A.sl.HS1_4
    refine ⟨fun z => ?_, fun z => ?_, fun z => ?_, fun z => ?_, trivial⟩
    · idx_vars z
      refine Eq.trans ?_ (dif_neg ?_).symm
      · pointwise [k0_pay12]
      · rw [(emb2_val _ z0 z1).2]; omega
    all_goals idx_vars z
    all_goals refine Eq.trans ?_ (vals_low x1 x2 x3 _ _ (by rw [(emb2_val _ z0 z1).2]; omega)).symm
    · refine Eq.trans ?_ (rows3_high x1 x2 x3 _ _ z1 z0 ?_ ?_).symm
      · pointwise [k0_pay11, Memref.IsWhole.readAt_unread]
      · exact (emb2_val _ z0 z1).1
      · exact (emb2_val _ z0 z1).2.trans (Nat.zero_add _)
    · refine Eq.trans ?_ (rows3_mid x1 x2 x3 _ _ z1 z0 ?_ ?_).symm
      · pointwise [k0_pay10, Memref.IsWhole.readAt_unread]
      · exact (emb2_val _ z0 z1).1
      · exact (emb2_val _ z0 z1).2.trans (Nat.zero_add _)
    · refine Eq.trans ?_ (rows3_low x1 x2 x3 _ _ z1 z0 ?_ ?_).symm
      · pointwise [k0_pay9, Memref.IsWhole.readAt_unread]
      · exact (emb2_val _ z0 z1).1.trans (Nat.zero_add _)
      · exact (emb2_val _ z0 z1).2.trans (Nat.zero_add _)
  · intro y
    idx_vars y
    unfold kernelRun0_A.sl.HS1_4
    have h1 := y1.isLt
    have h0 := y0.isLt
    by_cases hc : 128 ≤ y1.val
    · exact ⟨_, .head _, mem2 (o0 := 0) (o1 := 128) (p := 1280) (q := 128) (by decide) y0 y1 ⟨Nat.zero_le _, by omega⟩ ⟨by omega, by omega⟩⟩
    by_cases ha : y0.val < 128
    · exact ⟨_, .tail _ (.tail _ (.tail _ (.head _))), mem2 (o0 := 0) (o1 := 0) (p := 128) (q := 128) (by decide) y0 y1 ⟨Nat.zero_le _, by omega⟩ ⟨Nat.zero_le _, by omega⟩⟩
    · by_cases hb : y0.val < 1152
      · exact ⟨_, .tail _ (.tail _ (.head _)), mem2 (o0 := 128) (o1 := 0) (p := 1024) (q := 128) (by decide) y0 y1 ⟨by omega, by omega⟩ ⟨Nat.zero_le _, by omega⟩⟩
      · exact ⟨_, .tail _ (.head _), mem2 (o0 := 1152) (o1 := 0) (p := 128) (q := 128) (by decide) y0 y1 ⟨by omega, by omega⟩ ⟨Nat.zero_le _, by omega⟩⟩

theorem keys_at (c : Dev nD) (arg4 : Memref sig .tc .vmem S1x128x128 .bf16) (harg4 : arg4.IsWhole) (arg5 : Memref sig .tc .vmem S1x1024x128 .bf16) (harg5 : arg5.IsWhole) (arg6 : Memref sig .tc .vmem S1x128x128 .bf16) (harg6 : arg6.IsWhole) (arg13 : Memref sig .tc .vmem S1280x128 .bf16)
    (x1 : Vec Ideal S1x128x128 .bf16) (x2 : Vec Ideal S1x1024x128 .bf16) (x3 : Vec Ideal S1x128x128 .bf16) (B : LoadRect S1280x128) (x : B.shape.Idx)
    (n : Fin 1280) (e : Fin 128) (hn : (B.idx x 0).val = n.val) (he : (B.idx x 1).val = e.val) :
    arg13.view.readCov (kernelRun0_A.sl.HS0_3 c arg4 harg4 arg5 harg5 arg6 harg6 x1 x2 x3) B x = rows3 x1 x2 x3 n e :=
  (keys_read c arg4 harg4 arg5 harg5 arg6 harg6 arg13 x1 x2 x3 B x).trans
    (congrArg₂ (rows3 x1 x2 x3) (Fin.ext hn) (Fin.ext he))

theorem vals_at (c : Dev nD) (arg4 : Memref sig .tc .vmem S1x128x128 .bf16) (harg4 : arg4.IsWhole) (arg5 : Memref sig .tc .vmem S1x1024x128 .bf16) (harg5 : arg5.IsWhole) (arg6 : Memref sig .tc .vmem S1x128x128 .bf16) (harg6 : arg6.IsWhole) (arg14 : Memref sig .tc .vmem S1280x256 .bf16)
    (x1 : Vec Ideal S1x128x128 .bf16) (x2 : Vec Ideal S1x1024x128 .bf16) (x3 : Vec Ideal S1x128x128 .bf16) (B : LoadRect S1280x256) (x : B.shape.Idx)
    (n : Fin 1280) (e : Fin 128) (hn : (B.idx x 0).val = n.val) (he : (B.idx x 1).val = e.val) :
    arg14.view.readCov (kernelRun0_A.sl.HS1_4 c arg4 harg4 arg5 harg5 arg6 harg6 x1 x2 x3) B x = rows3 x1 x2 x3 n e := by
  refine (vals_read c arg4 harg4 arg5 harg5 arg6 harg6 arg14 x1 x2 x3 B x).trans ?_
  have h : (B.idx x 1).val < 128 := by rw [he]; exact e.isLt
  exact (vals_low x1 x2 x3 _ _ h).trans (congrArg₂ (rows3 x1 x2 x3) (Fin.ext hn) (Fin.ext he))

theorem ones_at (c : Dev nD) (arg4 : Memref sig .tc .vmem S1x128x128 .bf16) (harg4 : arg4.IsWhole) (arg5 : Memref sig .tc .vmem S1x1024x128 .bf16) (harg5 : arg5.IsWhole) (arg6 : Memref sig .tc .vmem S1x128x128 .bf16) (harg6 : arg6.IsWhole) (arg14 : Memref sig .tc .vmem S1280x256 .bf16)
    (x1 : Vec Ideal S1x128x128 .bf16) (x2 : Vec Ideal S1x1024x128 .bf16) (x3 : Vec Ideal S1x128x128 .bf16) (B : LoadRect S1280x256) (x : B.shape.Idx)
    (he : 128 ≤ (B.idx x 1).val) :
    arg14.view.readCov (kernelRun0_A.sl.HS1_4 c arg4 harg4 arg5 harg5 arg6 harg6 x1 x2 x3) B x = 1 :=
  (vals_read c arg4 harg4 arg5 harg5 arg6 harg6 arg14 x1 x2 x3 B x).trans (dif_neg (Nat.not_lt.mpr he))

/-- The score of key `k` of sub-block `s` for row `r` (a head and a query) of the sub-block. -/
def blockSc (x0 : Vec Ideal S1x1024x512 .bf16) (x1 : Vec Ideal S1x128x128 .bf16) (x2 : Vec Ideal S1x1024x128 .bf16) (x3 : Vec Ideal S1x128x128 .bf16)
    (x7 : Vec Ideal S512x384 .f32) (i : ℕ) (s : Fin 8) (r : Fin 512) (k : Fin 384) : EReal :=
  ((∑ e : Fin 128, x0 (ix3 0 ⟨128 * s.val + r.val % 128, by omega⟩ ⟨128 * (r.val / 128) + e.val, by omega⟩)
      * rows3 x1 x2 x3 ⟨128 * s.val + k.val, by omega⟩ e) + x7 (ix2 r k))
    + (if 128 ≤ i * 1024 + 128 * s.val + k.val ∧ i * 1024 + 128 * s.val + k.val < 8320 then (0 : EReal) else ⊥)

/-- The attention of sub-block `s` at row `r` and lane `d`, of the scores `sc` and the sink
    values `x8`. -/
def softOut (sc : Fin 384 → EReal) (skM skD : EReal) (V : Fin 384 → EReal) : EReal :=
  Ideal.div
    (∑ k, Ideal.exp2 ((sc k - max (Finset.univ.fold max ⊥ sc) skM) * ((scale * (Real.log 2)⁻¹ : ℝ) : EReal)) * V k)
    ((∑ k, Ideal.exp2 ((sc k - max (Finset.univ.fold max ⊥ sc) skM) * ((scale * (Real.log 2)⁻¹ : ℝ) : EReal)))
      + Ideal.exp2 ((skD - max (Finset.univ.fold max ⊥ sc) skM) * ((scale * (Real.log 2)⁻¹ : ℝ) : EReal)))

def blockOut (x0 : Vec Ideal S1x1024x512 .bf16) (x1 : Vec Ideal S1x128x128 .bf16) (x2 : Vec Ideal S1x1024x128 .bf16) (x3 : Vec Ideal S1x128x128 .bf16)
    (x4 : Vec Ideal S1x128x128 .bf16) (x5 : Vec Ideal S1x1024x128 .bf16) (x6 : Vec Ideal S1x128x128 .bf16)
    (x7 : Vec Ideal S512x384 .f32) (x8 : Vec Ideal S512x128 .f32) (i : ℕ) (s : Fin 8) (r : Fin 512) (d : Fin 128) : EReal :=
  softOut (blockSc x0 x1 x2 x3 x7 i s r) (x8 (ix2 r 0)) (x8 (ix2 r d))
    (fun k => rows3 x4 x5 x6 ⟨128 * s.val + k.val, by omega⟩ d)

theorem attend_soft (S : FVec Ideal S512x384 .f32) (sk : Vec Ideal S512x128 .f32) (vw : Vec Ideal S384x256 .bf16)
    (r : Fin 512) (d : Fin 128) (sc V : Fin 384 → EReal) (hS : ∀ k, S (ix2 r k) = sc k)
    (hV : ∀ k, vw (ix2 k ⟨d.val, by omega⟩) = V k) (hO : ∀ k, vw (ix2 k ⟨128 + d.val, by omega⟩) = 1) :
    attend S sk vw (ix2 r d) = softOut sc (sk (ix2 r 0)) (sk (ix2 r d)) V := by
  rw [attend_apply, weigh_apply, weigh_apply, rowMax_apply]
  simp only [hS, hV, hO, mul_one]
  rfl

theorem sub0_apply (c : Dev nD) (i : grid0.Coords) (arg3 : Memref sig .tc .vmem S1x1024x512 .bf16) (harg3 : arg3.IsWhole) (arg4 : Memref sig .tc .vmem S1x128x128 .bf16) (harg4 : arg4.IsWhole) (arg5 : Memref sig .tc .vmem S1x1024x128 .bf16) (harg5 : arg5.IsWhole) (arg6 : Memref sig .tc .vmem S1x128x128 .bf16) (harg6 : arg6.IsWhole) (arg7 : Memref sig .tc .vmem S1x128x128 .bf16) (harg7 : arg7.IsWhole) (arg8 : Memref sig .tc .vmem S1x1024x128 .bf16) (harg8 : arg8.IsWhole) (arg9 : Memref sig .tc .vmem S1x128x128 .bf16) (harg9 : arg9.IsWhole) (arg10 : Memref sig .tc .vmem S512x384 .f32) (harg10 : arg10.IsWhole) (arg11 : Memref sig .tc .vmem S512x128 .f32) (harg11 : arg11.IsWhole) (arg12 : Memref sig .tc .vmem S1x1024x512 .bf16) (harg12 : arg12.IsWhole) (arg13 : Memref sig .tc .vmem S1280x128 .bf16) (harg13 : arg13.IsWhole) (arg14 : Memref sig .tc .vmem S1280x256 .bf16) (harg14 : arg14.IsWhole)
    (x0 : Vec Ideal S1x1024x512 .bf16) (x1 : Vec Ideal S1x128x128 .bf16) (x2 : Vec Ideal S1x1024x128 .bf16) (x3 : Vec Ideal S1x128x128 .bf16) (x4 : Vec Ideal S1x128x128 .bf16) (x5 : Vec Ideal S1x1024x128 .bf16) (x6 : Vec Ideal S1x128x128 .bf16) (x7 : Vec Ideal S512x384 .f32) (x8 : Vec Ideal S512x128 .f32) (r : Fin 512) (d : Fin 128) :
    sub0 c i arg3 harg3 arg4 harg4 arg5 harg5 arg6 harg6 arg7 harg7 arg8 harg8 arg9 harg9 arg10 harg10 arg11 harg11 arg12 harg12 arg13 harg13 arg14 harg14 x0 x1 x2 x3 x4 x5 x6 x7 x8 (ix2 r d) = blockOut x0 x1 x2 x3 x4 x5 x6 x7 x8 (i 2).val ⟨0, by omega⟩ r d := by
  unfold sub0
  refine (attend_soft _ _ _ r d (blockSc x0 x1 x2 x3 x7 (i 2).val ⟨0, by omega⟩ r) (fun k => rows3 x4 x5 x6 ⟨128 * 0 + k.val, by omega⟩ d)
    (fun k => ?_) (fun k => ?_) (fun k => ?_)).trans ?_
  · rw [scoresE_apply]; refine congrArg₂ (· + ·) ?_ ?_
    · pointwise [Memref.IsWhole.readAt_unread]
      refine congrArg₂ (· + ·) (Finset.sum_congr rfl fun e _ => ?_) rfl
      rw [stack_apply _ _ _ _ (fun h i' e' => if hh : h < 4 then x0 (ix3 0 ⟨i'.val, by omega⟩ ⟨128 * h + e'.val, by omega⟩) else 0)
        (fun i' e' => by pointwise [Memref.IsWhole.readAt_unread]; try rfl) (fun i' e' => by pointwise [Memref.IsWhole.readAt_unread]; try rfl)
        (fun i' e' => by pointwise [Memref.IsWhole.readAt_unread]; try rfl) (fun i' e' => by pointwise [Memref.IsWhole.readAt_unread]; try rfl)]
      refine congrArg₂ (· * ·) (dif_pos (by omega)) ?_
      apply keys_at
      · show 0 + 1 * k.val = k.val; omega
      · show 0 + 1 * e.val = _; omega
    · exact (pen_first (i 2) k 0).trans (if_congr (by have h2 : (i 2).val < 8 := (i 2).isLt; have hk := k.isLt; simp only []; omega) rfl rfl)
  · apply vals_at
    · show 0 + 1 * k.val = 0 + k.val; omega
    · show 0 + 1 * d.val = _; omega
  · apply ones_at
    show 128 ≤ 0 + 1 * (128 + d.val); omega
  · unfold blockOut
    refine congrArg₂ (fun a b => softOut _ a b _) ?_ ?_
    · pointwise [Memref.IsWhole.readAt_unread]
    · pointwise [Memref.IsWhole.readAt_unread]

theorem sub1_apply (c : Dev nD) (i : grid0.Coords) (arg3 : Memref sig .tc .vmem S1x1024x512 .bf16) (harg3 : arg3.IsWhole) (arg4 : Memref sig .tc .vmem S1x128x128 .bf16) (harg4 : arg4.IsWhole) (arg5 : Memref sig .tc .vmem S1x1024x128 .bf16) (harg5 : arg5.IsWhole) (arg6 : Memref sig .tc .vmem S1x128x128 .bf16) (harg6 : arg6.IsWhole) (arg7 : Memref sig .tc .vmem S1x128x128 .bf16) (harg7 : arg7.IsWhole) (arg8 : Memref sig .tc .vmem S1x1024x128 .bf16) (harg8 : arg8.IsWhole) (arg9 : Memref sig .tc .vmem S1x128x128 .bf16) (harg9 : arg9.IsWhole) (arg10 : Memref sig .tc .vmem S512x384 .f32) (harg10 : arg10.IsWhole) (arg11 : Memref sig .tc .vmem S512x128 .f32) (harg11 : arg11.IsWhole) (arg12 : Memref sig .tc .vmem S1x1024x512 .bf16) (harg12 : arg12.IsWhole) (arg13 : Memref sig .tc .vmem S1280x128 .bf16) (harg13 : arg13.IsWhole) (arg14 : Memref sig .tc .vmem S1280x256 .bf16) (harg14 : arg14.IsWhole)
    (x0 : Vec Ideal S1x1024x512 .bf16) (x1 : Vec Ideal S1x128x128 .bf16) (x2 : Vec Ideal S1x1024x128 .bf16) (x3 : Vec Ideal S1x128x128 .bf16) (x4 : Vec Ideal S1x128x128 .bf16) (x5 : Vec Ideal S1x1024x128 .bf16) (x6 : Vec Ideal S1x128x128 .bf16) (x7 : Vec Ideal S512x384 .f32) (x8 : Vec Ideal S512x128 .f32) (r : Fin 512) (d : Fin 128) :
    sub1 c i arg3 harg3 arg4 harg4 arg5 harg5 arg6 harg6 arg7 harg7 arg8 harg8 arg9 harg9 arg10 harg10 arg11 harg11 arg12 harg12 arg13 harg13 arg14 harg14 x0 x1 x2 x3 x4 x5 x6 x7 x8 (ix2 r d) = blockOut x0 x1 x2 x3 x4 x5 x6 x7 x8 (i 2).val ⟨1, by omega⟩ r d := by
  unfold sub1
  refine (attend_soft _ _ _ r d (blockSc x0 x1 x2 x3 x7 (i 2).val ⟨1, by omega⟩ r) (fun k => rows3 x4 x5 x6 ⟨128 * 1 + k.val, by omega⟩ d)
    (fun k => ?_) (fun k => ?_) (fun k => ?_)).trans ?_
  · rw [scoresM_apply]; refine Eq.trans (add_zero _).symm (congrArg₂ (· + ·) ?_ ?_)
    · pointwise [Memref.IsWhole.readAt_unread]
      refine congrArg₂ (· + ·) (Finset.sum_congr rfl fun e _ => ?_) rfl
      rw [stack_apply _ _ _ _ (fun h i' e' => if hh : h < 4 then x0 (ix3 0 ⟨128 * 1 + i'.val, by omega⟩ ⟨128 * h + e'.val, by omega⟩) else 0)
        (fun i' e' => by pointwise [Memref.IsWhole.readAt_unread]; try rfl) (fun i' e' => by pointwise [Memref.IsWhole.readAt_unread]; try rfl)
        (fun i' e' => by pointwise [Memref.IsWhole.readAt_unread]; try rfl) (fun i' e' => by pointwise [Memref.IsWhole.readAt_unread]; try rfl)]
      refine congrArg₂ (· * ·) (dif_pos (by omega)) ?_
      apply keys_at
      · show 128 + 1 * k.val = 128 + k.val; omega
      · show 0 + 1 * e.val = _; omega
    · exact (if_pos (by have : (i 2).val < 8 := (i 2).isLt; have := k.isLt; constructor <;> simp only [] <;> omega)).symm
  · apply vals_at
    · show 128 + 1 * k.val = 128 + k.val; omega
    · show 0 + 1 * d.val = _; omega
  · apply ones_at
    show 128 ≤ 0 + 1 * (128 + d.val); omega
  · unfold blockOut
    refine congrArg₂ (fun a b => softOut _ a b _) ?_ ?_
    · pointwise [Memref.IsWhole.readAt_unread]
    · pointwise [Memref.IsWhole.readAt_unread]

theorem sub2_apply (c : Dev nD) (i : grid0.Coords) (arg3 : Memref sig .tc .vmem S1x1024x512 .bf16) (harg3 : arg3.IsWhole) (arg4 : Memref sig .tc .vmem S1x128x128 .bf16) (harg4 : arg4.IsWhole) (arg5 : Memref sig .tc .vmem S1x1024x128 .bf16) (harg5 : arg5.IsWhole) (arg6 : Memref sig .tc .vmem S1x128x128 .bf16) (harg6 : arg6.IsWhole) (arg7 : Memref sig .tc .vmem S1x128x128 .bf16) (harg7 : arg7.IsWhole) (arg8 : Memref sig .tc .vmem S1x1024x128 .bf16) (harg8 : arg8.IsWhole) (arg9 : Memref sig .tc .vmem S1x128x128 .bf16) (harg9 : arg9.IsWhole) (arg10 : Memref sig .tc .vmem S512x384 .f32) (harg10 : arg10.IsWhole) (arg11 : Memref sig .tc .vmem S512x128 .f32) (harg11 : arg11.IsWhole) (arg12 : Memref sig .tc .vmem S1x1024x512 .bf16) (harg12 : arg12.IsWhole) (arg13 : Memref sig .tc .vmem S1280x128 .bf16) (harg13 : arg13.IsWhole) (arg14 : Memref sig .tc .vmem S1280x256 .bf16) (harg14 : arg14.IsWhole)
    (x0 : Vec Ideal S1x1024x512 .bf16) (x1 : Vec Ideal S1x128x128 .bf16) (x2 : Vec Ideal S1x1024x128 .bf16) (x3 : Vec Ideal S1x128x128 .bf16) (x4 : Vec Ideal S1x128x128 .bf16) (x5 : Vec Ideal S1x1024x128 .bf16) (x6 : Vec Ideal S1x128x128 .bf16) (x7 : Vec Ideal S512x384 .f32) (x8 : Vec Ideal S512x128 .f32) (r : Fin 512) (d : Fin 128) :
    sub2 c i arg3 harg3 arg4 harg4 arg5 harg5 arg6 harg6 arg7 harg7 arg8 harg8 arg9 harg9 arg10 harg10 arg11 harg11 arg12 harg12 arg13 harg13 arg14 harg14 x0 x1 x2 x3 x4 x5 x6 x7 x8 (ix2 r d) = blockOut x0 x1 x2 x3 x4 x5 x6 x7 x8 (i 2).val ⟨2, by omega⟩ r d := by
  unfold sub2
  refine (attend_soft _ _ _ r d (blockSc x0 x1 x2 x3 x7 (i 2).val ⟨2, by omega⟩ r) (fun k => rows3 x4 x5 x6 ⟨128 * 2 + k.val, by omega⟩ d)
    (fun k => ?_) (fun k => ?_) (fun k => ?_)).trans ?_
  · rw [scoresM_apply]; refine Eq.trans (add_zero _).symm (congrArg₂ (· + ·) ?_ ?_)
    · pointwise [Memref.IsWhole.readAt_unread]
      refine congrArg₂ (· + ·) (Finset.sum_congr rfl fun e _ => ?_) rfl
      rw [stack_apply _ _ _ _ (fun h i' e' => if hh : h < 4 then x0 (ix3 0 ⟨128 * 2 + i'.val, by omega⟩ ⟨128 * h + e'.val, by omega⟩) else 0)
        (fun i' e' => by pointwise [Memref.IsWhole.readAt_unread]; try rfl) (fun i' e' => by pointwise [Memref.IsWhole.readAt_unread]; try rfl)
        (fun i' e' => by pointwise [Memref.IsWhole.readAt_unread]; try rfl) (fun i' e' => by pointwise [Memref.IsWhole.readAt_unread]; try rfl)]
      refine congrArg₂ (· * ·) (dif_pos (by omega)) ?_
      apply keys_at
      · show 256 + 1 * k.val = 256 + k.val; omega
      · show 0 + 1 * e.val = _; omega
    · exact (if_pos (by have : (i 2).val < 8 := (i 2).isLt; have := k.isLt; constructor <;> simp only [] <;> omega)).symm
  · apply vals_at
    · show 256 + 1 * k.val = 256 + k.val; omega
    · show 0 + 1 * d.val = _; omega
  · apply ones_at
    show 128 ≤ 0 + 1 * (128 + d.val); omega
  · unfold blockOut
    refine congrArg₂ (fun a b => softOut _ a b _) ?_ ?_
    · pointwise [Memref.IsWhole.readAt_unread]
    · pointwise [Memref.IsWhole.readAt_unread]

theorem sub3_apply (c : Dev nD) (i : grid0.Coords) (arg3 : Memref sig .tc .vmem S1x1024x512 .bf16) (harg3 : arg3.IsWhole) (arg4 : Memref sig .tc .vmem S1x128x128 .bf16) (harg4 : arg4.IsWhole) (arg5 : Memref sig .tc .vmem S1x1024x128 .bf16) (harg5 : arg5.IsWhole) (arg6 : Memref sig .tc .vmem S1x128x128 .bf16) (harg6 : arg6.IsWhole) (arg7 : Memref sig .tc .vmem S1x128x128 .bf16) (harg7 : arg7.IsWhole) (arg8 : Memref sig .tc .vmem S1x1024x128 .bf16) (harg8 : arg8.IsWhole) (arg9 : Memref sig .tc .vmem S1x128x128 .bf16) (harg9 : arg9.IsWhole) (arg10 : Memref sig .tc .vmem S512x384 .f32) (harg10 : arg10.IsWhole) (arg11 : Memref sig .tc .vmem S512x128 .f32) (harg11 : arg11.IsWhole) (arg12 : Memref sig .tc .vmem S1x1024x512 .bf16) (harg12 : arg12.IsWhole) (arg13 : Memref sig .tc .vmem S1280x128 .bf16) (harg13 : arg13.IsWhole) (arg14 : Memref sig .tc .vmem S1280x256 .bf16) (harg14 : arg14.IsWhole)
    (x0 : Vec Ideal S1x1024x512 .bf16) (x1 : Vec Ideal S1x128x128 .bf16) (x2 : Vec Ideal S1x1024x128 .bf16) (x3 : Vec Ideal S1x128x128 .bf16) (x4 : Vec Ideal S1x128x128 .bf16) (x5 : Vec Ideal S1x1024x128 .bf16) (x6 : Vec Ideal S1x128x128 .bf16) (x7 : Vec Ideal S512x384 .f32) (x8 : Vec Ideal S512x128 .f32) (r : Fin 512) (d : Fin 128) :
    sub3 c i arg3 harg3 arg4 harg4 arg5 harg5 arg6 harg6 arg7 harg7 arg8 harg8 arg9 harg9 arg10 harg10 arg11 harg11 arg12 harg12 arg13 harg13 arg14 harg14 x0 x1 x2 x3 x4 x5 x6 x7 x8 (ix2 r d) = blockOut x0 x1 x2 x3 x4 x5 x6 x7 x8 (i 2).val ⟨3, by omega⟩ r d := by
  unfold sub3
  refine (attend_soft _ _ _ r d (blockSc x0 x1 x2 x3 x7 (i 2).val ⟨3, by omega⟩ r) (fun k => rows3 x4 x5 x6 ⟨128 * 3 + k.val, by omega⟩ d)
    (fun k => ?_) (fun k => ?_) (fun k => ?_)).trans ?_
  · rw [scoresM_apply]; refine Eq.trans (add_zero _).symm (congrArg₂ (· + ·) ?_ ?_)
    · pointwise [Memref.IsWhole.readAt_unread]
      refine congrArg₂ (· + ·) (Finset.sum_congr rfl fun e _ => ?_) rfl
      rw [stack_apply _ _ _ _ (fun h i' e' => if hh : h < 4 then x0 (ix3 0 ⟨128 * 3 + i'.val, by omega⟩ ⟨128 * h + e'.val, by omega⟩) else 0)
        (fun i' e' => by pointwise [Memref.IsWhole.readAt_unread]; try rfl) (fun i' e' => by pointwise [Memref.IsWhole.readAt_unread]; try rfl)
        (fun i' e' => by pointwise [Memref.IsWhole.readAt_unread]; try rfl) (fun i' e' => by pointwise [Memref.IsWhole.readAt_unread]; try rfl)]
      refine congrArg₂ (· * ·) (dif_pos (by omega)) ?_
      apply keys_at
      · show 384 + 1 * k.val = 384 + k.val; omega
      · show 0 + 1 * e.val = _; omega
    · exact (if_pos (by have : (i 2).val < 8 := (i 2).isLt; have := k.isLt; constructor <;> simp only [] <;> omega)).symm
  · apply vals_at
    · show 384 + 1 * k.val = 384 + k.val; omega
    · show 0 + 1 * d.val = _; omega
  · apply ones_at
    show 128 ≤ 0 + 1 * (128 + d.val); omega
  · unfold blockOut
    refine congrArg₂ (fun a b => softOut _ a b _) ?_ ?_
    · pointwise [Memref.IsWhole.readAt_unread]
    · pointwise [Memref.IsWhole.readAt_unread]

theorem sub4_apply (c : Dev nD) (i : grid0.Coords) (arg3 : Memref sig .tc .vmem S1x1024x512 .bf16) (harg3 : arg3.IsWhole) (arg4 : Memref sig .tc .vmem S1x128x128 .bf16) (harg4 : arg4.IsWhole) (arg5 : Memref sig .tc .vmem S1x1024x128 .bf16) (harg5 : arg5.IsWhole) (arg6 : Memref sig .tc .vmem S1x128x128 .bf16) (harg6 : arg6.IsWhole) (arg7 : Memref sig .tc .vmem S1x128x128 .bf16) (harg7 : arg7.IsWhole) (arg8 : Memref sig .tc .vmem S1x1024x128 .bf16) (harg8 : arg8.IsWhole) (arg9 : Memref sig .tc .vmem S1x128x128 .bf16) (harg9 : arg9.IsWhole) (arg10 : Memref sig .tc .vmem S512x384 .f32) (harg10 : arg10.IsWhole) (arg11 : Memref sig .tc .vmem S512x128 .f32) (harg11 : arg11.IsWhole) (arg12 : Memref sig .tc .vmem S1x1024x512 .bf16) (harg12 : arg12.IsWhole) (arg13 : Memref sig .tc .vmem S1280x128 .bf16) (harg13 : arg13.IsWhole) (arg14 : Memref sig .tc .vmem S1280x256 .bf16) (harg14 : arg14.IsWhole)
    (x0 : Vec Ideal S1x1024x512 .bf16) (x1 : Vec Ideal S1x128x128 .bf16) (x2 : Vec Ideal S1x1024x128 .bf16) (x3 : Vec Ideal S1x128x128 .bf16) (x4 : Vec Ideal S1x128x128 .bf16) (x5 : Vec Ideal S1x1024x128 .bf16) (x6 : Vec Ideal S1x128x128 .bf16) (x7 : Vec Ideal S512x384 .f32) (x8 : Vec Ideal S512x128 .f32) (r : Fin 512) (d : Fin 128) :
    sub4 c i arg3 harg3 arg4 harg4 arg5 harg5 arg6 harg6 arg7 harg7 arg8 harg8 arg9 harg9 arg10 harg10 arg11 harg11 arg12 harg12 arg13 harg13 arg14 harg14 x0 x1 x2 x3 x4 x5 x6 x7 x8 (ix2 r d) = blockOut x0 x1 x2 x3 x4 x5 x6 x7 x8 (i 2).val ⟨4, by omega⟩ r d := by
  unfold sub4
  refine (attend_soft _ _ _ r d (blockSc x0 x1 x2 x3 x7 (i 2).val ⟨4, by omega⟩ r) (fun k => rows3 x4 x5 x6 ⟨128 * 4 + k.val, by omega⟩ d)
    (fun k => ?_) (fun k => ?_) (fun k => ?_)).trans ?_
  · rw [scoresM_apply]; refine Eq.trans (add_zero _).symm (congrArg₂ (· + ·) ?_ ?_)
    · pointwise [Memref.IsWhole.readAt_unread]
      refine congrArg₂ (· + ·) (Finset.sum_congr rfl fun e _ => ?_) rfl
      rw [stack_apply _ _ _ _ (fun h i' e' => if hh : h < 4 then x0 (ix3 0 ⟨128 * 4 + i'.val, by omega⟩ ⟨128 * h + e'.val, by omega⟩) else 0)
        (fun i' e' => by pointwise [Memref.IsWhole.readAt_unread]; try rfl) (fun i' e' => by pointwise [Memref.IsWhole.readAt_unread]; try rfl)
        (fun i' e' => by pointwise [Memref.IsWhole.readAt_unread]; try rfl) (fun i' e' => by pointwise [Memref.IsWhole.readAt_unread]; try rfl)]
      refine congrArg₂ (· * ·) (dif_pos (by omega)) ?_
      apply keys_at
      · show 512 + 1 * k.val = 512 + k.val; omega
      · show 0 + 1 * e.val = _; omega
    · exact (if_pos (by have : (i 2).val < 8 := (i 2).isLt; have := k.isLt; constructor <;> simp only [] <;> omega)).symm
  · apply vals_at
    · show 512 + 1 * k.val = 512 + k.val; omega
    · show 0 + 1 * d.val = _; omega
  · apply ones_at
    show 128 ≤ 0 + 1 * (128 + d.val); omega
  · unfold blockOut
    refine congrArg₂ (fun a b => softOut _ a b _) ?_ ?_
    · pointwise [Memref.IsWhole.readAt_unread]
    · pointwise [Memref.IsWhole.readAt_unread]

theorem sub5_apply (c : Dev nD) (i : grid0.Coords) (arg3 : Memref sig .tc .vmem S1x1024x512 .bf16) (harg3 : arg3.IsWhole) (arg4 : Memref sig .tc .vmem S1x128x128 .bf16) (harg4 : arg4.IsWhole) (arg5 : Memref sig .tc .vmem S1x1024x128 .bf16) (harg5 : arg5.IsWhole) (arg6 : Memref sig .tc .vmem S1x128x128 .bf16) (harg6 : arg6.IsWhole) (arg7 : Memref sig .tc .vmem S1x128x128 .bf16) (harg7 : arg7.IsWhole) (arg8 : Memref sig .tc .vmem S1x1024x128 .bf16) (harg8 : arg8.IsWhole) (arg9 : Memref sig .tc .vmem S1x128x128 .bf16) (harg9 : arg9.IsWhole) (arg10 : Memref sig .tc .vmem S512x384 .f32) (harg10 : arg10.IsWhole) (arg11 : Memref sig .tc .vmem S512x128 .f32) (harg11 : arg11.IsWhole) (arg12 : Memref sig .tc .vmem S1x1024x512 .bf16) (harg12 : arg12.IsWhole) (arg13 : Memref sig .tc .vmem S1280x128 .bf16) (harg13 : arg13.IsWhole) (arg14 : Memref sig .tc .vmem S1280x256 .bf16) (harg14 : arg14.IsWhole)
    (x0 : Vec Ideal S1x1024x512 .bf16) (x1 : Vec Ideal S1x128x128 .bf16) (x2 : Vec Ideal S1x1024x128 .bf16) (x3 : Vec Ideal S1x128x128 .bf16) (x4 : Vec Ideal S1x128x128 .bf16) (x5 : Vec Ideal S1x1024x128 .bf16) (x6 : Vec Ideal S1x128x128 .bf16) (x7 : Vec Ideal S512x384 .f32) (x8 : Vec Ideal S512x128 .f32) (r : Fin 512) (d : Fin 128) :
    sub5 c i arg3 harg3 arg4 harg4 arg5 harg5 arg6 harg6 arg7 harg7 arg8 harg8 arg9 harg9 arg10 harg10 arg11 harg11 arg12 harg12 arg13 harg13 arg14 harg14 x0 x1 x2 x3 x4 x5 x6 x7 x8 (ix2 r d) = blockOut x0 x1 x2 x3 x4 x5 x6 x7 x8 (i 2).val ⟨5, by omega⟩ r d := by
  unfold sub5
  refine (attend_soft _ _ _ r d (blockSc x0 x1 x2 x3 x7 (i 2).val ⟨5, by omega⟩ r) (fun k => rows3 x4 x5 x6 ⟨128 * 5 + k.val, by omega⟩ d)
    (fun k => ?_) (fun k => ?_) (fun k => ?_)).trans ?_
  · rw [scoresM_apply]; refine Eq.trans (add_zero _).symm (congrArg₂ (· + ·) ?_ ?_)
    · pointwise [Memref.IsWhole.readAt_unread]
      refine congrArg₂ (· + ·) (Finset.sum_congr rfl fun e _ => ?_) rfl
      rw [stack_apply _ _ _ _ (fun h i' e' => if hh : h < 4 then x0 (ix3 0 ⟨128 * 5 + i'.val, by omega⟩ ⟨128 * h + e'.val, by omega⟩) else 0)
        (fun i' e' => by pointwise [Memref.IsWhole.readAt_unread]; try rfl) (fun i' e' => by pointwise [Memref.IsWhole.readAt_unread]; try rfl)
        (fun i' e' => by pointwise [Memref.IsWhole.readAt_unread]; try rfl) (fun i' e' => by pointwise [Memref.IsWhole.readAt_unread]; try rfl)]
      refine congrArg₂ (· * ·) (dif_pos (by omega)) ?_
      apply keys_at
      · show 640 + 1 * k.val = 640 + k.val; omega
      · show 0 + 1 * e.val = _; omega
    · exact (if_pos (by have : (i 2).val < 8 := (i 2).isLt; have := k.isLt; constructor <;> simp only [] <;> omega)).symm
  · apply vals_at
    · show 640 + 1 * k.val = 640 + k.val; omega
    · show 0 + 1 * d.val = _; omega
  · apply ones_at
    show 128 ≤ 0 + 1 * (128 + d.val); omega
  · unfold blockOut
    refine congrArg₂ (fun a b => softOut _ a b _) ?_ ?_
    · pointwise [Memref.IsWhole.readAt_unread]
    · pointwise [Memref.IsWhole.readAt_unread]

theorem sub6_apply (c : Dev nD) (i : grid0.Coords) (arg3 : Memref sig .tc .vmem S1x1024x512 .bf16) (harg3 : arg3.IsWhole) (arg4 : Memref sig .tc .vmem S1x128x128 .bf16) (harg4 : arg4.IsWhole) (arg5 : Memref sig .tc .vmem S1x1024x128 .bf16) (harg5 : arg5.IsWhole) (arg6 : Memref sig .tc .vmem S1x128x128 .bf16) (harg6 : arg6.IsWhole) (arg7 : Memref sig .tc .vmem S1x128x128 .bf16) (harg7 : arg7.IsWhole) (arg8 : Memref sig .tc .vmem S1x1024x128 .bf16) (harg8 : arg8.IsWhole) (arg9 : Memref sig .tc .vmem S1x128x128 .bf16) (harg9 : arg9.IsWhole) (arg10 : Memref sig .tc .vmem S512x384 .f32) (harg10 : arg10.IsWhole) (arg11 : Memref sig .tc .vmem S512x128 .f32) (harg11 : arg11.IsWhole) (arg12 : Memref sig .tc .vmem S1x1024x512 .bf16) (harg12 : arg12.IsWhole) (arg13 : Memref sig .tc .vmem S1280x128 .bf16) (harg13 : arg13.IsWhole) (arg14 : Memref sig .tc .vmem S1280x256 .bf16) (harg14 : arg14.IsWhole)
    (x0 : Vec Ideal S1x1024x512 .bf16) (x1 : Vec Ideal S1x128x128 .bf16) (x2 : Vec Ideal S1x1024x128 .bf16) (x3 : Vec Ideal S1x128x128 .bf16) (x4 : Vec Ideal S1x128x128 .bf16) (x5 : Vec Ideal S1x1024x128 .bf16) (x6 : Vec Ideal S1x128x128 .bf16) (x7 : Vec Ideal S512x384 .f32) (x8 : Vec Ideal S512x128 .f32) (r : Fin 512) (d : Fin 128) :
    sub6 c i arg3 harg3 arg4 harg4 arg5 harg5 arg6 harg6 arg7 harg7 arg8 harg8 arg9 harg9 arg10 harg10 arg11 harg11 arg12 harg12 arg13 harg13 arg14 harg14 x0 x1 x2 x3 x4 x5 x6 x7 x8 (ix2 r d) = blockOut x0 x1 x2 x3 x4 x5 x6 x7 x8 (i 2).val ⟨6, by omega⟩ r d := by
  unfold sub6
  refine (attend_soft _ _ _ r d (blockSc x0 x1 x2 x3 x7 (i 2).val ⟨6, by omega⟩ r) (fun k => rows3 x4 x5 x6 ⟨128 * 6 + k.val, by omega⟩ d)
    (fun k => ?_) (fun k => ?_) (fun k => ?_)).trans ?_
  · rw [scoresM_apply]; refine Eq.trans (add_zero _).symm (congrArg₂ (· + ·) ?_ ?_)
    · pointwise [Memref.IsWhole.readAt_unread]
      refine congrArg₂ (· + ·) (Finset.sum_congr rfl fun e _ => ?_) rfl
      rw [stack_apply _ _ _ _ (fun h i' e' => if hh : h < 4 then x0 (ix3 0 ⟨128 * 6 + i'.val, by omega⟩ ⟨128 * h + e'.val, by omega⟩) else 0)
        (fun i' e' => by pointwise [Memref.IsWhole.readAt_unread]; try rfl) (fun i' e' => by pointwise [Memref.IsWhole.readAt_unread]; try rfl)
        (fun i' e' => by pointwise [Memref.IsWhole.readAt_unread]; try rfl) (fun i' e' => by pointwise [Memref.IsWhole.readAt_unread]; try rfl)]
      refine congrArg₂ (· * ·) (dif_pos (by omega)) ?_
      apply keys_at
      · show 768 + 1 * k.val = 768 + k.val; omega
      · show 0 + 1 * e.val = _; omega
    · exact (if_pos (by have : (i 2).val < 8 := (i 2).isLt; have := k.isLt; constructor <;> simp only [] <;> omega)).symm
  · apply vals_at
    · show 768 + 1 * k.val = 768 + k.val; omega
    · show 0 + 1 * d.val = _; omega
  · apply ones_at
    show 128 ≤ 0 + 1 * (128 + d.val); omega
  · unfold blockOut
    refine congrArg₂ (fun a b => softOut _ a b _) ?_ ?_
    · pointwise [Memref.IsWhole.readAt_unread]
    · pointwise [Memref.IsWhole.readAt_unread]

theorem sub7_apply (c : Dev nD) (i : grid0.Coords) (arg3 : Memref sig .tc .vmem S1x1024x512 .bf16) (harg3 : arg3.IsWhole) (arg4 : Memref sig .tc .vmem S1x128x128 .bf16) (harg4 : arg4.IsWhole) (arg5 : Memref sig .tc .vmem S1x1024x128 .bf16) (harg5 : arg5.IsWhole) (arg6 : Memref sig .tc .vmem S1x128x128 .bf16) (harg6 : arg6.IsWhole) (arg7 : Memref sig .tc .vmem S1x128x128 .bf16) (harg7 : arg7.IsWhole) (arg8 : Memref sig .tc .vmem S1x1024x128 .bf16) (harg8 : arg8.IsWhole) (arg9 : Memref sig .tc .vmem S1x128x128 .bf16) (harg9 : arg9.IsWhole) (arg10 : Memref sig .tc .vmem S512x384 .f32) (harg10 : arg10.IsWhole) (arg11 : Memref sig .tc .vmem S512x128 .f32) (harg11 : arg11.IsWhole) (arg12 : Memref sig .tc .vmem S1x1024x512 .bf16) (harg12 : arg12.IsWhole) (arg13 : Memref sig .tc .vmem S1280x128 .bf16) (harg13 : arg13.IsWhole) (arg14 : Memref sig .tc .vmem S1280x256 .bf16) (harg14 : arg14.IsWhole)
    (x0 : Vec Ideal S1x1024x512 .bf16) (x1 : Vec Ideal S1x128x128 .bf16) (x2 : Vec Ideal S1x1024x128 .bf16) (x3 : Vec Ideal S1x128x128 .bf16) (x4 : Vec Ideal S1x128x128 .bf16) (x5 : Vec Ideal S1x1024x128 .bf16) (x6 : Vec Ideal S1x128x128 .bf16) (x7 : Vec Ideal S512x384 .f32) (x8 : Vec Ideal S512x128 .f32) (r : Fin 512) (d : Fin 128) :
    sub7 c i arg3 harg3 arg4 harg4 arg5 harg5 arg6 harg6 arg7 harg7 arg8 harg8 arg9 harg9 arg10 harg10 arg11 harg11 arg12 harg12 arg13 harg13 arg14 harg14 x0 x1 x2 x3 x4 x5 x6 x7 x8 (ix2 r d) = blockOut x0 x1 x2 x3 x4 x5 x6 x7 x8 (i 2).val ⟨7, by omega⟩ r d := by
  unfold sub7
  refine (attend_soft _ _ _ r d (blockSc x0 x1 x2 x3 x7 (i 2).val ⟨7, by omega⟩ r) (fun k => rows3 x4 x5 x6 ⟨128 * 7 + k.val, by omega⟩ d)
    (fun k => ?_) (fun k => ?_) (fun k => ?_)).trans ?_
  · rw [scoresE_apply]; refine congrArg₂ (· + ·) ?_ ?_
    · pointwise [Memref.IsWhole.readAt_unread]
      refine congrArg₂ (· + ·) (Finset.sum_congr rfl fun e _ => ?_) rfl
      rw [stack_apply _ _ _ _ (fun h i' e' => if hh : h < 4 then x0 (ix3 0 ⟨128 * 7 + i'.val, by omega⟩ ⟨128 * h + e'.val, by omega⟩) else 0)
        (fun i' e' => by pointwise [Memref.IsWhole.readAt_unread]; try rfl) (fun i' e' => by pointwise [Memref.IsWhole.readAt_unread]; try rfl)
        (fun i' e' => by pointwise [Memref.IsWhole.readAt_unread]; try rfl) (fun i' e' => by pointwise [Memref.IsWhole.readAt_unread]; try rfl)]
      refine congrArg₂ (· * ·) (dif_pos (by omega)) ?_
      apply keys_at
      · show 896 + 1 * k.val = 896 + k.val; omega
      · show 0 + 1 * e.val = _; omega
    · exact (pen_last (i 2) k 0).trans (if_congr (by have h2 : (i 2).val < 8 := (i 2).isLt; have hk := k.isLt; simp only []; omega) rfl rfl)
  · apply vals_at
    · show 896 + 1 * k.val = 896 + k.val; omega
    · show 0 + 1 * d.val = _; omega
  · apply ones_at
    show 128 ≤ 0 + 1 * (128 + d.val); omega
  · unfold blockOut
    refine congrArg₂ (fun a b => softOut _ a b _) ?_ ?_
    · pointwise [Memref.IsWhole.readAt_unread]
    · pointwise [Memref.IsWhole.readAt_unread]

end Cert.KernelIdeal.Tile

end

end
-- ==== Proof.Geom.lean ====
module

public import proofs.«01_k».proof.Proof.HostValue
public import proofs.«01_k».proof.Proof.Block
public import Idealize.ShloMosaic.Lib.Pipeline.ValueKit.Geometry

@[expose] public section

/-! What each window's block holds, of the arguments. -/

set_option maxRecDepth 16384

noncomputable section

namespace Cert.KernelIdeal.Geom
open Cert Cert.KernelIdeal Cert.KernelIdeal.Gen Idealize.ShloMosaic Idealize.ShloMosaic.TcCoe

variable (m : (ℓ : Loc nD τ sig) → Buf (Elt Ideal) ℓ)

/-- Where every window's block lies: by batch, by key/value head and by block of the sequence. -/
theorem idx : ∀ t : Fin cfg0.N,
    win0_0.index t = ![(grid0.coords t 0).val, (grid0.coords t 2).val, 4 + (grid0.coords t 1).val]
    ∧ win0_1.index t = ![(grid0.coords t 0).val, 8 * (grid0.coords t 2).val - 1, 48 + (grid0.coords t 1).val]
    ∧ win0_2.index t = ![(grid0.coords t 0).val, (grid0.coords t 2).val, 48 + (grid0.coords t 1).val]
    ∧ win0_3.index t = ![(grid0.coords t 0).val, min (8 * ((grid0.coords t 2).val + 1)) 63, 48 + (grid0.coords t 1).val]
    ∧ win0_4.index t = ![(grid0.coords t 0).val, 8 * (grid0.coords t 2).val - 1, 56 + (grid0.coords t 1).val]
    ∧ win0_5.index t = ![(grid0.coords t 0).val, (grid0.coords t 2).val, 56 + (grid0.coords t 1).val]
    ∧ win0_6.index t = ![(grid0.coords t 0).val, min (8 * ((grid0.coords t 2).val + 1)) 63, 56 + (grid0.coords t 1).val]
    ∧ win0_7.index t = ![(grid0.coords t 1).val, 0]
    ∧ win0_8.index t = ![(grid0.coords t 1).val, 0]
    ∧ win0_9.index t = ![(grid0.coords t 0).val, (grid0.coords t 2).val, (grid0.coords t 1).val] :=
  (by decide +kernel : ∀ t : Fin grid0.N, _)

/-- The first argument: queries, keys and values beside other columns. -/
abbrev arg (c : Dev nD) : Vec Ideal S2x8192x16384 .bf16 := m (c, Proc.tc.devRef main_arg0)

variable (c : Dev nD) (t : Fin cfg0.N)

theorem lt0 : (grid0.coords t 0).val < 2 := (grid0.coords t 0).isLt
theorem lt1 : (grid0.coords t 1).val < 8 := (grid0.coords t 1).isLt
theorem lt2 : (grid0.coords t 2).val < 8 := (grid0.coords t 2).isLt

theorem blk0 (a : Fin 1024) (e : Fin 512) (x : Fin 8192) (hx : x.val = 1024 * (grid0.coords t 2).val + a.val)
    (y : Fin 16384) (hy : y.val = 2048 + (512 * (grid0.coords t 1).val + e.val)) :
    (iblk m c 0 t : Vec Ideal S1x1024x512 .bf16) (ix3 0 a e) = arg m c (ix3 ⟨(grid0.coords t 0).val, lt0 t⟩ x y) := by
  blk_ext [iblk, V_main_arg0, idx t, hx, hy]

theorem blk1 (a : Fin 128) (e : Fin 128) (x : Fin 8192) (hx : x.val = 128 * (8 * (grid0.coords t 2).val - 1) + a.val) (he : 6144 + (128 * (grid0.coords t 1).val + e.val) < 16384) :
    (iblk m c 1 t : Vec Ideal S1x128x128 .bf16) (ix3 0 a e)
      = arg m c (ix3 ⟨(grid0.coords t 0).val, lt0 t⟩ x ⟨6144 + (128 * (grid0.coords t 1).val + e.val), he⟩) := by
  blk_ext [iblk, V_main_arg0, idx t, hx]

theorem blk2 (a : Fin 1024) (e : Fin 128) (x : Fin 8192) (hx : x.val = 1024 * (grid0.coords t 2).val + a.val) (he : 6144 + (128 * (grid0.coords t 1).val + e.val) < 16384) :
    (iblk m c 2 t : Vec Ideal S1x1024x128 .bf16) (ix3 0 a e)
      = arg m c (ix3 ⟨(grid0.coords t 0).val, lt0 t⟩ x ⟨6144 + (128 * (grid0.coords t 1).val + e.val), he⟩) := by
  blk_ext [iblk, V_main_arg0, idx t, hx]

theorem blk3 (a : Fin 128) (e : Fin 128) (x : Fin 8192) (hx : x.val = 128 * min (8 * ((grid0.coords t 2).val + 1)) 63 + a.val) (he : 6144 + (128 * (grid0.coords t 1).val + e.val) < 16384) :
    (iblk m c 3 t : Vec Ideal S1x128x128 .bf16) (ix3 0 a e)
      = arg m c (ix3 ⟨(grid0.coords t 0).val, lt0 t⟩ x ⟨6144 + (128 * (grid0.coords t 1).val + e.val), he⟩) := by
  blk_ext [iblk, V_main_arg0, idx t, hx]

theorem blk4 (a : Fin 128) (e : Fin 128) (x : Fin 8192) (hx : x.val = 128 * (8 * (grid0.coords t 2).val - 1) + a.val) (he : 7168 + (128 * (grid0.coords t 1).val + e.val) < 16384) :
    (iblk m c 4 t : Vec Ideal S1x128x128 .bf16) (ix3 0 a e)
      = arg m c (ix3 ⟨(grid0.coords t 0).val, lt0 t⟩ x ⟨7168 + (128 * (grid0.coords t 1).val + e.val), he⟩) := by
  blk_ext [iblk, V_main_arg0, idx t, hx]

theorem blk5 (a : Fin 1024) (e : Fin 128) (x : Fin 8192) (hx : x.val = 1024 * (grid0.coords t 2).val + a.val) (he : 7168 + (128 * (grid0.coords t 1).val + e.val) < 16384) :
    (iblk m c 5 t : Vec Ideal S1x1024x128 .bf16) (ix3 0 a e)
      = arg m c (ix3 ⟨(grid0.coords t 0).val, lt0 t⟩ x ⟨7168 + (128 * (grid0.coords t 1).val + e.val), he⟩) := by
  blk_ext [iblk, V_main_arg0, idx t, hx]

theorem blk6 (a : Fin 128) (e : Fin 128) (x : Fin 8192) (hx : x.val = 128 * min (8 * ((grid0.coords t 2).val + 1)) 63 + a.val) (he : 7168 + (128 * (grid0.coords t 1).val + e.val) < 16384) :
    (iblk m c 6 t : Vec Ideal S1x128x128 .bf16) (ix3 0 a e)
      = arg m c (ix3 ⟨(grid0.coords t 0).val, lt0 t⟩ x ⟨7168 + (128 * (grid0.coords t 1).val + e.val), he⟩) := by
  blk_ext [iblk, V_main_arg0, idx t, hx]

theorem blk7 (h : Fin 4) (q : Fin 128) (r : Fin 512) (hr : r.val = 128 * h.val + q.val) (k : Fin 384) (H : Fin 32) (hH : H.val = 4 * (grid0.coords t 1).val + h.val) :
    (iblk m c 7 t : Vec Ideal S512x384 .f32) (ix2 r k)
      = (V m c main_v33 : Vec Ideal S4096x384 .f32) (ix2 ⟨128 * H.val + q.val, by omega⟩ k) := by
  blk_ext [iblk, idx t, hr, hH]

theorem blk8 (h : Fin 4) (q : Fin 128) (r : Fin 512) (hr : r.val = 128 * h.val + q.val) (k : Fin 128) (H : Fin 32) (hH : H.val = 4 * (grid0.coords t 1).val + h.val) :
    (iblk m c 8 t : Vec Ideal S512x128 .f32) (ix2 r k)
      = (V m c main_v38 : Vec Ideal S4096x128 .f32) (ix2 ⟨128 * H.val + q.val, by omega⟩ k) := by
  blk_ext [iblk, idx t, hr, hH]

/-- The window rows around a block are the rows of the sequence, where the sequence has them. -/
theorem rows_keys (n : Fin 1280) (e : Fin 128) (x : Fin 8192) (hx : x.val + 128 = 1024 * (grid0.coords t 2).val + n.val)
    (he : 6144 + (128 * (grid0.coords t 1).val + e.val) < 16384) :
    Tile.rows3 (iblk m c 1 t : Vec Ideal S1x128x128 .bf16) (iblk m c 2 t : Vec Ideal S1x1024x128 .bf16) (iblk m c 3 t : Vec Ideal S1x128x128 .bf16) n e
      = arg m c (ix3 ⟨(grid0.coords t 0).val, lt0 t⟩ x ⟨6144 + (128 * (grid0.coords t 1).val + e.val), he⟩) := by
  have h2 := lt2 t
  have hn := n.isLt
  have hxl := x.isLt
  unfold Tile.rows3
  split_ifs with h h'
  · exact blk1 m c t _ _ x (by simp only []; omega) he
  · exact blk2 m c t _ _ x (by simp only []; omega) he
  · exact blk3 m c t _ _ x (by simp only []; omega) he

/-- The window rows around a block are the rows of the sequence, where the sequence has them. -/
theorem rows_vals (n : Fin 1280) (e : Fin 128) (x : Fin 8192) (hx : x.val + 128 = 1024 * (grid0.coords t 2).val + n.val)
    (he : 7168 + (128 * (grid0.coords t 1).val + e.val) < 16384) :
    Tile.rows3 (iblk m c 4 t : Vec Ideal S1x128x128 .bf16) (iblk m c 5 t : Vec Ideal S1x1024x128 .bf16) (iblk m c 6 t : Vec Ideal S1x128x128 .bf16) n e
      = arg m c (ix3 ⟨(grid0.coords t 0).val, lt0 t⟩ x ⟨7168 + (128 * (grid0.coords t 1).val + e.val), he⟩) := by
  have h2 := lt2 t
  have hn := n.isLt
  have hxl := x.isLt
  unfold Tile.rows3
  split_ifs with h h'
  · exact blk4 m c t _ _ x (by simp only []; omega) he
  · exact blk5 m c t _ _ x (by simp only []; omega) he
  · exact blk6 m c t _ _ x (by simp only []; omega) he

end Cert.KernelIdeal.Geom

end

end
-- ==== Proof.Out.lean ====
module

public import proofs.«01_k».proof.Proof.Block

@[expose] public section

/-! The block a grid point writes: 8 sub-blocks of 128 queries by 4 heads of 128 lanes. -/

set_option maxRecDepth 16384

noncomputable section

namespace Cert.KernelIdeal.Tile
open Cert.KernelIdeal Cert.KernelIdeal.Gen Idealize.ShloMosaic Idealize.ShloMosaic.TcCoe
open scoped BigOperators

/-- The block's element at query `y1` and column `y2`. -/
def tileOut (x0 : Vec Ideal S1x1024x512 .bf16) (x1 : Vec Ideal S1x128x128 .bf16) (x2 : Vec Ideal S1x1024x128 .bf16) (x3 : Vec Ideal S1x128x128 .bf16)
    (x4 : Vec Ideal S1x128x128 .bf16) (x5 : Vec Ideal S1x1024x128 .bf16) (x6 : Vec Ideal S1x128x128 .bf16)
    (x7 : Vec Ideal S512x384 .f32) (x8 : Vec Ideal S512x128 .f32) (i : ℕ) (y1 : Fin 1024) (y2 : Fin 512) : EReal :=
  blockOut x0 x1 x2 x3 x4 x5 x6 x7 x8 i ⟨y1.val / 128, by omega⟩ ⟨y2.val / 128 * 128 + y1.val % 128, by omega⟩ ⟨y2.val % 128, by omega⟩

/-- The block, as a function of its index. -/
def tileFn (x0 : Vec Ideal S1x1024x512 .bf16) (x1 : Vec Ideal S1x128x128 .bf16) (x2 : Vec Ideal S1x1024x128 .bf16) (x3 : Vec Ideal S1x128x128 .bf16)
    (x4 : Vec Ideal S1x128x128 .bf16) (x5 : Vec Ideal S1x1024x128 .bf16) (x6 : Vec Ideal S1x128x128 .bf16)
    (x7 : Vec Ideal S512x384 .f32) (x8 : Vec Ideal S512x128 .f32) (i : ℕ) : S1x1024x512.Idx → Elt Ideal .bf16 :=
  fun y => tileOut x0 x1 x2 x3 x4 x5 x6 x7 x8 i (y 1) (y 2)

/-- A piece of the block: head `h` (columns from `128 h`) of sub-block `s`. -/
theorem piece_ok (x0 : Vec Ideal S1x1024x512 .bf16) (x1 : Vec Ideal S1x128x128 .bf16) (x2 : Vec Ideal S1x1024x128 .bf16) (x3 : Vec Ideal S1x128x128 .bf16)
    (x4 : Vec Ideal S1x128x128 .bf16) (x5 : Vec Ideal S1x1024x128 .bf16) (x6 : Vec Ideal S1x128x128 .bf16)
    (x7 : Vec Ideal S512x384 .f32) (x8 : Vec Ideal S512x128 .f32) (i : ℕ)
    (s : Fin 8) (h : ℕ) (hh : h < 4) (o a b : ℕ) (ho : o = 128 * h) (ha : a = 128 * s.val) (hb : b = 128 * h)
    (sl : S512x128.Slices ![o, 0] S128x128) (A : FVec Ideal S512x128 .bf16)
    (hA : ∀ r d, A (ix2 r d) = blockOut x0 x1 x2 x3 x4 x5 x6 x7 x8 i s r d)
    (inb : ∀ k, (![0, a, b] : Fin 3 → ℕ) k + S1x128x128.size k ≤ S1x1024x512.size k)
    (z : S1x128x128.Idx) :
    headOut o sl A z = tileFn x0 x1 x2 x3 x4 x5 x6 x7 x8 i
      ((Rect.unit (s := S1x1024x512) ![0, a, b] S1x128x128.size inb).emb z) := by
  subst ho ha hb
  idx_vars z
  rw [headOut_apply _ (by omega), hA]
  have h1 : ((Rect.unit (s := S1x1024x512) ![0, 128 * s.val, 128 * h] S1x128x128.size inb).emb (ix3 z0 z1 z2) 1).val = 128 * s.val + z1.val := by
    show 128 * s.val + 1 * z1.val = _; omega
  have h2 : ((Rect.unit (s := S1x1024x512) ![0, 128 * s.val, 128 * h] S1x128x128.size inb).emb (ix3 z0 z1 z2) 2).val = 128 * h + z2.val := by
    show 128 * h + 1 * z2.val = _; omega
  have q1 := z1.isLt
  have q2 := z2.isLt
  show _ = blockOut _ _ _ _ _ _ _ _ _ _ _ _ _
  congr 1
  · exact Fin.ext (by simp only [h1]; omega)
  · exact Fin.ext (by simp only [h1, h2]; omega)
  · exact Fin.ext (by simp only [h2]; omega)

/-- Every element of the block grid point `i` writes. -/
theorem out_apply (c : Dev nD) (i : grid0.Coords) (arg3 : Memref sig .tc .vmem S1x1024x512 .bf16) (harg3 : arg3.IsWhole) (arg4 : Memref sig .tc .vmem S1x128x128 .bf16) (harg4 : arg4.IsWhole) (arg5 : Memref sig .tc .vmem S1x1024x128 .bf16) (harg5 : arg5.IsWhole) (arg6 : Memref sig .tc .vmem S1x128x128 .bf16) (harg6 : arg6.IsWhole) (arg7 : Memref sig .tc .vmem S1x128x128 .bf16) (harg7 : arg7.IsWhole) (arg8 : Memref sig .tc .vmem S1x1024x128 .bf16) (harg8 : arg8.IsWhole) (arg9 : Memref sig .tc .vmem S1x128x128 .bf16) (harg9 : arg9.IsWhole) (arg10 : Memref sig .tc .vmem S512x384 .f32) (harg10 : arg10.IsWhole) (arg11 : Memref sig .tc .vmem S512x128 .f32) (harg11 : arg11.IsWhole) (arg12 : Memref sig .tc .vmem S1x1024x512 .bf16) (harg12 : arg12.IsWhole) (arg13 : Memref sig .tc .vmem S1280x128 .bf16) (harg13 : arg13.IsWhole) (arg14 : Memref sig .tc .vmem S1280x256 .bf16) (harg14 : arg14.IsWhole)
    (x0 : Vec Ideal S1x1024x512 .bf16) (x1 : Vec Ideal S1x128x128 .bf16) (x2 : Vec Ideal S1x1024x128 .bf16) (x3 : Vec Ideal S1x128x128 .bf16) (x4 : Vec Ideal S1x128x128 .bf16) (x5 : Vec Ideal S1x1024x128 .bf16) (x6 : Vec Ideal S1x128x128 .bf16) (x7 : Vec Ideal S512x384 .f32) (x8 : Vec Ideal S512x128 .f32) (y : S1x1024x512.Idx) :
    out0_A_9 c i arg3 harg3 arg4 harg4 arg5 harg5 arg6 harg6 arg7 harg7 arg8 harg8 arg9 harg9 arg10 harg10 arg11 harg11 arg12 harg12 arg13 harg13 arg14 harg14 x0 x1 x2 x3 x4 x5 x6 x7 x8 y = tileOut x0 x1 x2 x3 x4 x5 x6 x7 x8 (i 2).val (y 1) (y 2) := by
  have hc := cover0_A_9 c i arg3 harg3 arg4 harg4 arg5 harg5 arg6 harg6 arg7 harg7 arg8 harg8 arg9 harg9 arg10 harg10 arg11 harg11 arg12 harg12 arg13 harg13 arg14 harg14 x0 x1 x2 x3 x4 x5 x6 x7 x8 y
  rw [pieces_eq] at hc
  unfold out0_A_9
  rw [pieces_eq]
  refine View.read_writes_apply_of_pieces _ _ (tileFn x0 x1 x2 x3 x4 x5 x6 x7 x8 (i 2).val) _ (View.PiecesOf.mem ?_) y hc
  refine ⟨piece_ok x0 x1 x2 x3 x4 x5 x6 x7 x8 _ 7 3 (by decide) 384 896 384 rfl rfl rfl slices_S512x128_o384_0_S128x128 _ (sub7_apply c i arg3 harg3 arg4 harg4 arg5 harg5 arg6 harg6 arg7 harg7 arg8 harg8 arg9 harg9 arg10 harg10 arg11 harg11 arg12 harg12 arg13 harg13 arg14 harg14 x0 x1 x2 x3 x4 x5 x6 x7 x8) inb_S1x1024x512_S1x128x128_0_896_384, ?_⟩
  refine ⟨piece_ok x0 x1 x2 x3 x4 x5 x6 x7 x8 _ 7 2 (by decide) 256 896 256 rfl rfl rfl slices_S512x128_o256_0_S128x128 _ (sub7_apply c i arg3 harg3 arg4 harg4 arg5 harg5 arg6 harg6 arg7 harg7 arg8 harg8 arg9 harg9 arg10 harg10 arg11 harg11 arg12 harg12 arg13 harg13 arg14 harg14 x0 x1 x2 x3 x4 x5 x6 x7 x8) inb_S1x1024x512_S1x128x128_0_896_256, ?_⟩
  refine ⟨piece_ok x0 x1 x2 x3 x4 x5 x6 x7 x8 _ 7 1 (by decide) 128 896 128 rfl rfl rfl slices_S512x128_o128_0_S128x128 _ (sub7_apply c i arg3 harg3 arg4 harg4 arg5 harg5 arg6 harg6 arg7 harg7 arg8 harg8 arg9 harg9 arg10 harg10 arg11 harg11 arg12 harg12 arg13 harg13 arg14 harg14 x0 x1 x2 x3 x4 x5 x6 x7 x8) inb_S1x1024x512_S1x128x128_0_896_128, ?_⟩
  refine ⟨piece_ok x0 x1 x2 x3 x4 x5 x6 x7 x8 _ 7 0 (by decide) 0 896 0 rfl rfl rfl slices_S512x128_o0_0_S128x128 _ (sub7_apply c i arg3 harg3 arg4 harg4 arg5 harg5 arg6 harg6 arg7 harg7 arg8 harg8 arg9 harg9 arg10 harg10 arg11 harg11 arg12 harg12 arg13 harg13 arg14 harg14 x0 x1 x2 x3 x4 x5 x6 x7 x8) inb_S1x1024x512_S1x128x128_0_896_0, ?_⟩
  refine ⟨piece_ok x0 x1 x2 x3 x4 x5 x6 x7 x8 _ 6 3 (by decide) 384 768 384 rfl rfl rfl slices_S512x128_o384_0_S128x128 _ (sub6_apply c i arg3 harg3 arg4 harg4 arg5 harg5 arg6 harg6 arg7 harg7 arg8 harg8 arg9 harg9 arg10 harg10 arg11 harg11 arg12 harg12 arg13 harg13 arg14 harg14 x0 x1 x2 x3 x4 x5 x6 x7 x8) inb_S1x1024x512_S1x128x128_0_768_384, ?_⟩
  refine ⟨piece_ok x0 x1 x2 x3 x4 x5 x6 x7 x8 _ 6 2 (by decide) 256 768 256 rfl rfl rfl slices_S512x128_o256_0_S128x128 _ (sub6_apply c i arg3 harg3 arg4 harg4 arg5 harg5 arg6 harg6 arg7 harg7 arg8 harg8 arg9 harg9 arg10 harg10 arg11 harg11 arg12 harg12 arg13 harg13 arg14 harg14 x0 x1 x2 x3 x4 x5 x6 x7 x8) inb_S1x1024x512_S1x128x128_0_768_256, ?_⟩
  refine ⟨piece_ok x0 x1 x2 x3 x4 x5 x6 x7 x8 _ 6 1 (by decide) 128 768 128 rfl rfl rfl slices_S512x128_o128_0_S128x128 _ (sub6_apply c i arg3 harg3 arg4 harg4 arg5 harg5 arg6 harg6 arg7 harg7 arg8 harg8 arg9 harg9 arg10 harg10 arg11 harg11 arg12 harg12 arg13 harg13 arg14 harg14 x0 x1 x2 x3 x4 x5 x6 x7 x8) inb_S1x1024x512_S1x128x128_0_768_128, ?_⟩
  refine ⟨piece_ok x0 x1 x2 x3 x4 x5 x6 x7 x8 _ 6 0 (by decide) 0 768 0 rfl rfl rfl slices_S512x128_o0_0_S128x128 _ (sub6_apply c i arg3 harg3 arg4 harg4 arg5 harg5 arg6 harg6 arg7 harg7 arg8 harg8 arg9 harg9 arg10 harg10 arg11 harg11 arg12 harg12 arg13 harg13 arg14 harg14 x0 x1 x2 x3 x4 x5 x6 x7 x8) inb_S1x1024x512_S1x128x128_0_768_0, ?_⟩
  refine ⟨piece_ok x0 x1 x2 x3 x4 x5 x6 x7 x8 _ 5 3 (by decide) 384 640 384 rfl rfl rfl slices_S512x128_o384_0_S128x128 _ (sub5_apply c i arg3 harg3 arg4 harg4 arg5 harg5 arg6 harg6 arg7 harg7 arg8 harg8 arg9 harg9 arg10 harg10 arg11 harg11 arg12 harg12 arg13 harg13 arg14 harg14 x0 x1 x2 x3 x4 x5 x6 x7 x8) inb_S1x1024x512_S1x128x128_0_640_384, ?_⟩
  refine ⟨piece_ok x0 x1 x2 x3 x4 x5 x6 x7 x8 _ 5 2 (by decide) 256 640 256 rfl rfl rfl slices_S512x128_o256_0_S128x128 _ (sub5_apply c i arg3 harg3 arg4 harg4 arg5 harg5 arg6 harg6 arg7 harg7 arg8 harg8 arg9 harg9 arg10 harg10 arg11 harg11 arg12 harg12 arg13 harg13 arg14 harg14 x0 x1 x2 x3 x4 x5 x6 x7 x8) inb_S1x1024x512_S1x128x128_0_640_256, ?_⟩
  refine ⟨piece_ok x0 x1 x2 x3 x4 x5 x6 x7 x8 _ 5 1 (by decide) 128 640 128 rfl rfl rfl slices_S512x128_o128_0_S128x128 _ (sub5_apply c i arg3 harg3 arg4 harg4 arg5 harg5 arg6 harg6 arg7 harg7 arg8 harg8 arg9 harg9 arg10 harg10 arg11 harg11 arg12 harg12 arg13 harg13 arg14 harg14 x0 x1 x2 x3 x4 x5 x6 x7 x8) inb_S1x1024x512_S1x128x128_0_640_128, ?_⟩
  refine ⟨piece_ok x0 x1 x2 x3 x4 x5 x6 x7 x8 _ 5 0 (by decide) 0 640 0 rfl rfl rfl slices_S512x128_o0_0_S128x128 _ (sub5_apply c i arg3 harg3 arg4 harg4 arg5 harg5 arg6 harg6 arg7 harg7 arg8 harg8 arg9 harg9 arg10 harg10 arg11 harg11 arg12 harg12 arg13 harg13 arg14 harg14 x0 x1 x2 x3 x4 x5 x6 x7 x8) inb_S1x1024x512_S1x128x128_0_640_0, ?_⟩
  refine ⟨piece_ok x0 x1 x2 x3 x4 x5 x6 x7 x8 _ 4 3 (by decide) 384 512 384 rfl rfl rfl slices_S512x128_o384_0_S128x128 _ (sub4_apply c i arg3 harg3 arg4 harg4 arg5 harg5 arg6 harg6 arg7 harg7 arg8 harg8 arg9 harg9 arg10 harg10 arg11 harg11 arg12 harg12 arg13 harg13 arg14 harg14 x0 x1 x2 x3 x4 x5 x6 x7 x8) inb_S1x1024x512_S1x128x128_0_512_384, ?_⟩
  refine ⟨piece_ok x0 x1 x2 x3 x4 x5 x6 x7 x8 _ 4 2 (by decide) 256 512 256 rfl rfl rfl slices_S512x128_o256_0_S128x128 _ (sub4_apply c i arg3 harg3 arg4 harg4 arg5 harg5 arg6 harg6 arg7 harg7 arg8 harg8 arg9 harg9 arg10 harg10 arg11 harg11 arg12 harg12 arg13 harg13 arg14 harg14 x0 x1 x2 x3 x4 x5 x6 x7 x8) inb_S1x1024x512_S1x128x128_0_512_256, ?_⟩
  refine ⟨piece_ok x0 x1 x2 x3 x4 x5 x6 x7 x8 _ 4 1 (by decide) 128 512 128 rfl rfl rfl slices_S512x128_o128_0_S128x128 _ (sub4_apply c i arg3 harg3 arg4 harg4 arg5 harg5 arg6 harg6 arg7 harg7 arg8 harg8 arg9 harg9 arg10 harg10 arg11 harg11 arg12 harg12 arg13 harg13 arg14 harg14 x0 x1 x2 x3 x4 x5 x6 x7 x8) inb_S1x1024x512_S1x128x128_0_512_128, ?_⟩
  refine ⟨piece_ok x0 x1 x2 x3 x4 x5 x6 x7 x8 _ 4 0 (by decide) 0 512 0 rfl rfl rfl slices_S512x128_o0_0_S128x128 _ (sub4_apply c i arg3 harg3 arg4 harg4 arg5 harg5 arg6 harg6 arg7 harg7 arg8 harg8 arg9 harg9 arg10 harg10 arg11 harg11 arg12 harg12 arg13 harg13 arg14 harg14 x0 x1 x2 x3 x4 x5 x6 x7 x8) inb_S1x1024x512_S1x128x128_0_512_0, ?_⟩
  refine ⟨piece_ok x0 x1 x2 x3 x4 x5 x6 x7 x8 _ 3 3 (by decide) 384 384 384 rfl rfl rfl slices_S512x128_o384_0_S128x128 _ (sub3_apply c i arg3 harg3 arg4 harg4 arg5 harg5 arg6 harg6 arg7 harg7 arg8 harg8 arg9 harg9 arg10 harg10 arg11 harg11 arg12 harg12 arg13 harg13 arg14 harg14 x0 x1 x2 x3 x4 x5 x6 x7 x8) inb_S1x1024x512_S1x128x128_0_384_384, ?_⟩
  refine ⟨piece_ok x0 x1 x2 x3 x4 x5 x6 x7 x8 _ 3 2 (by decide) 256 384 256 rfl rfl rfl slices_S512x128_o256_0_S128x128 _ (sub3_apply c i arg3 harg3 arg4 harg4 arg5 harg5 arg6 harg6 arg7 harg7 arg8 harg8 arg9 harg9 arg10 harg10 arg11 harg11 arg12 harg12 arg13 harg13 arg14 harg14 x0 x1 x2 x3 x4 x5 x6 x7 x8) inb_S1x1024x512_S1x128x128_0_384_256, ?_⟩
  refine ⟨piece_ok x0 x1 x2 x3 x4 x5 x6 x7 x8 _ 3 1 (by decide) 128 384 128 rfl rfl rfl slices_S512x128_o128_0_S128x128 _ (sub3_apply c i arg3 harg3 arg4 harg4 arg5 harg5 arg6 harg6 arg7 harg7 arg8 harg8 arg9 harg9 arg10 harg10 arg11 harg11 arg12 harg12 arg13 harg13 arg14 harg14 x0 x1 x2 x3 x4 x5 x6 x7 x8) inb_S1x1024x512_S1x128x128_0_384_128, ?_⟩
  refine ⟨piece_ok x0 x1 x2 x3 x4 x5 x6 x7 x8 _ 3 0 (by decide) 0 384 0 rfl rfl rfl slices_S512x128_o0_0_S128x128 _ (sub3_apply c i arg3 harg3 arg4 harg4 arg5 harg5 arg6 harg6 arg7 harg7 arg8 harg8 arg9 harg9 arg10 harg10 arg11 harg11 arg12 harg12 arg13 harg13 arg14 harg14 x0 x1 x2 x3 x4 x5 x6 x7 x8) inb_S1x1024x512_S1x128x128_0_384_0, ?_⟩
  refine ⟨piece_ok x0 x1 x2 x3 x4 x5 x6 x7 x8 _ 2 3 (by decide) 384 256 384 rfl rfl rfl slices_S512x128_o384_0_S128x128 _ (sub2_apply c i arg3 harg3 arg4 harg4 arg5 harg5 arg6 harg6 arg7 harg7 arg8 harg8 arg9 harg9 arg10 harg10 arg11 harg11 arg12 harg12 arg13 harg13 arg14 harg14 x0 x1 x2 x3 x4 x5 x6 x7 x8) inb_S1x1024x512_S1x128x128_0_256_384, ?_⟩
  refine ⟨piece_ok x0 x1 x2 x3 x4 x5 x6 x7 x8 _ 2 2 (by decide) 256 256 256 rfl rfl rfl slices_S512x128_o256_0_S128x128 _ (sub2_apply c i arg3 harg3 arg4 harg4 arg5 harg5 arg6 harg6 arg7 harg7 arg8 harg8 arg9 harg9 arg10 harg10 arg11 harg11 arg12 harg12 arg13 harg13 arg14 harg14 x0 x1 x2 x3 x4 x5 x6 x7 x8) inb_S1x1024x512_S1x128x128_0_256_256, ?_⟩
  refine ⟨piece_ok x0 x1 x2 x3 x4 x5 x6 x7 x8 _ 2 1 (by decide) 128 256 128 rfl rfl rfl slices_S512x128_o128_0_S128x128 _ (sub2_apply c i arg3 harg3 arg4 harg4 arg5 harg5 arg6 harg6 arg7 harg7 arg8 harg8 arg9 harg9 arg10 harg10 arg11 harg11 arg12 harg12 arg13 harg13 arg14 harg14 x0 x1 x2 x3 x4 x5 x6 x7 x8) inb_S1x1024x512_S1x128x128_0_256_128, ?_⟩
  refine ⟨piece_ok x0 x1 x2 x3 x4 x5 x6 x7 x8 _ 2 0 (by decide) 0 256 0 rfl rfl rfl slices_S512x128_o0_0_S128x128 _ (sub2_apply c i arg3 harg3 arg4 harg4 arg5 harg5 arg6 harg6 arg7 harg7 arg8 harg8 arg9 harg9 arg10 harg10 arg11 harg11 arg12 harg12 arg13 harg13 arg14 harg14 x0 x1 x2 x3 x4 x5 x6 x7 x8) inb_S1x1024x512_S1x128x128_0_256_0, ?_⟩
  refine ⟨piece_ok x0 x1 x2 x3 x4 x5 x6 x7 x8 _ 1 3 (by decide) 384 128 384 rfl rfl rfl slices_S512x128_o384_0_S128x128 _ (sub1_apply c i arg3 harg3 arg4 harg4 arg5 harg5 arg6 harg6 arg7 harg7 arg8 harg8 arg9 harg9 arg10 harg10 arg11 harg11 arg12 harg12 arg13 harg13 arg14 harg14 x0 x1 x2 x3 x4 x5 x6 x7 x8) inb_S1x1024x512_S1x128x128_0_128_384, ?_⟩
  refine ⟨piece_ok x0 x1 x2 x3 x4 x5 x6 x7 x8 _ 1 2 (by decide) 256 128 256 rfl rfl rfl slices_S512x128_o256_0_S128x128 _ (sub1_apply c i arg3 harg3 arg4 harg4 arg5 harg5 arg6 harg6 arg7 harg7 arg8 harg8 arg9 harg9 arg10 harg10 arg11 harg11 arg12 harg12 arg13 harg13 arg14 harg14 x0 x1 x2 x3 x4 x5 x6 x7 x8) inb_S1x1024x512_S1x128x128_0_128_256, ?_⟩
  refine ⟨piece_ok x0 x1 x2 x3 x4 x5 x6 x7 x8 _ 1 1 (by decide) 128 128 128 rfl rfl rfl slices_S512x128_o128_0_S128x128 _ (sub1_apply c i arg3 harg3 arg4 harg4 arg5 harg5 arg6 harg6 arg7 harg7 arg8 harg8 arg9 harg9 arg10 harg10 arg11 harg11 arg12 harg12 arg13 harg13 arg14 harg14 x0 x1 x2 x3 x4 x5 x6 x7 x8) inb_S1x1024x512_S1x128x128_0_128_128, ?_⟩
  refine ⟨piece_ok x0 x1 x2 x3 x4 x5 x6 x7 x8 _ 1 0 (by decide) 0 128 0 rfl rfl rfl slices_S512x128_o0_0_S128x128 _ (sub1_apply c i arg3 harg3 arg4 harg4 arg5 harg5 arg6 harg6 arg7 harg7 arg8 harg8 arg9 harg9 arg10 harg10 arg11 harg11 arg12 harg12 arg13 harg13 arg14 harg14 x0 x1 x2 x3 x4 x5 x6 x7 x8) inb_S1x1024x512_S1x128x128_0_128_0, ?_⟩
  refine ⟨piece_ok x0 x1 x2 x3 x4 x5 x6 x7 x8 _ 0 3 (by decide) 384 0 384 rfl rfl rfl slices_S512x128_o384_0_S128x128 _ (sub0_apply c i arg3 harg3 arg4 harg4 arg5 harg5 arg6 harg6 arg7 harg7 arg8 harg8 arg9 harg9 arg10 harg10 arg11 harg11 arg12 harg12 arg13 harg13 arg14 harg14 x0 x1 x2 x3 x4 x5 x6 x7 x8) inb_S1x1024x512_S1x128x128_0_0_384, ?_⟩
  refine ⟨piece_ok x0 x1 x2 x3 x4 x5 x6 x7 x8 _ 0 2 (by decide) 256 0 256 rfl rfl rfl slices_S512x128_o256_0_S128x128 _ (sub0_apply c i arg3 harg3 arg4 harg4 arg5 harg5 arg6 harg6 arg7 harg7 arg8 harg8 arg9 harg9 arg10 harg10 arg11 harg11 arg12 harg12 arg13 harg13 arg14 harg14 x0 x1 x2 x3 x4 x5 x6 x7 x8) inb_S1x1024x512_S1x128x128_0_0_256, ?_⟩
  refine ⟨piece_ok x0 x1 x2 x3 x4 x5 x6 x7 x8 _ 0 1 (by decide) 128 0 128 rfl rfl rfl slices_S512x128_o128_0_S128x128 _ (sub0_apply c i arg3 harg3 arg4 harg4 arg5 harg5 arg6 harg6 arg7 harg7 arg8 harg8 arg9 harg9 arg10 harg10 arg11 harg11 arg12 harg12 arg13 harg13 arg14 harg14 x0 x1 x2 x3 x4 x5 x6 x7 x8) inb_S1x1024x512_S1x128x128_0_0_128, ?_⟩
  refine ⟨piece_ok x0 x1 x2 x3 x4 x5 x6 x7 x8 _ 0 0 (by decide) 0 0 0 rfl rfl rfl slices_S512x128_o0_0_S128x128 _ (sub0_apply c i arg3 harg3 arg4 harg4 arg5 harg5 arg6 harg6 arg7 harg7 arg8 harg8 arg9 harg9 arg10 harg10 arg11 harg11 arg12 harg12 arg13 harg13 arg14 harg14 x0 x1 x2 x3 x4 x5 x6 x7 x8) inb_S1x1024x512_S1x128x128_0_0_0, ?_⟩
  trivial

end Cert.KernelIdeal.Tile

end

end
-- ==== Proof.RefValue.lean ====
module

public import proofs.«01_k».proof.Proof.Gen.ReferenceIdeal.Run
public import proofs.«01_k».proof.Proof.Words
public import Idealize.ShloMosaic.Lib.Pointwise
public import Idealize.ShloMosaic.PureOps.Ideal.Laws
public import Idealize.ShloMosaic.Lib.IdealHost

@[expose] public section

/-! The reference's result, stage by stage, then each stage at an index. -/

set_option maxRecDepth 16384

noncomputable section

namespace Cert.ReferenceIdeal.Stages
open Cert
open Cert.ReferenceIdeal Cert.ReferenceIdeal.Gen Cert.ReferenceIdeal.Value Idealize.ShloMosaic Idealize.ShloMosaic.TcCoe
open scoped BigOperators

/-- The keys or values with a block of zeros before and after. -/
def padded (T : FVec Ideal S2x8192x8x128 .bf16) : FVec Ideal S2x8448x8x128 .bf16 :=
  (pad S2x8448x8x128 ![0, 128, 0, 0] ![0, 128, 0, 0] ![0, 0, 0, 0] T (sitofp (F := Ideal) .bf16 (constantI S_ 32 0#32)) pads_S2x8192x8x128_S2x8448x8x128_000_1281280_000_000 h_S_)

/-- The bands: for every query block its previous, its own and its next block. -/
def band (T : FVec Ideal S2x8192x8x128 .bf16) : FVec Ideal S2x64x384x8x128 .bf16 :=
  fn_main_v12 (F := Ideal) (extractStridedSlice S2x64x128x8x128 ![0, 0, 0, 0, 0] (shapeCast _ (padded T) shapeCasts_S2x8448x8x128_S2x66x128x8x128) slices_S2x66x128x8x128_S2x64x128x8x128_0_0_0_0_0)
    (extractStridedSlice S2x64x128x8x128 ![0, 1, 0, 0, 0] (shapeCast _ (padded T) shapeCasts_S2x8448x8x128_S2x66x128x8x128) slices_S2x66x128x8x128_S2x64x128x8x128_0_1_0_0_0)
    (extractStridedSlice S2x64x128x8x128 ![0, 2, 0, 0, 0] (shapeCast _ (padded T) shapeCasts_S2x8448x8x128_S2x66x128x8x128) slices_S2x66x128x8x128_S2x64x128x8x128_0_2_0_0_0)

/-- The keys. -/
def keys (A : FVec Ideal S2x8192x16384 .bf16) : FVec Ideal S2x8192x8x128 .bf16 :=
  (shapeCast _ (extractStridedSlice S2x8192x1024 ![0, 0, 6144] A slices_S2x8192x16384_S2x8192x1024_0_0_6144) shapeCasts_S2x8192x1024_S2x8192x8x128)

/-- The values. -/
def values (A : FVec Ideal S2x8192x16384 .bf16) : FVec Ideal S2x8192x8x128 .bf16 :=
  (shapeCast _ (extractStridedSlice S2x8192x1024 ![0, 0, 7168] A slices_S2x8192x16384_S2x8192x1024_0_0_7168) shapeCasts_S2x8192x1024_S2x8192x8x128)

/-- The queries, by block and head. -/
def queries (A : FVec Ideal S2x8192x16384 .bf16) : FVec Ideal S2x64x128x8x4x128 .bf16 :=
  (shapeCast _ (shapeCast _ (extractStridedSlice S2x8192x4096 ![0, 0, 2048] A slices_S2x8192x16384_S2x8192x4096_0_0_2048) shapeCasts_S2x8192x4096_S2x8192x32x128) shapeCasts_S2x8192x32x128_S2x64x128x8x4x128)

/-- Whether a place of a band is a place of the sequence. -/
def keyValid  : IVec S64x384 1 :=
  (andi (cmpi .sge (addi (broadcastInDim S64x384 ![0, 1] bcast_S64x1_S64x384_0_1 (subi (muli (broadcastInDim S64x1 ![0] bcast_S64_S64x1_0 (iotaInDim S64 32 0)) (broadcastInDim S64x1 ![] bcast_S_S64x1 (constantI S_ 32 128#32))) (broadcastInDim S64x1 ![] bcast_S_S64x1 (constantI S_ 32 128#32)))) (broadcastInDim S64x384 ![0, 1] bcast_S1x384_S64x384_0_1 (broadcastInDim S1x384 ![1] bcast_S384_S1x384_1 (iotaInDim S384 32 0)))) (broadcastInDim S64x384 ![] bcast_S_S64x384 (constantI S_ 32 0#32))) (cmpi .slt (addi (broadcastInDim S64x384 ![0, 1] bcast_S64x1_S64x384_0_1 (subi (muli (broadcastInDim S64x1 ![0] bcast_S64_S64x1_0 (iotaInDim S64 32 0)) (broadcastInDim S64x1 ![] bcast_S_S64x1 (constantI S_ 32 128#32))) (broadcastInDim S64x1 ![] bcast_S_S64x1 (constantI S_ 32 128#32)))) (broadcastInDim S64x384 ![0, 1] bcast_S1x384_S64x384_0_1 (broadcastInDim S1x384 ![1] bcast_S384_S1x384_1 (iotaInDim S384 32 0)))) (broadcastInDim S64x384 ![] bcast_S_S64x384 (constantI S_ 32 8192#32))))

/-- Whether a place of a band is in the window of a query. -/
def inBand  : IVec S128x384 1 :=
  (cmpi .sle (absi (subi (broadcastInDim S128x384 ![0, 1] bcast_S128x1_S128x384_0_1 (addi (broadcastInDim S128x1 ![0] bcast_S128_S128x1_0 (iotaInDim S128 32 0)) (broadcastInDim S128x1 ![] bcast_S_S128x1 (constantI S_ 32 128#32)))) (broadcastInDim S128x384 ![0, 1] bcast_S1x384_S128x384_0_1 (broadcastInDim S1x384 ![1] bcast_S384_S1x384_1 (iotaInDim S384 32 0))))) (broadcastInDim S128x384 ![] bcast_S_S128x384 (constantI S_ 32 128#32)))

/-- The penalties on distance. -/
def alibi  : FVec Ideal S8x4x128x384 .f32 :=
  (shapeCast _ (mulf (broadcastInDim S32x128x384 ![0, 1, 2] bcast_S32x1x1_S32x128x384_0_1_2 (Host.negf (broadcastInDim S32x1x1 ![0] bcast_S32_S32x1x1_0 (Host.exp (mulf (broadcastInDim S32 ![] bcast_S_S32 (constant (F := Ideal) S_ .f32 0x3F317218#32)) (Host.divf (mulf (broadcastInDim S32 ![] bcast_S_S32 (constant (F := Ideal) S_ .f32 0xC1000000#32)) (addf (broadcastInDim S32 ![] bcast_S_S32 (constant (F := Ideal) S_ .f32 0x3F800000#32)) (sitofp (F := Ideal) .f32 (iotaInDim S32 32 0)))) (broadcastInDim S32 ![] bcast_S_S32 (constant (F := Ideal) S_ .f32 0x42000000#32)))))))) (broadcastInDim S32x128x384 ![0, 1, 2] bcast_S1x128x384_S32x128x384_0_1_2 (broadcastInDim S1x128x384 ![1, 2] bcast_S128x384_S1x128x384_1_2 (sitofp (F := Ideal) .f32 (absi (subi (broadcastInDim S128x384 ![0, 1] bcast_S128x1_S128x384_0_1 (addi (broadcastInDim S128x1 ![0] bcast_S128_S128x1_0 (iotaInDim S128 32 0)) (broadcastInDim S128x1 ![] bcast_S_S128x1 (constantI S_ 32 128#32)))) (broadcastInDim S128x384 ![0, 1] bcast_S1x384_S128x384_0_1 (broadcastInDim S1x384 ![1] bcast_S384_S1x384_1 (iotaInDim S384 32 0))))))))) shapeCasts_S32x128x384_S8x4x128x384)

/-- The sink logits, by head. -/
def sinks (B : FVec Ideal S32 .f32) : FVec Ideal S1x1x8x4x1x1 .f32 :=
  (shapeCast _ B shapeCasts_S32_S1x1x8x4x1x1)

/-- The masked scores. -/
def scores (K : FVec Ideal S2x64x384x8x128 .bf16) (Q : FVec Ideal S2x64x128x8x4x128 .bf16) : FVec Ideal S2x64x8x4x128x384 .f32 :=
  (select (broadcastInDim S2x64x8x4x128x384 ![0, 1, 2, 3, 4, 5] bcast_S1x64x1x1x128x384_S2x64x8x4x128x384_0_1_2_3_4_5 (andi (broadcastInDim S1x64x1x1x128x384 ![0, 1, 2, 3, 4, 5] bcast_S1x1x1x1x128x384_S1x64x1x1x128x384_0_1_2_3_4_5 (broadcastInDim S1x1x1x1x128x384 ![4, 5] bcast_S128x384_S1x1x1x1x128x384_4_5 inBand)) (broadcastInDim S1x64x1x1x128x384 ![0, 1, 2, 3, 4, 5] bcast_S1x64x1x1x1x384_S1x64x1x1x128x384_0_1_2_3_4_5 (broadcastInDim S1x64x1x1x1x384 ![1, 5] bcast_S64x384_S1x64x1x1x1x384_1_5 keyValid)))) (addf (mulf (transpose S2x64x8x4x128x384 [0, 1, 2, 5, 4, 3] (Host.dotGeneral dot_S2x64x384x8x128_S2x64x128x8x4x128_S2x64x8x384x128x4_4_5_2_24_013_013 none (extf .f32 K bitsLt_bf16_f32) (extf .f32 Q bitsLt_bf16_f32)) transposes_S2x64x8x384x128x4_S2x64x8x4x128x384_0_1_2_5_4_3) (broadcastInDim S2x64x8x4x128x384 ![] bcast_S_S2x64x8x4x128x384 (constant (F := Ideal) S_ .f32 0x3DB504F3#32))) (broadcastInDim S2x64x8x4x128x384 ![0, 1, 2, 3, 4, 5] bcast_S1x1x8x4x128x384_S2x64x8x4x128x384_0_1_2_3_4_5 (broadcastInDim S1x1x8x4x128x384 ![2, 3, 4, 5] bcast_S8x4x128x384_S1x1x8x4x128x384_2_3_4_5 alibi))) (broadcastInDim S2x64x8x4x128x384 ![] bcast_S_S2x64x8x4x128x384 (constant (F := Ideal) S_ .f32 0xFF800000#32)))

/-- The greatest score of a row. -/
def rowMax (S : FVec Ideal S2x64x8x4x128x384 .f32) : FVec Ideal S2x64x8x4x128 .f32 :=
  (Host.reduce FloatOps.maximumf S (constant (F := Ideal) S_ .f32 0xFF800000#32) reducesTo_S2x64x8x4x128x384_S2x64x8x4x128_d5 h_S_)

/-- The sum of a row. -/
def rowSum (P : FVec Ideal S2x64x8x4x128x384 .f32) : FVec Ideal S2x64x8x4x128 .f32 :=
  (Host.reduceAdd P (constant (F := Ideal) S_ .f32 0x00000000#32) reducesTo_S2x64x8x4x128x384_S2x64x8x4x128_d5 h_S_)

/-- The greatest score of a row, the sink's included. -/
def top (S : FVec Ideal S2x64x8x4x128 .f32) (K : FVec Ideal S1x1x8x4x1x1 .f32) : FVec Ideal S2x64x8x4x128x1 .f32 :=
  (maximumf (broadcastInDim S2x64x8x4x128x1 ![0, 1, 2, 3, 4] bcast_S2x64x8x4x128_S2x64x8x4x128x1_0_1_2_3_4 S) (broadcastInDim S2x64x8x4x128x1 ![0, 1, 2, 3, 4, 5] bcast_S1x1x8x4x1x1_S2x64x8x4x128x1_0_1_2_3_4_5 K))

/-- The exponentials. -/
def weights (S : FVec Ideal S2x64x8x4x128x384 .f32) (M : FVec Ideal S2x64x8x4x128x1 .f32) : FVec Ideal S2x64x8x4x128x384 .f32 :=
  (Host.exp (subf S (broadcastInDim S2x64x8x4x128x384 ![0, 1, 2, 3, 4, 5] bcast_S2x64x8x4x128x1_S2x64x8x4x128x384_0_1_2_3_4_5 M)))

/-- Their sums, with the sink's. -/
def denom (P : FVec Ideal S2x64x8x4x128 .f32) (M : FVec Ideal S2x64x8x4x128x1 .f32) (K : FVec Ideal S1x1x8x4x1x1 .f32) : FVec Ideal S2x64x8x4x128x1 .f32 :=
  (addf (broadcastInDim S2x64x8x4x128x1 ![0, 1, 2, 3, 4] bcast_S2x64x8x4x128_S2x64x8x4x128x1_0_1_2_3_4 P) (Host.exp (subf (broadcastInDim S2x64x8x4x128x1 ![0, 1, 2, 3, 4, 5] bcast_S1x1x8x4x1x1_S2x64x8x4x128x1_0_1_2_3_4_5 K) M)))

/-- The weighted values. -/
def mixed (V : FVec Ideal S2x64x384x8x128 .bf16) (P : FVec Ideal S2x64x8x4x128x384 .f32) (D : FVec Ideal S2x64x8x4x128x1 .f32) : FVec Ideal S2x8192x4096 .bf16 :=
  (shapeCast _ (truncf .bf16 (transpose S2x64x128x8x4x128 [0, 1, 5, 2, 4, 3] (Host.dotGeneral dot_S2x64x384x8x128_S2x64x8x4x128x384_S2x64x8x128x4x128_2_5_4_34_013_012 none (extf .f32 V bitsLt_bf16_f32) (Host.divf P (broadcastInDim S2x64x8x4x128x384 ![0, 1, 2, 3, 4, 5] bcast_S2x64x8x4x128x1_S2x64x8x4x128x384_0_1_2_3_4_5 D))) transposes_S2x64x8x128x4x128_S2x64x128x8x4x128_0_1_5_2_4_3) bitsLt_bf16_f32) shapeCasts_S2x64x128x8x4x128_S2x8192x4096)

theorem res_eq (m : (ℓ : Loc nD τ sig) → Buf (Elt Ideal) ℓ) (c : Dev nD) :
    res_main_v101 m c =
      (let A : FVec Ideal S2x8192x16384 .bf16 := m ((c.tc : Thread nD τ).loc main_arg0)
       let K := sinks (m ((c.tc : Thread nD τ).loc main_arg1))
       let S := scores (band (keys A)) (queries A)
       let P := weights S (top (rowMax S) K)
       mixed (band (values A)) P (denom (rowSum P) (top (rowMax S) K) K)) := rfl

theorem sitofp_zero : FloatOps.sitofp (F := Ideal) FTy.bf16 0#32 = (0 : EReal) := by
  show (((0#32 : BitVec 32).toInt : ℝ) : EReal) = 0
  norm_num

/-- The rows read at their place, each spelling of the place equal. -/
theorem row_dite (f : Fin 8192 → EReal) (p q : Prop) [Decidable p] [Decidable q] (x y : ℕ) (hx : p → x < 8192) (hy : q → y < 8192)
    (hpq : p ↔ q) (hxy : p → x = y) : (if h : p then f ⟨x, hx h⟩ else 0) = if h : q then f ⟨y, hy h⟩ else 0 := by
  by_cases h : p
  · rw [dif_pos h, dif_pos (hpq.mp h)]; exact congrArg f (Fin.ext (hxy h))
  · rw [dif_neg h, dif_neg (fun h' => h (hpq.mpr h'))]

set_option maxHeartbeats 2000000 in
theorem band_apply (T : FVec Ideal S2x8192x8x128 .bf16) (b : Fin 2) (n : Fin 64) (k : Fin 384) (g : Fin 8) (d : Fin 128) :
    band T (ix5 b n k g d) = if h : 128 ≤ 128 * n.val + k.val ∧ 128 * n.val + k.val < 8320
      then T (ix4 b ⟨128 * n.val + k.val - 128, by omega⟩ g d) else 0 := by
  pointwise [band, fn_main_v12, padded]
  have hk := k.isLt
  have hn := n.isLt
  rw [sitofp_zero]
  split
  · exact row_dite (fun x => T (ix4 b x g d)) _ _ _ _ _ _ (by omega) (by omega)
  · split
    · exact row_dite (fun x => T (ix4 b x g d)) _ _ _ _ _ _ (by omega) (by omega)
    · exact row_dite (fun x => T (ix4 b x g d)) _ _ _ _ _ _ (by omega) (by omega)

theorem keys_apply (A : FVec Ideal S2x8192x16384 .bf16) (b : Fin 2) (t : Fin 8192) (g : Fin 8) (d : Fin 128) :
    keys A (ix4 b t g d) = A (ix3 b t ⟨6144 + (128 * g.val + d.val), by omega⟩) := by
  pointwise [keys]
  congr 2; exact Fin.ext (by simp only []; omega)

theorem values_apply (A : FVec Ideal S2x8192x16384 .bf16) (b : Fin 2) (t : Fin 8192) (g : Fin 8) (d : Fin 128) :
    values A (ix4 b t g d) = A (ix3 b t ⟨7168 + (128 * g.val + d.val), by omega⟩) := by
  pointwise [values]
  congr 2; exact Fin.ext (by simp only []; omega)

theorem queries_apply (A : FVec Ideal S2x8192x16384 .bf16) (b : Fin 2) (n : Fin 64) (q : Fin 128) (g : Fin 8) (h : Fin 4) (d : Fin 128) :
    queries A (ix6 b n q g h d) = A (ix3 b ⟨128 * n.val + q.val, by omega⟩ ⟨2048 + (512 * g.val + 128 * h.val + d.val), by omega⟩) := by
  pointwise [queries]
  congr 2 <;> exact Fin.ext (by simp only []; omega)

theorem alibi_apply (g : Fin 8) (h : Fin 4) (q : Fin 128) (k : Fin 384) :
    alibi (ix4 g h q k) = BandWords.slope (4 * g.val + h.val) * ((BandWords.dist q k : ℝ) : EReal) := by
  pointwise [alibi]
  rw [BandWords.dist_word, BandWords.sitofp_ofNat _ ((BandWords.dist_lt q k).trans (by norm_num)), Nat.mul_comm g.val 4]
  rfl

theorem inBand_apply (q : Fin 128) (k : Fin 384) :
    inBand (ix2 q k) = if BandWords.dist q k ≤ 128 then 1#1 else 0#1 := by
  pointwise [inBand]
  rw [BandWords.dist_word, BandWords.inBand_word]

theorem keyValid_apply (n : Fin 64) (k : Fin 384) :
    keyValid (ix2 n k) = if 128 ≤ 128 * n.val + k.val ∧ 128 * n.val + k.val < 8320 then 1#1 else 0#1 := by
  pointwise [keyValid]
  exact BandWords.valid_word n k

theorem ofBits_negInf : Ideal.ofBits .f32 0xFF800000#32 = (⊥ : EReal) := by
  simp [Ideal.ofBits, Ideal.ieee]

theorem scores_apply (K : FVec Ideal S2x64x384x8x128 .bf16) (Q : FVec Ideal S2x64x128x8x4x128 .bf16) (b : Fin 2) (n : Fin 64) (g : Fin 8) (h : Fin 4) (q : Fin 128) (k : Fin 384) :
    scores K Q (ix6 b n g h q k) =
      if BandWords.dist q k ≤ 128 ∧ (128 ≤ 128 * n.val + k.val ∧ 128 * n.val + k.val < 8320) then
        (∑ x, K (ix5 b n k g x) * Q (ix6 b n q g h x)) * ((11863283 / 134217728 : ℝ) : EReal)
          + BandWords.slope (4 * g.val + h.val) * ((BandWords.dist q k : ℝ) : EReal)
      else ⊥ := by
  pointwise [scores]
  rw [inBand_apply, keyValid_apply, alibi_apply, BandWords.ofBits_scale, ofBits_negInf]
  split_ifs with h1 h2 h3 h3 h3 <;> first | rfl | (exfalso; tauto)

theorem rowMax_apply (S : FVec Ideal S2x64x8x4x128x384 .f32) (b : Fin 2) (n : Fin 64) (g : Fin 8) (h : Fin 4) (q : Fin 128) :
    rowMax S (ix5 b n g h q) = Finset.univ.fold max ⊥ (fun k : Fin 384 => S (ix6 b n g h q k)) := by
  have hr : Shape.Reduces S2x64x8x4x128x384 [5] S2x64x8x4x128 := by decide
  unfold rowMax
  refine (Host.reduce_eq_fold_single _ S _ _ hr _ _).trans ?_
  rw [show (constant (F := Ideal) S_ .f32 0xFF800000#32) (Shape.Idx.first h_S_) = (⊥ : EReal) from ofBits_negInf]
  congr 1
  funext k
  exact congrArg S (funext fun a => by fin_cases a <;> rfl)

theorem rowSum_apply (S : FVec Ideal S2x64x8x4x128x384 .f32) (b : Fin 2) (n : Fin 64) (g : Fin 8) (h : Fin 4) (q : Fin 128) :
    rowSum S (ix5 b n g h q) = ∑ k : Fin 384, S (ix6 b n g h q k) := by
  have hr : Shape.Reduces S2x64x8x4x128x384 [5] S2x64x8x4x128 := by decide
  unfold rowSum
  refine (Ideal.hostReduceAdd_single _ hr S _ _).trans ?_
  rw [show (constant (F := Ideal) S_ .f32 0x00000000#32) (Shape.Idx.first h_S_) = (0 : EReal) from Ideal.ofBits_zero_f32, zero_add]
  exact Finset.sum_congr rfl fun k _ => congrArg S (funext fun a => by fin_cases a <;> rfl)

theorem sinks_apply (B : FVec Ideal S32 .f32) (g : Fin 8) (h : Fin 4) :
    sinks B (ix6 0 0 g h 0 0) = B (ix1 ⟨4 * g.val + h.val, by omega⟩) := by
  pointwise [sinks]
  congr 2; exact Fin.ext (by simp only []; omega)

theorem top_apply (S : FVec Ideal S2x64x8x4x128 .f32) (K : FVec Ideal S1x1x8x4x1x1 .f32) (b : Fin 2) (n : Fin 64) (g : Fin 8) (h : Fin 4) (q : Fin 128) (z : Fin 1) :
    top S K (ix6 b n g h q z) = max (S (ix5 b n g h q)) (K (ix6 0 0 g h 0 0)) := by
  pointwise [top]

theorem weights_apply (S : FVec Ideal S2x64x8x4x128x384 .f32) (M : FVec Ideal S2x64x8x4x128x1 .f32) (b : Fin 2) (n : Fin 64) (g : Fin 8) (h : Fin 4) (q : Fin 128) (k : Fin 384) :
    weights S M (ix6 b n g h q k) = Ideal.exp (S (ix6 b n g h q k) - M (ix6 b n g h q 0)) := by
  pointwise [weights]

theorem denom_apply (P : FVec Ideal S2x64x8x4x128 .f32) (M : FVec Ideal S2x64x8x4x128x1 .f32) (K : FVec Ideal S1x1x8x4x1x1 .f32) (b : Fin 2) (n : Fin 64) (g : Fin 8) (h : Fin 4) (q : Fin 128) (z : Fin 1) :
    denom P M K (ix6 b n g h q z) = P (ix5 b n g h q) + Ideal.exp (K (ix6 0 0 g h 0 0) - M (ix6 b n g h q 0)) := by
  obtain rfl : z = 0 := Subsingleton.elim _ _
  pointwise [denom]

theorem mixed_apply (V : FVec Ideal S2x64x384x8x128 .bf16) (P : FVec Ideal S2x64x8x4x128x384 .f32) (D : FVec Ideal S2x64x8x4x128x1 .f32) (b : Fin 2) (t : Fin 8192) (col : Fin 4096) :
    mixed V P D (ix3 b t col) =
      ∑ k, V (ix5 b ⟨t.val / 128, by omega⟩ k ⟨col.val / 512, by omega⟩ ⟨col.val % 128, by omega⟩)
        * Ideal.div (P (ix6 b ⟨t.val / 128, by omega⟩ ⟨col.val / 512, by omega⟩ ⟨col.val / 128 % 4, by omega⟩ ⟨t.val % 128, by omega⟩ k))
          (D (ix6 b ⟨t.val / 128, by omega⟩ ⟨col.val / 512, by omega⟩ ⟨col.val / 128 % 4, by omega⟩ ⟨t.val % 128, by omega⟩ 0)) := by
  pointwise [mixed]

end Cert.ReferenceIdeal.Stages

end

end
-- ==== Proof.Attn.lean ====
module

public import proofs.«01_k».proof.Proof.Geom
public import proofs.«01_k».proof.Proof.Out
public import proofs.«01_k».proof.Proof.RefValue
public import proofs.«01_k».proof.Proof.SoftmaxMath

@[expose] public section

/-! The kernel's block against the reference's attention, element by element. -/

set_option maxRecDepth 16384

noncomputable section

namespace Cert.Attn
open Cert Idealize.ShloMosaic Idealize.ShloMosaic.TcCoe Cert.ReferenceIdeal.Stages
open scoped BigOperators

/-- A sum of real numbers, read as extended reals. -/
theorem coe_sum_real {n : ℕ} (f : Fin n → ℝ) : ((∑ i, f i : ℝ) : EReal) = ∑ i, (f i : EReal) :=
  map_sum (⟨⟨Real.toEReal, EReal.coe_zero⟩, EReal.coe_add⟩ : ℝ →+ EReal) f Finset.univ

/-- The reference's result, of its two arguments. -/
def refOut (A : FVec Ideal ReferenceIdeal.S2x8192x16384 .bf16) (B : FVec Ideal ReferenceIdeal.S32 .f32) : FVec Ideal ReferenceIdeal.S2x8192x4096 .bf16 :=
  let K := sinks B
  let S := scores (band (keys A)) (queries A)
  let P := weights S (top (rowMax S) K)
  mixed (band (values A)) P (denom (rowSum P) (top (rowMax S) K) K)

/-- An element of the reference's result: the softmax of a row of scores with a sink, times the values. -/
theorem refOut_apply (A : FVec Ideal ReferenceIdeal.S2x8192x16384 .bf16) (B : FVec Ideal ReferenceIdeal.S32 .f32)
    (b : Fin 2) (t : Fin 8192) (col : Fin 4096) (n : Fin 64) (q : Fin 128) (g : Fin 8) (h : Fin 4) (d : Fin 128)
    (ht : t.val = 128 * n.val + q.val) (hc : col.val = 512 * g.val + 128 * h.val + d.val) (H : Fin 32) (hH : H.val = 4 * g.val + h.val)
    (sc : Fin 384 → EReal) (hsc : ∀ k, scores (band (keys A)) (queries A) (ix6 b n g h q k) = sc k) :
    refOut A B (ix3 b t col) = ∑ k : Fin 384,
      Ideal.div (Ideal.exp (sc k - max (Finset.univ.fold max ⊥ sc) (B (ix1 H))))
        ((∑ k, Ideal.exp (sc k - max (Finset.univ.fold max ⊥ sc) (B (ix1 H))))
          + Ideal.exp (B (ix1 H) - max (Finset.univ.fold max ⊥ sc) (B (ix1 H))))
        * band (values A) (ix5 b n k g d) := by
  have e1 : (⟨t.val / 128, by omega⟩ : Fin 64) = n := Fin.ext (by simp only []; omega)
  have e2 : (⟨t.val % 128, by omega⟩ : Fin 128) = q := Fin.ext (by simp only []; omega)
  have e3 : (⟨col.val / 512, by omega⟩ : Fin 8) = g := Fin.ext (by simp only []; omega)
  have e4 : (⟨col.val / 128 % 4, by omega⟩ : Fin 4) = h := Fin.ext (by simp only []; omega)
  have e5 : (⟨col.val % 128, by omega⟩ : Fin 128) = d := Fin.ext (by simp only []; omega)
  have e6 : (⟨4 * g.val + h.val, by omega⟩ : Fin 32) = H := Fin.ext hH.symm
  unfold refOut
  simp only [mixed_apply, e1, e2, e3, e4, e5, denom_apply, rowSum_apply, weights_apply, top_apply, rowMax_apply, sinks_apply, e6, hsc]
  exact Finset.sum_congr rfl fun k _ => mul_comm _ _

open Cert.KernelIdeal Cert.KernelIdeal.Gen Cert.KernelIdeal.Geom

variable (m : (ℓ : Loc KernelIdeal.nD KernelIdeal.τ KernelIdeal.sig) → Buf (Elt Ideal) ℓ)

/-- The second argument: the heads' sinks. -/
abbrev sinkArg (c : Dev KernelIdeal.nD) : Vec Ideal KernelIdeal.S32 .f32 := m (c, Proc.tc.devRef KernelIdeal.main_arg1)

theorem tile_eq (c : Dev KernelIdeal.nD) (t : Fin cfg0.N)
    (hA : ∀ (b : Fin 2) (r : Fin 8192) (col : Fin 16384), 2048 ≤ col.val → col.val < 7168 → ∃ x : ℝ, arg m c (ix3 b r col) = (x : EReal))
    (hB : ∀ h : Fin 32, ∃ x : ℝ, sinkArg m c (ix1 h) = (x : EReal))
    (y1 : Fin 1024) (y2 : Fin 512) (T : Fin 8192) (col : Fin 4096)
    (hT : T.val = 1024 * (grid0.coords t 2).val + y1.val) (hcol : col.val = 512 * (grid0.coords t 1).val + y2.val) :
    Tile.tileOut (iblk m c 0 t) (iblk m c 1 t) (iblk m c 2 t) (iblk m c 3 t) (iblk m c 4 t) (iblk m c 5 t) (iblk m c 6 t)
      (iblk m c 7 t) (iblk m c 8 t) (grid0.coords t 2).val y1 y2
      = refOut (arg m c) (sinkArg m c) (ix3 ⟨(grid0.coords t 0).val, lt0 t⟩ T col) := by
  have h0 := lt0 t
  have h1 := lt1 t
  have h2 := lt2 t
  have hy1 := y1.isLt
  have hy2 := y2.isLt
  -- the coordinates: block, query, head, lane
  let n : Fin 64 := ⟨8 * (grid0.coords t 2).val + y1.val / 128, by omega⟩
  let q : Fin 128 := ⟨y1.val % 128, by omega⟩
  let g : Fin 8 := ⟨(grid0.coords t 1).val, h1⟩
  let h : Fin 4 := ⟨y2.val / 128, by omega⟩
  let d : Fin 128 := ⟨y2.val % 128, by omega⟩
  let H : Fin 32 := ⟨4 * g.val + h.val, by simp only [g, h]; omega⟩
  let b : Fin 2 := ⟨(grid0.coords t 0).val, h0⟩
  let r : Fin 512 := ⟨y2.val / 128 * 128 + y1.val % 128, by omega⟩
  have hr : r.val = 128 * h.val + q.val := by simp only [r, h, q]; omega
  rw [refOut_apply (arg m c) (sinkArg m c) b T col n q g h d (by simp only [n, q]; omega) (by simp only [g, h, d]; omega) H rfl _ (fun k => rfl)]
  obtain ⟨sk, hsk⟩ := hB H
  obtain ⟨sl, hsl⟩ := BandWords.slope_real H.val H.isLt
  choose ar har using hA
  -- the score of a key, before the scale
  let x : Fin 384 → ℝ := fun k =>
    if hv : 128 ≤ 128 * n.val + k.val ∧ 128 * n.val + k.val < 8320 then
      (∑ e : Fin 128, ar b T ⟨2048 + (512 * g.val + 128 * h.val + e.val), by simp only [g, h]; omega⟩ (by simp only []; omega) (by simp only [g, h]; omega)
        * ar b ⟨128 * n.val + k.val - 128, by omega⟩ ⟨6144 + (128 * g.val + e.val), by simp only [g]; omega⟩ (by simp only []; omega) (by simp only [g]; omega))
      + sl * (BandWords.dist q.val k.val : ℝ) / Tile.scale
    else 0
  have hxv : ∀ k : Fin 384, (hv : 128 ≤ 128 * n.val + k.val ∧ 128 * n.val + k.val < 8320) → x k =
      (∑ e : Fin 128, ar b T ⟨2048 + (512 * g.val + 128 * h.val + e.val), by simp only [g, h]; omega⟩ (by simp only []; omega) (by simp only [g, h]; omega)
        * ar b ⟨128 * n.val + k.val - 128, by omega⟩ ⟨6144 + (128 * g.val + e.val), by simp only [g]; omega⟩ (by simp only []; omega) (by simp only [g]; omega))
      + sl * (BandWords.dist q.val k.val : ℝ) / Tile.scale := fun k hv => dif_pos hv
  have hs0 : (0 : ℝ) < Tile.scale := by unfold Tile.scale; norm_num
  have hskK : ∀ d' : Fin 128, (iblk m c 8 t : Vec Ideal KernelIdeal.S512x128 .f32) (ix2 r d') = ((sk / Tile.scale : ℝ) : EReal) := fun d' => by
    rw [blk8 m c t h q r hr d' H rfl, HostValue.sink_apply]
    rw [show (m (c, Proc.tc.devRef KernelIdeal.main_arg1) : Vec Ideal KernelIdeal.S32 .f32) (ix1 H) = (sk : EReal) from hsk]
    exact BandWords.div_real sk Tile.scale hs0.ne'
  unfold Tile.tileOut Tile.blockOut Tile.softOut
  rw [hskK, hskK]
  refine SoftmaxMath.softmax_eq (fun k : Fin 384 => BandWords.dist q.val k.val ≤ 128 ∧ (128 ≤ 128 * n.val + k.val ∧ 128 * n.val + k.val < 8320))
    x (sk / Tile.scale) Tile.scale hs0 _ _ ?_ _ _ ?_ ?_ _ _ rfl ?_ _ rfl
  · -- the values agree where the key counts
    rintro k ⟨-, hv⟩
    rw [band_apply, dif_pos hv, values_apply]
    exact rows_vals m c t _ _ _ (by simp only [n] at hv ⊢; omega) _
  · intro k
    unfold Tile.blockSc
    rw [blk7 m c t h q r hr k H rfl, HostValue.bias_apply]
    by_cases hd : BandWords.dist q.val k.val ≤ 128
    · rw [if_pos hd]
      by_cases hv : 128 ≤ 128 * n.val + k.val ∧ 128 * n.val + k.val < 8320
      · have hin : 128 ≤ (grid0.coords t 2).val * 1024 + 128 * (⟨y1.val / 128, by omega⟩ : Fin 8).val + k.val
            ∧ (grid0.coords t 2).val * 1024 + 128 * (⟨y1.val / 128, by omega⟩ : Fin 8).val + k.val < 8320 := by
          simp only [n] at hv; constructor <;> simp only [] <;> omega
        rw [if_pos hin, if_pos ⟨hd, hv⟩, add_zero, hxv k hv, EReal.coe_add, coe_sum_real]
        rw [hsl, ← EReal.coe_mul]
        refine congrArg₂ (· + ·) (Finset.sum_congr rfl fun e _ => ?_) (BandWords.div_real _ Tile.scale hs0.ne')
        rw [EReal.coe_mul, ← har, ← har]
        refine congrArg₂ (· * ·) (blk0 m c t _ _ T (by simp only [r]; omega) _ (by simp only [r, g, h]; omega)) ?_
        exact rows_keys m c t _ _ _ (by simp only [n] at hv ⊢; omega) _
      · have hin : ¬ (128 ≤ (grid0.coords t 2).val * 1024 + 128 * (⟨y1.val / 128, by omega⟩ : Fin 8).val + k.val
            ∧ (grid0.coords t 2).val * 1024 + 128 * (⟨y1.val / 128, by omega⟩ : Fin 8).val + k.val < 8320) := by
          simp only [n] at hv; simp only []; omega
        rw [if_neg hin, if_neg (fun hh => hv hh.2), EReal.add_bot]
    · rw [if_neg hd, EReal.add_bot, EReal.bot_add, if_neg (fun hh => hd hh.1)]
  · intro k
    rw [scores_apply]
    by_cases hv : BandWords.dist q.val k.val ≤ 128 ∧ (128 ≤ 128 * n.val + k.val ∧ 128 * n.val + k.val < 8320)
    · rw [if_pos hv, if_pos hv, hxv k hv.2, show BandWords.slope (4 * g.val + h.val) = (sl : EReal) from hsl]
      have hsum : (∑ e : Fin 128, band (keys (arg m c)) (ix5 b n k g e) * queries (arg m c) (ix6 b n q g h e))
          = ((∑ e : Fin 128, ar b T ⟨2048 + (512 * g.val + 128 * h.val + e.val), by simp only [g, h]; omega⟩ (by simp only []; omega) (by simp only [g, h]; omega)
        * ar b ⟨128 * n.val + k.val - 128, by omega⟩ ⟨6144 + (128 * g.val + e.val), by simp only [g]; omega⟩ (by simp only []; omega) (by simp only [g]; omega) : ℝ) : EReal) := by
        rw [coe_sum_real]
        refine Finset.sum_congr rfl fun e _ => ?_
        rw [band_apply, dif_pos hv.2, keys_apply, queries_apply, EReal.coe_mul, ← har, ← har, mul_comm]
        refine congrArg₂ (· * ·) (congrArg (arg m c) ?_) rfl
        congr 1
        exact Fin.ext (by simp only [n, q]; omega)
      rw [hsum, ← EReal.coe_mul, ← EReal.coe_mul, ← EReal.coe_add]
      congr 1
      have hmul : ∀ S u : ℝ, S * Tile.scale + u = Tile.scale * (S + u / Tile.scale) := fun S u => by
        rw [mul_add, mul_div_cancel₀ _ hs0.ne', mul_comm]
      exact hmul _ _
    · rw [if_neg hv, if_neg hv]
  · rw [hsk, mul_div_cancel₀ _ hs0.ne']

end Cert.Attn

end

end
-- ==== Proof.Claims.lean ====
module

public import proofs.«01_k».proof.Defs
public import proofs.«01_k».proof.Proof.Attn
public import proofs.«01_k».proof.Proof.Gen.Kernel.Frame
public import proofs.«01_k».proof.Proof.Gen.ReferenceIdeal.Run
public import proofs.«01_k».proof.Proof.Gen.Pre_finite_scores
public import Idealize.ShloMosaic.Lib.ReduceAll
public import Idealize.ShloMosaic.Lib.Pipeline.ValueKit

@[expose] public section

/-! The claims: the frames, the names of the constants, and the equality with the reference. -/

set_option maxRecDepth 16384

noncomputable section

namespace Cert.Claims
open Cert Idealize.ShloMosaic Idealize.ShloMosaic.TcCoe Idealize.SL.Sem

/-- A number whose absolute value is below infinity is real. -/
theorem real_of_abs (φ : FTy) (x : Ideal φ) (u : EReal) (hu : u = ⊤)
    (h : BitVec.ofBool (decide ((FloatOps.absf x : EReal) < u)) = 1#1) : ∃ r : ℝ, (x : EReal) = (r : EReal) := by
  subst hu
  have h' : (FloatOps.absf x : EReal) < ⊤ := by
    by_contra hn
    rw [decide_eq_false hn] at h
    exact absurd h (by decide)
  rw [Ideal.absf_def] at h'
  induction x using EReal.rec with
  | bot => exact absurd h' (by simp)
  | coe r => exact ⟨r, rfl⟩
  | top => exact absurd h' (by simp)

theorem inf_bf16 : Ideal.ofBits FTy.bf16 0x7F80#16 = ⊤ := by simp [Ideal.ofBits, Ideal.ieee]
theorem inf_f32 : Ideal.ofBits FTy.f32 0x7F800000#32 = ⊤ := by simp [Ideal.ofBits, Ideal.ieee]

/-- What the precondition says, element by element: queries, keys and values are finite, and so are the sinks. -/
theorem finite_of_pre (A : FVec Ideal Pre_finite_scores.S2x8192x16384 .bf16) (B : FVec Ideal Pre_finite_scores.S32 .f32)
    (h : Pre_finite_scores.fn A B ix0 = 1#1) :
    (∀ (b : Fin 2) (r : Fin 8192) (col : Fin 16384), 2048 ≤ col.val → col.val < 7168 → ∃ x : ℝ, A (ix3 b r col) = (x : EReal))
    ∧ (∀ h : Fin 32, ∃ x : ℝ, B (ix1 h) = (x : EReal)) := by
  obtain ⟨h1, h2⟩ := IntOp.andi_eq_one.mp h
  constructor
  · intro b r col hc hc'
    have e := Host.reduce_andi_all _ _ _ _ _ h1 (ix3 b r ⟨col.val - 2048, by omega⟩)
    have key : cmpf (F := Ideal) .olt (Host.absf (extractStridedSlice Pre_finite_scores.S2x8192x5120 ![0, 0, 2048] A Pre_finite_scores.Gen.slices_S2x8192x16384_S2x8192x5120_0_0_2048))
        (broadcastInDim Pre_finite_scores.S2x8192x5120 ![] Pre_finite_scores.Gen.bcast_S_S2x8192x5120 (constant Pre_finite_scores.S_ .bf16 0x7F80#16)) (ix3 b r ⟨col.val - 2048, by omega⟩)
      = BitVec.ofBool (decide (FloatOps.absf (A (ix3 b r ⟨2048 + (col.val - 2048), by omega⟩)) < Ideal.ofBits FTy.bf16 0x7F80#16)) := by
      pointwise []
    obtain ⟨x, hx⟩ := real_of_abs _ _ _ inf_bf16 (key.symm.trans e)
    refine ⟨x, ?_⟩
    rw [← hx]
    exact congrArg A (congrArg (ix3 b r) (Fin.ext (by simp only []; omega)))
  · intro h
    have e := Host.reduce_andi_all _ _ _ _ _ h2 (ix1 h)
    have key : cmpf (F := Ideal) .olt (Host.absf B)
        (broadcastInDim Pre_finite_scores.S32 ![] Pre_finite_scores.Gen.bcast_S_S32 (constant Pre_finite_scores.S_ .f32 0x7F800000#32)) (ix1 h)
      = BitVec.ofBool (decide (FloatOps.absf (B (ix1 h)) < Ideal.ofBits FTy.f32 0x7F800000#32)) := by
      pointwise []
    exact real_of_abs _ _ _ inf_f32 (key.symm.trans e)

variable (m : (ℓ : Loc KernelIdeal.nD KernelIdeal.τ KernelIdeal.sig) → Buf (Elt Ideal) ℓ)

open Cert.KernelIdeal Cert.KernelIdeal.Gen in
theorem out_at (c : Dev KernelIdeal.nD) (t : Fin cfg0.N) (y : KernelIdeal.S1x1024x512.Idx) :
    outsAt0 m c t y = Tile.tileOut (iblk m c 0 t) (iblk m c 1 t) (iblk m c 2 t) (iblk m c 3 t) (iblk m c 4 t) (iblk m c 5 t) (iblk m c 6 t)
      (iblk m c 7 t) (iblk m c 8 t) (grid0.coords t 2).val (y 1) (y 2) := by
  unfold outsAt0
  exact Tile.out_apply _ _ _ _ _ _ _ _ _ _ _ _ _ _ _ _ _ _ _ _ _ _ _ _ _ _ _ _ _ _ _ _ _ _ _ _

open Cert.KernelIdeal Cert.KernelIdeal.Gen Cert.KernelIdeal.Geom in
/-- The kernel's result array is the reference's function of the arguments. -/
theorem kernel_out (c : Dev KernelIdeal.nD)
    (hA : ∀ (b : Fin 2) (r : Fin 8192) (col : Fin 16384), 2048 ≤ col.val → col.val < 7168 → ∃ x : ℝ, arg m c (ix3 b r col) = (x : EReal))
    (hB : ∀ h : Fin 32, ∃ x : ℝ, Attn.sinkArg m c (ix1 h) = (x : EReal)) :
    (dats m 0 c).arrAt 9 cfg0.N = Attn.refOut (arg m c) (Attn.sinkArg m c) := by
  refine (dats m 0 c).arrAt_eq_of_covers 9 _ (by decide +kernel) fun t hf y => ?_
  blk_simp
  rw [after0_9]
  refine (out_at m c t y).trans ?_
  have h0 := lt0 t
  have h1 := lt1 t
  have h2 := lt2 t
  have l1 : ((y : S1x1024x512.Idx) 1).val < 1024 := (y 1).isLt
  have l2 : ((y : S1x1024x512.Idx) 2).val < 512 := (y 2).isLt
  refine (Attn.tile_eq m c t hA hB (y 1) (y 2) ⟨1024 * (grid0.coords t 2).val + ((y : S1x1024x512.Idx) 1).val, by omega⟩
    ⟨512 * (grid0.coords t 1).val + ((y : S1x1024x512.Idx) 2).val, by omega⟩ rfl rfl).trans ?_
  refine congrArg _ ?_
  blk_ext [idx t]

theorem frame_p : Cert.quiescent_Kernel := fun m ρ _ => Kernel.Gen.frame m ρ
theorem frame_pi : Cert.quiescent_KernelIdeal := fun m ρ _ => KernelIdeal.Gen.frame m ρ
theorem frame_pi_pre : Cert.quiescent_KernelIdeal_pre_finite_scores := fun m ρ _ => KernelIdeal.Gen.frame m ρ
theorem frame_ri : Cert.quiescent_ReferenceIdeal := fun m ρ _ =>
  (θ_run ReferenceIdeal.defs _ _).mono (fun r h => ⟨fun c => (h c).2, sem_eq_zero_of_no_sems (by decide) r.2⟩)
    (ReferenceIdeal.Value.run (F := Ideal) m ρ)
theorem frame_ri_pre : Cert.quiescent_ReferenceIdeal_pre_finite_scores := fun m ρ _ => frame_ri m ρ trivial

theorem preserves : Cert.preserves_Kernel_KernelIdeal :=
  ⟨IdealRules.named_const.statement KernelIdeal.κ "mask" .f32 0xF149F2CA#32 ⊥ rfl,
    IdealRules.named_const.statement KernelIdeal.κ "scale_log2e" .f32 0x3E0293EE#32 (((11863283 / 134217728) * (Real.log 2)⁻¹ : ℝ) : EReal) rfl⟩

theorem algebraic : Cert.algebraic_KernelIdeal_ReferenceIdeal_pre_finite_scores := by
  intro m ρ m' ρ' hpre hagree
  refine ⟨fun c => Attn.refOut (KernelIdeal.Geom.arg m c) (Attn.sinkArg m c), ?_, ?_⟩
  · refine (θ_run KernelIdeal.defs _ _).mono (fun r h c => ⟨(h c).1.trans ?_, (h c).2⟩) (KernelIdeal.Value.run_blocks (F := Ideal) m ρ)
    have hf := finite_of_pre (KernelIdeal.Geom.arg m c) (Attn.sinkArg m c) (congrFun (hpre c) ix0)
    exact kernel_out m c hf.1 hf.2
  · refine (θ_run ReferenceIdeal.defs _ _).mono (fun r h c => ⟨(h c).1.trans ?_, (h c).2⟩) (ReferenceIdeal.Value.run (F := Ideal) m' ρ')
    rw [ReferenceIdeal.Stages.res_eq]
    show Attn.refOut _ _ = _
    rw [(hagree c).1, (hagree c).2]

end Cert.Claims

end

end
-- ==== Proof.Logistic.lean ====
module

public import Idealize.ShloMosaic.PureOps.Ideal.Laws

@[expose] public section

/-! The logistic function, written with the hyperbolic tangent and with the exponential. -/

noncomputable section

namespace Cert.Logistic
open Idealize.ShloMosaic

theorem half_f32 : (Ideal.ofBits FTy.f32 0x3F000000#32 : EReal) = ((1 / 2 : ℝ) : EReal) := by
  simp [Ideal.ofBits, Ideal.ieee]
  rw [← EReal.coe_mul]; norm_num

theorem one_f32 : (Ideal.ofBits FTy.f32 0x3F800000#32 : EReal) = ((1 : ℝ) : EReal) := by
  simp [Ideal.ofBits, Ideal.ieee]
  rw [← EReal.coe_mul]; norm_num

theorem zero_f32 : (Ideal.ofBits FTy.f32 0x00000000#32 : EReal) = 0 := by
  simp [Ideal.ofBits, Ideal.ieee]

/-- On the real line: half the hyperbolic tangent of half the argument, plus a half. -/
theorem real_eq (x : ℝ) : 1 / 2 * Real.tanh (1 / 2 * x) + 1 / 2 = 1 / (1 + Real.exp (-x)) := by
  have hp := Real.exp_pos (1 / 2 * x)
  have hn := Real.exp_pos (-(1 / 2 * x))
  have hx : Real.exp (-x) = Real.exp (-(1 / 2 * x)) * Real.exp (-(1 / 2 * x)) := by rw [← Real.exp_add]; congr 1; ring
  have h1 : Real.exp (1 / 2 * x) * Real.exp (-(1 / 2 * x)) = 1 := by rw [← Real.exp_add]; simp
  rw [Real.tanh_eq_sinh_div_cosh, Real.sinh_eq, Real.cosh_eq, hx]
  generalize Real.exp (1 / 2 * x) = p at *
  generalize Real.exp (-(1 / 2 * x)) = q at *
  have h2 : p + q ≠ 0 := by positivity
  have h3 : 1 + q * q ≠ 0 := by positivity
  field_simp
  linear_combination (2 * q) * h1

/-- On the whole line, the ends included. -/
theorem tanh_eq (x : EReal) :
    ((1 / 2 : ℝ) : EReal) * Ideal.tanh (((1 / 2 : ℝ) : EReal) * x) + ((1 / 2 : ℝ) : EReal)
      = Ideal.div ((1 : ℝ) : EReal) (((1 : ℝ) : EReal) + Ideal.exp (-x)) := by
  have hpos : (0 : ℝ) < 1 / 2 := by norm_num
  induction x using EReal.rec with
  | bot =>
    rw [EReal.coe_mul_bot_of_pos hpos, Ideal.tanh_bot]
    have hm : (-1 : EReal) = ((-1 : ℝ) : EReal) := by rw [EReal.coe_neg, EReal.coe_one]
    rw [hm, ← EReal.coe_mul, ← EReal.coe_add, EReal.neg_bot, Ideal.exp_top, EReal.coe_add_top]
    unfold Ideal.div
    rw [if_neg (by simp), EReal.inv_top, mul_zero]
    norm_num
  | top =>
    rw [EReal.coe_mul_top_of_pos hpos, Ideal.tanh_top, mul_one, ← EReal.coe_add, EReal.neg_top, Ideal.exp_bot, add_zero]
    unfold Ideal.div
    rw [if_neg (by simp), ← EReal.coe_inv, ← EReal.coe_mul]
    norm_num
  | coe r =>
    rw [← EReal.coe_mul, Ideal.tanh_coe, ← EReal.coe_mul, ← EReal.coe_add, real_eq, ← EReal.coe_neg, Ideal.exp_coe, ← EReal.coe_add]
    have h : (1 + Real.exp (-r)) ≠ 0 := by positivity
    unfold Ideal.div
    rw [if_neg (by exact_mod_cast h), ← EReal.coe_inv, ← EReal.coe_mul, div_eq_mul_inv]

theorem zero2 : (![0, 0] : Fin 2 → ℕ) = fun _ => 0 := by funext a; fin_cases a <;> rfl

theorem row_lt (b : Fin 2) (s : Fin 8192) : 8192 * b.val + s.val < 16384 := by omega

/-- Every row of the flattened batch is a row of one of its two sequences. -/
theorem row_split (x : Fin 16384) : ∃ (b : Fin 2) (s : Fin 8192), x = ⟨8192 * b.val + s.val, row_lt b s⟩ :=
  ⟨⟨x.val / 8192, by omega⟩, ⟨x.val % 8192, by omega⟩, Fin.ext (by simp only []; omega)⟩

end Cert.Logistic

end

end
-- ==== Proof.InProjValue.lean ====
module

public import proofs.«01_k».proof.Proof.Gen.InProjIdeal.Value
public import proofs.«01_k».proof.Proof.Gen.InProjRefIdeal.Run
public import proofs.«01_k».proof.Proof.Logistic
public import Idealize.ShloMosaic.Lib.Pipeline.ValueKit
public import Idealize.ShloMosaic.Lib.Pipeline.ValueKit.Geometry
public import Idealize.ShloMosaic.Lib.StableHlo.ReadAt
public import Idealize.ShloMosaic.Lib.Pointwise
public import Idealize.ShloMosaic.Lib.IdealHost

@[expose] public section

/-! The input projection: what the kernel computes and what the reference computes. -/

set_option maxRecDepth 16384

noncomputable section

namespace Cert.InProjRefIdeal.At
open Cert Cert.InProjRefIdeal Cert.InProjRefIdeal.Gen Idealize.ShloMosaic Idealize.ShloMosaic.TcCoe
open scoped BigOperators

/-- The projection, its second half through the logistic function, of the arguments. -/
def out (A0 : FVec Ideal S2x8192x4096 .bf16) (A1 : FVec Ideal S2x4096x16384 .f32) : FVec Ideal S16384x16384 .bf16 :=
  shapeCast _ (truncf .bf16 (concatenate S2x8192x16384 2 [⟨S2x8192x8192, (extractStridedSlice S2x8192x8192 ![0, 0, 0] (Host.dotGeneral dot_S2x8192x4096_S4096x16384_S2x8192x16384_2_0_01_1_n_n none (extf .f32 A0 bitsLt_bf16_f32) (shapeCast _ (extractStridedSlice S1x4096x16384 ![0, 0, 0] A1 slices_S2x4096x16384_S1x4096x16384_0_0_0) shapeCasts_S1x4096x16384_S4096x16384)) slices_S2x8192x16384_S2x8192x8192_0_0_0)⟩, ⟨S2x8192x8192, (Host.divf (broadcastInDim S2x8192x8192 ![] bcast_S_S2x8192x8192 (constant S_ .f32 0x3F800000#32)) (addf (broadcastInDim S2x8192x8192 ![] bcast_S_S2x8192x8192 (constant S_ .f32 0x3F800000#32)) (Host.exp (Host.negf (extractStridedSlice S2x8192x8192 ![0, 0, 8192] (Host.dotGeneral dot_S2x8192x4096_S4096x16384_S2x8192x16384_2_0_01_1_n_n none (extf .f32 A0 bitsLt_bf16_f32) (shapeCast _ (extractStridedSlice S1x4096x16384 ![0, 0, 0] A1 slices_S2x4096x16384_S1x4096x16384_0_0_0) shapeCasts_S1x4096x16384_S4096x16384)) slices_S2x8192x16384_S2x8192x8192_0_0_8192)))))⟩] concatenates_S2x8192x8192_S2x8192x8192_S2x8192x16384_d2) bitsLt_bf16_f32) shapeCasts_S2x8192x16384_S16384x16384

/-- A layer's weights, narrowed. -/
def castF (A : FVec Ideal S2x2048x4096 .f32) : FVec Ideal S2048x4096 .bf16 :=
  truncf .bf16 (shapeCast _ (extractStridedSlice S1x2048x4096 ![0, 0, 0] A slices_S2x2048x4096_S1x2048x4096_0_0_0) shapeCasts_S1x2048x4096_S2048x4096) bitsLt_bf16_f32

theorem castF_apply (A : FVec Ideal S2x2048x4096 .f32) (i : Fin 2048) (j : Fin 4096) : castF A (ix2 i j) = (A (ix3 0 i j) : EReal) := by
  pointwise [castF]

/-- A layer's weights, narrowed. -/
def castA (A : FVec Ideal S2x4096x4096 .f32) : FVec Ideal S4096x4096 .bf16 :=
  truncf .bf16 (shapeCast _ (extractStridedSlice S1x4096x4096 ![0, 0, 0] A slices_S2x4096x4096_S1x4096x4096_0_0_0) shapeCasts_S1x4096x4096_S4096x4096) bitsLt_bf16_f32

theorem castA_apply (A : FVec Ideal S2x4096x4096 .f32) (i : Fin 4096) (j : Fin 4096) : castA A (ix2 i j) = (A (ix3 0 i j) : EReal) := by
  pointwise [castA]

/-- A layer's weights, narrowed. -/
def castD (A : FVec Ideal S1x4096x8192 .f32) : FVec Ideal S4096x8192 .bf16 :=
  truncf .bf16 (shapeCast _ A shapeCasts_S1x4096x8192_S4096x8192) bitsLt_bf16_f32

theorem castD_apply (A : FVec Ideal S1x4096x8192 .f32) (i : Fin 4096) (j : Fin 8192) : castD A (ix2 i j) = (A (ix3 0 i j) : EReal) := by
  pointwise [castD]

theorem out_lo (A0 : FVec Ideal S2x8192x4096 .bf16) (A1 : FVec Ideal S2x4096x16384 .f32) (b : Fin 2) (s : Fin 8192) (j : Fin 16384) (hj : j.val < 8192) :
    out A0 A1 (ix2 ⟨8192 * b.val + s.val, by omega⟩ j) = (∑ k : Fin 4096, A0 (ix3 b s k) * A1 (ix3 0 k j) : EReal) := by
  pointwise [out, hj]

theorem out_hi (A0 : FVec Ideal S2x8192x4096 .bf16) (A1 : FVec Ideal S2x4096x16384 .f32) (b : Fin 2) (s : Fin 8192) (j : Fin 16384) (hj : ¬ j.val < 8192) :
    out A0 A1 (ix2 ⟨8192 * b.val + s.val, by omega⟩ j)
      = (Ideal.div (Ideal.ofBits FTy.f32 0x3F800000#32) (Ideal.ofBits FTy.f32 0x3F800000#32 + Ideal.exp (-(∑ k : Fin 4096, A0 (ix3 b s k) * A1 (ix3 0 k j)))) : EReal) := by
  have e : ∀ p, (⟨8192 + (j.val - 8192), p⟩ : Fin 16384) = j := fun p => Fin.ext (by dsimp only; omega)
  pointwise [out, hj]
  simp only [e]

end Cert.InProjRefIdeal.At

namespace Cert.InProjIdeal.At
open Cert Cert.InProjIdeal Cert.InProjIdeal.Gen Idealize.ShloMosaic Idealize.ShloMosaic.TcCoe
open scoped BigOperators

theorem pay3_apply (v : Vec Ideal S1x16x2048 .f32) (a : Fin 16) (e : Fin 2048) : k0_pay3 v (ix2 a e) = (v (ix3 0 a e) : EReal) := by
  pointwise [k0_pay3]

theorem pay4_apply (v : Vec Ideal S1x16x4096 .f32) (a : Fin 16) (e : Fin 4096) : k0_pay4 v (ix2 a e) = (v (ix3 0 a e) : EReal) := by
  pointwise [k0_pay4]

theorem pay5_apply (v : Vec Ideal S1x16x4096 .f32) (a : Fin 16) (e : Fin 4096) : k0_pay5 v (ix2 a e) = (v (ix3 0 a e) : EReal) := by
  pointwise [k0_pay5]

theorem pay6_apply (v : Vec Ideal S1x16x8192 .f32) (a : Fin 16) (e : Fin 8192) : k0_pay6 v (ix2 a e) = (v (ix3 0 a e) : EReal) := by
  pointwise [k0_pay6]

theorem pay7_apply (v : Vec Ideal S1x16x8192 .f32) (a : Fin 16) (e : Fin 8192) : k0_pay7 v (ix2 a e) = (v (ix3 0 a e) : EReal) := by
  pointwise [k0_pay7]

/-- The kernel's spelling of the logistic function. -/
abbrev sg (x : EReal) : EReal :=
  Ideal.ofBits FTy.f32 0x3F000000#32 * Ideal.tanh (Ideal.ofBits FTy.f32 0x3F000000#32 * x) + Ideal.ofBits FTy.f32 0x3F000000#32

theorem pay1_apply (v : Vec Ideal S1024x4096 .bf16) (w : Vec Ideal S4096x512 .bf16) (a : Fin 1024) (e : Fin 512) :
    k0_pay1 v w (ix2 a e) = sg (∑ k : Fin 4096, v (ix2 a k) * w (ix2 k e) : EReal) := by
  pointwise [k0_pay1]

theorem pay2_apply (v : Vec Ideal S1024x4096 .bf16) (w : Vec Ideal S4096x512 .bf16) (a : Fin 1024) (e : Fin 512) :
    k0_pay2 v w (ix2 a e) = sg (∑ k : Fin 4096, v (ix2 a k) * w (ix2 k e) : EReal) := by
  pointwise [k0_pay2]

theorem pay8_apply (v : Vec Ideal S1024x4096 .bf16) (w : Vec Ideal S4096x1024 .bf16) (a : Fin 1024) (e : Fin 1024) :
    k0_pay8 v w (ix2 a e) = (∑ k : Fin 4096, v (ix2 a k) * w (ix2 k e) : EReal) := by
  pointwise [k0_pay8]

variable (m : (ℓ : Loc nD τ sig) → Buf (Elt Ideal) ℓ)

/-- Where every window's block lies; the casts' blocks follow the order of the points. -/
theorem idx : ∀ t : Fin cfg0.N,
    win0_0.index t = ![(grid0.coords t 0).val, 0] ∧ win0_1.index t = ![0, (grid0.coords t 1).val]
    ∧ win0_2.index t = ![0, t.val / 2, t.val % 2] ∧ win0_3.index t = ![0, t.val, 0] ∧ win0_4.index t = ![0, t.val, 0]
    ∧ win0_5.index t = ![0, t.val, 0] ∧ win0_6.index t = ![0, t.val, 0]
    ∧ win0_7.index t = ![(grid0.coords t 0).val, (grid0.coords t 1).val]
    ∧ win0_8.index t = ![t.val / 2, t.val % 2] ∧ win0_9.index t = ![t.val, 0] ∧ win0_10.index t = ![t.val, 0]
    ∧ win0_11.index t = ![t.val, 0] ∧ win0_12.index t = ![t.val, 0] :=
  (by decide +kernel : ∀ t : Fin grid0.N, _)

theorem crd : ∀ t : Fin cfg0.N, (grid0.coords t 1).val = t.val % 16 :=
  (by decide +kernel : ∀ t : Fin grid0.N, _)

variable (c : Dev nD) (t : Fin cfg0.N)

/-- The arguments. -/
abbrev arg0 : FVec Ideal S2x8192x4096 .bf16 := m (c, Proc.tc.devRef main_arg0)
abbrev arg1 : FVec Ideal S2x4096x16384 .f32 := m (c, Proc.tc.devRef main_arg1)
abbrev arg2 : FVec Ideal S2x2048x4096 .f32 := m (c, Proc.tc.devRef main_arg2)
abbrev arg3 : FVec Ideal S2x4096x4096 .f32 := m (c, Proc.tc.devRef main_arg3)
abbrev arg4 : FVec Ideal S2x4096x4096 .f32 := m (c, Proc.tc.devRef main_arg4)
abbrev arg5 : FVec Ideal S1x4096x8192 .f32 := m (c, Proc.tc.devRef main_arg5)
abbrev arg6 : FVec Ideal S1x4096x8192 .f32 := m (c, Proc.tc.devRef main_arg6)

theorem host0 (b : Fin 2) (s : Fin 8192) (k : Fin 4096) :
    (V m c main_v0 : Vec Ideal S16384x4096 .bf16) (ix2 ⟨8192 * b.val + s.val, by omega⟩ k) = arg0 m c (ix3 b s k) := by
  unfold V
  after_reads_at

theorem host3 (k : Fin 4096) (j : Fin 16384) :
    (V m c main_v3 : Vec Ideal S4096x16384 .bf16) (ix2 k j) = (arg1 m c (ix3 0 k j) : EReal) := by
  unfold V
  after_reads_at

theorem blk0 (a : Fin 1024) (k : Fin 4096) (x : Fin 16384) (hx : x.val = 1024 * (grid0.coords t 0).val + a.val) :
    (iblk m c 0 t : Vec Ideal S1024x4096 .bf16) (ix2 a k) = (V m c main_v0 : Vec Ideal S16384x4096 .bf16) (ix2 x k) := by
  blk_ext [iblk, idx t, hx]

theorem blk1 (k : Fin 4096) (e : Fin 1024) (y : Fin 16384) (hy : y.val = 1024 * (grid0.coords t 1).val + e.val) :
    (iblk m c 1 t : Vec Ideal S4096x1024 .bf16) (ix2 k e) = (V m c main_v3 : Vec Ideal S4096x16384 .bf16) (ix2 k y) := by
  blk_ext [iblk, idx t, hy]

theorem blk2 (a : Fin 16) (e : Fin 2048) (x : Fin 2048) (hx : x.val = 16 * (t.val / 2) + a.val) (y : Fin 4096) (hy : y.val = 2048 * (t.val % 2) + e.val) :
    (iblk m c 2 t : Vec Ideal S1x16x2048 .f32) (ix3 0 a e) = arg2 m c (ix3 0 x y) := by
  blk_ext [iblk, V_main_arg2, idx t, hx, hy]

theorem blk3 (a : Fin 16) (e : Fin 4096) (x : Fin 4096) (hx : x.val = 16 * t.val + a.val) :
    (iblk m c 3 t : Vec Ideal S1x16x4096 .f32) (ix3 0 a e) = arg3 m c (ix3 0 x e) := by
  blk_ext [iblk, V_main_arg3, idx t, hx]

theorem blk4 (a : Fin 16) (e : Fin 4096) (x : Fin 4096) (hx : x.val = 16 * t.val + a.val) :
    (iblk m c 4 t : Vec Ideal S1x16x4096 .f32) (ix3 0 a e) = arg4 m c (ix3 0 x e) := by
  blk_ext [iblk, V_main_arg4, idx t, hx]

theorem blk5 (a : Fin 16) (e : Fin 8192) (x : Fin 4096) (hx : x.val = 16 * t.val + a.val) :
    (iblk m c 5 t : Vec Ideal S1x16x8192 .f32) (ix3 0 a e) = arg5 m c (ix3 0 x e) := by
  blk_ext [iblk, V_main_arg5, idx t, hx]

theorem blk6 (a : Fin 16) (e : Fin 8192) (x : Fin 4096) (hx : x.val = 16 * t.val + a.val) :
    (iblk m c 6 t : Vec Ideal S1x16x8192 .f32) (ix3 0 a e) = arg6 m c (ix3 0 x e) := by
  blk_ext [iblk, V_main_arg6, idx t, hx]

/-- The blocks the product reads. -/
abbrev w0 : FVec Ideal S1024x4096 .bf16 := iblk m c 0 t
abbrev w1 : FVec Ideal S4096x1024 .bf16 := iblk m c 1 t

theorem dot1 (a : Fin 1024) (e : Fin 1024) (b : Fin 2) (s : Fin 8192) (hx : 8192 * b.val + s.val = 1024 * (grid0.coords t 0).val + a.val)
    (y : Fin 16384) (hy : y.val = 1024 * (grid0.coords t 1).val + e.val) :
    (∑ k : Fin 4096, w0 m c t (ix2 a k) * w1 m c t (ix2 k e) : EReal)
      = ∑ k : Fin 4096, arg0 m c (ix3 b s k) * arg1 m c (ix3 0 k y) :=
  Finset.sum_congr rfl fun k _ =>
    congrArg₂ (fun p q : EReal => p * q) ((blk0 m c t a k ⟨8192 * b.val + s.val, Logistic.row_lt b s⟩ hx).trans (host0 m c b s k))
      ((blk1 m c t k e y hy).trans (host3 m c k y))

/-- A block of the first half, as its store leaves it. -/
theorem low_at (h : t.val % 16 ≤ 7) (a : Fin 1024) (e : Fin 1024) :
    ((outsAt0 m c t.val t.isLt).1 : Vec Ideal S1024x1024 .bf16) (ix2 a e) = (∑ k : Fin 4096, w0 m c t (ix2 a k) * w1 m c t (ix2 k e) : EReal) := by
  rw [outsAt0_A m c t h (by omega)]
  have hc := pay8_apply (iblk m c 0 t) (iblk m c 1 t) a e
  frame_out [out0_A_7]
  exact hc

/-- A block of the second half, as its two stores leave it. -/
theorem high_at (h : 8 ≤ t.val % 16) (a : Fin 1024) (e : Fin 1024) :
    ((outsAt0 m c t.val t.isLt).1 : Vec Ideal S1024x1024 .bf16) (ix2 a e) = sg (∑ k : Fin 4096, w0 m c t (ix2 a k) * w1 m c t (ix2 k e) : EReal) := by
  rw [outsAt0_B m c t (by omega) h]
  frame_out [out0_B_7]
  canon_tiles x h
  · refine (congrArg (k0_pay2 _ _) (?_ : x = ix2 (x 0) (x 1))).trans ((pay2_apply _ _ _ _).trans
      (congrArg sg (Finset.sum_congr rfl fun k _ => congrArg₂ (fun p q : EReal => p * q) (congrArg (w0 m c t) ?_) ?_)))
    · blk_ext []
    · exact congrArg (fun p => ix2 p k) (Fin.ext h0.symm)
    · refine View.ld_unit_apply_of _ _ _ _ _ _ fun i => ?_
      match i with
      | 0 => exact (Nat.zero_add _).symm
      | 1 => exact h1
  · refine (congrArg (k0_pay1 _ _) (?_ : x = ix2 (x 0) (x 1))).trans ((pay1_apply _ _ _ _).trans
      (congrArg sg (Finset.sum_congr rfl fun k _ => congrArg₂ (fun p q : EReal => p * q) (congrArg (w0 m c t) ?_) ?_)))
    · blk_ext []
    · exact congrArg (fun p => ix2 p k) (Fin.ext h0.symm)
    · refine View.ld_unit_apply_of _ _ _ _ _ _ fun i => ?_
      match i with
      | 0 => exact (Nat.zero_add _).symm
      | 1 => exact h1.trans (Nat.zero_add _).symm

/-- A block of the projection is the reference's there. -/
theorem out_at (a : Fin 1024) (e : Fin 1024) (x : Fin 16384) (hx : x.val = 1024 * (grid0.coords t 0).val + a.val)
    (y : Fin 16384) (hy : y.val = 1024 * (grid0.coords t 1).val + e.val) :
    ((outsAt0 m c t.val t.isLt).1 : Vec Ideal S1024x1024 .bf16) (ix2 a e)
      = InProjRefIdeal.At.out (arg0 m c) (arg1 m c) (ix2 x y) := by
  obtain ⟨b, s, rfl⟩ := Logistic.row_split x
  have hc := crd t
  have he : e.val < 1024 := e.isLt
  by_cases h : t.val % 16 ≤ 7
  · rw [low_at m c t h a e, dot1 m c t a e b s hx y hy]
    exact (InProjRefIdeal.At.out_lo _ _ b s y (by omega)).symm
  · rw [high_at m c t (by omega) a e, dot1 m c t a e b s hx y hy]
    refine Eq.trans ?_ (InProjRefIdeal.At.out_hi _ _ b s y (by omega)).symm
    rw [sg, Logistic.half_f32, Logistic.one_f32, Logistic.tanh_eq]

theorem n_eq : cfg0.N = 256 := by decide +kernel

theorem kernel_out7 : (dats m 0 c).arrAt 7 cfg0.N = InProjRefIdeal.At.out (arg0 m c) (arg1 m c) := by
  refine (dats m 0 c).arrAt_eq_of_covers 7 _ (by decide +kernel) fun t hf y => ?_
  blk_simp
  rw [after0_7]
  have h0 : (grid0.coords t 0).val < 16 := (grid0.coords t 0).isLt
  have h1 : (grid0.coords t 1).val < 16 := (grid0.coords t 1).isLt
  have l0 : ((y : S1024x1024.Idx) 0).val < 1024 := (y 0).isLt
  have l1 : ((y : S1024x1024.Idx) 1).val < 1024 := (y 1).isLt
  refine Eq.trans ?_ ((out_at m c t (y 0) (y 1) ⟨1024 * (grid0.coords t 0).val + ((y : S1024x1024.Idx) 0).val, by omega⟩ rfl
    ⟨1024 * (grid0.coords t 1).val + ((y : S1024x1024.Idx) 1).val, by omega⟩ rfl).trans ?_)
  · refine congrArg _ ?_
    blk_ext []
  · refine congrArg _ ?_
    blk_ext [idx t]

theorem kernel_out8 : (dats m 0 c).arrAt 8 cfg0.N = InProjRefIdeal.At.castF (arg2 m c) := by
  refine (dats m 0 c).arrAt_eq_of_covers 8 _ (by decide +kernel) fun t hf y => ?_
  blk_simp
  rw [after0_8]
  have ht : t.val < 256 := lt_of_lt_of_eq t.isLt n_eq
  have l0 : ((y : S16x2048.Idx) 0).val < 16 := (y 0).isLt
  have l1 : ((y : S16x2048.Idx) 1).val < 2048 := (y 1).isLt
  have hc : ((outsAt0 m c t.val t.isLt).2.1 : Vec Ideal S16x2048 .bf16) = k0_pay3 (iblk m c 2 t) := by
    by_cases h : t.val % 16 ≤ 7
    · rw [outsAt0_A m c t h (by omega)]
      frame_out [out0_A_8]
    · rw [outsAt0_B m c t h (by omega)]
      frame_out [out0_B_8]
  rw [hc]
  refine Eq.trans (congrArg (k0_pay3 (iblk m c 2 t)) (?_ : _ = ix2 (y 0) (y 1))) ((pay3_apply _ (y 0) (y 1)).trans ((blk2 m c t (y 0) (y 1) ⟨16 * (t.val / 2) + ((y : S16x2048.Idx) 0).val, by omega⟩ rfl ⟨2048 * (t.val % 2) + ((y : S16x2048.Idx) 1).val, by omega⟩ rfl).trans
    ((InProjRefIdeal.At.castF_apply _ _ _).symm.trans ?_)))
  · blk_ext []
  · refine congrArg _ ?_
    blk_ext [idx t]

theorem kernel_out9 : (dats m 0 c).arrAt 9 cfg0.N = InProjRefIdeal.At.castA (arg3 m c) := by
  refine (dats m 0 c).arrAt_eq_of_covers 9 _ (by decide +kernel) fun t hf y => ?_
  blk_simp
  rw [after0_9]
  have ht : t.val < 256 := lt_of_lt_of_eq t.isLt n_eq
  have l0 : ((y : S16x4096.Idx) 0).val < 16 := (y 0).isLt
  have l1 : ((y : S16x4096.Idx) 1).val < 4096 := (y 1).isLt
  have hc : ((outsAt0 m c t.val t.isLt).2.2.1 : Vec Ideal S16x4096 .bf16) = k0_pay4 (iblk m c 3 t) := by
    by_cases h : t.val % 16 ≤ 7
    · rw [outsAt0_A m c t h (by omega)]
      frame_out [out0_A_9]
    · rw [outsAt0_B m c t h (by omega)]
      frame_out [out0_B_9]
  rw [hc]
  refine Eq.trans (congrArg (k0_pay4 (iblk m c 3 t)) (?_ : _ = ix2 (y 0) (y 1))) ((pay4_apply _ (y 0) (y 1)).trans ((blk3 m c t (y 0) (y 1) ⟨16 * t.val + ((y : S16x4096.Idx) 0).val, by omega⟩ rfl).trans
    ((InProjRefIdeal.At.castA_apply _ _ _).symm.trans ?_)))
  · blk_ext []
  · refine congrArg _ ?_
    blk_ext [idx t]

theorem kernel_out10 : (dats m 0 c).arrAt 10 cfg0.N = InProjRefIdeal.At.castA (arg4 m c) := by
  refine (dats m 0 c).arrAt_eq_of_covers 10 _ (by decide +kernel) fun t hf y => ?_
  blk_simp
  rw [after0_10]
  have ht : t.val < 256 := lt_of_lt_of_eq t.isLt n_eq
  have l0 : ((y : S16x4096.Idx) 0).val < 16 := (y 0).isLt
  have l1 : ((y : S16x4096.Idx) 1).val < 4096 := (y 1).isLt
  have hc : ((outsAt0 m c t.val t.isLt).2.2.2.1 : Vec Ideal S16x4096 .bf16) = k0_pay5 (iblk m c 4 t) := by
    by_cases h : t.val % 16 ≤ 7
    · rw [outsAt0_A m c t h (by omega)]
      frame_out [out0_A_10]
    · rw [outsAt0_B m c t h (by omega)]
      frame_out [out0_B_10]
  rw [hc]
  refine Eq.trans (congrArg (k0_pay5 (iblk m c 4 t)) (?_ : _ = ix2 (y 0) (y 1))) ((pay5_apply _ (y 0) (y 1)).trans ((blk4 m c t (y 0) (y 1) ⟨16 * t.val + ((y : S16x4096.Idx) 0).val, by omega⟩ rfl).trans
    ((InProjRefIdeal.At.castA_apply _ _ _).symm.trans ?_)))
  · blk_ext []
  · refine congrArg _ ?_
    blk_ext [idx t]

theorem kernel_out11 : (dats m 0 c).arrAt 11 cfg0.N = InProjRefIdeal.At.castD (arg5 m c) := by
  refine (dats m 0 c).arrAt_eq_of_covers 11 _ (by decide +kernel) fun t hf y => ?_
  blk_simp
  rw [after0_11]
  have ht : t.val < 256 := lt_of_lt_of_eq t.isLt n_eq
  have l0 : ((y : S16x8192.Idx) 0).val < 16 := (y 0).isLt
  have l1 : ((y : S16x8192.Idx) 1).val < 8192 := (y 1).isLt
  have hc : ((outsAt0 m c t.val t.isLt).2.2.2.2.1 : Vec Ideal S16x8192 .bf16) = k0_pay6 (iblk m c 5 t) := by
    by_cases h : t.val % 16 ≤ 7
    · rw [outsAt0_A m c t h (by omega)]
      frame_out [out0_A_11]
    · rw [outsAt0_B m c t h (by omega)]
      frame_out [out0_B_11]
  rw [hc]
  refine Eq.trans (congrArg (k0_pay6 (iblk m c 5 t)) (?_ : _ = ix2 (y 0) (y 1))) ((pay6_apply _ (y 0) (y 1)).trans ((blk5 m c t (y 0) (y 1) ⟨16 * t.val + ((y : S16x8192.Idx) 0).val, by omega⟩ rfl).trans
    ((InProjRefIdeal.At.castD_apply _ _ _).symm.trans ?_)))
  · blk_ext []
  · refine congrArg _ ?_
    blk_ext [idx t]

theorem kernel_out12 : (dats m 0 c).arrAt 12 cfg0.N = InProjRefIdeal.At.castD (arg6 m c) := by
  refine (dats m 0 c).arrAt_eq_of_covers 12 _ (by decide +kernel) fun t hf y => ?_
  blk_simp
  rw [after0_12]
  have ht : t.val < 256 := lt_of_lt_of_eq t.isLt n_eq
  have l0 : ((y : S16x8192.Idx) 0).val < 16 := (y 0).isLt
  have l1 : ((y : S16x8192.Idx) 1).val < 8192 := (y 1).isLt
  have hc : ((outsAt0 m c t.val t.isLt).2.2.2.2.2 : Vec Ideal S16x8192 .bf16) = k0_pay7 (iblk m c 6 t) := by
    by_cases h : t.val % 16 ≤ 7
    · rw [outsAt0_A m c t h (by omega)]
      frame_out [out0_A_12]
    · rw [outsAt0_B m c t h (by omega)]
      frame_out [out0_B_12]
  rw [hc]
  refine Eq.trans (congrArg (k0_pay7 (iblk m c 6 t)) (?_ : _ = ix2 (y 0) (y 1))) ((pay7_apply _ (y 0) (y 1)).trans ((blk6 m c t (y 0) (y 1) ⟨16 * t.val + ((y : S16x8192.Idx) 0).val, by omega⟩ rfl).trans
    ((InProjRefIdeal.At.castD_apply _ _ _).symm.trans ?_)))
  · blk_ext []
  · refine congrArg _ ?_
    blk_ext [idx t]

end Cert.InProjIdeal.At

end

end
-- ==== Proof.MergeValue.lean ====
module

public import proofs.«01_k».proof.Proof.Gen.MergeIdeal.Value
public import proofs.«01_k».proof.Proof.Gen.MergeRefIdeal.Run
public import proofs.«01_k».proof.Proof.Logistic
public import Idealize.ShloMosaic.Lib.Pipeline.ValueKit
public import Idealize.ShloMosaic.Lib.Pipeline.ValueKit.Geometry
public import Idealize.ShloMosaic.Lib.StableHlo.ReadAt
public import Idealize.ShloMosaic.Lib.Pointwise
public import Idealize.ShloMosaic.Lib.IdealHost

@[expose] public section

/-! The gated sum of the two branches: what the kernel's blocks hold and what the reference's result is. -/

set_option maxRecDepth 16384

noncomputable section

namespace Cert.MergeRefIdeal.At
open Cert Cert.MergeRefIdeal Cert.MergeRefIdeal.Gen Idealize.ShloMosaic Idealize.ShloMosaic.TcCoe
open scoped BigOperators

/-- The result, of the arguments. -/
def out (A0 : FVec Ideal S2x8192x2048 .bf16) (A1 : FVec Ideal S2x8192x4096 .bf16) (A2 : FVec Ideal S2x8192x16384 .bf16)
    (A3 : FVec Ideal S2x2048x4096 .f32) (A4 : FVec Ideal S2x4096x4096 .f32) : FVec Ideal S16384x4096 .bf16 :=
  shapeCast _ (truncf .bf16 (addf (mulf (extractStridedSlice S2x8192x4096 ![0, 0, 0] (extf .f32 (extractStridedSlice S2x8192x8192 ![0, 0, 8192] A2 slices_S2x8192x16384_S2x8192x8192_0_0_8192) bitsLt_bf16_f32) slices_S2x8192x8192_S2x8192x4096_0_0_0) (Host.dotGeneral dot_S2x8192x2048_S2048x4096_S2x8192x4096_2_0_01_1_n_n none (extf .f32 A0 bitsLt_bf16_f32) (shapeCast _ (extractStridedSlice S1x2048x4096 ![0, 0, 0] A3 slices_S2x2048x4096_S1x2048x4096_0_0_0) shapeCasts_S1x2048x4096_S2048x4096))) (mulf (extractStridedSlice S2x8192x4096 ![0, 0, 4096] (extf .f32 (extractStridedSlice S2x8192x8192 ![0, 0, 8192] A2 slices_S2x8192x16384_S2x8192x8192_0_0_8192) bitsLt_bf16_f32) slices_S2x8192x8192_S2x8192x4096_0_0_4096) (Host.dotGeneral dot_S2x8192x4096_S4096x4096_S2x8192x4096_2_0_01_1_n_n none (extf .f32 A1 bitsLt_bf16_f32) (shapeCast _ (extractStridedSlice S1x4096x4096 ![0, 0, 0] A4 slices_S2x4096x4096_S1x4096x4096_0_0_0) shapeCasts_S1x4096x4096_S4096x4096)))) bitsLt_bf16_f32) shapeCasts_S2x8192x4096_S16384x4096

/-- The result at a row `8192 b + s` and a column: each branch's product times its gate. -/
theorem out_apply (A0 : FVec Ideal S2x8192x2048 .bf16) (A1 : FVec Ideal S2x8192x4096 .bf16) (A2 : FVec Ideal S2x8192x16384 .bf16)
    (A3 : FVec Ideal S2x2048x4096 .f32) (A4 : FVec Ideal S2x4096x4096 .f32) (b : Fin 2) (s : Fin 8192) (j : Fin 4096) :
    out A0 A1 A2 A3 A4 (ix2 ⟨8192 * b.val + s.val, by omega⟩ j)
      = (A2 (ix3 b s ⟨8192 + j.val, by omega⟩) * (∑ k : Fin 2048, A0 (ix3 b s k) * A3 (ix3 0 k j))
          + A2 (ix3 b s ⟨8192 + (4096 + j.val), by omega⟩) * (∑ k : Fin 4096, A1 (ix3 b s k) * A4 (ix3 0 k j)) : EReal) := by
  pointwise [out]

end Cert.MergeRefIdeal.At

namespace Cert.MergeIdeal.At
open Cert Cert.MergeIdeal Cert.MergeIdeal.Gen Idealize.ShloMosaic Idealize.ShloMosaic.TcCoe
open scoped BigOperators

/-- A block of the result at an index. -/
theorem pay_apply (v0 : Vec Ideal S1024x2048 .bf16) (v2 : Vec Ideal S2048x512 .bf16) (v5 : Vec Ideal S1024x4096 .bf16)
    (v7 : Vec Ideal S4096x512 .bf16) (v10 : Vec Ideal S1024x512 .bf16) (v14 : Vec Ideal S1024x512 .bf16) (a : Fin 1024) (e : Fin 512) :
    k0_pay1 v0 v2 v5 v7 v10 v14 (ix2 a e)
      = (v10 (ix2 a e) * (∑ k : Fin 2048, v0 (ix2 a k) * v2 (ix2 k e)) + v14 (ix2 a e) * (∑ k : Fin 4096, v5 (ix2 a k) * v7 (ix2 k e)) : EReal) := by
  pointwise [k0_pay1]

variable (m : (ℓ : Loc nD τ sig) → Buf (Elt Ideal) ℓ)

/-- Where every window's block lies. -/
theorem idx : ∀ t : Fin cfg0.N,
    win0_0.index t = ![(grid0.coords t 0).val, 0] ∧ win0_1.index t = ![(grid0.coords t 0).val, 0]
    ∧ win0_2.index t = ![0, (grid0.coords t 1).val] ∧ win0_3.index t = ![0, (grid0.coords t 1).val]
    ∧ win0_4.index t = ![(grid0.coords t 0).val, 16 + (grid0.coords t 1).val]
    ∧ win0_5.index t = ![(grid0.coords t 0).val, 24 + (grid0.coords t 1).val]
    ∧ win0_6.index t = ![(grid0.coords t 0).val, (grid0.coords t 1).val] :=
  (by decide +kernel : ∀ t : Fin grid0.N, _)

variable (c : Dev nD) (t : Fin cfg0.N)

theorem host0 (b : Fin 2) (s : Fin 8192) (k : Fin 2048) :
    (V m c main_v0 : Vec Ideal S16384x2048 .bf16) (ix2 ⟨8192 * b.val + s.val, by omega⟩ k)
      = (m (c, Proc.tc.devRef main_arg0) : Vec Ideal S2x8192x2048 .bf16) (ix3 b s k) := by
  unfold V
  after_reads_at

theorem host1 (b : Fin 2) (s : Fin 8192) (k : Fin 4096) :
    (V m c main_v1 : Vec Ideal S16384x4096 .bf16) (ix2 ⟨8192 * b.val + s.val, by omega⟩ k)
      = (m (c, Proc.tc.devRef main_arg1) : Vec Ideal S2x8192x4096 .bf16) (ix3 b s k) := by
  unfold V
  after_reads_at

theorem host2 (b : Fin 2) (s : Fin 8192) (k : Fin 16384) :
    (V m c main_v2 : Vec Ideal S16384x16384 .bf16) (ix2 ⟨8192 * b.val + s.val, by omega⟩ k)
      = (m (c, Proc.tc.devRef main_arg2) : Vec Ideal S2x8192x16384 .bf16) (ix3 b s k) := by
  unfold V
  after_reads_at

theorem host5 (k : Fin 2048) (j : Fin 4096) :
    (V m c main_v5 : Vec Ideal S2048x4096 .bf16) (ix2 k j)
      = ((m (c, Proc.tc.devRef main_arg3) : Vec Ideal S2x2048x4096 .f32) (ix3 0 k j) : EReal) := by
  unfold V
  after_reads_at

theorem host8 (k : Fin 4096) (j : Fin 4096) :
    (V m c main_v8 : Vec Ideal S4096x4096 .bf16) (ix2 k j)
      = ((m (c, Proc.tc.devRef main_arg4) : Vec Ideal S2x4096x4096 .f32) (ix3 0 k j) : EReal) := by
  unfold V
  after_reads_at

theorem blk0 (a : Fin 1024) (k : Fin 2048) (x : Fin 16384) (hx : x.val = 1024 * (grid0.coords t 0).val + a.val) :
    (iblk m c 0 t : Vec Ideal S1024x2048 .bf16) (ix2 a k) = (V m c main_v0 : Vec Ideal S16384x2048 .bf16) (ix2 x k) := by
  blk_ext [iblk, idx t, hx]

theorem blk1 (a : Fin 1024) (k : Fin 4096) (x : Fin 16384) (hx : x.val = 1024 * (grid0.coords t 0).val + a.val) :
    (iblk m c 1 t : Vec Ideal S1024x4096 .bf16) (ix2 a k) = (V m c main_v1 : Vec Ideal S16384x4096 .bf16) (ix2 x k) := by
  blk_ext [iblk, idx t, hx]

theorem blk2 (k : Fin 2048) (e : Fin 512) (y : Fin 4096) (hy : y.val = 512 * (grid0.coords t 1).val + e.val) :
    (iblk m c 2 t : Vec Ideal S2048x512 .bf16) (ix2 k e) = (V m c main_v5 : Vec Ideal S2048x4096 .bf16) (ix2 k y) := by
  blk_ext [iblk, idx t, hy]

theorem blk3 (k : Fin 4096) (e : Fin 512) (y : Fin 4096) (hy : y.val = 512 * (grid0.coords t 1).val + e.val) :
    (iblk m c 3 t : Vec Ideal S4096x512 .bf16) (ix2 k e) = (V m c main_v8 : Vec Ideal S4096x4096 .bf16) (ix2 k y) := by
  blk_ext [iblk, idx t, hy]

theorem blk4 (a : Fin 1024) (e : Fin 512) (x : Fin 16384) (hx : x.val = 1024 * (grid0.coords t 0).val + a.val)
    (y : Fin 16384) (hy : y.val = 8192 + (512 * (grid0.coords t 1).val + e.val)) :
    (iblk m c 4 t : Vec Ideal S1024x512 .bf16) (ix2 a e) = (V m c main_v2 : Vec Ideal S16384x16384 .bf16) (ix2 x y) := by
  blk_ext [iblk, idx t, hx, hy]

theorem blk5 (a : Fin 1024) (e : Fin 512) (x : Fin 16384) (hx : x.val = 1024 * (grid0.coords t 0).val + a.val)
    (y : Fin 16384) (hy : y.val = 12288 + (512 * (grid0.coords t 1).val + e.val)) :
    (iblk m c 5 t : Vec Ideal S1024x512 .bf16) (ix2 a e) = (V m c main_v2 : Vec Ideal S16384x16384 .bf16) (ix2 x y) := by
  blk_ext [iblk, idx t, hx, hy]

/-- The reference's result, of the kernel's arguments. -/
abbrev G : FVec Ideal MergeRefIdeal.S16384x4096 .bf16 :=
  MergeRefIdeal.At.out (m (c, Proc.tc.devRef main_arg0)) (m (c, Proc.tc.devRef main_arg1)) (m (c, Proc.tc.devRef main_arg2))
    (m (c, Proc.tc.devRef main_arg3)) (m (c, Proc.tc.devRef main_arg4))

/-- A block of the result is the reference's result there. -/
theorem out_at (a : Fin 1024) (e : Fin 512) (x : Fin 16384) (hx : x.val = 1024 * (grid0.coords t 0).val + a.val)
    (y : Fin 4096) (hy : y.val = 512 * (grid0.coords t 1).val + e.val) :
    (out0_6 (iblk m c 0 t) (iblk m c 1 t) (iblk m c 2 t) (iblk m c 3 t) (iblk m c 4 t) (iblk m c 5 t) : Vec Ideal S1024x512 .bf16) (ix2 a e)
      = G m c (ix2 x y) := by
  obtain ⟨b, s, rfl⟩ := Logistic.row_split x
  have hc : (out0_6 (iblk m c 0 t) (iblk m c 1 t) (iblk m c 2 t) (iblk m c 3 t) (iblk m c 4 t) (iblk m c 5 t) : Vec Ideal S1024x512 .bf16) (ix2 a e)
      = k0_pay1 (iblk m c 0 t) (iblk m c 2 t) (iblk m c 1 t) (iblk m c 3 t) (iblk m c 4 t) (iblk m c 5 t) (ix2 a e) := by
    frame_out [out0_6]
  rw [hc, pay_apply]
  refine Eq.trans ?_ (MergeRefIdeal.At.out_apply _ _ _ _ _ b s y).symm
  rw [blk4 m c t a e _ hx ⟨8192 + y.val, by omega⟩ (by simp only [hy]),
    blk5 m c t a e _ hx ⟨8192 + (4096 + y.val), by omega⟩ (by simp only [hy]; omega), host2, host2]
  refine congrArg₂ (fun p q : EReal => p + q) ?_ ?_
  · refine congrArg (fun q : EReal => _ * q) (Finset.sum_congr rfl fun k _ => ?_)
    rw [blk0 m c t a k _ hx, blk2 m c t k e y hy, host0, host5]
  · refine congrArg (fun q : EReal => _ * q) (Finset.sum_congr rfl fun k _ => ?_)
    rw [blk1 m c t a k _ hx, blk3 m c t k e y hy, host1, host8]

/-- The kernel's result array is the reference's. -/
theorem kernel_out : (dats m 0 c).arrAt 6 cfg0.N = G m c := by
  refine (dats m 0 c).arrAt_eq_of_covers 6 _ (by decide +kernel) fun t hf y => ?_
  blk_simp
  rw [after0_6]
  have h0 : (grid0.coords t 0).val < 16 := (grid0.coords t 0).isLt
  have h1 : (grid0.coords t 1).val < 8 := (grid0.coords t 1).isLt
  have l0 : ((y : S1024x512.Idx) 0).val < 1024 := (y 0).isLt
  have l1 : ((y : S1024x512.Idx) 1).val < 512 := (y 1).isLt
  refine Eq.trans ?_ ((out_at m c t (y 0) (y 1) ⟨1024 * (grid0.coords t 0).val + ((y : S1024x512.Idx) 0).val, by omega⟩ rfl
    ⟨512 * (grid0.coords t 1).val + ((y : S1024x512.Idx) 1).val, by omega⟩ rfl).trans ?_)
  · refine congrArg _ ?_
    blk_ext []
  · refine congrArg _ ?_
    blk_ext [idx t]

end Cert.MergeIdeal.At

end

end
-- ==== Proof.OutProjValue.lean ====
module

public import proofs.«01_k».proof.Proof.Gen.OutProjIdeal.Value
public import proofs.«01_k».proof.Proof.Gen.OutProjRefIdeal.Run
public import proofs.«01_k».proof.Proof.Logistic
public import Idealize.ShloMosaic.Lib.Pipeline.ValueKit
public import Idealize.ShloMosaic.Lib.Pipeline.ValueKit.Geometry
public import Idealize.ShloMosaic.Lib.StableHlo.ReadAt
public import Idealize.ShloMosaic.Lib.Pointwise
public import Idealize.ShloMosaic.Lib.IdealHost

@[expose] public section

/-! The output projection: what the kernel computes and what the reference computes. -/

set_option maxRecDepth 16384

noncomputable section

namespace Cert.OutProjRefIdeal.At
open Cert Cert.OutProjRefIdeal Cert.OutProjRefIdeal.Gen Idealize.ShloMosaic Idealize.ShloMosaic.TcCoe
open scoped BigOperators

/-- The product, of the arguments. -/
def out (A0 : FVec Ideal S2x8192x4096 .bf16) (A1 : FVec Ideal S2x4096x4096 .f32) : FVec Ideal S16384x4096 .bf16 :=
  shapeCast _ (truncf .bf16 (Host.dotGeneral dot_S2x8192x4096_S4096x4096_S2x8192x4096_2_0_01_1_n_n none (extf .f32 A0 bitsLt_bf16_f32) (shapeCast _ (extractStridedSlice S1x4096x4096 ![0, 0, 0] A1 slices_S2x4096x4096_S1x4096x4096_0_0_0) shapeCasts_S1x4096x4096_S4096x4096)) bitsLt_bf16_f32) shapeCasts_S2x8192x4096_S16384x4096

/-- The second layer's weights of one branch, narrowed. -/
def castF (A : FVec Ideal S2x2048x4096 .f32) : FVec Ideal S2048x4096 .bf16 :=
  truncf .bf16 (shapeCast _ (extractStridedSlice S1x2048x4096 ![1, 0, 0] A slices_S2x2048x4096_S1x2048x4096_1_0_0) shapeCasts_S1x2048x4096_S2048x4096) bitsLt_bf16_f32

/-- The second layer's weights of the other branch, or of the output, narrowed. -/
def castA (A : FVec Ideal S2x4096x4096 .f32) : FVec Ideal S4096x4096 .bf16 :=
  truncf .bf16 (shapeCast _ (extractStridedSlice S1x4096x4096 ![1, 0, 0] A slices_S2x4096x4096_S1x4096x4096_1_0_0) shapeCasts_S1x4096x4096_S4096x4096) bitsLt_bf16_f32

theorem out_apply (A0 : FVec Ideal S2x8192x4096 .bf16) (A1 : FVec Ideal S2x4096x4096 .f32) (b : Fin 2) (s : Fin 8192) (j : Fin 4096) :
    out A0 A1 (ix2 ⟨8192 * b.val + s.val, by omega⟩ j) = (∑ k : Fin 4096, A0 (ix3 b s k) * A1 (ix3 0 k j) : EReal) := by
  pointwise [out]

theorem castF_apply (A : FVec Ideal S2x2048x4096 .f32) (i : Fin 2048) (j : Fin 4096) : castF A (ix2 i j) = (A (ix3 1 i j) : EReal) := by
  pointwise [castF]

theorem castA_apply (A : FVec Ideal S2x4096x4096 .f32) (i : Fin 4096) (j : Fin 4096) : castA A (ix2 i j) = (A (ix3 1 i j) : EReal) := by
  pointwise [castA]

end Cert.OutProjRefIdeal.At

namespace Cert.OutProjIdeal.At
open Cert Cert.OutProjIdeal Cert.OutProjIdeal.Gen Idealize.ShloMosaic Idealize.ShloMosaic.TcCoe
open scoped BigOperators

theorem pay1_apply (v : Vec Ideal S1x32x4096 .f32) (a : Fin 32) (e : Fin 4096) : k0_pay1 v (ix2 a e) = (v (ix3 0 a e) : EReal) := by
  pointwise [k0_pay1]

theorem pay2_apply (v : Vec Ideal S1x64x4096 .f32) (a : Fin 64) (e : Fin 4096) : k0_pay2 v (ix2 a e) = (v (ix3 0 a e) : EReal) := by
  pointwise [k0_pay2]

theorem pay3_apply (v : Vec Ideal S1x64x4096 .f32) (a : Fin 64) (e : Fin 4096) : k0_pay3 v (ix2 a e) = (v (ix3 0 a e) : EReal) := by
  pointwise [k0_pay3]

theorem pay4_apply (v : Vec Ideal S1024x4096 .bf16) (w : Vec Ideal S4096x1024 .bf16) (a : Fin 1024) (e : Fin 1024) :
    k0_pay4 v w (ix2 a e) = (∑ k : Fin 4096, v (ix2 a k) * w (ix2 k e) : EReal) := by
  pointwise [k0_pay4]

variable (m : (ℓ : Loc nD τ sig) → Buf (Elt Ideal) ℓ)

/-- Where every window's block lies; the casts' blocks follow the order of the points. -/
theorem idx : ∀ t : Fin cfg0.N,
    win0_0.index t = ![(grid0.coords t 0).val, 0] ∧ win0_1.index t = ![0, (grid0.coords t 1).val]
    ∧ win0_2.index t = ![1, t.val, 0] ∧ win0_3.index t = ![1, t.val, 0] ∧ win0_4.index t = ![1, t.val, 0]
    ∧ win0_5.index t = ![(grid0.coords t 0).val, (grid0.coords t 1).val]
    ∧ win0_6.index t = ![t.val, 0] ∧ win0_7.index t = ![t.val, 0] ∧ win0_8.index t = ![t.val, 0] :=
  (by decide +kernel : ∀ t : Fin grid0.N, _)

variable (c : Dev nD) (t : Fin cfg0.N)

/-- The arguments. -/
abbrev arg0 : FVec Ideal S2x8192x4096 .bf16 := m (c, Proc.tc.devRef main_arg0)
abbrev arg1 : FVec Ideal S2x4096x4096 .f32 := m (c, Proc.tc.devRef main_arg1)
abbrev arg2 : FVec Ideal S2x2048x4096 .f32 := m (c, Proc.tc.devRef main_arg2)
abbrev arg3 : FVec Ideal S2x4096x4096 .f32 := m (c, Proc.tc.devRef main_arg3)

theorem host0 (b : Fin 2) (s : Fin 8192) (k : Fin 4096) :
    (V m c main_v0 : Vec Ideal S16384x4096 .bf16) (ix2 ⟨8192 * b.val + s.val, by omega⟩ k) = arg0 m c (ix3 b s k) := by
  unfold V
  after_reads_at

theorem host3 (k : Fin 4096) (j : Fin 4096) :
    (V m c main_v3 : Vec Ideal S4096x4096 .bf16) (ix2 k j) = (arg1 m c (ix3 0 k j) : EReal) := by
  unfold V
  after_reads_at

theorem blk0 (a : Fin 1024) (k : Fin 4096) (x : Fin 16384) (hx : x.val = 1024 * (grid0.coords t 0).val + a.val) :
    (iblk m c 0 t : Vec Ideal S1024x4096 .bf16) (ix2 a k) = (V m c main_v0 : Vec Ideal S16384x4096 .bf16) (ix2 x k) := by
  blk_ext [iblk, idx t, hx]

theorem blk1 (k : Fin 4096) (e : Fin 1024) (y : Fin 4096) (hy : y.val = 1024 * (grid0.coords t 1).val + e.val) :
    (iblk m c 1 t : Vec Ideal S4096x1024 .bf16) (ix2 k e) = (V m c main_v3 : Vec Ideal S4096x4096 .bf16) (ix2 k y) := by
  blk_ext [iblk, idx t, hy]

theorem blk2 (a : Fin 32) (e : Fin 4096) (x : Fin 2048) (hx : x.val = 32 * t.val + a.val) :
    (iblk m c 2 t : Vec Ideal S1x32x4096 .f32) (ix3 0 a e) = arg2 m c (ix3 1 x e) := by
  blk_ext [iblk, V_main_arg2, idx t, hx]

theorem blk3 (a : Fin 64) (e : Fin 4096) (x : Fin 4096) (hx : x.val = 64 * t.val + a.val) :
    (iblk m c 3 t : Vec Ideal S1x64x4096 .f32) (ix3 0 a e) = arg3 m c (ix3 1 x e) := by
  blk_ext [iblk, V_main_arg3, idx t, hx]

theorem blk4 (a : Fin 64) (e : Fin 4096) (x : Fin 4096) (hx : x.val = 64 * t.val + a.val) :
    (iblk m c 4 t : Vec Ideal S1x64x4096 .f32) (ix3 0 a e) = arg1 m c (ix3 1 x e) := by
  blk_ext [iblk, V_main_arg1, idx t, hx]

/-- A block of the product is the reference's product there. -/
theorem out_at (a : Fin 1024) (e : Fin 1024) (x : Fin 16384) (hx : x.val = 1024 * (grid0.coords t 0).val + a.val)
    (y : Fin 4096) (hy : y.val = 1024 * (grid0.coords t 1).val + e.val) :
    (out0_5 (iblk m c 0 t) (iblk m c 1 t) (iblk m c 2 t) (iblk m c 3 t) (iblk m c 4 t) : Vec Ideal S1024x1024 .bf16) (ix2 a e)
      = OutProjRefIdeal.At.out (arg0 m c) (arg1 m c) (ix2 x y) := by
  obtain ⟨b, s, rfl⟩ := Logistic.row_split x
  have hc : (out0_5 (iblk m c 0 t) (iblk m c 1 t) (iblk m c 2 t) (iblk m c 3 t) (iblk m c 4 t) : Vec Ideal S1024x1024 .bf16) (ix2 a e)
      = k0_pay4 (iblk m c 0 t) (iblk m c 1 t) (ix2 a e) := by
    frame_out [out0_5]
  rw [hc, pay4_apply]
  refine Eq.trans ?_ (OutProjRefIdeal.At.out_apply _ _ b s y).symm
  refine Finset.sum_congr rfl fun k _ => ?_
  rw [blk0 m c t a k _ hx, blk1 m c t k e y hy, host0, host3]

theorem n_eq : cfg0.N = 64 := by decide +kernel

theorem kernel_out5 : (dats m 0 c).arrAt 5 cfg0.N = OutProjRefIdeal.At.out (arg0 m c) (arg1 m c) := by
  refine (dats m 0 c).arrAt_eq_of_covers 5 _ (by decide +kernel) fun t hf y => ?_
  blk_simp
  rw [after0_5]
  have h0 : (grid0.coords t 0).val < 16 := (grid0.coords t 0).isLt
  have h1 : (grid0.coords t 1).val < 4 := (grid0.coords t 1).isLt
  have l0 : ((y : S1024x1024.Idx) 0).val < 1024 := (y 0).isLt
  have l1 : ((y : S1024x1024.Idx) 1).val < 1024 := (y 1).isLt
  refine Eq.trans ?_ ((out_at m c t (y 0) (y 1) ⟨1024 * (grid0.coords t 0).val + ((y : S1024x1024.Idx) 0).val, by omega⟩ rfl
    ⟨1024 * (grid0.coords t 1).val + ((y : S1024x1024.Idx) 1).val, by omega⟩ rfl).trans ?_)
  · refine congrArg _ ?_
    blk_ext []
  · refine congrArg _ ?_
    blk_ext [idx t]

theorem kernel_out6 : (dats m 0 c).arrAt 6 cfg0.N = OutProjRefIdeal.At.castF (arg2 m c) := by
  refine (dats m 0 c).arrAt_eq_of_covers 6 _ (by decide +kernel) fun t hf y => ?_
  blk_simp
  rw [after0_6]
  have ht : t.val < 64 := lt_of_lt_of_eq t.isLt n_eq
  have l0 : ((y : S32x4096.Idx) 0).val < 32 := (y 0).isLt
  have hc : (out0_6 (iblk m c 0 t) (iblk m c 1 t) (iblk m c 2 t) (iblk m c 3 t) (iblk m c 4 t) : Vec Ideal S32x4096 .bf16) = k0_pay1 (iblk m c 2 t) := by
    frame_out [out0_6]
  rw [hc]
  refine Eq.trans (congrArg (k0_pay1 (iblk m c 2 t)) (?_ : _ = ix2 (y 0) (y 1))) ((pay1_apply _ (y 0) (y 1)).trans ((blk2 m c t (y 0) (y 1) ⟨32 * t.val + ((y : S32x4096.Idx) 0).val, by omega⟩ rfl).trans
    ((OutProjRefIdeal.At.castF_apply _ _ _).symm.trans ?_)))
  · blk_ext []
  · refine congrArg _ ?_
    blk_ext [idx t]

theorem kernel_out7 : (dats m 0 c).arrAt 7 cfg0.N = OutProjRefIdeal.At.castA (arg3 m c) := by
  refine (dats m 0 c).arrAt_eq_of_covers 7 _ (by decide +kernel) fun t hf y => ?_
  blk_simp
  rw [after0_7]
  have ht : t.val < 64 := lt_of_lt_of_eq t.isLt n_eq
  have l0 : ((y : S64x4096.Idx) 0).val < 64 := (y 0).isLt
  have hc : (out0_7 (iblk m c 0 t) (iblk m c 1 t) (iblk m c 2 t) (iblk m c 3 t) (iblk m c 4 t) : Vec Ideal S64x4096 .bf16) = k0_pay2 (iblk m c 3 t) := by
    frame_out [out0_7]
  rw [hc]
  refine Eq.trans (congrArg (k0_pay2 (iblk m c 3 t)) (?_ : _ = ix2 (y 0) (y 1))) ((pay2_apply _ (y 0) (y 1)).trans ((blk3 m c t (y 0) (y 1) ⟨64 * t.val + ((y : S64x4096.Idx) 0).val, by omega⟩ rfl).trans
    ((OutProjRefIdeal.At.castA_apply _ _ _).symm.trans ?_)))
  · blk_ext []
  · refine congrArg _ ?_
    blk_ext [idx t]

theorem kernel_out8 : (dats m 0 c).arrAt 8 cfg0.N = OutProjRefIdeal.At.castA (arg1 m c) := by
  refine (dats m 0 c).arrAt_eq_of_covers 8 _ (by decide +kernel) fun t hf y => ?_
  blk_simp
  rw [after0_8]
  have ht : t.val < 64 := lt_of_lt_of_eq t.isLt n_eq
  have l0 : ((y : S64x4096.Idx) 0).val < 64 := (y 0).isLt
  have hc : (out0_8 (iblk m c 0 t) (iblk m c 1 t) (iblk m c 2 t) (iblk m c 3 t) (iblk m c 4 t) : Vec Ideal S64x4096 .bf16) = k0_pay3 (iblk m c 4 t) := by
    frame_out [out0_8]
  rw [hc]
  refine Eq.trans (congrArg (k0_pay3 (iblk m c 4 t)) (?_ : _ = ix2 (y 0) (y 1))) ((pay3_apply _ (y 0) (y 1)).trans ((blk4 m c t (y 0) (y 1) ⟨64 * t.val + ((y : S64x4096.Idx) 0).val, by omega⟩ rfl).trans
    ((OutProjRefIdeal.At.castA_apply _ _ _).symm.trans ?_)))
  · blk_ext []
  · refine congrArg _ ?_
    blk_ext [idx t]

end Cert.OutProjIdeal.At

end

end
-- ==== Proof.GluValue.lean ====
module

public import proofs.«01_k».proof.Proof.Gen.GluIdeal.Value
public import proofs.«01_k».proof.Proof.Gen.GluRefIdeal.Run
public import proofs.«01_k».proof.Proof.Logistic
public import Idealize.ShloMosaic.Lib.Pipeline.ValueKit
public import Idealize.ShloMosaic.Lib.Pipeline.ValueKit.Geometry
public import Idealize.ShloMosaic.Lib.StableHlo.ReadAt
public import Idealize.ShloMosaic.Lib.Pointwise
public import Idealize.ShloMosaic.Lib.IdealHost

@[expose] public section

/-! The gated product of the dense layer: what the kernel computes and what the reference computes. -/

set_option maxRecDepth 16384

noncomputable section

namespace Cert.GluRefIdeal.At
open Cert Cert.GluRefIdeal Cert.GluRefIdeal.Gen Idealize.ShloMosaic Idealize.ShloMosaic.TcCoe
open scoped BigOperators

/-- The gated product, of the arguments. -/
def out (A0 : FVec Ideal S2x8192x4096 .bf16) (A1 A2 : FVec Ideal S1x4096x8192 .f32) : FVec Ideal S16384x8192 .bf16 :=
  shapeCast _ (truncf .bf16 (mulf (mulf (Host.dotGeneral dot_S2x8192x4096_S4096x8192_S2x8192x8192_2_0_01_1_n_n none (extf .f32 A0 bitsLt_bf16_f32) (shapeCast _ A1 shapeCasts_S1x4096x8192_S4096x8192)) (Host.divf (broadcastInDim S2x8192x8192 ![] bcast_S_S2x8192x8192 (constant S_ .f32 0x3F800000#32)) (addf (broadcastInDim S2x8192x8192 ![] bcast_S_S2x8192x8192 (constant S_ .f32 0x3F800000#32)) (Host.exp (Host.negf (Host.dotGeneral dot_S2x8192x4096_S4096x8192_S2x8192x8192_2_0_01_1_n_n none (extf .f32 A0 bitsLt_bf16_f32) (shapeCast _ A1 shapeCasts_S1x4096x8192_S4096x8192))))))) (Host.dotGeneral dot_S2x8192x4096_S4096x8192_S2x8192x8192_2_0_01_1_n_n none (extf .f32 A0 bitsLt_bf16_f32) (shapeCast _ A2 shapeCasts_S1x4096x8192_S4096x8192))) bitsLt_bf16_f32) shapeCasts_S2x8192x8192_S16384x8192

/-- The weights of the way down, narrowed. -/
def castD (A : FVec Ideal S1x8192x4096 .f32) : FVec Ideal S8192x4096 .bf16 :=
  truncf .bf16 (shapeCast _ A shapeCasts_S1x8192x4096_S8192x4096) bitsLt_bf16_f32

/-- The second layer's weights of the input projection, narrowed. -/
def castI (A : FVec Ideal S2x4096x16384 .f32) : FVec Ideal S4096x16384 .bf16 :=
  truncf .bf16 (shapeCast _ (extractStridedSlice S1x4096x16384 ![1, 0, 0] A slices_S2x4096x16384_S1x4096x16384_1_0_0) shapeCasts_S1x4096x16384_S4096x16384) bitsLt_bf16_f32

theorem out_apply (A0 : FVec Ideal S2x8192x4096 .bf16) (A1 A2 : FVec Ideal S1x4096x8192 .f32) (b : Fin 2) (s : Fin 8192) (j : Fin 8192) :
    out A0 A1 A2 (ix2 ⟨8192 * b.val + s.val, by omega⟩ j)
      = ((∑ k : Fin 4096, A0 (ix3 b s k) * A1 (ix3 0 k j)) * Ideal.div (Ideal.ofBits FTy.f32 0x3F800000#32) (Ideal.ofBits FTy.f32 0x3F800000#32 + Ideal.exp (-(∑ k : Fin 4096, A0 (ix3 b s k) * A1 (ix3 0 k j))))
        * (∑ k : Fin 4096, A0 (ix3 b s k) * A2 (ix3 0 k j)) : EReal) := by
  pointwise [out]

theorem castD_apply (A : FVec Ideal S1x8192x4096 .f32) (i : Fin 8192) (j : Fin 4096) : castD A (ix2 i j) = (A (ix3 0 i j) : EReal) := by
  pointwise [castD]

theorem castI_apply (A : FVec Ideal S2x4096x16384 .f32) (i : Fin 4096) (j : Fin 16384) : castI A (ix2 i j) = (A (ix3 1 i j) : EReal) := by
  pointwise [castI]

end Cert.GluRefIdeal.At

namespace Cert.GluIdeal.At
open Cert Cert.GluIdeal Cert.GluIdeal.Gen Idealize.ShloMosaic Idealize.ShloMosaic.TcCoe
open scoped BigOperators

theorem pay1_apply (v : Vec Ideal S1x32x4096 .f32) (a : Fin 32) (e : Fin 4096) : k0_pay1 v (ix2 a e) = (v (ix3 0 a e) : EReal) := by
  pointwise [k0_pay1]

theorem pay2_apply (v : Vec Ideal S1x16x16384 .f32) (a : Fin 16) (e : Fin 16384) : k0_pay2 v (ix2 a e) = (v (ix3 0 a e) : EReal) := by
  pointwise [k0_pay2]

theorem pay3_apply (v : Vec Ideal S1024x4096 .bf16) (w u : Vec Ideal S4096x512 .bf16) (a : Fin 1024) (e : Fin 512) :
    k0_pay3 v w u (ix2 a e)
      = ((∑ k : Fin 4096, v (ix2 a k) * w (ix2 k e)) * (Ideal.ofBits FTy.f32 0x3F000000#32 * Ideal.tanh (Ideal.ofBits FTy.f32 0x3F000000#32 * (∑ k : Fin 4096, v (ix2 a k) * w (ix2 k e))) + Ideal.ofBits FTy.f32 0x3F000000#32)
        * (∑ k : Fin 4096, v (ix2 a k) * u (ix2 k e)) : EReal) := by
  pointwise [k0_pay3]

variable (m : (ℓ : Loc nD τ sig) → Buf (Elt Ideal) ℓ)

/-- Where every window's block lies; the casts' blocks follow the order of the points. -/
theorem idx : ∀ t : Fin cfg0.N,
    win0_0.index t = ![(grid0.coords t 0).val, 0] ∧ win0_1.index t = ![0, (grid0.coords t 1).val]
    ∧ win0_2.index t = ![0, (grid0.coords t 1).val] ∧ win0_3.index t = ![0, t.val, 0] ∧ win0_4.index t = ![1, t.val, 0]
    ∧ win0_5.index t = ![(grid0.coords t 0).val, (grid0.coords t 1).val]
    ∧ win0_6.index t = ![t.val, 0] ∧ win0_7.index t = ![t.val, 0] :=
  (by decide +kernel : ∀ t : Fin grid0.N, _)

variable (c : Dev nD) (t : Fin cfg0.N)

/-- The arguments. -/
abbrev arg0 : FVec Ideal S2x8192x4096 .bf16 := m (c, Proc.tc.devRef main_arg0)
abbrev arg1 : FVec Ideal S1x4096x8192 .f32 := m (c, Proc.tc.devRef main_arg1)
abbrev arg2 : FVec Ideal S1x4096x8192 .f32 := m (c, Proc.tc.devRef main_arg2)
abbrev arg3 : FVec Ideal S1x8192x4096 .f32 := m (c, Proc.tc.devRef main_arg3)
abbrev arg4 : FVec Ideal S2x4096x16384 .f32 := m (c, Proc.tc.devRef main_arg4)

theorem host0 (b : Fin 2) (s : Fin 8192) (k : Fin 4096) :
    (V m c main_v0 : Vec Ideal S16384x4096 .bf16) (ix2 ⟨8192 * b.val + s.val, by omega⟩ k) = arg0 m c (ix3 b s k) := by
  unfold V
  after_reads_at

theorem host2 (k : Fin 4096) (j : Fin 8192) :
    (V m c main_v2 : Vec Ideal S4096x8192 .bf16) (ix2 k j) = (arg1 m c (ix3 0 k j) : EReal) := by
  unfold V
  after_reads_at

theorem host4 (k : Fin 4096) (j : Fin 8192) :
    (V m c main_v4 : Vec Ideal S4096x8192 .bf16) (ix2 k j) = (arg2 m c (ix3 0 k j) : EReal) := by
  unfold V
  after_reads_at

theorem blk0 (a : Fin 1024) (k : Fin 4096) (x : Fin 16384) (hx : x.val = 1024 * (grid0.coords t 0).val + a.val) :
    (iblk m c 0 t : Vec Ideal S1024x4096 .bf16) (ix2 a k) = (V m c main_v0 : Vec Ideal S16384x4096 .bf16) (ix2 x k) := by
  blk_ext [iblk, idx t, hx]

theorem blk1 (k : Fin 4096) (e : Fin 512) (y : Fin 8192) (hy : y.val = 512 * (grid0.coords t 1).val + e.val) :
    (iblk m c 1 t : Vec Ideal S4096x512 .bf16) (ix2 k e) = (V m c main_v2 : Vec Ideal S4096x8192 .bf16) (ix2 k y) := by
  blk_ext [iblk, idx t, hy]

theorem blk2 (k : Fin 4096) (e : Fin 512) (y : Fin 8192) (hy : y.val = 512 * (grid0.coords t 1).val + e.val) :
    (iblk m c 2 t : Vec Ideal S4096x512 .bf16) (ix2 k e) = (V m c main_v4 : Vec Ideal S4096x8192 .bf16) (ix2 k y) := by
  blk_ext [iblk, idx t, hy]

theorem blk3 (a : Fin 32) (e : Fin 4096) (x : Fin 8192) (hx : x.val = 32 * t.val + a.val) :
    (iblk m c 3 t : Vec Ideal S1x32x4096 .f32) (ix3 0 a e) = arg3 m c (ix3 0 x e) := by
  blk_ext [iblk, V_main_arg3, idx t, hx]

theorem blk4 (a : Fin 16) (e : Fin 16384) (x : Fin 4096) (hx : x.val = 16 * t.val + a.val) :
    (iblk m c 4 t : Vec Ideal S1x16x16384 .f32) (ix3 0 a e) = arg4 m c (ix3 1 x e) := by
  blk_ext [iblk, V_main_arg4, idx t, hx]

/-- The blocks the products read. -/
abbrev w0 : FVec Ideal S1024x4096 .bf16 := iblk m c 0 t
abbrev w1 : FVec Ideal S4096x512 .bf16 := iblk m c 1 t
abbrev w2 : FVec Ideal S4096x512 .bf16 := iblk m c 2 t

/-- One product, read off its two blocks. -/
theorem dot1 (a : Fin 1024) (e : Fin 512) (b : Fin 2) (s : Fin 8192) (hx : 8192 * b.val + s.val = 1024 * (grid0.coords t 0).val + a.val)
    (y : Fin 8192) (hy : y.val = 512 * (grid0.coords t 1).val + e.val) :
    (∑ k : Fin 4096, w0 m c t (ix2 a k) * w1 m c t (ix2 k e) : EReal)
      = ∑ k : Fin 4096, arg0 m c (ix3 b s k) * arg1 m c (ix3 0 k y) :=
  Finset.sum_congr rfl fun k _ =>
    congrArg₂ (fun p q : EReal => p * q) ((blk0 m c t a k ⟨8192 * b.val + s.val, Logistic.row_lt b s⟩ hx).trans (host0 m c b s k))
      ((blk1 m c t k e y hy).trans (host2 m c k y))

/-- The other product, read off its two blocks. -/
theorem dot2 (a : Fin 1024) (e : Fin 512) (b : Fin 2) (s : Fin 8192) (hx : 8192 * b.val + s.val = 1024 * (grid0.coords t 0).val + a.val)
    (y : Fin 8192) (hy : y.val = 512 * (grid0.coords t 1).val + e.val) :
    (∑ k : Fin 4096, w0 m c t (ix2 a k) * w2 m c t (ix2 k e) : EReal)
      = ∑ k : Fin 4096, arg0 m c (ix3 b s k) * arg2 m c (ix3 0 k y) :=
  Finset.sum_congr rfl fun k _ =>
    congrArg₂ (fun p q : EReal => p * q) ((blk0 m c t a k ⟨8192 * b.val + s.val, Logistic.row_lt b s⟩ hx).trans (host0 m c b s k))
      ((blk2 m c t k e y hy).trans (host4 m c k y))

/-- A block of the gated product is the reference's there. -/
theorem out_at (a : Fin 1024) (e : Fin 512) (x : Fin 16384) (hx : x.val = 1024 * (grid0.coords t 0).val + a.val)
    (y : Fin 8192) (hy : y.val = 512 * (grid0.coords t 1).val + e.val) :
    (out0_5 (iblk m c 0 t) (iblk m c 1 t) (iblk m c 2 t) (iblk m c 3 t) (iblk m c 4 t) : Vec Ideal S1024x512 .bf16) (ix2 a e)
      = GluRefIdeal.At.out (arg0 m c) (arg1 m c) (arg2 m c) (ix2 x y) := by
  obtain ⟨b, s, rfl⟩ := Logistic.row_split x
  have hc : (out0_5 (iblk m c 0 t) (iblk m c 1 t) (iblk m c 2 t) (iblk m c 3 t) (iblk m c 4 t) : Vec Ideal S1024x512 .bf16) (ix2 a e)
      = k0_pay3 (iblk m c 0 t) (iblk m c 1 t) (iblk m c 2 t) (ix2 a e) := by
    frame_out [out0_5]
  rw [hc, pay3_apply]
  refine Eq.trans ?_ (GluRefIdeal.At.out_apply _ _ _ b s y).symm
  rw [dot1 m c t a e b s hx y hy, dot2 m c t a e b s hx y hy, Logistic.half_f32, Logistic.one_f32, Logistic.tanh_eq]

theorem n_eq : cfg0.N = 256 := by decide +kernel

theorem kernel_out5 : (dats m 0 c).arrAt 5 cfg0.N = GluRefIdeal.At.out (arg0 m c) (arg1 m c) (arg2 m c) := by
  refine (dats m 0 c).arrAt_eq_of_covers 5 _ (by decide +kernel) fun t hf y => ?_
  blk_simp
  rw [after0_5]
  have h0 : (grid0.coords t 0).val < 16 := (grid0.coords t 0).isLt
  have h1 : (grid0.coords t 1).val < 16 := (grid0.coords t 1).isLt
  have l0 : ((y : S1024x512.Idx) 0).val < 1024 := (y 0).isLt
  have l1 : ((y : S1024x512.Idx) 1).val < 512 := (y 1).isLt
  refine Eq.trans ?_ ((out_at m c t (y 0) (y 1) ⟨1024 * (grid0.coords t 0).val + ((y : S1024x512.Idx) 0).val, by omega⟩ rfl
    ⟨512 * (grid0.coords t 1).val + ((y : S1024x512.Idx) 1).val, by omega⟩ rfl).trans ?_)
  · refine congrArg _ ?_
    blk_ext []
  · refine congrArg _ ?_
    blk_ext [idx t]

theorem kernel_out6 : (dats m 0 c).arrAt 6 cfg0.N = GluRefIdeal.At.castD (arg3 m c) := by
  refine (dats m 0 c).arrAt_eq_of_covers 6 _ (by decide +kernel) fun t hf y => ?_
  blk_simp
  rw [after0_6]
  have ht : t.val < 256 := lt_of_lt_of_eq t.isLt n_eq
  have l0 : ((y : S32x4096.Idx) 0).val < 32 := (y 0).isLt
  have hc : (out0_6 (iblk m c 0 t) (iblk m c 1 t) (iblk m c 2 t) (iblk m c 3 t) (iblk m c 4 t) : Vec Ideal S32x4096 .bf16) = k0_pay1 (iblk m c 3 t) := by
    frame_out [out0_6]
  rw [hc]
  refine Eq.trans (congrArg (k0_pay1 (iblk m c 3 t)) (?_ : _ = ix2 (y 0) (y 1))) ((pay1_apply _ (y 0) (y 1)).trans ((blk3 m c t (y 0) (y 1) ⟨32 * t.val + ((y : S32x4096.Idx) 0).val, by omega⟩ rfl).trans
    ((GluRefIdeal.At.castD_apply _ _ _).symm.trans ?_)))
  · blk_ext []
  · refine congrArg _ ?_
    blk_ext [idx t]

theorem kernel_out7 : (dats m 0 c).arrAt 7 cfg0.N = GluRefIdeal.At.castI (arg4 m c) := by
  refine (dats m 0 c).arrAt_eq_of_covers 7 _ (by decide +kernel) fun t hf y => ?_
  blk_simp
  rw [after0_7]
  have ht : t.val < 256 := lt_of_lt_of_eq t.isLt n_eq
  have l0 : ((y : S16x16384.Idx) 0).val < 16 := (y 0).isLt
  have hc : (out0_7 (iblk m c 0 t) (iblk m c 1 t) (iblk m c 2 t) (iblk m c 3 t) (iblk m c 4 t) : Vec Ideal S16x16384 .bf16) = k0_pay2 (iblk m c 4 t) := by
    frame_out [out0_7]
  rw [hc]
  refine Eq.trans (congrArg (k0_pay2 (iblk m c 4 t)) (?_ : _ = ix2 (y 0) (y 1))) ((pay2_apply _ (y 0) (y 1)).trans ((blk4 m c t (y 0) (y 1) ⟨16 * t.val + ((y : S16x16384.Idx) 0).val, by omega⟩ rfl).trans
    ((GluRefIdeal.At.castI_apply _ _ _).symm.trans ?_)))
  · blk_ext []
  · refine congrArg _ ?_
    blk_ext [idx t]

end Cert.GluIdeal.At

end

end
-- ==== Proof.DownValue.lean ====
module

public import proofs.«01_k».proof.Proof.Gen.DownIdeal.Value
public import proofs.«01_k».proof.Proof.Gen.DownRefIdeal.Run
public import Idealize.ShloMosaic.Lib.Pipeline.ReadBack
public import proofs.«01_k».proof.Proof.Logistic
public import Idealize.ShloMosaic.Lib.Pipeline.ValueKit
public import Idealize.ShloMosaic.Lib.Pipeline.ValueKit.Geometry
public import Idealize.ShloMosaic.Lib.StableHlo.ReadAt
public import Idealize.ShloMosaic.Lib.Pointwise
public import Idealize.ShloMosaic.Lib.IdealHost

@[expose] public section

/-! The way down of the dense layer: what the kernel computes, in two steps of the depth, and what the reference computes. -/

set_option maxRecDepth 16384

noncomputable section

namespace Cert.DownRefIdeal.At
open Cert Cert.DownRefIdeal Cert.DownRefIdeal.Gen Idealize.ShloMosaic Idealize.ShloMosaic.TcCoe
open scoped BigOperators

/-- The product, of the arguments. -/
def out (A0 : FVec Ideal S2x8192x8192 .bf16) (A1 : FVec Ideal S1x8192x4096 .f32) : FVec Ideal S16384x4096 .bf16 :=
  shapeCast _ (truncf .bf16 (Host.dotGeneral dot_S2x8192x8192_S8192x4096_S2x8192x4096_2_0_01_1_n_n none (extf .f32 A0 bitsLt_bf16_f32) (shapeCast _ A1 shapeCasts_S1x8192x4096_S8192x4096)) bitsLt_bf16_f32) shapeCasts_S2x8192x4096_S16384x4096

theorem out_apply (A0 : FVec Ideal S2x8192x8192 .bf16) (A1 : FVec Ideal S1x8192x4096 .f32) (b : Fin 2) (s : Fin 8192) (j : Fin 4096) :
    out A0 A1 (ix2 ⟨8192 * b.val + s.val, by omega⟩ j) = (∑ k : Fin 8192, A0 (ix3 b s k) * A1 (ix3 0 k j) : EReal) := by
  pointwise [out]

end Cert.DownRefIdeal.At

namespace Cert.DownIdeal.At
open Cert Cert.DownIdeal Cert.DownIdeal.Gen Idealize.ShloMosaic Idealize.ShloMosaic.TcCoe
open scoped BigOperators

theorem pay1_apply (v : Vec Ideal S1024x4096 .bf16) (w : Vec Ideal S4096x1024 .bf16) (a : Fin 1024) (e : Fin 1024) :
    k0_pay1 v w (ix2 a e) = (∑ k : Fin 4096, v (ix2 a k) * w (ix2 k e) : EReal) := by
  pointwise [k0_pay1]

theorem pay3_apply (r : Vec Ideal S1024x1024 .f32) (v : Vec Ideal S1024x4096 .bf16) (w : Vec Ideal S4096x1024 .bf16) (a : Fin 1024) (e : Fin 1024) :
    k0_pay3 r v w (ix2 a e) = (r (ix2 a e) + ∑ k : Fin 4096, v (ix2 a k) * w (ix2 k e) : EReal) := by
  pointwise [k0_pay3]

/-- A sum over the depth, one half after the other. -/
theorem halves (f : Fin 8192 → EReal) :
    (∑ k, f k) = (∑ k : Fin 4096, f ⟨k.val, by omega⟩) + ∑ k : Fin 4096, f ⟨4096 + k.val, by omega⟩ :=
  Fin.sum_univ_add (a := 4096) (b := 4096) f

variable (m : (ℓ : Loc nD τ sig) → Buf (Elt Ideal) ℓ)

/-- Where every window's block lies. -/
theorem idx : ∀ t : Fin cfg0.N,
    win0_0.index t = ![(grid0.coords t 0).val, (grid0.coords t 2).val] ∧ win0_1.index t = ![(grid0.coords t 2).val, (grid0.coords t 1).val]
    ∧ win0_2.index t = ![(grid0.coords t 0).val, (grid0.coords t 1).val] :=
  (by decide +kernel : ∀ t : Fin grid0.N, _)

/-- The depth's coordinate is the parity, and a pair of points shares the others. -/
theorem crd : ∀ t : Fin cfg0.N, (grid0.coords t 2).val = t.val % 2 ∧ (grid0.coords t 1).val = t.val / 2 % 4 ∧ (grid0.coords t 0).val = t.val / 8 :=
  (by decide +kernel : ∀ t : Fin grid0.N, _)

variable (c : Dev nD) (t : Fin cfg0.N)

/-- The arguments. -/
abbrev arg0 : FVec Ideal S2x8192x8192 .bf16 := m (c, Proc.tc.devRef main_arg0)
abbrev arg1 : FVec Ideal S1x8192x4096 .f32 := m (c, Proc.tc.devRef main_arg1)

theorem host0 (b : Fin 2) (s : Fin 8192) (k : Fin 8192) :
    (V m c main_v0 : Vec Ideal S16384x8192 .bf16) (ix2 ⟨8192 * b.val + s.val, by omega⟩ k) = arg0 m c (ix3 b s k) := by
  unfold V
  after_reads_at

theorem host2 (k : Fin 8192) (j : Fin 4096) :
    (V m c main_v2 : Vec Ideal S8192x4096 .bf16) (ix2 k j) = (arg1 m c (ix3 0 k j) : EReal) := by
  unfold V
  after_reads_at

theorem blk0 (a : Fin 1024) (k : Fin 4096) (x : Fin 16384) (hx : x.val = 1024 * (grid0.coords t 0).val + a.val)
    (z : Fin 8192) (hz : z.val = 4096 * (grid0.coords t 2).val + k.val) :
    (iblk m c 0 t : Vec Ideal S1024x4096 .bf16) (ix2 a k) = (V m c main_v0 : Vec Ideal S16384x8192 .bf16) (ix2 x z) := by
  blk_ext [iblk, idx t, hx, hz]

theorem blk1 (k : Fin 4096) (e : Fin 1024) (y : Fin 4096) (hy : y.val = 1024 * (grid0.coords t 1).val + e.val)
    (z : Fin 8192) (hz : z.val = 4096 * (grid0.coords t 2).val + k.val) :
    (iblk m c 1 t : Vec Ideal S4096x1024 .bf16) (ix2 k e) = (V m c main_v2 : Vec Ideal S8192x4096 .bf16) (ix2 z y) := by
  blk_ext [iblk, idx t, hy, hz]

/-- The blocks the product reads. -/
abbrev w0 : FVec Ideal S1024x4096 .bf16 := iblk m c 0 t
abbrev w1 : FVec Ideal S4096x1024 .bf16 := iblk m c 1 t

/-- The product of a point's blocks is one half of the reference's sum. -/
theorem dot_at (a : Fin 1024) (e : Fin 1024) (b : Fin 2) (s : Fin 8192) (hx : 8192 * b.val + s.val = 1024 * (grid0.coords t 0).val + a.val)
    (y : Fin 4096) (hy : y.val = 1024 * (grid0.coords t 1).val + e.val) (z : Fin 4096 → Fin 8192)
    (hz : ∀ k, (z k).val = 4096 * (grid0.coords t 2).val + k.val) :
    (∑ k : Fin 4096, w0 m c t (ix2 a k) * w1 m c t (ix2 k e) : EReal)
      = ∑ k : Fin 4096, arg0 m c (ix3 b s (z k)) * arg1 m c (ix3 0 (z k) y) :=
  Finset.sum_congr rfl fun k _ =>
    congrArg₂ (fun p q : EReal => p * q) ((blk0 m c t a k ⟨8192 * b.val + s.val, Logistic.row_lt b s⟩ hx (z k) (hz k)).trans (host0 m c b s (z k)))
      ((blk1 m c t k e y hy (z k) (hz k)).trans (host2 m c (z k) y))

/-- What an even point leaves in the accumulator. -/
theorem scratch_at (h : t.val % 2 = 0) (a : Fin 1024) (e : Fin 1024) :
    ((outsAt0 m c t.val t.isLt).2 : Vec Ideal S1024x1024 .f32) (ix2 a e) = k0_pay1 (iblk m c 0 t) (iblk m c 1 t) (ix2 a e) := by
  rw [outsAt0_A m c t h (by omega)]
  frame_out [sout0_A_0]

/-- What an odd point leaves in the result's block. -/
theorem result_at (h : t.val % 2 = 1) (u : Fin cfg0.N) (hu : u.val + 1 = t.val) (a : Fin 1024) (e : Fin 1024) :
    ((outsAt0 m c t.val t.isLt).1 : Vec Ideal S1024x1024 .bf16) (ix2 a e)
      = k0_pay3 ((outsAt0 m c u.val u.isLt).2) (iblk m c 0 t) (iblk m c 1 t) (ix2 a e) := by
  obtain ⟨n, hn⟩ := u
  obtain ⟨k, hk⟩ := t
  subst hu
  rw [outsAt0_B m c ⟨n + 1, hk⟩ (by dsimp only at h ⊢; omega) h]
  frame_out [out0_B_2]
  rw [read_unread_whole]
  rfl

/-- A block of the product is the reference's product there. -/
theorem out_at (h : t.val % 2 = 1) (a : Fin 1024) (e : Fin 1024) (x : Fin 16384) (hx : x.val = 1024 * (grid0.coords t 0).val + a.val)
    (y : Fin 4096) (hy : y.val = 1024 * (grid0.coords t 1).val + e.val) :
    ((outsAt0 m c t.val t.isLt).1 : Vec Ideal S1024x1024 .bf16) (ix2 a e)
      = DownRefIdeal.At.out (arg0 m c) (arg1 m c) (ix2 x y) := by
  obtain ⟨b, s, rfl⟩ := Logistic.row_split x
  obtain ⟨u, hu⟩ : ∃ u : Fin cfg0.N, u.val + 1 = t.val := ⟨⟨t.val - 1, Nat.lt_of_le_of_lt (Nat.sub_le _ _) t.isLt⟩, by dsimp only; omega⟩
  obtain ⟨c2, c1, c0⟩ := crd t
  obtain ⟨d2, d1, d0⟩ := crd u
  rw [result_at m c t h u hu, pay3_apply, scratch_at m c u (by omega), pay1_apply]
  refine Eq.trans ?_ ((DownRefIdeal.At.out_apply _ _ b s y).trans (halves _)).symm
  refine congrArg₂ (fun p q : EReal => p + q) ?_ ?_
  · refine dot_at m c u a e b s ?_ y ?_ (fun k => ⟨k.val, by omega⟩) fun k => ?_
    · dsimp only at hx; omega
    · omega
    · dsimp only; omega
  · refine dot_at m c t a e b s hx y hy (fun k => ⟨4096 + k.val, by omega⟩) fun k => ?_
    dsimp only; omega

theorem kernel_out : (dats m 0 c).arrAt 2 cfg0.N = DownRefIdeal.At.out (arg0 m c) (arg1 m c) := by
  refine (dats m 0 c).arrAt_eq_of_covers 2 _ (by decide +kernel) fun t hf y => ?_
  have hodd : t.val % 2 = 1 := (flush0_2 t).mp hf
  blk_simp
  rw [after0_2]
  have h0 : (grid0.coords t 0).val < 16 := (grid0.coords t 0).isLt
  have h1 : (grid0.coords t 1).val < 4 := (grid0.coords t 1).isLt
  have l0 : ((y : S1024x1024.Idx) 0).val < 1024 := (y 0).isLt
  have l1 : ((y : S1024x1024.Idx) 1).val < 1024 := (y 1).isLt
  refine Eq.trans ?_ ((out_at m c t hodd (y 0) (y 1) ⟨1024 * (grid0.coords t 0).val + ((y : S1024x1024.Idx) 0).val, by omega⟩ rfl
    ⟨1024 * (grid0.coords t 1).val + ((y : S1024x1024.Idx) 1).val, by omega⟩ rfl).trans ?_)
  · refine congrArg _ ?_
    blk_ext []
  · refine congrArg _ ?_
    blk_ext [idx t]

end Cert.DownIdeal.At

end

end
-- ==== Proof.DenseClaims.lean ====
module

public import proofs.«01_k».proof.Defs
public import proofs.«01_k».proof.Proof.InProjValue
public import proofs.«01_k».proof.Proof.Gen.InProj.Frame
public import proofs.«01_k».proof.Proof.MergeValue
public import proofs.«01_k».proof.Proof.Gen.Merge.Frame
public import proofs.«01_k».proof.Proof.OutProjValue
public import proofs.«01_k».proof.Proof.Gen.OutProj.Frame
public import proofs.«01_k».proof.Proof.GluValue
public import proofs.«01_k».proof.Proof.Gen.Glu.Frame
public import proofs.«01_k».proof.Proof.DownValue
public import proofs.«01_k».proof.Proof.Gen.Down.Frame

@[expose] public section

/-! The claims about the five dense calls: the frames and the equalities with their references. -/

set_option maxRecDepth 16384

noncomputable section

namespace Cert.InProjClaims
open Cert Idealize.ShloMosaic Idealize.ShloMosaic.TcCoe Idealize.SL.Sem

theorem frame_p : Cert.quiescent_InProj := fun m ρ _ => InProj.Gen.frame m ρ
theorem frame_pi : Cert.quiescent_InProjIdeal := fun m ρ _ => InProjIdeal.Gen.frame m ρ
theorem frame_ri : Cert.quiescent_InProjRefIdeal := fun m ρ _ =>
  (θ_run InProjRefIdeal.defs _ _).mono (fun r h => ⟨fun c => (h c).2.2.2.2.2.2, sem_eq_zero_of_no_sems (by decide) r.2⟩)
    (InProjRefIdeal.Value.run (F := Ideal) m ρ)
theorem preserves : Cert.preserves_InProj_InProjIdeal := trivial

theorem algebraic : Cert.algebraic_InProjIdeal_InProjRefIdeal := by
  intro m ρ m' ρ' _ hagree
  refine ⟨fun c => InProjRefIdeal.At.out (m ((c.tc : Thread InProjIdeal.nD InProjIdeal.τ).loc InProjIdeal.main_arg0)) (m ((c.tc : Thread InProjIdeal.nD InProjIdeal.τ).loc InProjIdeal.main_arg1)), fun c => InProjRefIdeal.At.castF (m ((c.tc : Thread InProjIdeal.nD InProjIdeal.τ).loc InProjIdeal.main_arg2)), fun c => InProjRefIdeal.At.castA (m ((c.tc : Thread InProjIdeal.nD InProjIdeal.τ).loc InProjIdeal.main_arg3)), fun c => InProjRefIdeal.At.castA (m ((c.tc : Thread InProjIdeal.nD InProjIdeal.τ).loc InProjIdeal.main_arg4)), fun c => InProjRefIdeal.At.castD (m ((c.tc : Thread InProjIdeal.nD InProjIdeal.τ).loc InProjIdeal.main_arg5)), fun c => InProjRefIdeal.At.castD (m ((c.tc : Thread InProjIdeal.nD InProjIdeal.τ).loc InProjIdeal.main_arg6)), ?_, ?_⟩
  · exact (θ_run InProjIdeal.defs _ _).mono (fun r h c => ⟨(h c).1.trans (InProjIdeal.At.kernel_out7 m c), (h c).2.1.trans (InProjIdeal.At.kernel_out8 m c), (h c).2.2.1.trans (InProjIdeal.At.kernel_out9 m c), (h c).2.2.2.1.trans (InProjIdeal.At.kernel_out10 m c), (h c).2.2.2.2.1.trans (InProjIdeal.At.kernel_out11 m c), (h c).2.2.2.2.2.1.trans (InProjIdeal.At.kernel_out12 m c), (h c).2.2.2.2.2.2⟩) (InProjIdeal.Value.run_blocks (F := Ideal) m ρ)
  · refine (θ_run InProjRefIdeal.defs _ _).mono (fun r h c => ?_) (InProjRefIdeal.Value.run (F := Ideal) m' ρ')
    obtain ⟨e0, e1, e2, e3, e4, e5, e6⟩ := hagree c
    have q0 : InProjRefIdeal.At.out (m' ((c.tc : Thread InProjRefIdeal.nD InProjRefIdeal.τ).loc InProjRefIdeal.main_arg0)) (m' ((c.tc : Thread InProjRefIdeal.nD InProjRefIdeal.τ).loc InProjRefIdeal.main_arg1)) = InProjRefIdeal.At.out (m ((c.tc : Thread InProjIdeal.nD InProjIdeal.τ).loc InProjIdeal.main_arg0)) (m ((c.tc : Thread InProjIdeal.nD InProjIdeal.τ).loc InProjIdeal.main_arg1)) := by
      rw [e0, e1]
    have q1 : InProjRefIdeal.At.castF (m' ((c.tc : Thread InProjRefIdeal.nD InProjRefIdeal.τ).loc InProjRefIdeal.main_arg2)) = InProjRefIdeal.At.castF (m ((c.tc : Thread InProjIdeal.nD InProjIdeal.τ).loc InProjIdeal.main_arg2)) := by
      rw [e2]
    have q2 : InProjRefIdeal.At.castA (m' ((c.tc : Thread InProjRefIdeal.nD InProjRefIdeal.τ).loc InProjRefIdeal.main_arg3)) = InProjRefIdeal.At.castA (m ((c.tc : Thread InProjIdeal.nD InProjIdeal.τ).loc InProjIdeal.main_arg3)) := by
      rw [e3]
    have q3 : InProjRefIdeal.At.castA (m' ((c.tc : Thread InProjRefIdeal.nD InProjRefIdeal.τ).loc InProjRefIdeal.main_arg4)) = InProjRefIdeal.At.castA (m ((c.tc : Thread InProjIdeal.nD InProjIdeal.τ).loc InProjIdeal.main_arg4)) := by
      rw [e4]
    have q4 : InProjRefIdeal.At.castD (m' ((c.tc : Thread InProjRefIdeal.nD InProjRefIdeal.τ).loc InProjRefIdeal.main_arg5)) = InProjRefIdeal.At.castD (m ((c.tc : Thread InProjIdeal.nD InProjIdeal.τ).loc InProjIdeal.main_arg5)) := by
      rw [e5]
    have q5 : InProjRefIdeal.At.castD (m' ((c.tc : Thread InProjRefIdeal.nD InProjRefIdeal.τ).loc InProjRefIdeal.main_arg6)) = InProjRefIdeal.At.castD (m ((c.tc : Thread InProjIdeal.nD InProjIdeal.τ).loc InProjIdeal.main_arg6)) := by
      rw [e6]
    exact ⟨(h c).1.trans q0, (h c).2.1.trans q1, (h c).2.2.1.trans q2, (h c).2.2.2.1.trans q3, (h c).2.2.2.2.1.trans q4, (h c).2.2.2.2.2.1.trans q5, (h c).2.2.2.2.2.2⟩

end Cert.InProjClaims

namespace Cert.MergeClaims
open Cert Idealize.ShloMosaic Idealize.ShloMosaic.TcCoe Idealize.SL.Sem

theorem frame_p : Cert.quiescent_Merge := fun m ρ _ => Merge.Gen.frame m ρ
theorem frame_pi : Cert.quiescent_MergeIdeal := fun m ρ _ => MergeIdeal.Gen.frame m ρ
theorem frame_ri : Cert.quiescent_MergeRefIdeal := fun m ρ _ =>
  (θ_run MergeRefIdeal.defs _ _).mono (fun r h => ⟨fun c => (h c).2, sem_eq_zero_of_no_sems (by decide) r.2⟩)
    (MergeRefIdeal.Value.run (F := Ideal) m ρ)
theorem preserves : Cert.preserves_Merge_MergeIdeal := trivial

theorem algebraic : Cert.algebraic_MergeIdeal_MergeRefIdeal := by
  intro m ρ m' ρ' _ hagree
  refine ⟨fun c => MergeRefIdeal.At.out (m ((c.tc : Thread MergeIdeal.nD MergeIdeal.τ).loc MergeIdeal.main_arg0)) (m ((c.tc : Thread MergeIdeal.nD MergeIdeal.τ).loc MergeIdeal.main_arg1)) (m ((c.tc : Thread MergeIdeal.nD MergeIdeal.τ).loc MergeIdeal.main_arg2)) (m ((c.tc : Thread MergeIdeal.nD MergeIdeal.τ).loc MergeIdeal.main_arg3)) (m ((c.tc : Thread MergeIdeal.nD MergeIdeal.τ).loc MergeIdeal.main_arg4)), ?_, ?_⟩
  · exact (θ_run MergeIdeal.defs _ _).mono (fun r h c => ⟨(h c).1.trans (MergeIdeal.At.kernel_out m c), (h c).2⟩) (MergeIdeal.Value.run_blocks (F := Ideal) m ρ)
  · refine (θ_run MergeRefIdeal.defs _ _).mono (fun r h c => ?_) (MergeRefIdeal.Value.run (F := Ideal) m' ρ')
    obtain ⟨e0, e1, e2, e3, e4⟩ := hagree c
    have q0 : MergeRefIdeal.At.out (m' ((c.tc : Thread MergeRefIdeal.nD MergeRefIdeal.τ).loc MergeRefIdeal.main_arg0)) (m' ((c.tc : Thread MergeRefIdeal.nD MergeRefIdeal.τ).loc MergeRefIdeal.main_arg1)) (m' ((c.tc : Thread MergeRefIdeal.nD MergeRefIdeal.τ).loc MergeRefIdeal.main_arg2)) (m' ((c.tc : Thread MergeRefIdeal.nD MergeRefIdeal.τ).loc MergeRefIdeal.main_arg3)) (m' ((c.tc : Thread MergeRefIdeal.nD MergeRefIdeal.τ).loc MergeRefIdeal.main_arg4)) = MergeRefIdeal.At.out (m ((c.tc : Thread MergeIdeal.nD MergeIdeal.τ).loc MergeIdeal.main_arg0)) (m ((c.tc : Thread MergeIdeal.nD MergeIdeal.τ).loc MergeIdeal.main_arg1)) (m ((c.tc : Thread MergeIdeal.nD MergeIdeal.τ).loc MergeIdeal.main_arg2)) (m ((c.tc : Thread MergeIdeal.nD MergeIdeal.τ).loc MergeIdeal.main_arg3)) (m ((c.tc : Thread MergeIdeal.nD MergeIdeal.τ).loc MergeIdeal.main_arg4)) := by
      rw [e0, e1, e2, e3, e4]
    exact ⟨(h c).1.trans q0, (h c).2⟩

end Cert.MergeClaims

namespace Cert.OutProjClaims
open Cert Idealize.ShloMosaic Idealize.ShloMosaic.TcCoe Idealize.SL.Sem

theorem frame_p : Cert.quiescent_OutProj := fun m ρ _ => OutProj.Gen.frame m ρ
theorem frame_pi : Cert.quiescent_OutProjIdeal := fun m ρ _ => OutProjIdeal.Gen.frame m ρ
theorem frame_ri : Cert.quiescent_OutProjRefIdeal := fun m ρ _ =>
  (θ_run OutProjRefIdeal.defs _ _).mono (fun r h => ⟨fun c => (h c).2.2.2.2, sem_eq_zero_of_no_sems (by decide) r.2⟩)
    (OutProjRefIdeal.Value.run (F := Ideal) m ρ)
theorem preserves : Cert.preserves_OutProj_OutProjIdeal := trivial

theorem algebraic : Cert.algebraic_OutProjIdeal_OutProjRefIdeal := by
  intro m ρ m' ρ' _ hagree
  refine ⟨fun c => OutProjRefIdeal.At.out (m ((c.tc : Thread OutProjIdeal.nD OutProjIdeal.τ).loc OutProjIdeal.main_arg0)) (m ((c.tc : Thread OutProjIdeal.nD OutProjIdeal.τ).loc OutProjIdeal.main_arg1)), fun c => OutProjRefIdeal.At.castF (m ((c.tc : Thread OutProjIdeal.nD OutProjIdeal.τ).loc OutProjIdeal.main_arg2)), fun c => OutProjRefIdeal.At.castA (m ((c.tc : Thread OutProjIdeal.nD OutProjIdeal.τ).loc OutProjIdeal.main_arg3)), fun c => OutProjRefIdeal.At.castA (m ((c.tc : Thread OutProjIdeal.nD OutProjIdeal.τ).loc OutProjIdeal.main_arg1)), ?_, ?_⟩
  · exact (θ_run OutProjIdeal.defs _ _).mono (fun r h c => ⟨(h c).1.trans (OutProjIdeal.At.kernel_out5 m c), (h c).2.1.trans (OutProjIdeal.At.kernel_out6 m c), (h c).2.2.1.trans (OutProjIdeal.At.kernel_out7 m c), (h c).2.2.2.1.trans (OutProjIdeal.At.kernel_out8 m c), (h c).2.2.2.2⟩) (OutProjIdeal.Value.run_blocks (F := Ideal) m ρ)
  · refine (θ_run OutProjRefIdeal.defs _ _).mono (fun r h c => ?_) (OutProjRefIdeal.Value.run (F := Ideal) m' ρ')
    obtain ⟨e0, e1, e2, e3⟩ := hagree c
    have q0 : OutProjRefIdeal.At.out (m' ((c.tc : Thread OutProjRefIdeal.nD OutProjRefIdeal.τ).loc OutProjRefIdeal.main_arg0)) (m' ((c.tc : Thread OutProjRefIdeal.nD OutProjRefIdeal.τ).loc OutProjRefIdeal.main_arg1)) = OutProjRefIdeal.At.out (m ((c.tc : Thread OutProjIdeal.nD OutProjIdeal.τ).loc OutProjIdeal.main_arg0)) (m ((c.tc : Thread OutProjIdeal.nD OutProjIdeal.τ).loc OutProjIdeal.main_arg1)) := by
      rw [e0, e1]
    have q1 : OutProjRefIdeal.At.castF (m' ((c.tc : Thread OutProjRefIdeal.nD OutProjRefIdeal.τ).loc OutProjRefIdeal.main_arg2)) = OutProjRefIdeal.At.castF (m ((c.tc : Thread OutProjIdeal.nD OutProjIdeal.τ).loc OutProjIdeal.main_arg2)) := by
      rw [e2]
    have q2 : OutProjRefIdeal.At.castA (m' ((c.tc : Thread OutProjRefIdeal.nD OutProjRefIdeal.τ).loc OutProjRefIdeal.main_arg3)) = OutProjRefIdeal.At.castA (m ((c.tc : Thread OutProjIdeal.nD OutProjIdeal.τ).loc OutProjIdeal.main_arg3)) := by
      rw [e3]
    have q3 : OutProjRefIdeal.At.castA (m' ((c.tc : Thread OutProjRefIdeal.nD OutProjRefIdeal.τ).loc OutProjRefIdeal.main_arg1)) = OutProjRefIdeal.At.castA (m ((c.tc : Thread OutProjIdeal.nD OutProjIdeal.τ).loc OutProjIdeal.main_arg1)) := by
      rw [e1]
    exact ⟨(h c).1.trans q0, (h c).2.1.trans q1, (h c).2.2.1.trans q2, (h c).2.2.2.1.trans q3, (h c).2.2.2.2⟩

end Cert.OutProjClaims

namespace Cert.GluClaims
open Cert Idealize.ShloMosaic Idealize.ShloMosaic.TcCoe Idealize.SL.Sem

theorem frame_p : Cert.quiescent_Glu := fun m ρ _ => Glu.Gen.frame m ρ
theorem frame_pi : Cert.quiescent_GluIdeal := fun m ρ _ => GluIdeal.Gen.frame m ρ
theorem frame_ri : Cert.quiescent_GluRefIdeal := fun m ρ _ =>
  (θ_run GluRefIdeal.defs _ _).mono (fun r h => ⟨fun c => (h c).2.2.2, sem_eq_zero_of_no_sems (by decide) r.2⟩)
    (GluRefIdeal.Value.run (F := Ideal) m ρ)
theorem preserves : Cert.preserves_Glu_GluIdeal := trivial

theorem algebraic : Cert.algebraic_GluIdeal_GluRefIdeal := by
  intro m ρ m' ρ' _ hagree
  refine ⟨fun c => GluRefIdeal.At.out (m ((c.tc : Thread GluIdeal.nD GluIdeal.τ).loc GluIdeal.main_arg0)) (m ((c.tc : Thread GluIdeal.nD GluIdeal.τ).loc GluIdeal.main_arg1)) (m ((c.tc : Thread GluIdeal.nD GluIdeal.τ).loc GluIdeal.main_arg2)), fun c => GluRefIdeal.At.castD (m ((c.tc : Thread GluIdeal.nD GluIdeal.τ).loc GluIdeal.main_arg3)), fun c => GluRefIdeal.At.castI (m ((c.tc : Thread GluIdeal.nD GluIdeal.τ).loc GluIdeal.main_arg4)), ?_, ?_⟩
  · exact (θ_run GluIdeal.defs _ _).mono (fun r h c => ⟨(h c).1.trans (GluIdeal.At.kernel_out5 m c), (h c).2.1.trans (GluIdeal.At.kernel_out6 m c), (h c).2.2.1.trans (GluIdeal.At.kernel_out7 m c), (h c).2.2.2⟩) (GluIdeal.Value.run_blocks (F := Ideal) m ρ)
  · refine (θ_run GluRefIdeal.defs _ _).mono (fun r h c => ?_) (GluRefIdeal.Value.run (F := Ideal) m' ρ')
    obtain ⟨e0, e1, e2, e3, e4⟩ := hagree c
    have q0 : GluRefIdeal.At.out (m' ((c.tc : Thread GluRefIdeal.nD GluRefIdeal.τ).loc GluRefIdeal.main_arg0)) (m' ((c.tc : Thread GluRefIdeal.nD GluRefIdeal.τ).loc GluRefIdeal.main_arg1)) (m' ((c.tc : Thread GluRefIdeal.nD GluRefIdeal.τ).loc GluRefIdeal.main_arg2)) = GluRefIdeal.At.out (m ((c.tc : Thread GluIdeal.nD GluIdeal.τ).loc GluIdeal.main_arg0)) (m ((c.tc : Thread GluIdeal.nD GluIdeal.τ).loc GluIdeal.main_arg1)) (m ((c.tc : Thread GluIdeal.nD GluIdeal.τ).loc GluIdeal.main_arg2)) := by
      rw [e0, e1, e2]
    have q1 : GluRefIdeal.At.castD (m' ((c.tc : Thread GluRefIdeal.nD GluRefIdeal.τ).loc GluRefIdeal.main_arg3)) = GluRefIdeal.At.castD (m ((c.tc : Thread GluIdeal.nD GluIdeal.τ).loc GluIdeal.main_arg3)) := by
      rw [e3]
    have q2 : GluRefIdeal.At.castI (m' ((c.tc : Thread GluRefIdeal.nD GluRefIdeal.τ).loc GluRefIdeal.main_arg4)) = GluRefIdeal.At.castI (m ((c.tc : Thread GluIdeal.nD GluIdeal.τ).loc GluIdeal.main_arg4)) := by
      rw [e4]
    exact ⟨(h c).1.trans q0, (h c).2.1.trans q1, (h c).2.2.1.trans q2, (h c).2.2.2⟩

end Cert.GluClaims

namespace Cert.DownClaims
open Cert Idealize.ShloMosaic Idealize.ShloMosaic.TcCoe Idealize.SL.Sem

theorem frame_p : Cert.quiescent_Down := fun m ρ _ => Down.Gen.frame m ρ
theorem frame_pi : Cert.quiescent_DownIdeal := fun m ρ _ => DownIdeal.Gen.frame m ρ
theorem frame_ri : Cert.quiescent_DownRefIdeal := fun m ρ _ =>
  (θ_run DownRefIdeal.defs _ _).mono (fun r h => ⟨fun c => (h c).2, sem_eq_zero_of_no_sems (by decide) r.2⟩)
    (DownRefIdeal.Value.run (F := Ideal) m ρ)
theorem preserves : Cert.preserves_Down_DownIdeal := trivial

theorem algebraic : Cert.algebraic_DownIdeal_DownRefIdeal := by
  intro m ρ m' ρ' _ hagree
  refine ⟨fun c => DownRefIdeal.At.out (m ((c.tc : Thread DownIdeal.nD DownIdeal.τ).loc DownIdeal.main_arg0)) (m ((c.tc : Thread DownIdeal.nD DownIdeal.τ).loc DownIdeal.main_arg1)), ?_, ?_⟩
  · exact (θ_run DownIdeal.defs _ _).mono (fun r h c => ⟨(h c).1.trans (DownIdeal.At.kernel_out m c), (h c).2⟩) (DownIdeal.Value.run_blocks (F := Ideal) m ρ)
  · refine (θ_run DownRefIdeal.defs _ _).mono (fun r h c => ?_) (DownRefIdeal.Value.run (F := Ideal) m' ρ')
    obtain ⟨e0, e1⟩ := hagree c
    have q0 : DownRefIdeal.At.out (m' ((c.tc : Thread DownRefIdeal.nD DownRefIdeal.τ).loc DownRefIdeal.main_arg0)) (m' ((c.tc : Thread DownRefIdeal.nD DownRefIdeal.τ).loc DownRefIdeal.main_arg1)) = DownRefIdeal.At.out (m ((c.tc : Thread DownIdeal.nD DownIdeal.τ).loc DownIdeal.main_arg0)) (m ((c.tc : Thread DownIdeal.nD DownIdeal.τ).loc DownIdeal.main_arg1)) := by
      rw [e0, e1]
    exact ⟨(h c).1.trans q0, (h c).2⟩

end Cert.DownClaims

end

end
-- ==== Proof.AdalnValue.lean ====
module

public import proofs.«01_k».proof.Proof.Gen.AdalnIdeal.Value
public import proofs.«01_k».proof.Proof.Gen.AdalnRefIdeal.Run
public import proofs.«01_k».proof.Proof.Logistic
public import Idealize.ShloMosaic.Lib.Pipeline.ValueKit
public import Idealize.ShloMosaic.Lib.Pipeline.ValueKit.Geometry
public import Idealize.ShloMosaic.Lib.StableHlo.ReadAt
public import Idealize.ShloMosaic.Lib.Pointwise
public import Idealize.ShloMosaic.Lib.IdealHost

@[expose] public section

/-! The conditioning of both layers: what the kernel computes and what the reference computes. -/

set_option maxRecDepth 16384

noncomputable section

namespace Cert.AdalnRefIdeal.At
open Cert Cert.AdalnRefIdeal Cert.AdalnRefIdeal.Gen Idealize.ShloMosaic Idealize.ShloMosaic.TcCoe
open scoped BigOperators

/-- The shifts, scales and gates, of the arguments. -/
def out (A0 : FVec Ideal S8x4096 .f32) (A1 : FVec Ideal S2x4096x24576 .f32) (A2 : FVec Ideal S2x24576 .f32) : FVec Ideal S2x8x24576 .f32 :=
  addf (transpose S2x8x24576 [0, 2, 1] (Host.dotGeneral dot_S2x4096x24576_S8x4096_S2x24576x8_1_1_02_0_n_n none A1 (mulf A0 (Host.divf (broadcastInDim S8x4096 ![] bcast_S_S8x4096 (constant S_ .f32 0x3F800000#32)) (addf (broadcastInDim S8x4096 ![] bcast_S_S8x4096 (constant S_ .f32 0x3F800000#32)) (Host.exp (Host.negf A0)))))) transposes_S2x24576x8_S2x8x24576_0_2_1) (broadcastInDim S2x8x24576 ![0, 1, 2] bcast_S2x1x24576_S2x8x24576_0_1_2 (broadcastInDim S2x1x24576 ![0, 2] bcast_S2x24576_S2x1x24576_0_2 A2))

theorem out_apply (A0 : FVec Ideal S8x4096 .f32) (A1 : FVec Ideal S2x4096x24576 .f32) (A2 : FVec Ideal S2x24576 .f32) (l : Fin 2) (b : Fin 8) (j : Fin 24576) :
    out A0 A1 A2 (ix3 l b j)
      = ((∑ k : Fin 4096, A0 (ix2 b k) * Ideal.div ((1 : ℝ) : EReal) (((1 : ℝ) : EReal) + Ideal.exp (-A0 (ix2 b k))) * A1 (ix3 l k j)) + A2 (ix2 l j) : EReal) := by
  pointwise [out]
  exact congrArg (fun s : EReal => s + _) (Finset.sum_congr rfl fun k _ => mul_comm _ _)

end Cert.AdalnRefIdeal.At

namespace Cert.AdalnIdeal.At
open Cert Cert.AdalnIdeal Cert.AdalnIdeal.Gen Idealize.ShloMosaic Idealize.ShloMosaic.TcCoe
open scoped BigOperators

theorem pay1_apply (v : Vec Ideal S8x4096 .f32) (w : Vec Ideal S1x4096x512 .f32) (z : Vec Ideal S1x1x512 .f32) (b : Fin 8) (e : Fin 512) :
    k0_pay1 v w z (ix3 0 b e)
      = ((∑ k : Fin 4096, v (ix2 b k) * (((1 / 2 : ℝ) : EReal) * Ideal.tanh (((1 / 2 : ℝ) : EReal) * v (ix2 b k)) + ((1 / 2 : ℝ) : EReal)) * w (ix3 0 k e)) + z (ix3 0 0 e) : EReal) := by
  rw [← Logistic.half_f32]
  pointwise [k0_pay1]

variable (m : (ℓ : Loc nD τ sig) → Buf (Elt Ideal) ℓ)

/-- Where every window's block lies. -/
theorem idx : ∀ t : Fin cfg0.N,
    win0_0.index t = ![0, 0] ∧ win0_1.index t = ![(grid0.coords t 0).val, 0, (grid0.coords t 1).val]
    ∧ win0_2.index t = ![(grid0.coords t 0).val, 0, (grid0.coords t 1).val]
    ∧ win0_3.index t = ![(grid0.coords t 0).val, 0, (grid0.coords t 1).val] :=
  (by decide +kernel : ∀ t : Fin grid0.N, _)

variable (c : Dev nD) (t : Fin cfg0.N)

/-- The arguments. -/
abbrev arg0 : FVec Ideal S8x4096 .f32 := m (c, Proc.tc.devRef main_arg0)
abbrev arg1 : FVec Ideal S2x4096x24576 .f32 := m (c, Proc.tc.devRef main_arg1)
abbrev arg2 : FVec Ideal S2x24576 .f32 := m (c, Proc.tc.devRef main_arg2)

theorem host0 (l : Fin 2) (j : Fin 24576) :
    (V m c main_v0 : Vec Ideal S2x1x24576 .f32) (ix3 l 0 j) = arg2 m c (ix2 l j) := by
  unfold V
  after_reads_at

theorem blk0 (b : Fin 8) (k : Fin 4096) :
    (iblk m c 0 t : Vec Ideal S8x4096 .f32) (ix2 b k) = arg0 m c (ix2 b k) := by
  blk_ext [iblk, V_main_arg0, idx t]

theorem blk1 (k : Fin 4096) (e : Fin 512) (l : Fin 2) (hl : l.val = (grid0.coords t 0).val) (j : Fin 24576) (hj : j.val = 512 * (grid0.coords t 1).val + e.val) :
    (iblk m c 1 t : Vec Ideal S1x4096x512 .f32) (ix3 0 k e) = arg1 m c (ix3 l k j) := by
  blk_ext [iblk, V_main_arg1, idx t, hl, hj]

theorem blk2 (e : Fin 512) (l : Fin 2) (hl : l.val = (grid0.coords t 0).val) (j : Fin 24576) (hj : j.val = 512 * (grid0.coords t 1).val + e.val) :
    (iblk m c 2 t : Vec Ideal S1x1x512 .f32) (ix3 0 0 e) = (V m c main_v0 : Vec Ideal S2x1x24576 .f32) (ix3 l 0 j) := by
  blk_ext [iblk, idx t, hl, hj]

/-- A block of the result is the reference's there. -/
theorem out_at (b : Fin 8) (e : Fin 512) (l : Fin 2) (hl : l.val = (grid0.coords t 0).val) (j : Fin 24576) (hj : j.val = 512 * (grid0.coords t 1).val + e.val) :
    (out0_3 (iblk m c 0 t) (iblk m c 1 t) (iblk m c 2 t) : Vec Ideal S1x8x512 .f32) (ix3 0 b e)
      = AdalnRefIdeal.At.out (arg0 m c) (arg1 m c) (arg2 m c) (ix3 l b j) := by
  have hc : (out0_3 (iblk m c 0 t) (iblk m c 1 t) (iblk m c 2 t) : Vec Ideal S1x8x512 .f32)
      = k0_pay1 (iblk m c 0 t) (iblk m c 1 t) (iblk m c 2 t) := by
    frame_out [out0_3]
  rw [hc, pay1_apply]
  refine Eq.trans ?_ (AdalnRefIdeal.At.out_apply _ _ _ l b j).symm
  refine congrArg₂ (fun p q : EReal => p + q) (Finset.sum_congr rfl fun k _ => ?_) ((blk2 m c t e l hl j hj).trans (host0 m c l j))
  rw [Logistic.tanh_eq, blk0, blk1 m c t k e l hl j hj]

theorem kernel_out : (dats m 0 c).arrAt 3 cfg0.N = AdalnRefIdeal.At.out (arg0 m c) (arg1 m c) (arg2 m c) := by
  refine (dats m 0 c).arrAt_eq_of_covers 3 _ (by decide +kernel) fun t hf y => ?_
  blk_simp
  rw [after0_3]
  have h0 : (grid0.coords t 0).val < 2 := (grid0.coords t 0).isLt
  have h1 : (grid0.coords t 1).val < 48 := (grid0.coords t 1).isLt
  have l2 : ((y : S1x8x512.Idx) 2).val < 512 := (y 2).isLt
  refine Eq.trans ?_ ((out_at m c t (y 1) (y 2) ⟨(grid0.coords t 0).val, h0⟩ rfl
    ⟨512 * (grid0.coords t 1).val + ((y : S1x8x512.Idx) 2).val, by omega⟩ rfl).trans ?_)
  · refine congrArg _ ?_
    blk_ext []
  · refine congrArg _ ?_
    blk_ext [idx t]

end Cert.AdalnIdeal.At

end

end
-- ==== Proof.Norm.lean ====
module

public import Idealize.ShloMosaic.PureOps.Ideal.Laws

@[expose] public section

/-! A row's root-mean-square norm and its modulation, as functions of extended reals. -/

noncomputable section

namespace Cert.Norm
open Idealize.ShloMosaic
open scoped BigOperators

/-- Entry `d` of the row `f`, divided by the row's root mean square and scaled by `g`. -/
def rms (f g : Fin 4096 → EReal) (d : Fin 4096) : EReal :=
  f d * Ideal.rsqrt (Ideal.div (∑ k, f k * f k) (Ideal.ofBits FTy.f32 0x45800000#32) + Ideal.ofBits FTy.f32 0x358637BD#32) * g d

/-- A normed entry, scaled and shifted. -/
def modulate (h scale shift : EReal) : EReal := h * (1 + scale) + shift

theorem rms_congr {f f' g g' : Fin 4096 → EReal} (hf : ∀ k, f k = f' k) (hg : ∀ k, g k = g' k) (d : Fin 4096) :
    rms f g d = rms f' g' d := by
  rw [funext hf, funext hg]

end Cert.Norm

end

end
-- ==== Proof.PrenormValue.lean ====
module

public import proofs.«01_k».proof.Proof.Gen.PrenormIdeal.Value
public import proofs.«01_k».proof.Proof.Gen.PrenormRefIdeal.Run
public import proofs.«01_k».proof.Proof.Logistic
public import proofs.«01_k».proof.Proof.Norm
public import Idealize.ShloMosaic.Lib.Pipeline.ValueKit
public import Idealize.ShloMosaic.Lib.Pipeline.ValueKit.Geometry
public import Idealize.ShloMosaic.Lib.StableHlo.ReadAt
public import Idealize.ShloMosaic.Lib.Pointwise
public import Idealize.ShloMosaic.Lib.IdealHost

@[expose] public section

/-! The norm before the first layer: what the kernel computes and what the reference computes. -/

set_option maxRecDepth 16384

noncomputable section

namespace Cert.PrenormRefIdeal.At
open Cert Cert.PrenormRefIdeal Cert.PrenormRefIdeal.Gen Idealize.ShloMosaic Idealize.ShloMosaic.TcCoe
open scoped BigOperators

/-- The normed and modulated activations, of the arguments. -/
def out (A0 : FVec Ideal S2x8192x4096 .f32) (A1 : FVec Ideal S2x2x24576 .f32) (A2 : FVec Ideal S2x4096 .f32) : FVec Ideal S2x8192x4096 .bf16 :=
  truncf .bf16 (addf (mulf (mulf (mulf A0 (broadcastInDim S2x8192x4096 ![0, 1, 2] bcast_S2x8192x1_S2x8192x4096_0_1_2 (Host.rsqrt (addf (Host.divf (broadcastInDim S2x8192x1 ![0, 1] bcast_S2x8192_S2x8192x1_0_1 (Host.reduceAdd (mulf A0 A0) (constant S_ .f32 0x00000000#32) reducesTo_S2x8192x4096_S2x8192_d2 h_S_)) (broadcastInDim S2x8192x1 ![] bcast_S_S2x8192x1 (constant S_ .f32 0x45800000#32))) (broadcastInDim S2x8192x1 ![] bcast_S_S2x8192x1 (constant S_ .f32 0x358637BD#32)))))) (broadcastInDim S2x8192x4096 ![0, 1, 2] bcast_S1x1x4096_S2x8192x4096_0_1_2 (broadcastInDim S1x1x4096 ![2] bcast_S4096_S1x1x4096_2 (shapeCast _ (extractStridedSlice S1x4096 ![0, 0] A2 slices_S2x4096_S1x4096_0_0) shapeCasts_S1x4096_S4096)))) (broadcastInDim S2x8192x4096 ![0, 1, 2] bcast_S2x1x4096_S2x8192x4096_0_1_2 (addf (broadcastInDim S2x1x4096 ![] bcast_S_S2x1x4096 (constant S_ .f32 0x3F800000#32)) (broadcastInDim S2x1x4096 ![0, 2] bcast_S2x4096_S2x1x4096_0_2 (extractStridedSlice S2x4096 ![0, 4096] (shapeCast _ (extractStridedSlice S1x2x24576 ![0, 0, 0] A1 slices_S2x2x24576_S1x2x24576_0_0_0) shapeCasts_S1x2x24576_S2x24576) slices_S2x24576_S2x4096_0_4096))))) (broadcastInDim S2x8192x4096 ![0, 1, 2] bcast_S2x1x4096_S2x8192x4096_0_1_2 (broadcastInDim S2x1x4096 ![0, 2] bcast_S2x4096_S2x1x4096_0_2 (extractStridedSlice S2x4096 ![0, 0] (shapeCast _ (extractStridedSlice S1x2x24576 ![0, 0, 0] A1 slices_S2x2x24576_S1x2x24576_0_0_0) shapeCasts_S1x2x24576_S2x24576) slices_S2x24576_S2x4096_0_0)))) bitsLt_bf16_f32

/-- An entry of them. -/
def val (A0 : FVec Ideal S2x8192x4096 .f32) (A1 : FVec Ideal S2x2x24576 .f32) (A2 : FVec Ideal S2x4096 .f32) (b : Fin 2) (s : Fin 8192) (d : Fin 4096) : EReal :=
  Norm.modulate (Norm.rms (fun k => A0 (ix3 b s k)) (fun k => A2 (ix2 0 k)) d) (A1 (ix3 0 b ⟨4096 + d.val, by omega⟩)) (A1 (ix3 0 b ⟨d.val, by omega⟩))

theorem out_apply (A0 : FVec Ideal S2x8192x4096 .f32) (A1 : FVec Ideal S2x2x24576 .f32) (A2 : FVec Ideal S2x4096 .f32) (b : Fin 2) (s : Fin 8192) (d : Fin 4096) :
    out A0 A1 A2 (ix3 b s d) = val A0 A1 A2 b s d := by
  unfold val Norm.modulate Norm.rms
  pointwise [out]

end Cert.PrenormRefIdeal.At

namespace Cert.PrenormIdeal.At
open Cert Cert.PrenormIdeal Cert.PrenormIdeal.Gen Idealize.ShloMosaic Idealize.ShloMosaic.TcCoe
open scoped BigOperators

theorem pay1_apply (v : Vec Ideal S1x256x4096 .f32) (g : Vec Ideal S1x4096 .f32) (sc sh : Vec Ideal S1x1x4096 .f32) (a : Fin 256) (e : Fin 4096) :
    k0_pay1 v g sc sh (ix3 0 a e) = Norm.modulate (Norm.rms (fun k => v (ix3 0 a k)) (fun k => g (ix2 0 k)) e) (sc (ix3 0 0 e)) (sh (ix3 0 0 e)) := by
  unfold Norm.modulate Norm.rms
  pointwise [k0_pay1]

variable (m : (ℓ : Loc nD τ sig) → Buf (Elt Ideal) ℓ)

/-- Where every window's block lies. -/
theorem idx : ∀ t : Fin cfg0.N,
    win0_0.index t = ![(grid0.coords t 0).val, (grid0.coords t 1).val, 0] ∧ win0_1.index t = ![0, 0]
    ∧ win0_2.index t = ![(grid0.coords t 0).val, 0, 0] ∧ win0_3.index t = ![(grid0.coords t 0).val, 0, 0]
    ∧ win0_4.index t = ![(grid0.coords t 0).val, (grid0.coords t 1).val, 0] :=
  (by decide +kernel : ∀ t : Fin grid0.N, _)

variable (c : Dev nD) (t : Fin cfg0.N)

/-- The arguments. -/
abbrev arg0 : FVec Ideal S2x8192x4096 .f32 := m (c, Proc.tc.devRef main_arg0)
abbrev arg1 : FVec Ideal S2x2x24576 .f32 := m (c, Proc.tc.devRef main_arg1)
abbrev arg2 : FVec Ideal S2x4096 .f32 := m (c, Proc.tc.devRef main_arg2)

theorem host2 (b : Fin 2) (d : Fin 4096) :
    (V m c main_v2 : Vec Ideal S2x1x4096 .f32) (ix3 b 0 d) = arg1 m c (ix3 0 b ⟨d.val, by omega⟩) := by
  unfold V
  after_reads_at

theorem host5 (b : Fin 2) (d : Fin 4096) :
    (V m c main_v5 : Vec Ideal S2x1x4096 .f32) (ix3 b 0 d) = arg1 m c (ix3 0 b ⟨4096 + d.val, by omega⟩) := by
  unfold V
  after_reads_at

theorem host20 (d : Fin 4096) :
    (V m c main_v20 : Vec Ideal S1x4096 .f32) (ix2 0 d) = arg2 m c (ix2 0 d) := by
  unfold V
  after_reads_at

theorem blk0 (a : Fin 256) (k : Fin 4096) (b : Fin 2) (hb : b.val = (grid0.coords t 0).val) (x : Fin 8192) (hx : x.val = 256 * (grid0.coords t 1).val + a.val) :
    (iblk m c 0 t : Vec Ideal S1x256x4096 .f32) (ix3 0 a k) = arg0 m c (ix3 b x k) := by
  blk_ext [iblk, V_main_arg0, idx t, hb, hx]

theorem blk1 (k : Fin 4096) : (iblk m c 1 t : Vec Ideal S1x4096 .f32) (ix2 0 k) = (V m c main_v20 : Vec Ideal S1x4096 .f32) (ix2 0 k) := by
  blk_ext [iblk, idx t]

theorem blk2 (k : Fin 4096) (b : Fin 2) (hb : b.val = (grid0.coords t 0).val) :
    (iblk m c 2 t : Vec Ideal S1x1x4096 .f32) (ix3 0 0 k) = (V m c main_v2 : Vec Ideal S2x1x4096 .f32) (ix3 b 0 k) := by
  blk_ext [iblk, idx t, hb]

theorem blk3 (k : Fin 4096) (b : Fin 2) (hb : b.val = (grid0.coords t 0).val) :
    (iblk m c 3 t : Vec Ideal S1x1x4096 .f32) (ix3 0 0 k) = (V m c main_v5 : Vec Ideal S2x1x4096 .f32) (ix3 b 0 k) := by
  blk_ext [iblk, idx t, hb]

/-- A block of the result is the reference's there. -/
theorem out_at (a : Fin 256) (d : Fin 4096) (b : Fin 2) (hb : b.val = (grid0.coords t 0).val) (x : Fin 8192) (hx : x.val = 256 * (grid0.coords t 1).val + a.val) :
    (out0_4 (iblk m c 0 t) (iblk m c 1 t) (iblk m c 2 t) (iblk m c 3 t) : Vec Ideal S1x256x4096 .bf16) (ix3 0 a d)
      = PrenormRefIdeal.At.out (arg0 m c) (arg1 m c) (arg2 m c) (ix3 b x d) := by
  have hc : (out0_4 (iblk m c 0 t) (iblk m c 1 t) (iblk m c 2 t) (iblk m c 3 t) : Vec Ideal S1x256x4096 .bf16)
      = k0_pay1 (iblk m c 0 t) (iblk m c 1 t) (iblk m c 3 t) (iblk m c 2 t) := by
    frame_out [out0_4]
  rw [hc, pay1_apply]
  refine Eq.trans ?_ (PrenormRefIdeal.At.out_apply _ _ _ b x d).symm
  unfold PrenormRefIdeal.At.val
  rw [blk3 m c t d b hb, blk2 m c t d b hb, host2, host5]
  exact congrArg (fun h => Norm.modulate h _ _) (Norm.rms_congr (fun k => blk0 m c t a k b hb x hx) (fun k => (blk1 m c t k).trans (host20 m c k)) d)

theorem kernel_out : (dats m 0 c).arrAt 4 cfg0.N = PrenormRefIdeal.At.out (arg0 m c) (arg1 m c) (arg2 m c) := by
  refine (dats m 0 c).arrAt_eq_of_covers 4 _ (by decide +kernel) fun t hf y => ?_
  blk_simp
  rw [after0_4]
  have h0 : (grid0.coords t 0).val < 2 := (grid0.coords t 0).isLt
  have h1 : (grid0.coords t 1).val < 32 := (grid0.coords t 1).isLt
  have l1 : ((y : S1x256x4096.Idx) 1).val < 256 := (y 1).isLt
  refine Eq.trans ?_ ((out_at m c t (y 1) (y 2) ⟨(grid0.coords t 0).val, h0⟩ rfl
    ⟨256 * (grid0.coords t 1).val + ((y : S1x256x4096.Idx) 1).val, by omega⟩ rfl).trans ?_)
  · refine congrArg _ ?_
    blk_ext []
  · refine congrArg _ ?_
    blk_ext [idx t]

end Cert.PrenormIdeal.At

end

end
-- ==== Proof.PostValue.lean ====
module

public import proofs.«01_k».proof.Proof.Gen.PostIdeal.Value
public import proofs.«01_k».proof.Proof.Gen.PostRefIdeal.Run
public import proofs.«01_k».proof.Proof.Logistic
public import proofs.«01_k».proof.Proof.Norm
public import Idealize.ShloMosaic.Lib.Pipeline.ValueKit
public import Idealize.ShloMosaic.Lib.Pipeline.ValueKit.Geometry
public import Idealize.ShloMosaic.Lib.StableHlo.ReadAt
public import Idealize.ShloMosaic.Lib.Pointwise
public import Idealize.ShloMosaic.Lib.IdealHost

@[expose] public section

/-! The residual step after a sub-layer with the norm before the next: what the kernel computes and what the reference computes. -/

set_option maxRecDepth 16384

noncomputable section

namespace Cert.PostRefIdeal.At
open Cert Cert.PostRefIdeal Cert.PostRefIdeal.Gen Idealize.ShloMosaic Idealize.ShloMosaic.TcCoe
open scoped BigOperators

/-- The residual stream after the step, of the arguments. -/
def res (A0 : FVec Ideal S2x8192x4096 .f32) (A1 : FVec Ideal S16384x4096 .bf16) (A2 : FVec Ideal S2x2x24576 .f32) (A3 : FVec Ideal S2x4096 .f32) : FVec Ideal S2x8192x4096 .f32 :=
  addf A0 (mulf (broadcastInDim S2x8192x4096 ![0, 1, 2] bcast_S2x1x4096_S2x8192x4096_0_1_2 (broadcastInDim S2x1x4096 ![0, 2] bcast_S2x4096_S2x1x4096_0_2 (extractStridedSlice S2x4096 ![0, 8192] (shapeCast _ (extractStridedSlice S1x2x24576 ![0, 0, 0] A2 slices_S2x2x24576_S1x2x24576_0_0_0) shapeCasts_S1x2x24576_S2x24576) slices_S2x24576_S2x4096_0_8192))) (mulf (mulf (shapeCast _ (extf .f32 A1 bitsLt_bf16_f32) shapeCasts_S16384x4096_S2x8192x4096) (broadcastInDim S2x8192x4096 ![0, 1, 2] bcast_S2x8192x1_S2x8192x4096_0_1_2 (Host.rsqrt (addf (Host.divf (broadcastInDim S2x8192x1 ![0, 1] bcast_S2x8192_S2x8192x1_0_1 (Host.reduceAdd (mulf (shapeCast _ (extf .f32 A1 bitsLt_bf16_f32) shapeCasts_S16384x4096_S2x8192x4096) (shapeCast _ (extf .f32 A1 bitsLt_bf16_f32) shapeCasts_S16384x4096_S2x8192x4096)) (constant S_ .f32 0x00000000#32) reducesTo_S2x8192x4096_S2x8192_d2 h_S_)) (broadcastInDim S2x8192x1 ![] bcast_S_S2x8192x1 (constant S_ .f32 0x45800000#32))) (broadcastInDim S2x8192x1 ![] bcast_S_S2x8192x1 (constant S_ .f32 0x358637BD#32)))))) (broadcastInDim S2x8192x4096 ![0, 1, 2] bcast_S1x1x4096_S2x8192x4096_0_1_2 (broadcastInDim S1x1x4096 ![2] bcast_S4096_S1x1x4096_2 (shapeCast _ (extractStridedSlice S1x4096 ![0, 0] A3 slices_S2x4096_S1x4096_0_0) shapeCasts_S1x4096_S4096)))))

/-- The next sub-layer's normed and modulated activations, of the arguments. -/
def out (A0 : FVec Ideal S2x8192x4096 .f32) (A1 : FVec Ideal S16384x4096 .bf16) (A2 : FVec Ideal S2x2x24576 .f32) (A3 : FVec Ideal S2x4096 .f32) (A4 : FVec Ideal S2x4096 .f32) : FVec Ideal S2x8192x4096 .bf16 :=
  truncf .bf16 (addf (mulf (mulf (mulf (res A0 A1 A2 A3) (broadcastInDim S2x8192x4096 ![0, 1, 2] bcast_S2x8192x1_S2x8192x4096_0_1_2 (Host.rsqrt (addf (Host.divf (broadcastInDim S2x8192x1 ![0, 1] bcast_S2x8192_S2x8192x1_0_1 (Host.reduceAdd (mulf (res A0 A1 A2 A3) (res A0 A1 A2 A3)) (constant S_ .f32 0x00000000#32) reducesTo_S2x8192x4096_S2x8192_d2 h_S_)) (broadcastInDim S2x8192x1 ![] bcast_S_S2x8192x1 (constant S_ .f32 0x45800000#32))) (broadcastInDim S2x8192x1 ![] bcast_S_S2x8192x1 (constant S_ .f32 0x358637BD#32)))))) (broadcastInDim S2x8192x4096 ![0, 1, 2] bcast_S1x1x4096_S2x8192x4096_0_1_2 (broadcastInDim S1x1x4096 ![2] bcast_S4096_S1x1x4096_2 (shapeCast _ (extractStridedSlice S1x4096 ![0, 0] A4 slices_S2x4096_S1x4096_0_0) shapeCasts_S1x4096_S4096)))) (broadcastInDim S2x8192x4096 ![0, 1, 2] bcast_S2x1x4096_S2x8192x4096_0_1_2 (addf (broadcastInDim S2x1x4096 ![] bcast_S_S2x1x4096 (constant S_ .f32 0x3F800000#32)) (broadcastInDim S2x1x4096 ![0, 2] bcast_S2x4096_S2x1x4096_0_2 (extractStridedSlice S2x4096 ![0, 16384] (shapeCast _ (extractStridedSlice S1x2x24576 ![0, 0, 0] A2 slices_S2x2x24576_S1x2x24576_0_0_0) shapeCasts_S1x2x24576_S2x24576) slices_S2x24576_S2x4096_0_16384))))) (broadcastInDim S2x8192x4096 ![0, 1, 2] bcast_S2x1x4096_S2x8192x4096_0_1_2 (broadcastInDim S2x1x4096 ![0, 2] bcast_S2x4096_S2x1x4096_0_2 (extractStridedSlice S2x4096 ![0, 12288] (shapeCast _ (extractStridedSlice S1x2x24576 ![0, 0, 0] A2 slices_S2x2x24576_S1x2x24576_0_0_0) shapeCasts_S1x2x24576_S2x24576) slices_S2x24576_S2x4096_0_12288)))) bitsLt_bf16_f32

/-- An entry of the residual stream. -/
def resVal (A0 : FVec Ideal S2x8192x4096 .f32) (A1 : FVec Ideal S16384x4096 .bf16) (A2 : FVec Ideal S2x2x24576 .f32) (A3 : FVec Ideal S2x4096 .f32) (b : Fin 2) (s : Fin 8192) (d : Fin 4096) : EReal :=
  A0 (ix3 b s d) + A2 (ix3 0 b ⟨8192 + d.val, by omega⟩) * Norm.rms (fun k => A1 (ix2 ⟨b.val * 8192 + s.val, by omega⟩ k)) (fun k => A3 (ix2 0 k)) d

theorem res_apply (A0 : FVec Ideal S2x8192x4096 .f32) (A1 : FVec Ideal S16384x4096 .bf16) (A2 : FVec Ideal S2x2x24576 .f32) (A3 : FVec Ideal S2x4096 .f32) (b : Fin 2) (s : Fin 8192) (d : Fin 4096) :
    res A0 A1 A2 A3 (ix3 b s d) = resVal A0 A1 A2 A3 b s d := by
  unfold resVal Norm.rms
  pointwise [res]

theorem out_apply (A0 : FVec Ideal S2x8192x4096 .f32) (A1 : FVec Ideal S16384x4096 .bf16) (A2 : FVec Ideal S2x2x24576 .f32) (A3 : FVec Ideal S2x4096 .f32) (A4 : FVec Ideal S2x4096 .f32) (b : Fin 2) (s : Fin 8192) (d : Fin 4096) :
    out A0 A1 A2 A3 A4 (ix3 b s d) = Norm.modulate (Norm.rms (fun k => res A0 A1 A2 A3 (ix3 b s k)) (fun k => A4 (ix2 0 k)) d)
      (A2 (ix3 0 b ⟨16384 + d.val, by omega⟩)) (A2 (ix3 0 b ⟨12288 + d.val, by omega⟩)) := by
  unfold Norm.modulate Norm.rms
  generalize hr : res A0 A1 A2 A3 = r
  pointwise [out, hr]

end Cert.PostRefIdeal.At

namespace Cert.PostIdeal.At
open Cert Cert.PostIdeal Cert.PostIdeal.Gen Idealize.ShloMosaic Idealize.ShloMosaic.TcCoe
open scoped BigOperators

theorem pay3_apply (v : Vec Ideal S1x256x4096 .f32) (ga : Vec Ideal S1x1x4096 .f32) (u : Vec Ideal S1x256x4096 .bf16) (g : Vec Ideal S1x4096 .f32) (a : Fin 256) (e : Fin 4096) :
    k0_pay3 v ga u g (ix2 a e) = (v (ix3 0 a e) + ga (ix3 0 0 e) * Norm.rms (fun k => u (ix3 0 a k)) (fun k => g (ix2 0 k)) e : EReal) := by
  unfold Norm.rms
  pointwise [k0_pay3]

theorem pay2_apply (v : FVec Ideal S256x4096 .f32) (a : Fin 256) (e : Fin 4096) : k0_pay2 v (ix3 0 a e) = v (ix2 a e) := by
  pointwise [k0_pay2]

theorem pay4_apply (v : Vec Ideal S1x256x4096 .f32) (ga : Vec Ideal S1x1x4096 .f32) (u : Vec Ideal S1x256x4096 .bf16) (g gn : Vec Ideal S1x4096 .f32) (a : Fin 256) (e : Fin 4096) :
    k0_pay4 v ga u g gn (ix2 a e) = Norm.rms (fun k => k0_pay3 v ga u g (ix2 a k)) (fun k => gn (ix2 0 k)) e := by
  unfold Norm.rms
  unfold k0_pay4
  generalize k0_pay3 v ga u g = r
  pointwise []

theorem pay1_apply (h : FVec Ideal S256x4096 .f32) (sc sh : Vec Ideal S1x1x4096 .f32) (a : Fin 256) (e : Fin 4096) :
    k0_pay1 h sc sh (ix3 0 a e) = Norm.modulate (h (ix2 a e)) (sc (ix3 0 0 e)) (sh (ix3 0 0 e)) := by
  unfold Norm.modulate
  pointwise [k0_pay1]

variable (m : (ℓ : Loc nD τ sig) → Buf (Elt Ideal) ℓ)

/-- Where every window's block lies. -/
theorem idx : ∀ t : Fin cfg0.N,
    win0_0.index t = ![(grid0.coords t 0).val, (grid0.coords t 1).val, 0] ∧ win0_1.index t = ![(grid0.coords t 0).val, (grid0.coords t 1).val, 0]
    ∧ win0_2.index t = ![0, 0] ∧ win0_3.index t = ![(grid0.coords t 0).val, 0, 0] ∧ win0_4.index t = ![0, 0]
    ∧ win0_5.index t = ![(grid0.coords t 0).val, 0, 0] ∧ win0_6.index t = ![(grid0.coords t 0).val, 0, 0]
    ∧ win0_7.index t = ![(grid0.coords t 0).val, (grid0.coords t 1).val, 0] ∧ win0_8.index t = ![(grid0.coords t 0).val, (grid0.coords t 1).val, 0] :=
  (by decide +kernel : ∀ t : Fin grid0.N, _)

variable (c : Dev nD) (t : Fin cfg0.N)

/-- The arguments. -/
abbrev arg0 : FVec Ideal S2x8192x4096 .f32 := m (c, Proc.tc.devRef main_arg0)
abbrev arg1 : FVec Ideal S16384x4096 .bf16 := m (c, Proc.tc.devRef main_arg1)
abbrev arg2 : FVec Ideal S2x2x24576 .f32 := m (c, Proc.tc.devRef main_arg2)
abbrev arg3 : FVec Ideal S2x4096 .f32 := m (c, Proc.tc.devRef main_arg3)
abbrev arg4 : FVec Ideal S2x4096 .f32 := m (c, Proc.tc.devRef main_arg4)

theorem host22 (b : Fin 2) (s : Fin 8192) (d : Fin 4096) :
    (V m c main_v22 : Vec Ideal S2x8192x4096 .bf16) (ix3 b s d) = arg1 m c (ix2 ⟨b.val * 8192 + s.val, by omega⟩ d) := by
  unfold V
  after_reads_at

theorem host8 (b : Fin 2) (d : Fin 4096) :
    (V m c main_v8 : Vec Ideal S2x1x4096 .f32) (ix3 b 0 d) = arg2 m c (ix3 0 b ⟨8192 + d.val, by omega⟩) := by
  unfold V
  after_reads_at

theorem host11 (b : Fin 2) (d : Fin 4096) :
    (V m c main_v11 : Vec Ideal S2x1x4096 .f32) (ix3 b 0 d) = arg2 m c (ix3 0 b ⟨12288 + d.val, by omega⟩) := by
  unfold V
  after_reads_at

theorem host14 (b : Fin 2) (d : Fin 4096) :
    (V m c main_v14 : Vec Ideal S2x1x4096 .f32) (ix3 b 0 d) = arg2 m c (ix3 0 b ⟨16384 + d.val, by omega⟩) := by
  unfold V
  after_reads_at

theorem host23 (d : Fin 4096) :
    (V m c main_v23 : Vec Ideal S1x4096 .f32) (ix2 0 d) = arg3 m c (ix2 0 d) := by
  unfold V
  after_reads_at

theorem host24 (d : Fin 4096) :
    (V m c main_v24 : Vec Ideal S1x4096 .f32) (ix2 0 d) = arg4 m c (ix2 0 d) := by
  unfold V
  after_reads_at

theorem blk0 (a : Fin 256) (k : Fin 4096) (b : Fin 2) (hb : b.val = (grid0.coords t 0).val) (x : Fin 8192) (hx : x.val = 256 * (grid0.coords t 1).val + a.val) :
    (iblk m c 0 t : Vec Ideal S1x256x4096 .f32) (ix3 0 a k) = arg0 m c (ix3 b x k) := by
  blk_ext [iblk, V_main_arg0, idx t, hb, hx]

theorem blk1 (a : Fin 256) (k : Fin 4096) (b : Fin 2) (hb : b.val = (grid0.coords t 0).val) (x : Fin 8192) (hx : x.val = 256 * (grid0.coords t 1).val + a.val) :
    (iblk m c 1 t : Vec Ideal S1x256x4096 .bf16) (ix3 0 a k) = (V m c main_v22 : Vec Ideal S2x8192x4096 .bf16) (ix3 b x k) := by
  blk_ext [iblk, idx t, hb, hx]

theorem blk3 (k : Fin 4096) (b : Fin 2) (hb : b.val = (grid0.coords t 0).val) :
    (iblk m c 3 t : Vec Ideal S1x1x4096 .f32) (ix3 0 0 k) = (V m c main_v8 : Vec Ideal S2x1x4096 .f32) (ix3 b 0 k) := by
  blk_ext [iblk, idx t, hb]

theorem blk5 (k : Fin 4096) (b : Fin 2) (hb : b.val = (grid0.coords t 0).val) :
    (iblk m c 5 t : Vec Ideal S1x1x4096 .f32) (ix3 0 0 k) = (V m c main_v11 : Vec Ideal S2x1x4096 .f32) (ix3 b 0 k) := by
  blk_ext [iblk, idx t, hb]

theorem blk6 (k : Fin 4096) (b : Fin 2) (hb : b.val = (grid0.coords t 0).val) :
    (iblk m c 6 t : Vec Ideal S1x1x4096 .f32) (ix3 0 0 k) = (V m c main_v14 : Vec Ideal S2x1x4096 .f32) (ix3 b 0 k) := by
  blk_ext [iblk, idx t, hb]

theorem blk2 (k : Fin 4096) : (iblk m c 2 t : Vec Ideal S1x4096 .f32) (ix2 0 k) = (V m c main_v23 : Vec Ideal S1x4096 .f32) (ix2 0 k) := by
  blk_ext [iblk, idx t]

theorem blk4 (k : Fin 4096) : (iblk m c 4 t : Vec Ideal S1x4096 .f32) (ix2 0 k) = (V m c main_v24 : Vec Ideal S1x4096 .f32) (ix2 0 k) := by
  blk_ext [iblk, idx t]

/-- A row of the stream's block is the reference's. -/
theorem row_at (a : Fin 256) (d : Fin 4096) (b : Fin 2) (hb : b.val = (grid0.coords t 0).val) (x : Fin 8192) (hx : x.val = 256 * (grid0.coords t 1).val + a.val) :
    (k0_pay3 (iblk m c 0 t) (iblk m c 3 t) (iblk m c 1 t) (iblk m c 2 t) : FVec Ideal S256x4096 .f32) (ix2 a d)
      = PostRefIdeal.At.res (arg0 m c) (arg1 m c) (arg2 m c) (arg3 m c) (ix3 b x d) := by
  rw [pay3_apply]
  refine Eq.trans ?_ (PostRefIdeal.At.res_apply _ _ _ _ b x d).symm
  refine congrArg₂ (fun p q : EReal => p + q) (blk0 m c t a d b hb x hx)
    (congrArg₂ (fun p q : EReal => p * q) ((blk3 m c t d b hb).trans (host8 m c b d)) ?_)
  exact Norm.rms_congr (fun k => (blk1 m c t a k b hb x hx).trans (host22 m c b x k)) (fun k => (blk2 m c t k).trans (host23 m c k)) d

theorem res_at (a : Fin 256) (d : Fin 4096) (b : Fin 2) (hb : b.val = (grid0.coords t 0).val) (x : Fin 8192) (hx : x.val = 256 * (grid0.coords t 1).val + a.val) :
    (out0_7 (iblk m c 0 t) (iblk m c 1 t) (iblk m c 2 t) (iblk m c 3 t) (iblk m c 4 t) (iblk m c 5 t) (iblk m c 6 t) : Vec Ideal S1x256x4096 .f32) (ix3 0 a d)
      = PostRefIdeal.At.res (arg0 m c) (arg1 m c) (arg2 m c) (arg3 m c) (ix3 b x d) := by
  have hc : (out0_7 (iblk m c 0 t) (iblk m c 1 t) (iblk m c 2 t) (iblk m c 3 t) (iblk m c 4 t) (iblk m c 5 t) (iblk m c 6 t) : Vec Ideal S1x256x4096 .f32)
      = k0_pay2 (k0_pay3 (iblk m c 0 t) (iblk m c 3 t) (iblk m c 1 t) (iblk m c 2 t)) := by
    frame_out [out0_7]
  rw [hc, pay2_apply, row_at m c t a d b hb x hx]

theorem out_at (a : Fin 256) (d : Fin 4096) (b : Fin 2) (hb : b.val = (grid0.coords t 0).val) (x : Fin 8192) (hx : x.val = 256 * (grid0.coords t 1).val + a.val) :
    (out0_8 (iblk m c 0 t) (iblk m c 1 t) (iblk m c 2 t) (iblk m c 3 t) (iblk m c 4 t) (iblk m c 5 t) (iblk m c 6 t) : Vec Ideal S1x256x4096 .bf16) (ix3 0 a d)
      = PostRefIdeal.At.out (arg0 m c) (arg1 m c) (arg2 m c) (arg3 m c) (arg4 m c) (ix3 b x d) := by
  have hc : (out0_8 (iblk m c 0 t) (iblk m c 1 t) (iblk m c 2 t) (iblk m c 3 t) (iblk m c 4 t) (iblk m c 5 t) (iblk m c 6 t) : Vec Ideal S1x256x4096 .bf16)
      = k0_pay1 (k0_pay4 (iblk m c 0 t) (iblk m c 3 t) (iblk m c 1 t) (iblk m c 2 t) (iblk m c 4 t)) (iblk m c 6 t) (iblk m c 5 t) := by
    frame_out [out0_8]
  rw [hc, pay1_apply, pay4_apply]
  refine Eq.trans ?_ (PostRefIdeal.At.out_apply _ _ _ _ _ b x d).symm
  rw [blk6 m c t d b hb, blk5 m c t d b hb, host14, host11]
  exact congrArg (fun h => Norm.modulate h _ _) (Norm.rms_congr (fun k => row_at m c t a k b hb x hx) (fun k => (blk4 m c t k).trans (host24 m c k)) d)

theorem kernel_res : (dats m 0 c).arrAt 7 cfg0.N = PostRefIdeal.At.res (arg0 m c) (arg1 m c) (arg2 m c) (arg3 m c) := by
  refine (dats m 0 c).arrAt_eq_of_covers 7 _ (by decide +kernel) fun t hf y => ?_
  blk_simp
  rw [after0_7]
  have h0 : (grid0.coords t 0).val < 2 := (grid0.coords t 0).isLt
  have h1 : (grid0.coords t 1).val < 32 := (grid0.coords t 1).isLt
  have l1 : ((y : S1x256x4096.Idx) 1).val < 256 := (y 1).isLt
  refine Eq.trans ?_ ((res_at m c t (y 1) (y 2) ⟨(grid0.coords t 0).val, h0⟩ rfl
    ⟨256 * (grid0.coords t 1).val + ((y : S1x256x4096.Idx) 1).val, by omega⟩ rfl).trans ?_)
  · refine congrArg _ ?_
    blk_ext []
  · refine congrArg _ ?_
    blk_ext [idx t]

theorem kernel_out : (dats m 0 c).arrAt 8 cfg0.N = PostRefIdeal.At.out (arg0 m c) (arg1 m c) (arg2 m c) (arg3 m c) (arg4 m c) := by
  refine (dats m 0 c).arrAt_eq_of_covers 8 _ (by decide +kernel) fun t hf y => ?_
  blk_simp
  rw [after0_8]
  have h0 : (grid0.coords t 0).val < 2 := (grid0.coords t 0).isLt
  have h1 : (grid0.coords t 1).val < 32 := (grid0.coords t 1).isLt
  have l1 : ((y : S1x256x4096.Idx) 1).val < 256 := (y 1).isLt
  refine Eq.trans ?_ ((out_at m c t (y 1) (y 2) ⟨(grid0.coords t 0).val, h0⟩ rfl
    ⟨256 * (grid0.coords t 1).val + ((y : S1x256x4096.Idx) 1).val, by omega⟩ rfl).trans ?_)
  · refine congrArg _ ?_
    blk_ext []
  · refine congrArg _ ?_
    blk_ext [idx t]

end Cert.PostIdeal.At

end

end
-- ==== Proof.NormClaims.lean ====
module

public import proofs.«01_k».proof.Defs
public import proofs.«01_k».proof.Proof.AdalnValue
public import proofs.«01_k».proof.Proof.Gen.Adaln.Frame
public import proofs.«01_k».proof.Proof.PrenormValue
public import proofs.«01_k».proof.Proof.Gen.Prenorm.Frame
public import proofs.«01_k».proof.Proof.PostValue
public import proofs.«01_k».proof.Proof.Gen.Post.Frame

@[expose] public section

/-! The claims about the conditioning, the pre-norm and the residual step: the frames and the equalities with their references. -/

set_option maxRecDepth 16384

noncomputable section

namespace Cert.AdalnClaims
open Cert Idealize.ShloMosaic Idealize.ShloMosaic.TcCoe Idealize.SL.Sem

theorem frame_p : Cert.quiescent_Adaln := fun m ρ _ => Adaln.Gen.frame m ρ
theorem frame_pi : Cert.quiescent_AdalnIdeal := fun m ρ _ => AdalnIdeal.Gen.frame m ρ
theorem frame_ri : Cert.quiescent_AdalnRefIdeal := fun m ρ _ =>
  (θ_run AdalnRefIdeal.defs _ _).mono (fun r h => ⟨fun c => (h c).2, sem_eq_zero_of_no_sems (by decide) r.2⟩)
    (AdalnRefIdeal.Value.run (F := Ideal) m ρ)
theorem preserves : Cert.preserves_Adaln_AdalnIdeal := trivial

theorem algebraic : Cert.algebraic_AdalnIdeal_AdalnRefIdeal := by
  intro m ρ m' ρ' _ hagree
  refine ⟨fun c => AdalnRefIdeal.At.out (m ((c.tc : Thread AdalnIdeal.nD AdalnIdeal.τ).loc AdalnIdeal.main_arg0)) (m ((c.tc : Thread AdalnIdeal.nD AdalnIdeal.τ).loc AdalnIdeal.main_arg1)) (m ((c.tc : Thread AdalnIdeal.nD AdalnIdeal.τ).loc AdalnIdeal.main_arg2)), ?_, ?_⟩
  · exact (θ_run AdalnIdeal.defs _ _).mono (fun r h c => ⟨(h c).1.trans (AdalnIdeal.At.kernel_out m c), (h c).2⟩) (AdalnIdeal.Value.run_blocks (F := Ideal) m ρ)
  · refine (θ_run AdalnRefIdeal.defs _ _).mono (fun r h c => ?_) (AdalnRefIdeal.Value.run (F := Ideal) m' ρ')
    obtain ⟨e0, e1, e2⟩ := hagree c
    have q0 : AdalnRefIdeal.At.out (m' ((c.tc : Thread AdalnRefIdeal.nD AdalnRefIdeal.τ).loc AdalnRefIdeal.main_arg0)) (m' ((c.tc : Thread AdalnRefIdeal.nD AdalnRefIdeal.τ).loc AdalnRefIdeal.main_arg1)) (m' ((c.tc : Thread AdalnRefIdeal.nD AdalnRefIdeal.τ).loc AdalnRefIdeal.main_arg2)) = AdalnRefIdeal.At.out (m ((c.tc : Thread AdalnIdeal.nD AdalnIdeal.τ).loc AdalnIdeal.main_arg0)) (m ((c.tc : Thread AdalnIdeal.nD AdalnIdeal.τ).loc AdalnIdeal.main_arg1)) (m ((c.tc : Thread AdalnIdeal.nD AdalnIdeal.τ).loc AdalnIdeal.main_arg2)) := by
      rw [e0, e1, e2]
    exact ⟨(h c).1.trans q0, (h c).2⟩

end Cert.AdalnClaims

namespace Cert.PrenormClaims
open Cert Idealize.ShloMosaic Idealize.ShloMosaic.TcCoe Idealize.SL.Sem

theorem frame_p : Cert.quiescent_Prenorm := fun m ρ _ => Prenorm.Gen.frame m ρ
theorem frame_pi : Cert.quiescent_PrenormIdeal := fun m ρ _ => PrenormIdeal.Gen.frame m ρ
theorem frame_ri : Cert.quiescent_PrenormRefIdeal := fun m ρ _ =>
  (θ_run PrenormRefIdeal.defs _ _).mono (fun r h => ⟨fun c => (h c).2, sem_eq_zero_of_no_sems (by decide) r.2⟩)
    (PrenormRefIdeal.Value.run (F := Ideal) m ρ)
theorem preserves : Cert.preserves_Prenorm_PrenormIdeal := trivial

theorem algebraic : Cert.algebraic_PrenormIdeal_PrenormRefIdeal := by
  intro m ρ m' ρ' _ hagree
  refine ⟨fun c => PrenormRefIdeal.At.out (m ((c.tc : Thread PrenormIdeal.nD PrenormIdeal.τ).loc PrenormIdeal.main_arg0)) (m ((c.tc : Thread PrenormIdeal.nD PrenormIdeal.τ).loc PrenormIdeal.main_arg1)) (m ((c.tc : Thread PrenormIdeal.nD PrenormIdeal.τ).loc PrenormIdeal.main_arg2)), ?_, ?_⟩
  · exact (θ_run PrenormIdeal.defs _ _).mono (fun r h c => ⟨(h c).1.trans (PrenormIdeal.At.kernel_out m c), (h c).2⟩) (PrenormIdeal.Value.run_blocks (F := Ideal) m ρ)
  · refine (θ_run PrenormRefIdeal.defs _ _).mono (fun r h c => ?_) (PrenormRefIdeal.Value.run (F := Ideal) m' ρ')
    obtain ⟨e0, e1, e2⟩ := hagree c
    have q0 : PrenormRefIdeal.At.out (m' ((c.tc : Thread PrenormRefIdeal.nD PrenormRefIdeal.τ).loc PrenormRefIdeal.main_arg0)) (m' ((c.tc : Thread PrenormRefIdeal.nD PrenormRefIdeal.τ).loc PrenormRefIdeal.main_arg1)) (m' ((c.tc : Thread PrenormRefIdeal.nD PrenormRefIdeal.τ).loc PrenormRefIdeal.main_arg2)) = PrenormRefIdeal.At.out (m ((c.tc : Thread PrenormIdeal.nD PrenormIdeal.τ).loc PrenormIdeal.main_arg0)) (m ((c.tc : Thread PrenormIdeal.nD PrenormIdeal.τ).loc PrenormIdeal.main_arg1)) (m ((c.tc : Thread PrenormIdeal.nD PrenormIdeal.τ).loc PrenormIdeal.main_arg2)) := by
      rw [e0, e1, e2]
    exact ⟨(h c).1.trans q0, (h c).2⟩

end Cert.PrenormClaims

namespace Cert.PostClaims
open Cert Idealize.ShloMosaic Idealize.ShloMosaic.TcCoe Idealize.SL.Sem

theorem frame_p : Cert.quiescent_Post := fun m ρ _ => Post.Gen.frame m ρ
theorem frame_pi : Cert.quiescent_PostIdeal := fun m ρ _ => PostIdeal.Gen.frame m ρ
theorem frame_ri : Cert.quiescent_PostRefIdeal := fun m ρ _ =>
  (θ_run PostRefIdeal.defs _ _).mono (fun r h => ⟨fun c => (h c).2.2, sem_eq_zero_of_no_sems (by decide) r.2⟩)
    (PostRefIdeal.Value.run (F := Ideal) m ρ)
theorem preserves : Cert.preserves_Post_PostIdeal := trivial

theorem algebraic : Cert.algebraic_PostIdeal_PostRefIdeal := by
  intro m ρ m' ρ' _ hagree
  refine ⟨fun c => PostRefIdeal.At.res (m ((c.tc : Thread PostIdeal.nD PostIdeal.τ).loc PostIdeal.main_arg0)) (m ((c.tc : Thread PostIdeal.nD PostIdeal.τ).loc PostIdeal.main_arg1)) (m ((c.tc : Thread PostIdeal.nD PostIdeal.τ).loc PostIdeal.main_arg2)) (m ((c.tc : Thread PostIdeal.nD PostIdeal.τ).loc PostIdeal.main_arg3)), fun c => PostRefIdeal.At.out (m ((c.tc : Thread PostIdeal.nD PostIdeal.τ).loc PostIdeal.main_arg0)) (m ((c.tc : Thread PostIdeal.nD PostIdeal.τ).loc PostIdeal.main_arg1)) (m ((c.tc : Thread PostIdeal.nD PostIdeal.τ).loc PostIdeal.main_arg2)) (m ((c.tc : Thread PostIdeal.nD PostIdeal.τ).loc PostIdeal.main_arg3)) (m ((c.tc : Thread PostIdeal.nD PostIdeal.τ).loc PostIdeal.main_arg4)), ?_, ?_⟩
  · exact (θ_run PostIdeal.defs _ _).mono (fun r h c => ⟨(h c).1.trans (PostIdeal.At.kernel_res m c), (h c).2.1.trans (PostIdeal.At.kernel_out m c), (h c).2.2⟩) (PostIdeal.Value.run_blocks (F := Ideal) m ρ)
  · refine (θ_run PostRefIdeal.defs _ _).mono (fun r h c => ?_) (PostRefIdeal.Value.run (F := Ideal) m' ρ')
    obtain ⟨e0, e1, e2, e3, e4⟩ := hagree c
    have q0 : PostRefIdeal.At.res (m' ((c.tc : Thread PostRefIdeal.nD PostRefIdeal.τ).loc PostRefIdeal.main_arg0)) (m' ((c.tc : Thread PostRefIdeal.nD PostRefIdeal.τ).loc PostRefIdeal.main_arg1)) (m' ((c.tc : Thread PostRefIdeal.nD PostRefIdeal.τ).loc PostRefIdeal.main_arg2)) (m' ((c.tc : Thread PostRefIdeal.nD PostRefIdeal.τ).loc PostRefIdeal.main_arg3)) = PostRefIdeal.At.res (m ((c.tc : Thread PostIdeal.nD PostIdeal.τ).loc PostIdeal.main_arg0)) (m ((c.tc : Thread PostIdeal.nD PostIdeal.τ).loc PostIdeal.main_arg1)) (m ((c.tc : Thread PostIdeal.nD PostIdeal.τ).loc PostIdeal.main_arg2)) (m ((c.tc : Thread PostIdeal.nD PostIdeal.τ).loc PostIdeal.main_arg3)) := by
      rw [e0, e1, e2, e3]
    have q1 : PostRefIdeal.At.out (m' ((c.tc : Thread PostRefIdeal.nD PostRefIdeal.τ).loc PostRefIdeal.main_arg0)) (m' ((c.tc : Thread PostRefIdeal.nD PostRefIdeal.τ).loc PostRefIdeal.main_arg1)) (m' ((c.tc : Thread PostRefIdeal.nD PostRefIdeal.τ).loc PostRefIdeal.main_arg2)) (m' ((c.tc : Thread PostRefIdeal.nD PostRefIdeal.τ).loc PostRefIdeal.main_arg3)) (m' ((c.tc : Thread PostRefIdeal.nD PostRefIdeal.τ).loc PostRefIdeal.main_arg4)) = PostRefIdeal.At.out (m ((c.tc : Thread PostIdeal.nD PostIdeal.τ).loc PostIdeal.main_arg0)) (m ((c.tc : Thread PostIdeal.nD PostIdeal.τ).loc PostIdeal.main_arg1)) (m ((c.tc : Thread PostIdeal.nD PostIdeal.τ).loc PostIdeal.main_arg2)) (m ((c.tc : Thread PostIdeal.nD PostIdeal.τ).loc PostIdeal.main_arg3)) (m ((c.tc : Thread PostIdeal.nD PostIdeal.τ).loc PostIdeal.main_arg4)) := by
      rw [e0, e1, e2, e3, e4]
    exact ⟨(h c).1.trans q0, (h c).2.1.trans q1, (h c).2.2⟩

end Cert.PostClaims

end

end
-- ==== Proof.ExpertsBody.lean ====
module

public import proofs.«01_k».proof.Defs
public import proofs.«01_k».proof.Proof.Gen.ExpertsIdeal
public import proofs.«01_k».proof.Proof.Gen.ExpertsIdeal.Skeleton
public import proofs.«01_k».proof.Proof.Gen.ExpertsIdeal.Launch
public import Idealize.ShloMosaic.Lib.Pipeline.Kit
public import Idealize.ShloMosaic.Lib.Pipeline.TableIdle
public import Idealize.ShloMosaic.Lib.Pipeline.FrameBody
public import Idealize.ShloMosaic.Lib.Pipeline.ValueKit
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.Adequacy
public import Idealize.ShloMosaic.Init

@[expose] public section

/-! The body of the experts' way down, by case: a tile in use, and a tile past the ones in use. -/

set_option maxRecDepth 16384
set_option Elab.async false

noncomputable section

namespace Cert.ExpertsIdeal.Run

open Cert.ExpertsIdeal Cert.ExpertsIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The two tables, whole. -/
abbrev tbM0_0 : Memref sig .tc .smem S136 .i32 := Memref.whole main_arg0
abbrev tbM0_1 : Memref sig .tc .smem S1 .i32 := Memref.whole main_arg1

/-- The number of tiles in use, as the body reads it. -/
abbrev word (T1 : S1.Idx → Elt F .i32) : BitVec 32 :=
  View.readAt (Elt F) (tbM0_1).view (Rect.unit (s := S1) ![0] S1.size inb_S1_S1_0).toLoadRect T1 (Shape.Idx.first (numel1_S1.symm ▸ Nat.one_pos))

/-- One buffer of the result's block. -/
abbrev VO : View sig .tc .vmem S256x4096 .bf16 := (Memref.whole cc0_stg2_0 : Memref sig .tc .vmem S256x4096 .bf16).view

/-- Exactly one of the two conditions holds. -/
theorem cond_iff (i : grid0.Coords) (v : BitVec 32) : k0_cond2 i v = 1#1 ↔ ¬(k0_cond1 i v = 1#1) := by
  unfold k0_cond1 k0_cond2 Scalar.cmpi IntOp.cmpi Scalar.extui
  have h : (v.sle (BitVec.ofNat 32 (i 0).val)) = !((BitVec.ofNat 32 (i 0).val).slt v) := by
    simp only [BitVec.sle_eq_not_slt]
  dsimp only
  rw [h]
  cases (BitVec.ofNat 32 (i 0).val).slt v <;> decide

set_option backward.proofsInPublic true in
set_option maxHeartbeats 8000000 in
/-- The body at a tile in use: what it stores, found by the run, with the proof that it runs. -/
noncomputable def runA (c : Dev nD) (i : grid0.Coords) (arg3 : Memref sig .tc .vmem S256x1024 .bf16) (harg3 : arg3.IsWhole) (arg4 : Memref sig .tc .vmem S1x1024x4096 .bf16) (harg4 : arg4.IsWhole) (arg5 : Memref sig .tc .vmem S256x4096 .bf16) (harg5 : arg5.IsWhole) (T0 : S136.Idx → Elt F .i32) (T1 : S1.Idx → Elt F .i32)
    (x0 : S256x1024.Idx → Elt F .bf16) (x1 : S1x1024x4096.Idx → Elt F .bf16)
    (k0_h1 : k0_cond1 i (word T1) = 1#1) (k0_h2 : ¬(k0_cond2 i (word T1) = 1#1)) :
    { out0 : List (View.Piece (Elt F) S256x4096 .bf16) //
      ∀ (K : PUnit → sProp 𝕄),
        iprop((arg3.view.loc (c : Thread nD τ) ↦[arg3.view.set]{fullShare} arg3.view.rep x0)
          ∗ (arg4.view.loc (c : Thread nD τ) ↦[arg4.view.set]{fullShare} arg4.view.rep x1)
          ∗ (tbM0_0.view.loc (c : Thread nD τ) ↦{fullShare.right} T0)
          ∗ (tbM0_1.view.loc (c : Thread nD τ) ↦{fullShare.right} T1)
          ∗ (∃ d, owns (c : Thread nD τ) arg5 fullShare d)
          ∗ (iprop((arg3.view.loc (c : Thread nD τ) ↦[arg3.view.set]{fullShare} arg3.view.rep x0)
              ∗ (arg4.view.loc (c : Thread nD τ) ↦[arg4.view.set]{fullShare} arg4.view.rep x1)
              ∗ (tbM0_0.view.loc (c : Thread nD τ) ↦{fullShare.right} T0)
              ∗ (tbM0_1.view.loc (c : Thread nD τ) ↦{fullShare.right} T1)
              ∗ (∃ f, arg5.view.loc (c : Thread nD τ) ↦[arg5.view.set]{fullShare} arg5.view.writes (Elt F) f out0)) -∗ K ⟨⟩))
          ⊢ wp frame (wpE (defs₀ (F := F)) Variants.none c none) Set.univ (cc0_down_sparse i tbM0_0 (Memref.isWhole_whole _) tbM0_1 (Memref.isWhole_whole _) arg3 harg3 arg4 harg4 arg5 harg5) K } :=
  ⟨_, fun K => by
    unfold owns
    rw [cc0_down_sparse_eq_skeleton]; unfold cc0_down_sparse_skel
    iintro ⟨H0, H1, HT0, HT1, ⟨%d2, %f2, -, HO2⟩, Hk⟩
    have hT0 : tbM0_0.IsWhole := Memref.isWhole_whole _
    have hT1 : tbM0_1.IsWhole := Memref.isWhole_whole _
    sl_exec! (disch := first | (guard_target = k0_cond1 _ _ = _; exact k0_h1) | (guard_target = ¬(k0_cond2 _ _ = _); exact k0_h2))
    sl_step
    iapply Hk
    isplitl [H0]; · iexact H0
    isplitl [H1]; · iexact H1
    isplitl [HT0]; · iexact HT0
    isplitl [HT1]; · iexact HT1
    iexists _; iexact HO2⟩

/-- The stores cover the block. -/
theorem coverA (c : Dev nD) (i : grid0.Coords) (arg3 : Memref sig .tc .vmem S256x1024 .bf16) (harg3 : arg3.IsWhole) (arg4 : Memref sig .tc .vmem S1x1024x4096 .bf16) (harg4 : arg4.IsWhole) (arg5 : Memref sig .tc .vmem S256x4096 .bf16) (harg5 : arg5.IsWhole) (T0 : S136.Idx → Elt F .i32) (T1 : S1.Idx → Elt F .i32)
    (x0 : S256x1024.Idx → Elt F .bf16) (x1 : S1x1024x4096.Idx → Elt F .bf16)
    (k0_h1 : k0_cond1 i (word T1) = 1#1) (k0_h2 : ¬(k0_cond2 i (word T1) = 1#1)) (y : S256x4096.Idx) :
    ∃ pc ∈ (runA c i arg3 harg3 arg4 harg4 arg5 harg5 T0 T1 x0 x1 k0_h1 k0_h2).1, y ∈ pc.1.set :=
  View.cover_of_tiledL (runA c i arg3 harg3 arg4 harg4 arg5 harg5 T0 T1 x0 x1 k0_h1 k0_h2).1 S256x4096.size (by sl_kernel_rfl) y

/-- What it leaves in the result's block. -/
theorem outA (c : Dev nD) (i : grid0.Coords) (arg3 : Memref sig .tc .vmem S256x1024 .bf16) (harg3 : arg3.IsWhole) (arg4 : Memref sig .tc .vmem S1x1024x4096 .bf16) (harg4 : arg4.IsWhole) (arg5 : Memref sig .tc .vmem S256x4096 .bf16) (harg5 : arg5.IsWhole) (T0 : S136.Idx → Elt F .i32) (T1 : S1.Idx → Elt F .i32)
    (x0 : S256x1024.Idx → Elt F .bf16) (x1 : S1x1024x4096.Idx → Elt F .bf16)
    (k0_h1 : k0_cond1 i (word T1) = 1#1) (k0_h2 : ¬(k0_cond2 i (word T1) = 1#1)) :
    VO.read (Elt F) (VO.writes (Elt F) VO.junk (runA c i arg3 harg3 arg4 harg4 arg5 harg5 T0 T1 x0 x1 k0_h1 k0_h2).1)
      = k0_pay1 x0 x1 := by
  unfold runA
  frame_out
  rw [View.read_rep, View.read_rep]

set_option backward.proofsInPublic true in
set_option maxHeartbeats 8000000 in
/-- The body at a tile past the ones in use: what it stores, found by the run, with the proof that it runs. -/
noncomputable def runB (c : Dev nD) (i : grid0.Coords) (arg3 : Memref sig .tc .vmem S256x1024 .bf16) (harg3 : arg3.IsWhole) (arg4 : Memref sig .tc .vmem S1x1024x4096 .bf16) (harg4 : arg4.IsWhole) (arg5 : Memref sig .tc .vmem S256x4096 .bf16) (harg5 : arg5.IsWhole) (T0 : S136.Idx → Elt F .i32) (T1 : S1.Idx → Elt F .i32)
    (x0 : S256x1024.Idx → Elt F .bf16) (x1 : S1x1024x4096.Idx → Elt F .bf16)
    (k0_h1 : ¬(k0_cond1 i (word T1) = 1#1)) (k0_h2 : k0_cond2 i (word T1) = 1#1) :
    { out0 : List (View.Piece (Elt F) S256x4096 .bf16) //
      ∀ (K : PUnit → sProp 𝕄),
        iprop((arg3.view.loc (c : Thread nD τ) ↦[arg3.view.set]{fullShare} arg3.view.rep x0)
          ∗ (arg4.view.loc (c : Thread nD τ) ↦[arg4.view.set]{fullShare} arg4.view.rep x1)
          ∗ (tbM0_0.view.loc (c : Thread nD τ) ↦{fullShare.right} T0)
          ∗ (tbM0_1.view.loc (c : Thread nD τ) ↦{fullShare.right} T1)
          ∗ (∃ d, owns (c : Thread nD τ) arg5 fullShare d)
          ∗ (iprop((arg3.view.loc (c : Thread nD τ) ↦[arg3.view.set]{fullShare} arg3.view.rep x0)
              ∗ (arg4.view.loc (c : Thread nD τ) ↦[arg4.view.set]{fullShare} arg4.view.rep x1)
              ∗ (tbM0_0.view.loc (c : Thread nD τ) ↦{fullShare.right} T0)
              ∗ (tbM0_1.view.loc (c : Thread nD τ) ↦{fullShare.right} T1)
              ∗ (∃ f, arg5.view.loc (c : Thread nD τ) ↦[arg5.view.set]{fullShare} arg5.view.writes (Elt F) f out0)) -∗ K ⟨⟩))
          ⊢ wp frame (wpE (defs₀ (F := F)) Variants.none c none) Set.univ (cc0_down_sparse i tbM0_0 (Memref.isWhole_whole _) tbM0_1 (Memref.isWhole_whole _) arg3 harg3 arg4 harg4 arg5 harg5) K } :=
  ⟨_, fun K => by
    unfold owns
    rw [cc0_down_sparse_eq_skeleton]; unfold cc0_down_sparse_skel
    iintro ⟨H0, H1, HT0, HT1, ⟨%d2, %f2, -, HO2⟩, Hk⟩
    have hT0 : tbM0_0.IsWhole := Memref.isWhole_whole _
    have hT1 : tbM0_1.IsWhole := Memref.isWhole_whole _
    sl_exec! (disch := first | (guard_target = ¬(k0_cond1 _ _ = _); exact k0_h1) | (guard_target = k0_cond2 _ _ = _; exact k0_h2))
    sl_step
    iapply Hk
    isplitl [H0]; · iexact H0
    isplitl [H1]; · iexact H1
    isplitl [HT0]; · iexact HT0
    isplitl [HT1]; · iexact HT1
    iexists _; iexact HO2⟩

/-- The stores cover the block. -/
theorem coverB (c : Dev nD) (i : grid0.Coords) (arg3 : Memref sig .tc .vmem S256x1024 .bf16) (harg3 : arg3.IsWhole) (arg4 : Memref sig .tc .vmem S1x1024x4096 .bf16) (harg4 : arg4.IsWhole) (arg5 : Memref sig .tc .vmem S256x4096 .bf16) (harg5 : arg5.IsWhole) (T0 : S136.Idx → Elt F .i32) (T1 : S1.Idx → Elt F .i32)
    (x0 : S256x1024.Idx → Elt F .bf16) (x1 : S1x1024x4096.Idx → Elt F .bf16)
    (k0_h1 : ¬(k0_cond1 i (word T1) = 1#1)) (k0_h2 : k0_cond2 i (word T1) = 1#1) (y : S256x4096.Idx) :
    ∃ pc ∈ (runB c i arg3 harg3 arg4 harg4 arg5 harg5 T0 T1 x0 x1 k0_h1 k0_h2).1, y ∈ pc.1.set :=
  View.cover_of_tiledL (runB c i arg3 harg3 arg4 harg4 arg5 harg5 T0 T1 x0 x1 k0_h1 k0_h2).1 S256x4096.size (by sl_kernel_rfl) y

/-- What it leaves in the result's block. -/
theorem outB (c : Dev nD) (i : grid0.Coords) (arg3 : Memref sig .tc .vmem S256x1024 .bf16) (harg3 : arg3.IsWhole) (arg4 : Memref sig .tc .vmem S1x1024x4096 .bf16) (harg4 : arg4.IsWhole) (arg5 : Memref sig .tc .vmem S256x4096 .bf16) (harg5 : arg5.IsWhole) (T0 : S136.Idx → Elt F .i32) (T1 : S1.Idx → Elt F .i32)
    (x0 : S256x1024.Idx → Elt F .bf16) (x1 : S1x1024x4096.Idx → Elt F .bf16)
    (k0_h1 : ¬(k0_cond1 i (word T1) = 1#1)) (k0_h2 : k0_cond2 i (word T1) = 1#1) :
    VO.read (Elt F) (VO.writes (Elt F) VO.junk (runB c i arg3 harg3 arg4 harg4 arg5 harg5 T0 T1 x0 x1 k0_h1 k0_h2).1)
      = k0_pay2 := by
  unfold runB
  frame_out

end Cert.ExpertsIdeal.Run

end
-- ==== Proof.ExpertsRun.lean ====
module

public import proofs.«01_k».proof.Proof.ExpertsBody
public import proofs.«01_k».proof.Proof.Gen.ExpertsIdeal
public import proofs.«01_k».proof.Proof.Gen.ExpertsIdeal.Skeleton
public import proofs.«01_k».proof.Proof.Gen.ExpertsIdeal.Launch
public import Idealize.ShloMosaic.Lib.Pipeline.Kit
public import Idealize.ShloMosaic.Lib.Pipeline.TableIdle
public import Idealize.ShloMosaic.Lib.Pipeline.FrameBody
public import Idealize.ShloMosaic.Lib.Pipeline.ValueKit
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.Adequacy
public import Idealize.ShloMosaic.Init

@[expose] public section

/-! The run of the experts' way down, at any admissible tables. -/

set_option maxRecDepth 16384
set_option Elab.async false

noncomputable section

namespace Cert.ExpertsIdeal.Run

open Cert.ExpertsIdeal Cert.ExpertsIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The run's resource algebra. -/
abbrev EP : Emb (UR sig nD τ) 𝕄 := emb₁

variable (a : (pcfg0 (F := F)).Adm)
variable (m : (ℓ : Loc nD τ sig) → Buf (Elt F) ℓ) (ρ : Dev nD → PrngReg)

/-- The tables. -/
abbrev T0 : S136.Idx → Elt F .i32 := a.1 0
abbrev T1 : S1.Idx → Elt F .i32 := a.1 1

abbrev cfgA : Pipeline.Cfg sig Λ₀ := cfg0 (F := F) a
abbrev pcs : Fin 1 → Pipeline.Cfg sig Λ₀ := Pipeline.pin (pcfgs (F := F)) fun _ => a

/-- The launch memory holds these tables. -/
def Holds : Prop :=
  (∀ c : Dev nD, m ((c : Thread nD τ).loc main_arg0) = a.1 0)
  ∧ (∀ c : Dev nD, m ((c : Thread nD τ).loc main_arg1) = a.1 1)

/-- A point's coordinates. -/
abbrev crd (t : Fin (cfgA a).N) : (cfgA a).grid.Coords := (cfgA a).grid.coords t

abbrev ms0_0 (t : Fin (cfgA a).N) : Memref sig .tc .vmem S256x1024 .bf16 := spec0_0.stage ((cfgA a).slots t (0 : Fin 3))
abbrev hs0_0 (t : Fin (cfgA a).N) : (ms0_0 a t).IsWhole := hstage0_0 (((cfgA a).slots t (0 : Fin 3)).cast nbuf0_0)
abbrev ms0_1 (t : Fin (cfgA a).N) : Memref sig .tc .vmem S1x1024x4096 .bf16 := spec0_1.stage ((cfgA a).slots t (1 : Fin 3))
abbrev hs0_1 (t : Fin (cfgA a).N) : (ms0_1 a t).IsWhole := hstage0_1 (((cfgA a).slots t (1 : Fin 3)).cast nbuf0_1)
abbrev ms0_2 (t : Fin (cfgA a).N) : Memref sig .tc .vmem S256x4096 .bf16 := spec0_2.stage ((cfgA a).slots t (2 : Fin 3))
abbrev hs0_2 (t : Fin (cfgA a).N) : (ms0_2 a t).IsWhole := hstage0_2 (((cfgA a).slots t (2 : Fin 3)).cast nbuf0_2)

/-- A window's block at a point, read off its array at launch. -/
def iblk (c : Dev nD) (w : Fin (cfgA a).W) (t : Fin (cfgA a).N) : (((cfgA a).win w).xblock (crd a t)).Idx → Elt F ((cfgA a).win w).elt :=
  (((cfgA a).win w).blk t).view.read (Elt F) ((s₀ m ρ).mem (((cfgA a).win w).arr.view.loc (c : Thread nD τ)))

/-- The result's block moves at every point. -/
theorem moves2 : ∀ t : Fin grid0.N, t.val + 1 = grid0.N ∨ ∃ h : t.val + 1 < grid0.N, ∃ b, cc0_transform_2 (grid0.coords ⟨t.val + 1, h⟩) b ≠ cc0_transform_2 (grid0.coords t) b := by
  decide +kernel

/-- So it is written back at every point, -/
theorem flush2 (t : Fin (cfgA a).N) : ((cfgA a).win (2 : Fin 3)).flush t = true := by
  rw [Pipeline.Window.flush_eq_flushF]
  unfold Pipeline.Window.flushF
  rw [Bool.and_eq_true]
  refine ⟨rfl, ?_⟩
  rw [Bool.or_eq_true, decide_eq_true_eq, decide_eq_true_eq]
  exact moves2 t

/-- and every point stores it. -/
theorem live2 (i : (cfgA a).grid.Coords) : (cfgA a).idle (2 : Fin 3) i = false := by
  show (!(k0_cond1 i (a.1.atD 1 ![0]) == 1#1) && !(k0_cond2 i (a.1.atD 1 ![0]) == 1#1)) = false
  generalize a.1.atD 1 ![0] = v
  by_cases h : k0_cond1 i v = 1#1
  · simp only [h, beq_self_eq_true, Bool.not_true, Bool.false_and]
  · simp only [(cond_iff i v).mpr h, beq_self_eq_true, Bool.not_true, Bool.and_false]

theorem fresh2 : ∀ n, n ≤ (cfgA a).N → (cfgA a).fresh (2 : Fin 3) n = true :=
  Pipeline.Cfg.fresh_tab (cfgA a) (2 : Fin 3) (fun _ => true) rfl fun t => by rw [flush2 a t]; rfl

/-- What the body leaves in the result's block at a point. -/
def res (c : Dev nD) (t : Fin (cfgA a).N) : S256x4096.Idx → Elt F .bf16 :=
  if k0_cond1 (crd a t) (word (T1 a)) = 1#1 then k0_pay1 (iblk a m ρ c (0 : Fin 3) t) (iblk a m ρ c (1 : Fin 3) t) else k0_pay2

/-- Between the points: the body's halves of the tables. -/
def Phi (c : Dev nD) : sProp 𝕄 :=
  iprop((tbM0_0.view.loc (c : Thread nD τ) ↦{fullShare.right} T0 a) ∗ (tbM0_1.view.loc (c : Thread nD τ) ↦{fullShare.right} T1 a))

/-- The proof data of the pipeline on core `c`. -/
def dats (_ : Fin 1) (c : Dev nD) : Dat τ (Elt F) Unit ℕ (UR sig nD τ) ℕ (cfgA a) c where
  A w := (s₀ m ρ).mem (((cfgA a).win w).arr.view.loc (c : Thread nD τ))
  after w t := match w with
    | ⟨0, _⟩ => iblk a m ρ c (0 : Fin 3) t
    | ⟨1, _⟩ => iblk a m ρ c (1 : Fin 3) t
    | ⟨2, _⟩ => res a m ρ c t
  Φ _ := Phi a c
  q _ := fullShare
  owed _ := 0

theorem after0_0 (c : Dev nD) (t : Fin (cfgA a).N) : (dats a m ρ 0 c).after (0 : Fin 3) t = iblk a m ρ c (0 : Fin 3) t := rfl
theorem after0_1 (c : Dev nD) (t : Fin (cfgA a).N) : (dats a m ρ 0 c).after (1 : Fin 3) t = iblk a m ρ c (1 : Fin 3) t := rfl
theorem after0_2 (c : Dev nD) (t : Fin (cfgA a).N) : (dats a m ρ 0 c).after (2 : Fin 3) t = res a m ρ c t := rfl

/-- An input window holds its block when the body runs. -/
theorem before0_0 (c : Dev nD) (t : Fin (cfgA a).N) (d) : (dats a m ρ 0 c).before (0 : Fin 3) t d = iblk a m ρ c (0 : Fin 3) t :=
  ((dats a m ρ 0 c).before_in_eq_fetched (0 : Fin 3) rfl (fun _ => rfl) (fun _ _ _ => rfl) (fun t => by rw [after0_0]; unfold Dat.blockOf iblk; rfl) t d).trans
    (by unfold Dat.fetched Dat.blockOf iblk; rfl)

theorem before0_1 (c : Dev nD) (t : Fin (cfgA a).N) (d) : (dats a m ρ 0 c).before (1 : Fin 3) t d = iblk a m ρ c (1 : Fin 3) t :=
  ((dats a m ρ 0 c).before_in_eq_fetched (1 : Fin 3) rfl (fun _ => rfl) (fun _ _ _ => rfl) (fun t => by rw [after0_1]; unfold Dat.blockOf iblk; rfl) t d).trans
    (by unfold Dat.fetched Dat.blockOf iblk; rfl)

/-- The body at a point, as the pipeline calls it. -/
abbrev bodyAt0 (t : Fin (cfgA a).N) : Prog (TpuEff nD τ sig (Elt F) Λ₀ .tc) PUnit :=
  cc0_down_sparse (crd a t) (Memref.whole main_arg0) (Memref.isWhole_whole _) (Memref.whole main_arg1) (Memref.isWhole_whole _) (ms0_0 a t) (hs0_0 a t) (ms0_1 a t) (hs0_1 a t) (ms0_2 a t) (hs0_2 a t)

set_option maxHeartbeats 4000000 in
/-- The body's obligation at a point, by case. -/
theorem sound_body (c : Dev nD) (t : Fin (cfgA a).N) :
    iprop((dats a m ρ 0 c).Φ t.castSucc ∗ (dats a m ρ 0 c).owesAt () t.castSucc
        ∗ (∃ d, owns (c : Thread nD τ) (ms0_0 a t) fullShare ((dats a m ρ 0 c).before (0 : Fin 3) t d))
        ∗ (∃ d, owns (c : Thread nD τ) (ms0_1 a t) fullShare ((dats a m ρ 0 c).before (1 : Fin 3) t d))
        ∗ (∃ d, owns (c : Thread nD τ) (ms0_2 a t) fullShare ((dats a m ρ 0 c).before (2 : Fin 3) t d)))
      ⊢ wp frame (wpE (defs₀ (F := F)) Variants.none c none) Set.univ (bodyAt0 a t) fun _ =>
          iprop((dats a m ρ 0 c).Φ t.succ ∗ (dats a m ρ 0 c).owesAt () t.succ
            ∗ bigSep Finset.univ fun w : Fin (cfgA a).W =>
                match (cfgA a).idle w ((cfgA a).grid.coords t) with
                | true =>
                  match ((cfgA a).win w).flush t with
                  | false => iprop(∃ d, owns (c : Thread nD τ) (((cfgA a).win w).stage ((cfgA a).slots t w)) fullShare ((dats a m ρ 0 c).before w t d))
                  | true => owns (c : Thread nD τ) (((cfgA a).win w).stage ((cfgA a).slots t w)) fullShare ((dats a m ρ 0 c).after w t)
                | false => owns (c : Thread nD τ) (((cfgA a).win w).stage ((cfgA a).slots t w)) fullShare ((dats a m ρ 0 c).after w t)) := by
  rw [bigSep_W0]
  have i2 := live2 a (crd a t)
  rewrite [i2]
  simp only [before0_0, before0_1, after0_0, after0_1, after0_2]
  rewrite [show (dats a m ρ 0 c).Φ t.succ = Phi a c from rfl, show (dats a m ρ 0 c).Φ t.castSucc = Phi a c from rfl,
    show (dats a m ρ 0 c).owesAt () t.succ = (dats a m ρ 0 c).owesAt () t.castSucc from rfl]
  unfold Phi
  by_cases k0_h1 : k0_cond1 (crd a t) (word (T1 a)) = 1#1
  · have k0_h2 : ¬(k0_cond2 (crd a t) (word (T1 a)) = 1#1) := fun h => (cond_iff _ _).mp h k0_h1
    have hr : res a m ρ c t = k0_pay1 (iblk a m ρ c (0 : Fin 3) t) (iblk a m ρ c (1 : Fin 3) t) := by unfold res; rw [if_pos k0_h1]
    rewrite [hr]
    iintro ⟨⟨HT0, HT1⟩, Ho, ⟨%d0, H0⟩, ⟨%d1, H1⟩, ⟨%d2, H2⟩⟩
    iapply ((runA c (crd a t) (ms0_0 a t) (hs0_0 a t) (ms0_1 a t) (hs0_1 a t) (ms0_2 a t) (hs0_2 a t) (T0 a) (T1 a) (iblk a m ρ c (0 : Fin 3) t) (iblk a m ρ c (1 : Fin 3) t) k0_h1 k0_h2).2 _)
    isplitl [H0]; · iapply rep_of_owns; iexact H0
    isplitl [H1]; · iapply rep_of_owns; iexact H1
    isplitl [HT0]; · iexact HT0
    isplitl [HT1]; · iexact HT1
    isplitl [H2]; · iexists _; iexact H2
    iintro ⟨H0, H1, HT0, HT1, ⟨%e2, H2⟩⟩
    isplitl [HT0 HT1]
    · isplitl [HT0]
      · iexact HT0
      iexact HT1
    isplitl [Ho]; · iexact Ho
    isplitl [H0]
    · iapply owns_of_rep; iexact H0
    isplitl [H1]
    · iapply owns_of_rep; iexact H1
    unfold owns; iexists _; isplitr; swap
    · iexact H2
    · ipureintro; exact (View.read_writes_of_cover _ _ _ _ _ (coverA c _ _ _ _ _ _ _ _ _ _ _ _ _)).trans (outA c _ _ _ _ _ _ _ _ _ _ _ _ _)
  · have k0_h2 : k0_cond2 (crd a t) (word (T1 a)) = 1#1 := (cond_iff _ _).mpr k0_h1
    have hr : res a m ρ c t = k0_pay2 := by unfold res; rw [if_neg k0_h1]
    rewrite [hr]
    iintro ⟨⟨HT0, HT1⟩, Ho, ⟨%d0, H0⟩, ⟨%d1, H1⟩, ⟨%d2, H2⟩⟩
    iapply ((runB c (crd a t) (ms0_0 a t) (hs0_0 a t) (ms0_1 a t) (hs0_1 a t) (ms0_2 a t) (hs0_2 a t) (T0 a) (T1 a) (iblk a m ρ c (0 : Fin 3) t) (iblk a m ρ c (1 : Fin 3) t) k0_h1 k0_h2).2 _)
    isplitl [H0]; · iapply rep_of_owns; iexact H0
    isplitl [H1]; · iapply rep_of_owns; iexact H1
    isplitl [HT0]; · iexact HT0
    isplitl [HT1]; · iexact HT1
    isplitl [H2]; · iexists _; iexact H2
    iintro ⟨H0, H1, HT0, HT1, ⟨%e2, H2⟩⟩
    isplitl [HT0 HT1]
    · isplitl [HT0]
      · iexact HT0
      iexact HT1
    isplitl [Ho]; · iexact Ho
    isplitl [H0]
    · iapply owns_of_rep; iexact H0
    isplitl [H1]
    · iapply owns_of_rep; iexact H1
    unfold owns; iexists _; isplitr; swap
    · iexact H2
    · ipureintro; exact (View.read_writes_of_cover _ _ _ _ _ (coverB c _ _ _ _ _ _ _ _ _ _ _ _ _)).trans (outB c _ _ _ _ _ _ _ _ _ _ _ _ _)

/-- The body's obligation, at every point. -/
theorem body_obligation (c : Dev nD) : BodyObligation (dats a m ρ 0 c) (defs₀ (F := F)) Variants.none () Set.univ := fun t => by
  rw [bigSep_W0]
  exact sound_body a m ρ c t

/-- The launch element. -/
def u₀ : UR sig nD τ :=
  initOf (Pipeline.cells (pcs a) ((launch0 (F := F)).cellOf_inj fun _ => a))
    (Pipeline.launchToks (pcs a) ((launch0 (F := F)).cellOf_inj fun _ => a))

theorem share_eq (c : Dev nD) (w : Fin (cfgA a).W) : (dats a m ρ 0 c).share w = fullShare := by unfold Dat.share; split <;> rfl

/-- The tables as the launch hands them over, one by one. -/
theorem prefHeld_eq (c : Dev nD) (q : Fin 2 → PosShare TreeShare) (v : pre0.Contents (Elt F)) :
    (Pipeline.prefHeld (Ix := Unit) (Name := ℕ) (U := UR sig nD τ) (Lvl := ℕ) pre0 c q v : sProp 𝕄)
      = iprop((((c : Thread nD τ).loc main_arg0) ↦{q 0} v 0) ∗ (((c : Thread nD τ).loc main_arg1) ↦{q 1} v 1)) := by
  unfold Pipeline.prefHeld
  rw [show (Finset.univ : Finset (Fin 2)) = insert (0 : Fin 2) {(1 : Fin 2)} from by decide,
    bigSep_insert (by decide), bigSep_singleton]
  rfl

theorem phi0_intro (c : Dev nD) :
    iprop(BI.emp ∗ Pipeline.prefHeld pre0 c (fun _ => fullShare.right) a.1 ∗ Pipeline.scopedRest spec0 c) ⊢ (dats a m ρ 0 c).Φ 0 := by
  rw [prefHeld_eq, scopedRest0_eq, show (dats a m ρ 0 c).Φ 0 = Phi a c from rfl]
  unfold Phi
  iintro ⟨-, ⟨HT0, HT1⟩, -⟩
  isplitl [HT0]
  · iexact HT0
  iexact HT1

theorem phiN_exit (c : Dev nD) : (dats a m ρ 0 c).Φ (Fin.last (cfgA a).N) ⊢ iprop(BI.emp ∗ Pipeline.scopedRest spec0 c) := by
  rw [scopedRest0_eq, show (dats a m ρ 0 c).Φ (Fin.last (cfgA a).N) = Phi a c from rfl]
  unfold Phi
  iintro ⟨-, -⟩
  isplitr; · iempintro
  iempintro

/-- After the run: every array at what the blocks make it, every table as it was. -/
def QC : PUnit × MemSt nD τ sig (Elt F) → Prop := fun r =>
  ∀ c : Dev nD, (∀ w : Fin (cfgA a).W, r.2.mem (((cfgA a).win w).arr.view.loc (c : Thread nD τ)) = (dats a m ρ 0 c).arrAt w (cfgA a).N)
    ∧ ∀ j, r.2.mem ((c : Thread nD τ).loc (pre0.ref j)) = a.1 j

theorem V_pre (hp : Holds a m) (c : Dev nD) (j : Fin 2) : m ((c : Thread nD τ).loc (pre0.ref j)) = a.1 j := by
  fin_cases j
  · exact hp.1 c
  · exact hp.2 c

set_option backward.isDefEq.respectTransparency.types false in
set_option maxHeartbeats 4000000 in
/-- From any memory that holds the tables, every run ends, with the arrays as computed and the counters at zero. -/
theorem run_main_quiescent (hp : Holds a m) : θ_run (defs (F := F)) (onTc (τ := τ) (main (F := F))) (s₀ m ρ) (fun r => QC a m ρ r ∧ r.2.sem = fun _ => 0) :=
  Pipeline.θ_run_region_noSem_pf_quiescent pcfgs (fun _ => a) (dats a m ρ) () ((launch0 (F := F)).cellOf_inj fun _ => a) (0 : Fin 1)
    (launch0 (F := F)).win.to₀ (launch0 (F := F)).pre EP defs₀ Variants.none m ρ main
    (hbody := fun c => (body_obligation a m ρ c).loose) (hne := (launch0 (F := F)).block_pos)
    (harr := (launch0 (F := F)).arr_whole) (hstage := (launch0 (F := F)).stage_whole) (howed := fun _ _ => rfl)
    (u₀ := u₀ a) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs a) (dats a m ρ) 0 (launch0 (F := F)).win.arr_inj c (launch0 (F := F)).arr_whole
      (share_eq a m ρ c) _ _ fun _ => rfl)
    (hpf := V_pre a m hp)
    (X := fun _ => iprop(emp)) (Y := fun _ => iprop(emp)) (Z := fun _ => iprop(emp))
    (hX := fun c => by rw [unscopedRestP0_eq]; iintro -; isplitr <;> iempintro)
    (hin := phi0_intro a m ρ)
    (hout := phiN_exit a m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- The same, with the result named and the arguments unchanged. -/
theorem run_blocks (hp : Holds a m) :
    θ_run (defs (F := F)) (onTc (τ := τ) (main (F := F))) ⟨m, fun _ => 0, ρ⟩ (fun r => (∀ c : Dev nD,
      r.2.mem ((c.tc : Thread nD τ).loc main_v0) = (dats a m ρ 0 c).arrAt (2 : Fin 3) (cfgA a).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  (θ_run defs _ _).mono (fun _ h => ⟨fun c => ⟨(h.1 c).1 (2 : Fin 3), ((h.1 c).2 0).trans (hp.1 c).symm, ((h.1 c).2 1).trans (hp.2 c).symm, ((h.1 c).1 (0 : Fin 3)).trans ((dats a m ρ 0 c).arrAt_in (0 : Fin 3) rfl _), ((h.1 c).1 (1 : Fin 3)).trans ((dats a m ρ 0 c).arrAt_in (1 : Fin 3) rfl _)⟩, h.2⟩) (run_main_quiescent a m ρ hp)

end Cert.ExpertsIdeal.Run

end
-- ==== Proof.ExpertsRefValue.lean ====
module

public import proofs.«01_k».proof.Proof.Gen.ExpertsRefIdeal.Run
public import Idealize.ShloMosaic.Lib.StableHlo.ReadAt
public import Idealize.ShloMosaic.Lib.Pointwise
public import Idealize.ShloMosaic.Lib.IdealHost

@[expose] public section

/-! The experts' way down, as the reference computes it. -/

set_option maxRecDepth 16384

noncomputable section

namespace Cert.ExpertsRefIdeal.At
open Cert Cert.ExpertsRefIdeal Cert.ExpertsRefIdeal.Gen Idealize.ShloMosaic Idealize.ShloMosaic.TcCoe
open scoped BigOperators

variable (A0 : IVec S136 32) (A1 : IVec S1 32) (A2 : FVec Ideal S34816x1024 .bf16) (A3 : FVec Ideal S8x1024x4096 .bf16)

/-- The expert of every row, eight for a row no tile in use covers. -/
def owner : IVec S34816x1 32 :=
  shapeCast _ (broadcastInDim S136x256 ![0, 1] bcast_S136x1_S136x256_0_1 (broadcastInDim S136x1 ![0] bcast_S136_S136x1_0 (select (cmpi .slt (iotaInDim S136 32 0) (broadcastInDim S136 ![] bcast_S_S136 (shapeCast _ A1 shapeCasts_S1_S_))) A0 (broadcastInDim S136 ![] bcast_S_S136 (id (constantI S_ 32 8#32)))))) shapeCasts_S136x256_S34816x1

/-- One expert's product, kept on the rows the mask names. -/
def term (o : IVec S34816x1 32) (e : BitVec 32) (w : FVec Ideal S1x1024x4096 .bf16) : FVec Ideal S34816x4096 .f32 :=
  select (broadcastInDim S34816x4096 ![0, 1] bcast_S34816x1_S34816x4096_0_1 (cmpi .eq o (broadcastInDim S34816x1 ![] bcast_S_S34816x1 (constantI S_ 32 e)))) (Host.dotGeneral dot_S34816x1024_S1024x4096_S34816x4096_1_0_0_1_n_n none (extf .f32 A2 bitsLt_bf16_f32) (extf .f32 (shapeCast _ w shapeCasts_S1x1024x4096_S1024x4096) bitsLt_bf16_f32)) (broadcastInDim S34816x4096 ![] bcast_S_S34816x4096 (id (constant S_ .f32 0x00000000#32)))

/-- One expert's weights. -/
def wts (o : Fin 3 → Nat) (h : S8x1024x4096.Slices o S1x1024x4096) : FVec Ideal S1x1024x4096 .bf16 := extractStridedSlice S1x1024x4096 o A3 h

/-- The result, of the arguments. -/
def out : FVec Ideal S34816x4096 .bf16 :=
  truncf .bf16 (addf (addf (addf (addf (addf (addf (addf (addf (broadcastInDim S34816x4096 ![] bcast_S_S34816x4096 (constant S_ .f32 0x00000000#32))
    (term A2 (owner A0 A1) 0#32 (wts A3 ![0, 0, 0] slices_S8x1024x4096_S1x1024x4096_0_0_0)))
    (term A2 (owner A0 A1) 1#32 (wts A3 ![1, 0, 0] slices_S8x1024x4096_S1x1024x4096_1_0_0)))
    (term A2 (owner A0 A1) 2#32 (wts A3 ![2, 0, 0] slices_S8x1024x4096_S1x1024x4096_2_0_0)))
    (term A2 (owner A0 A1) 3#32 (wts A3 ![3, 0, 0] slices_S8x1024x4096_S1x1024x4096_3_0_0)))
    (term A2 (owner A0 A1) 4#32 (wts A3 ![4, 0, 0] slices_S8x1024x4096_S1x1024x4096_4_0_0)))
    (term A2 (owner A0 A1) 5#32 (wts A3 ![5, 0, 0] slices_S8x1024x4096_S1x1024x4096_5_0_0)))
    (term A2 (owner A0 A1) 6#32 (wts A3 ![6, 0, 0] slices_S8x1024x4096_S1x1024x4096_6_0_0)))
    (term A2 (owner A0 A1) 7#32 (wts A3 ![7, 0, 0] slices_S8x1024x4096_S1x1024x4096_7_0_0))) bitsLt_bf16_f32

theorem res_eq (m : (ℓ : Loc nD τ sig) → Buf (Elt Ideal) ℓ) (c : Dev nD) :
    Value.res_main_v74 m c = out (m ((c.tc : Thread nD τ).loc main_arg0)) (m ((c.tc : Thread nD τ).loc main_arg1))
      (m ((c.tc : Thread nD τ).loc main_arg2)) (m ((c.tc : Thread nD τ).loc main_arg3)) := rfl

theorem owner_apply (t : Fin 136) (a : Fin 256) :
    owner A0 A1 (ix2 ⟨256 * t.val + a.val, by omega⟩ 0) = if (BitVec.ofNat 32 t.val).slt (A1 (ix1 0)) then A0 (ix1 t) else 8#32 := by
  pointwise [owner]
  unfold Scalar.select IntOp.cmpi
  cases (BitVec.ofNat 32 t.val).slt (A1 (ix1 0)) <;> rfl

theorem wts_apply (e : Fin 8) (o : Fin 3 → Nat) (ho : o = ![e.val, 0, 0]) (h : S8x1024x4096.Slices o S1x1024x4096) (k : Fin 1024) (j : Fin 4096) :
    wts A3 o h (ix3 0 k j) = A3 (ix3 e k j) := by
  subst ho
  pointwise [wts]

theorem zero_at (i : S_.Idx) : (id (constant (F := Ideal) S_ .f32 0x00000000#32) i : Ideal .f32) = (0 : EReal) := by
  pointwise [id]

theorem term_apply (o : IVec S34816x1 32) (e : BitVec 32) (w : FVec Ideal S1x1024x4096 .bf16) (x : Fin 34816) (j : Fin 4096) :
    term A2 o e w (ix2 x j) = (if o (ix2 x 0) = e then ∑ k : Fin 1024, A2 (ix2 x k) * w (ix3 0 k j) else 0 : EReal) := by
  pointwise [term]
  unfold Scalar.select IntOp.cmpi
  by_cases h : o (ix2 x 0) = e
  · rw [if_pos h, h]
    simp
  · rw [if_neg h, zero_at, show (o (ix2 x 0) == e) = false from beq_eq_false_iff_ne.mpr h]
    rfl

theorem out_apply (x : Fin 34816) (j : Fin 4096) :
    out A0 A1 A2 A3 (ix2 x j) = (0 : EReal)
      + term A2 (owner A0 A1) 0#32 (wts A3 ![0, 0, 0] slices_S8x1024x4096_S1x1024x4096_0_0_0) (ix2 x j)
      + term A2 (owner A0 A1) 1#32 (wts A3 ![1, 0, 0] slices_S8x1024x4096_S1x1024x4096_1_0_0) (ix2 x j)
      + term A2 (owner A0 A1) 2#32 (wts A3 ![2, 0, 0] slices_S8x1024x4096_S1x1024x4096_2_0_0) (ix2 x j)
      + term A2 (owner A0 A1) 3#32 (wts A3 ![3, 0, 0] slices_S8x1024x4096_S1x1024x4096_3_0_0) (ix2 x j)
      + term A2 (owner A0 A1) 4#32 (wts A3 ![4, 0, 0] slices_S8x1024x4096_S1x1024x4096_4_0_0) (ix2 x j)
      + term A2 (owner A0 A1) 5#32 (wts A3 ![5, 0, 0] slices_S8x1024x4096_S1x1024x4096_5_0_0) (ix2 x j)
      + term A2 (owner A0 A1) 6#32 (wts A3 ![6, 0, 0] slices_S8x1024x4096_S1x1024x4096_6_0_0) (ix2 x j)
      + term A2 (owner A0 A1) 7#32 (wts A3 ![7, 0, 0] slices_S8x1024x4096_S1x1024x4096_7_0_0) (ix2 x j) := by
  pointwise [out]

/-- A row of a tile in use is its expert's product. -/
theorem out_used (x : Fin 34816) (j : Fin 4096) (e : Fin 8) (h : owner A0 A1 (ix2 x 0) = BitVec.ofNat 32 e.val) :
    out A0 A1 A2 A3 (ix2 x j) = (∑ k : Fin 1024, A2 (ix2 x k) * A3 (ix3 e k j) : EReal) := by
  rw [out_apply]
  simp only [term_apply, h]
  fin_cases e <;> simp [BitVec.ofNat_eq_ofNat] <;> exact Finset.sum_congr rfl fun k _ => congrArg _ (by refine wts_apply A3 _ _ ?_ _ k j; rfl)

/-- A row no tile in use covers is zero. -/
theorem out_idle (x : Fin 34816) (j : Fin 4096) (h : owner A0 A1 (ix2 x 0) = 8#32) :
    out A0 A1 A2 A3 (ix2 x j) = (0 : EReal) := by
  rw [out_apply]
  simp only [term_apply, h]
  simp

end Cert.ExpertsRefIdeal.At

end

end
-- ==== Proof.ExpertsValue.lean ====
module

public import proofs.«01_k».proof.Proof.ExpertsRun
public import proofs.«01_k».proof.Proof.ExpertsRefValue
public import proofs.«01_k».proof.Proof.Gen.Pre_experts_in_range
public import Idealize.ShloMosaic.Lib.ReduceAll
public import Idealize.ShloMosaic.Lib.Pipeline.ValueKit
public import Idealize.ShloMosaic.Lib.Pipeline.ValueKit.Geometry
public import Idealize.ShloMosaic.Lib.StableHlo.ReadAt
public import Idealize.ShloMosaic.Lib.Pointwise
public import Idealize.ShloMosaic.Lib.IdealHost

@[expose] public section

/-! The experts' way down: what the kernel computes and what the reference computes. -/

set_option maxRecDepth 16384

noncomputable section

namespace Cert.ExpertsIdeal.Run
open Cert Cert.ExpertsIdeal Cert.ExpertsIdeal.Gen Idealize.ShloMosaic Idealize.ShloMosaic.TcCoe

variable {F : FTy → Type} [FloatOps F]

/-- What the precondition says: every word of the tile table names an expert. -/
theorem lt_of_pre (A : IVec Pre_experts_in_range.S136 32) (B : IVec Pre_experts_in_range.S1 32)
    (C : FVec F Pre_experts_in_range.S34816x1024 .bf16) (D : FVec F Pre_experts_in_range.S8x1024x4096 .bf16)
    (h : Pre_experts_in_range.fn A B C D (fun a => a.elim0) = 1#1) (i : Fin 136) : (A (ix1 i)).toNat < 8 := by
  have e := Host.reduce_andi_all _ _ _ _ _ h (ix1 i)
  obtain ⟨h1, h2⟩ := IntOp.andi_eq_one.mp e
  have k1 : BitVec.ofBool ((0#32).sle (A (ix1 i))) = 1#1 := h1
  have k2 : BitVec.ofBool ((A (ix1 i)).slt 8#32) = 1#1 := h2
  generalize A (ix1 i) = w at k1 k2
  have q1 : (0#32).sle w = true := by
    cases hb : (0#32).sle w
    · rw [hb] at k1; exact absurd k1 (by decide)
    · rfl
  have q2 : w.slt 8#32 = true := by
    cases hb : w.slt 8#32
    · rw [hb] at k2; exact absurd k2 (by decide)
    · rfl
  rw [BitVec.sle_iff_toInt_le] at q1
  rw [BitVec.slt_iff_toInt_lt] at q2
  have e8 : (8#32).toInt = 8 := by decide
  have e0 : (0#32).toInt = 0 := by decide
  rw [e0] at q1; rw [e8] at q2
  have := BitVec.toInt_eq_toNat_cond w
  have hw := w.isLt
  split at this <;> omega

/-- Every expert's weights lie inside the array, and their rows are whole words. -/
theorem block_ok : ∀ w : Fin 8, ∃ h : (∀ b, ((![w.val, 0, 0] : Fin 3 → Nat) b + 1) * S1x1024x4096.size b ≤ S8x1024x4096.size b),
    EltTy.bits .bf16 = 32 ∨ (Rect.block (s := S8x1024x4096) S1x1024x4096.size ![w.val, 0, 0] h).WholeWords (EltTy.packing .bf16) := by
  decide +kernel

variable (m : (ℓ : Loc nD τ sig) → Buf (Elt F) ℓ)

/-- The tables of a launch memory. -/
def tables : pre0.Contents (Elt F) := fun j => m (((0 : Dev nD) : Thread nD τ).loc (pre0.ref j))

/-- The tile table. -/
abbrev tileOf (m : (ℓ : Loc nD τ sig) → Buf (Elt F) ℓ) : IVec S136 32 := m (((0 : Dev nD) : Thread nD τ).loc main_arg0)
abbrev usedOf (m : (ℓ : Loc nD τ sig) → Buf (Elt F) ℓ) : IVec S1 32 := m (((0 : Dev nD) : Thread nD τ).loc main_arg1)

/-- Where a point's weights are. -/
theorem transform_1 (i : grid0.Coords) : cc0_transform_1 k0_off1_inb numel1_S1 (tables m) i = ![(tileOf m (ix1 (i 0))).toNat, 0, 0] := by
  have hi : (i 0).val < 136 := (i 0).isLt
  unfold cc0_transform_1
  dsimp only
  congr 1
  refine congrArg BitVec.toNat (congrArg (tileOf m) ?_)
  funext b
  refine Fin.ext ?_
  fin_cases b
  show (Scalar.indexCast (BitVec.ofNat 32 (i 0).val)).toNat + 0 = (i 0).val
  simp [Scalar.indexCast]
  omega

variable (hr : ∀ i : Fin 136, (tileOf m (ix1 i)).toNat < 8)
include hr

theorem ok_tables : ok0 (F := F) (tables m) := by
  intro i
  rw [transform_1]
  exact block_ok ⟨_, hr (i 0)⟩

omit hr in
theorem dev_eq (c : Dev nD) : c = 0 := by
  revert c; decide

/-- The admissible tables of the launch memory, which holds them. -/
def adm : (pcfg0 (F := F)).Adm := ⟨tables m, ok_tables m hr⟩

theorem holds : Holds (adm m hr) m :=
  ⟨fun c => by rw [dev_eq c]; rfl, fun c => by rw [dev_eq c]; rfl⟩

variable (a : (pcfg0 (F := F)).Adm)

omit hr in
/-- Where the rows' blocks lie. -/
theorem crd0 : ∀ t : Fin grid0.N, (grid0.coords t 0).val = t.val ∧ cc0_transform_0 (grid0.coords t) = ![t.val, 0] ∧ cc0_transform_2 (grid0.coords t) = ![t.val, 0] := by
  decide +kernel

omit hr in
theorem idx0 (t : Fin (cfgA a).N) : ((cfgA a).win (0 : Fin 3)).index t = ![t.val, 0] := (crd0 t).2.1
omit hr in
theorem idx2 (t : Fin (cfgA a).N) : ((cfgA a).win (2 : Fin 3)).index t = ![t.val, 0] := (crd0 t).2.2
theorem idx1 (t : Fin (cfgA (adm m hr)).N) : ((cfgA (adm m hr)).win (1 : Fin 3)).index t = ![(tileOf m (ix1 (grid0.coords t 0))).toNat, 0, 0] :=
  transform_1 m (grid0.coords t)

omit hr in
/-- The result's blocks cover it. -/
theorem covers2 : ((cfgA a).win (2 : Fin 3)).Covers := by
  refine ⟨fun b => ?_, fun β => ?_⟩
  · fin_cases b
    · show 0 < 256
      decide
    · show 0 < 4096
      decide
  · have h0 : (β 0).val < 136 := lt_of_lt_of_eq (β 0).isLt (show (34816 + 256 - 1) / 256 = 136 from rfl)
    refine ⟨⟨(β 0).val, h0⟩, flush2 a _, fun b => ⟨?_, Or.inl rfl⟩⟩
    rw [show ((cfgA a).win (2 : Fin 3)).index ⟨(β 0).val, h0⟩ = ![(β 0).val, 0] from idx2 a _]
    have h1 : (β 1).val < 1 := lt_of_lt_of_eq (β 1).isLt (show (4096 + 4096 - 1) / 4096 = 1 from rfl)
    fin_cases b
    · rfl
    · show 0 = (β 1).val
      omega

/-- The number of tiles in use. -/
theorem word_eq : word (T1 (adm m hr)) = usedOf m (ix1 0) := by
  refine congrArg (usedOf m) ?_
  funext b
  refine Fin.ext ?_
  fin_cases b
  rfl

variable (ρ : Dev nD → PrngReg)

/-- The arguments. -/
abbrev hid (m : (ℓ : Loc nD τ sig) → Buf (Elt F) ℓ) (c : Dev nD) : FVec F S34816x1024 .bf16 := m ((c : Thread nD τ).loc main_arg2)
abbrev wd (m : (ℓ : Loc nD τ sig) → Buf (Elt F) ℓ) (c : Dev nD) : FVec F S8x1024x4096 .bf16 := m ((c : Thread nD τ).loc main_arg3)

theorem blk0 (c : Dev nD) (t : Fin (cfgA (adm m hr)).N) (r : Fin 256) (k : Fin 1024) (x : Fin 34816) (hx : x.val = 256 * t.val + r.val) :
    (iblk (adm m hr) m ρ c (0 : Fin 3) t : Vec F S256x1024 .bf16) (ix2 r k) = hid m c (ix2 x k) := by
  blk_ext [iblk, hx]
  · refine (congrArg (fun n => n * 256 + r.val) (congrFun (idx0 (adm m hr) t) (0 : Fin 2))).trans ?_
    show t.val * 256 + r.val = 256 * t.val + r.val
    omega
  · refine (congrArg (fun n => n * 1024 + k.val) (congrFun (idx0 (adm m hr) t) (1 : Fin 2))).trans ?_
    show 0 * 1024 + k.val = k.val
    omega

theorem blk1 (c : Dev nD) (t : Fin (cfgA (adm m hr)).N) (k : Fin 1024) (j : Fin 4096) (e : Fin 8)
    (he : e.val = (tileOf m (ix1 (grid0.coords t 0))).toNat) :
    (iblk (adm m hr) m ρ c (1 : Fin 3) t : Vec F S1x1024x4096 .bf16) (ix3 0 k j) = wd m c (ix3 e k j) := by
  blk_ext [iblk, he]
  · exact congrFun (idx1 m hr t) (0 : Fin 3)
  · refine (congrArg (fun n => n * 1024 + k.val) (congrFun (idx1 m hr t) (1 : Fin 3))).trans ?_
    show 0 * 1024 + k.val = k.val
    omega
  · refine (congrArg (fun n => n * 4096 + j.val) (congrFun (idx1 m hr t) (2 : Fin 3))).trans ?_
    show 0 * 4096 + j.val = j.val
    omega

end Cert.ExpertsIdeal.Run

namespace Cert.ExpertsIdeal.At
open Cert Cert.ExpertsIdeal Cert.ExpertsIdeal.Gen Idealize.ShloMosaic Idealize.ShloMosaic.TcCoe
open scoped BigOperators

theorem pay1_apply (v : Vec Ideal S256x1024 .bf16) (w : Vec Ideal S1x1024x4096 .bf16) (r : Fin 256) (j : Fin 4096) :
    k0_pay1 v w (ix2 r j) = (∑ k : Fin 1024, v (ix2 r k) * w (ix3 0 k j) : EReal) := by
  pointwise [k0_pay1]

theorem pay2_apply (r : Fin 256) (j : Fin 4096) : (k0_pay2 (F := Ideal)) (ix2 r j) = (0 : EReal) := by
  pointwise [k0_pay2]

/-- A tile is in use when its number is below the number of tiles in use. -/
theorem cond_slt (i : grid0.Coords) (v : BitVec 32) : k0_cond1 i v = 1#1 ↔ (BitVec.ofNat 32 (i 0).val).slt v = true := by
  unfold k0_cond1 Scalar.cmpi IntOp.cmpi Scalar.extui
  dsimp only
  cases (BitVec.ofNat 32 (i 0).val).slt v <;> decide

open Cert.ExpertsIdeal.Run

variable (m : (ℓ : Loc nD τ sig) → Buf (Elt Ideal) ℓ) (hr : ∀ i : Fin 136, (tileOf m (ix1 i)).toNat < 8) (ρ : Dev nD → PrngReg)

/-- A block of the result is the reference's rows there. -/
theorem out_at (c : Dev nD) (t : Fin (cfgA (adm m hr)).N) (r : Fin 256) (j : Fin 4096) (x : Fin 34816) (hx : x.val = 256 * t.val + r.val) :
    (res (adm m hr) m ρ c t) (ix2 r j) = ExpertsRefIdeal.At.out (tileOf m) (usedOf m) (hid m c) (wd m c) (ix2 x j) := by
  have ht : t.val < 136 := t.isLt
  have hc : (grid0.coords t 0).val = t.val := (crd0 t).1
  have hi : (grid0.coords t 0 : Fin 136) = ⟨t.val, ht⟩ := Fin.ext hc
  have ho := ExpertsRefIdeal.At.owner_apply (tileOf m) (usedOf m) ⟨t.val, ht⟩ r
  rw [show (⟨256 * (⟨t.val, ht⟩ : Fin 136).val + r.val, by dsimp only; omega⟩ : Fin 34816) = x from Fin.ext hx.symm] at ho
  have hiff := cond_slt (grid0.coords t) (word (T1 (adm m hr)))
  rw [word_eq, hc] at hiff
  unfold res
  rw [word_eq]
  by_cases h : k0_cond1 (crd (adm m hr) t) (usedOf m (ix1 0)) = 1#1
  · rw [if_pos h]
    rw [if_pos (hiff.mp h)] at ho
    have hw := hr ⟨t.val, ht⟩
    rw [ExpertsRefIdeal.At.out_used _ _ _ _ x j ⟨_, hw⟩ (ho.trans (by simp)), pay1_apply]
    exact Finset.sum_congr rfl fun k _ => congrArg₂ (fun p q : EReal => p * q) (blk0 m hr ρ c t r k x hx)
      (blk1 m hr ρ c t k j ⟨_, hw⟩ (congrArg (fun q : Fin 136 => (tileOf m (ix1 q)).toNat) hi.symm))
  · rw [if_neg h]
    rw [if_neg fun q => h (hiff.mpr q)] at ho
    rw [ExpertsRefIdeal.At.out_idle _ _ _ _ x j ho, pay2_apply]

theorem kernel_out (c : Dev nD) : (dats (adm m hr) m ρ 0 c).arrAt (2 : Fin 3) (cfgA (adm m hr)).N
    = ExpertsRefIdeal.At.out (tileOf m) (usedOf m) (hid m c) (wd m c) := by
  refine (dats (adm m hr) m ρ 0 c).arrAt_eq_of_covers (2 : Fin 3) _ (covers2 _) fun t hf y => ?_
  have ht : t.val < 136 := t.isLt
  have l0 : ((y : S256x4096.Idx) 0).val < 256 := (y 0).isLt
  have l1 : ((y : S256x4096.Idx) 1).val < 4096 := (y 1).isLt
  refine Eq.trans ?_ ((out_at m hr ρ c t (y 0) (y 1) ⟨256 * t.val + ((y : S256x4096.Idx) 0).val, by omega⟩ rfl).trans ?_)
  · show res (adm m hr) m ρ c t _ = _
    refine congrArg _ ?_
    blk_ext []
  · refine congrArg _ ?_
    blk_ext []
    · refine Eq.trans ?_ (congrArg (fun n => n * 256 + ((y : S256x4096.Idx) 0).val) (congrFun (idx2 (adm m hr) t) (0 : Fin 2))).symm
      show 256 * t.val + ((y : S256x4096.Idx) 0).val = t.val * 256 + ((y : S256x4096.Idx) 0).val
      omega
    · refine Eq.trans ?_ (congrArg (fun n => n * 4096 + ((y : S256x4096.Idx) 1).val) (congrFun (idx2 (adm m hr) t) (1 : Fin 2))).symm
      show ((y : S256x4096.Idx) 1).val = 0 * 4096 + ((y : S256x4096.Idx) 1).val
      omega

end Cert.ExpertsIdeal.At

end
-- ==== Proof.ExpertsClaims.lean ====
module

public import proofs.«01_k».proof.Defs
public import proofs.«01_k».proof.Proof.ExpertsValue
public import proofs.«01_k».proof.Proof.Gen.Experts
public import proofs.«01_k».proof.Proof.Gen.Experts.Launch

@[expose] public section

/-! The claims about the experts' way down: the frames and the equality with its reference. -/

set_option maxRecDepth 16384

noncomputable section

namespace Cert.ExpertsClaims
open Cert Idealize.ShloMosaic Idealize.ShloMosaic.TcCoe Idealize.SL.Sem
open Cert.ExpertsIdeal.Run (tileOf lt_of_pre adm holds)

/-- Under the precondition the tile table names experts. -/
theorem range_p (m : (ℓ : Loc ExpertsIdeal.nD ExpertsIdeal.τ ExpertsIdeal.sig) → Buf (Elt Bits) ℓ) (h : Cert.Pre_Experts m) (i : Fin 136) :
    (tileOf m (ValueIdx.ix1 i)).toNat < 8 :=
  lt_of_pre _ _ _ _ (congrFun (h 0) _) i

theorem range_pi (m : (ℓ : Loc ExpertsIdeal.nD ExpertsIdeal.τ ExpertsIdeal.sig) → Buf (Elt Ideal) ℓ) (h : Cert.Pre_ExpertsIdeal m) (i : Fin 136) :
    (tileOf m (ValueIdx.ix1 i)).toNat < 8 :=
  lt_of_pre _ _ _ _ (congrFun (h 0) _) i

/-- The two programs' tables of bodies have the same text. -/
theorem bodies_eq {F : FTy → Type} [FloatOps F] : (Experts.defs₀ (F := F)) = ExpertsIdeal.defs₀ (F := F) := by
  unfold Experts.defs₀ ExpertsIdeal.defs₀
  refine congrArg Defs.onTc (funext fun ℓ => ?_)
  match ℓ with
  | (0 : Fin 1) => exact funext fun x => rfl

theorem defs_eq {F : FTy → Type} [FloatOps F] : (Experts.defs (F := F)) = ExpertsIdeal.defs (F := F) :=
  congrArg (Pipeline.defs ExpertsIdeal.pcfgs) bodies_eq

theorem frame_p : Cert.quiescent_Experts := fun m ρ h =>
  (congrArg (fun D : Defs Experts.nD Experts.τ Experts.sig (Elt Bits) _ => θ_run D (onTc (τ := Experts.τ) (Experts.main (F := Bits))) ⟨m, fun _ => 0, ρ⟩ _) defs_eq).mpr
    ((θ_run ExpertsIdeal.defs _ _).mono (fun r q => ⟨fun c => (q.1 c).2, q.2⟩)
      (ExpertsIdeal.Run.run_blocks (F := Bits) (adm m (range_p m h)) m ρ (holds m (range_p m h))))

theorem frame_pi : Cert.quiescent_ExpertsIdeal := fun m ρ h =>
  (θ_run Cert.ExpertsIdeal.defs _ _).mono (fun r q => ⟨fun c => (q.1 c).2, q.2⟩)
    (ExpertsIdeal.Run.run_blocks (F := Ideal) (adm m (range_pi m h)) m ρ (holds m (range_pi m h)))

theorem frame_ri : Cert.quiescent_ExpertsRefIdeal := fun m ρ _ =>
  (θ_run ExpertsRefIdeal.defs _ _).mono (fun r h => ⟨fun c => (h c).2, sem_eq_zero_of_no_sems (by decide) r.2⟩)
    (ExpertsRefIdeal.Value.run (F := Ideal) m ρ)

theorem frame_ri_pre : Cert.quiescent_ExpertsRefIdeal_pre_experts_in_range := fun m ρ _ => frame_ri m ρ trivial

theorem preserves : Cert.preserves_Experts_ExpertsIdeal := trivial

theorem algebraic : Cert.algebraic_ExpertsIdeal_ExpertsRefIdeal := by
  intro m ρ m' ρ' hpre hagree
  have hr := range_pi m hpre
  refine ⟨fun c => ExpertsRefIdeal.At.out (m ((c.tc : Thread ExpertsIdeal.nD ExpertsIdeal.τ).loc ExpertsIdeal.main_arg0)) (m ((c.tc : Thread ExpertsIdeal.nD ExpertsIdeal.τ).loc ExpertsIdeal.main_arg1)) (m ((c.tc : Thread ExpertsIdeal.nD ExpertsIdeal.τ).loc ExpertsIdeal.main_arg2)) (m ((c.tc : Thread ExpertsIdeal.nD ExpertsIdeal.τ).loc ExpertsIdeal.main_arg3)), ?_, ?_⟩
  · refine (θ_run ExpertsIdeal.defs _ _).mono (fun r h c => ?_) (ExpertsIdeal.Run.run_blocks (F := Ideal) (adm m hr) m ρ (holds m hr))
    have e := ExpertsIdeal.At.kernel_out m hr ρ c
    obtain rfl := ExpertsIdeal.Run.dev_eq c
    exact ⟨(h.1 0).1.trans e, (h.1 0).2⟩
  · refine (θ_run ExpertsRefIdeal.defs _ _).mono (fun r h c => ?_) (ExpertsRefIdeal.Value.run (F := Ideal) m' ρ')
    obtain ⟨e0, e1, e2, e3⟩ := hagree c
    have q0 : ExpertsRefIdeal.At.out (m' ((c.tc : Thread ExpertsRefIdeal.nD ExpertsRefIdeal.τ).loc ExpertsRefIdeal.main_arg0)) (m' ((c.tc : Thread ExpertsRefIdeal.nD ExpertsRefIdeal.τ).loc ExpertsRefIdeal.main_arg1)) (m' ((c.tc : Thread ExpertsRefIdeal.nD ExpertsRefIdeal.τ).loc ExpertsRefIdeal.main_arg2)) (m' ((c.tc : Thread ExpertsRefIdeal.nD ExpertsRefIdeal.τ).loc ExpertsRefIdeal.main_arg3)) = ExpertsRefIdeal.At.out (m ((c.tc : Thread ExpertsIdeal.nD ExpertsIdeal.τ).loc ExpertsIdeal.main_arg0)) (m ((c.tc : Thread ExpertsIdeal.nD ExpertsIdeal.τ).loc ExpertsIdeal.main_arg1)) (m ((c.tc : Thread ExpertsIdeal.nD ExpertsIdeal.τ).loc ExpertsIdeal.main_arg2)) (m ((c.tc : Thread ExpertsIdeal.nD ExpertsIdeal.τ).loc ExpertsIdeal.main_arg3)) := by
      rw [e0, e1, e2, e3]
    exact ⟨(h c).1.trans ((ExpertsRefIdeal.At.res_eq m' c).trans q0), (h c).2⟩

end Cert.ExpertsClaims

end

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite_scores
public import proofs.«01_k».proof.Proof.Gen.KernelIdeal.Value
public import proofs.«01_k».proof.Proof.Gen.ReferenceIdeal.Run
public import proofs.«01_k».proof.Proof.Gen.InProj
public import proofs.«01_k».proof.Proof.Gen.InProj.Skeleton
public import proofs.«01_k».proof.Proof.Gen.InProj.Launch
public import proofs.«01_k».proof.Proof.Gen.InProj.Points
public import proofs.«01_k».proof.Proof.Gen.InProj.Frame
public import proofs.«01_k».proof.Proof.Gen.InProjIdeal
public import proofs.«01_k».proof.Proof.Gen.InProjIdeal.Skeleton
public import proofs.«01_k».proof.Proof.Gen.InProjIdeal.Launch
public import proofs.«01_k».proof.Proof.Gen.InProjIdeal.Points
public import proofs.«01_k».proof.Proof.Gen.InProjIdeal.Frame
public import proofs.«01_k».proof.Proof.Gen.InProjIdeal.Value
public import proofs.«01_k».proof.Proof.Gen.InProjRefIdeal
public import proofs.«01_k».proof.Proof.Gen.InProjRefIdeal.Run
public import proofs.«01_k».proof.Proof.Gen.Merge
public import proofs.«01_k».proof.Proof.Gen.Merge.Skeleton
public import proofs.«01_k».proof.Proof.Gen.Merge.Launch
public import proofs.«01_k».proof.Proof.Gen.Merge.Points
public import proofs.«01_k».proof.Proof.Gen.Merge.Frame
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame
public import proofs.«01_k».proof.Proof.Gen.MergeIdeal.Value
public import proofs.«01_k».proof.Proof.Gen.MergeRefIdeal
public import proofs.«01_k».proof.Proof.Gen.MergeRefIdeal.Run
public import proofs.«01_k».proof.Proof.Gen.OutProj
public import proofs.«01_k».proof.Proof.Gen.OutProj.Skeleton
public import proofs.«01_k».proof.Proof.Gen.OutProj.Launch
public import proofs.«01_k».proof.Proof.Gen.OutProj.Points
public import proofs.«01_k».proof.Proof.Gen.OutProj.Frame
public import proofs.«01_k».proof.Proof.Gen.OutProjIdeal
public import proofs.«01_k».proof.Proof.Gen.OutProjIdeal.Skeleton
public import proofs.«01_k».proof.Proof.Gen.OutProjIdeal.Launch
public import proofs.«01_k».proof.Proof.Gen.OutProjIdeal.Points
public import proofs.«01_k».proof.Proof.Gen.OutProjIdeal.Frame
public import proofs.«01_k».proof.Proof.Gen.OutProjIdeal.Value
public import proofs.«01_k».proof.Proof.Gen.OutProjRefIdeal
public import proofs.«01_k».proof.Proof.Gen.OutProjRefIdeal.Run
public import proofs.«01_k».proof.Proof.Gen.Glu
public import proofs.«01_k».proof.Proof.Gen.Glu.Skeleton
public import proofs.«01_k».proof.Proof.Gen.Glu.Launch
public import proofs.«01_k».proof.Proof.Gen.Glu.Points
public import proofs.«01_k».proof.Proof.Gen.Glu.Frame
public import proofs.«01_k».proof.Proof.Gen.GluIdeal
public import proofs.«01_k».proof.Proof.Gen.GluIdeal.Skeleton
public import proofs.«01_k».proof.Proof.Gen.GluIdeal.Launch
public import proofs.«01_k».proof.Proof.Gen.GluIdeal.Points
public import proofs.«01_k».proof.Proof.Gen.GluIdeal.Frame
public import proofs.«01_k».proof.Proof.Gen.GluIdeal.Value
public import proofs.«01_k».proof.Proof.Gen.GluRefIdeal
public import proofs.«01_k».proof.Proof.Gen.GluRefIdeal.Run
public import proofs.«01_k».proof.Proof.Gen.Down
public import proofs.«01_k».proof.Proof.Gen.Down.Skeleton
public import proofs.«01_k».proof.Proof.Gen.Down.Launch
public import proofs.«01_k».proof.Proof.Gen.Down.Points
public import proofs.«01_k».proof.Proof.Gen.Down.Frame
public import proofs.«01_k».proof.Proof.Gen.DownIdeal
public import proofs.«01_k».proof.Proof.Gen.DownIdeal.Skeleton
public import proofs.«01_k».proof.Proof.Gen.DownIdeal.Launch
public import proofs.«01_k».proof.Proof.Gen.DownIdeal.Points
public import proofs.«01_k».proof.Proof.Gen.DownIdeal.Frame
public import proofs.«01_k».proof.Proof.Gen.DownIdeal.Value
public import proofs.«01_k».proof.Proof.Gen.DownRefIdeal
public import proofs.«01_k».proof.Proof.Gen.DownRefIdeal.Run
public import proofs.«01_k».proof.Proof.Gen.Adaln
public import proofs.«01_k».proof.Proof.Gen.Adaln.Skeleton
public import proofs.«01_k».proof.Proof.Gen.Adaln.Launch
public import proofs.«01_k».proof.Proof.Gen.Adaln.Points
public import proofs.«01_k».proof.Proof.Gen.Adaln.Frame
public import proofs.«01_k».proof.Proof.Gen.AdalnIdeal
public import proofs.«01_k».proof.Proof.Gen.AdalnIdeal.Skeleton
public import proofs.«01_k».proof.Proof.Gen.AdalnIdeal.Launch
public import proofs.«01_k».proof.Proof.Gen.AdalnIdeal.Points
public import proofs.«01_k».proof.Proof.Gen.AdalnIdeal.Frame
public import proofs.«01_k».proof.Proof.Gen.AdalnIdeal.Value
public import proofs.«01_k».proof.Proof.Gen.AdalnRefIdeal
public import proofs.«01_k».proof.Proof.Gen.AdalnRefIdeal.Run
public import proofs.«01_k».proof.Proof.Gen.Prenorm
public import proofs.«01_k».proof.Proof.Gen.Prenorm.Skeleton
public import proofs.«01_k».proof.Proof.Gen.Prenorm.Launch
public import proofs.«01_k».proof.Proof.Gen.Prenorm.Points
public import proofs.«01_k».proof.Proof.Gen.Prenorm.Frame
public import proofs.«01_k».proof.Proof.Gen.PrenormIdeal
public import proofs.«01_k».proof.Proof.Gen.PrenormIdeal.Skeleton
public import proofs.«01_k».proof.Proof.Gen.PrenormIdeal.Launch
public import proofs.«01_k».proof.Proof.Gen.PrenormIdeal.Points
public import proofs.«01_k».proof.Proof.Gen.PrenormIdeal.Frame
public import proofs.«01_k».proof.Proof.Gen.PrenormIdeal.Value
public import proofs.«01_k».proof.Proof.Gen.PrenormRefIdeal
public import proofs.«01_k».proof.Proof.Gen.PrenormRefIdeal.Run
public import proofs.«01_k».proof.Proof.Gen.Post
public import proofs.«01_k».proof.Proof.Gen.Post.Skeleton
public import proofs.«01_k».proof.Proof.Gen.Post.Launch
public import proofs.«01_k».proof.Proof.Gen.Post.Points
public import proofs.«01_k».proof.Proof.Gen.Post.Frame
public import proofs.«01_k».proof.Proof.Gen.PostIdeal
public import proofs.«01_k».proof.Proof.Gen.PostIdeal.Skeleton
public import proofs.«01_k».proof.Proof.Gen.PostIdeal.Launch
public import proofs.«01_k».proof.Proof.Gen.PostIdeal.Points
public import proofs.«01_k».proof.Proof.Gen.PostIdeal.Frame
public import proofs.«01_k».proof.Proof.Gen.PostIdeal.Value
public import proofs.«01_k».proof.Proof.Gen.PostRefIdeal
public import proofs.«01_k».proof.Proof.Gen.PostRefIdeal.Run
public import proofs.«01_k».proof.Proof.Gen.Experts
public import proofs.«01_k».proof.Proof.Gen.Experts.Skeleton
public import proofs.«01_k».proof.Proof.Gen.Experts.Launch
public import proofs.«01_k».proof.Proof.Gen.ExpertsIdeal
public import proofs.«01_k».proof.Proof.Gen.ExpertsIdeal.Skeleton
public import proofs.«01_k».proof.Proof.Gen.ExpertsIdeal.Launch
public import proofs.«01_k».proof.Proof.Gen.ExpertsRefIdeal
public import proofs.«01_k».proof.Proof.Gen.ExpertsRefIdeal.Run
public import proofs.«01_k».proof.Proof.Gen.Pre_experts_in_range
public import proofs.«01_k».proof.Proof.Claims
public import proofs.«01_k».proof.Proof.DenseClaims
public import proofs.«01_k».proof.Proof.NormClaims
public import proofs.«01_k».proof.Proof.ExpertsClaims
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.InProj.Gen.facts, Cert.InProjIdeal.Gen.facts, Cert.InProjRefIdeal.Gen.facts, Cert.Merge.Gen.facts, Cert.MergeIdeal.Gen.facts, Cert.MergeRefIdeal.Gen.facts, Cert.OutProj.Gen.facts, Cert.OutProjIdeal.Gen.facts, Cert.OutProjRefIdeal.Gen.facts, Cert.Glu.Gen.facts, Cert.GluIdeal.Gen.facts, Cert.GluRefIdeal.Gen.facts, Cert.Down.Gen.facts, Cert.DownIdeal.Gen.facts, Cert.DownRefIdeal.Gen.facts, Cert.Adaln.Gen.facts, Cert.AdalnIdeal.Gen.facts, Cert.AdalnRefIdeal.Gen.facts, Cert.Prenorm.Gen.facts, Cert.PrenormIdeal.Gen.facts, Cert.PrenormRefIdeal.Gen.facts, Cert.Post.Gen.facts, Cert.PostIdeal.Gen.facts, Cert.PostRefIdeal.Gen.facts, Cert.Experts.Gen.facts, Cert.ExpertsIdeal.Gen.facts, Cert.ExpertsRefIdeal.Gen.facts, Cert.Pre_finite_scores.Gen.facts, Cert.Pre_experts_in_range.Gen.facts,
    Claims.frame_p, Claims.frame_pi, Claims.frame_pi_pre, Claims.frame_ri, Claims.frame_ri_pre,
    InProjClaims.frame_p, InProjClaims.frame_pi, InProjClaims.frame_ri, MergeClaims.frame_p, MergeClaims.frame_pi, MergeClaims.frame_ri, OutProjClaims.frame_p, OutProjClaims.frame_pi, OutProjClaims.frame_ri, GluClaims.frame_p, GluClaims.frame_pi, GluClaims.frame_ri, DownClaims.frame_p, DownClaims.frame_pi, DownClaims.frame_ri,
    AdalnClaims.frame_p, AdalnClaims.frame_pi, AdalnClaims.frame_ri, PrenormClaims.frame_p, PrenormClaims.frame_pi, PrenormClaims.frame_ri, PostClaims.frame_p, PostClaims.frame_pi, PostClaims.frame_ri,
    ExpertsClaims.frame_p, ExpertsClaims.frame_pi, ExpertsClaims.frame_ri, ExpertsClaims.frame_ri_pre,
    Claims.preserves, Claims.algebraic,
    InProjClaims.preserves, InProjClaims.algebraic, MergeClaims.preserves, MergeClaims.algebraic, OutProjClaims.preserves, OutProjClaims.algebraic, GluClaims.preserves, GluClaims.algebraic, DownClaims.preserves, DownClaims.algebraic,
    AdalnClaims.preserves, AdalnClaims.algebraic, PrenormClaims.preserves, PrenormClaims.algebraic, PostClaims.preserves, PostClaims.algebraic,
    ExpertsClaims.preserves, ExpertsClaims.algebraic⟩

end Cert.Proof

end
